-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_sorted_graphs [hPre_sorted_graphs : Cert.Pre_sorted_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graphs [hPre_sorted_graphs : Cert.Pre_sorted_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sorted_graphs [hKernelIdeal : Cert.KernelIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_graphs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_graphs [hReferenceIdeal : Cert.ReferenceIdeal.Facts] [hPre_sorted_graphs : Cert.Pre_sorted_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_sorted_graphs [hKernelIdeal : Cert.KernelIdeal.Facts] [hReferenceIdeal : Cert.ReferenceIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_graphs : Cert.Pre_sorted_graphs.Facts),
    quiescent_Kernel (hKernel := hKernel) (hPre_in_range := hPre_in_range)
    ∧ quiescent_KernelIdeal (hKernelIdeal := hKernelIdeal) (hPre_in_range := hPre_in_range)
    ∧ quiescent_KernelIdeal_pre_sorted_graphs (hKernelIdeal := hKernelIdeal) (hPre_sorted_graphs := hPre_sorted_graphs)
    ∧ quiescent_ReferenceIdeal (hReferenceIdeal := hReferenceIdeal)
    ∧ quiescent_ReferenceIdeal_pre_sorted_graphs (hReferenceIdeal := hReferenceIdeal) (hPre_sorted_graphs := hPre_sorted_graphs)
    ∧ preserves_Kernel_KernelIdeal
    ∧ algebraic_KernelIdeal_ReferenceIdeal_pre_sorted_graphs (hKernelIdeal := hKernelIdeal) (hReferenceIdeal := hReferenceIdeal) (hPre_sorted_graphs := hPre_sorted_graphs)
-- ==== Pre_in_range.lean ====
abbrev S100000x128 : Shape := ⟨2, ![100000, 128]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S2x256 : Shape := ⟨2, ![2, 256]⟩
abbrev S2 : Shape := ⟨1, ![2]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S256x128 .f32) (main_arg3 : FVec F S256 .f32) (main_arg4 : FVec F S256x256 .f32) (main_arg5 : FVec F S256 .f32) (main_arg6 : FVec F S2x256 .f32) (main_arg7 : FVec F S2 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_sorted_graphs.lean ====
abbrev S100000x128 : Shape := ⟨2, ![100000, 128]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S2x256 : Shape := ⟨2, ![2, 256]⟩
abbrev S2 : Shape := ⟨1, ![2]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S100000x128 .f32) (main_arg1 : IVec S100000 32) (main_arg2 : FVec F S256x128 .f32) (main_arg3 : FVec F S256 .f32) (main_arg4 : FVec F S256x256 .f32) (main_arg5 : FVec F S256 .f32) (main_arg6 : FVec F S2x256 .f32) (main_arg7 : FVec F S2 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  let main_cst : FVec F S_ .f32 := constant S_ .f32 0xFF800000#32
  let main_v11 : FVec F S100000x128 .f32 := broadcastInDim S100000x128 ![] bcast_S_S100000x128 main_cst
  let main_v12 : IVec S100000x128 1 := cmpf .ogt main_arg0 main_v11
  let main_c_3 : IVec S_ 1 := constantI S_ 1 1#1
  let main_v13 : IVec S_ 1 := (fun x v => Host.reduce IntOp.andi x v reducesTo_S100000x128_S_d0_1 h_S_) main_v12 main_c_3
  let main_v14 : IVec S_ 1 := andi main_v10 main_v13
  main_v14
-- ==== Kernel.lean ====
abbrev S100000x128 : Shape := ⟨2, ![100000, 128]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S2x256 : Shape := ⟨2, ![2, 256]⟩
abbrev S2 : Shape := ⟨1, ![2]⟩
abbrev S48000 : Shape := ⟨1, ![48000]⟩
abbrev S12x4000 : Shape := ⟨2, ![12, 4000]⟩
abbrev S32x64x128 : Shape := ⟨3, ![32, 64, 128]⟩
abbrev S1680 : Shape := ⟨1, ![1680]⟩
abbrev S125x128 : Shape := ⟨2, ![125, 128]⟩
abbrev S64x128 : Shape := ⟨2, ![64, 128]⟩
abbrev S_ : Shape := ⟨0, ![]⟩
abbrev S1664 : Shape := ⟨1, ![1664]⟩
abbrev S16 : Shape := ⟨1, ![16]⟩
abbrev S1x16 : Shape := ⟨2, ![1, 16]⟩
abbrev S1 : Shape := ⟨1, ![1]⟩
abbrev S1x64x128 : Shape := ⟨3, ![1, 64, 128]⟩
abbrev S4000x128 : Shape := ⟨2, ![4000, 128]⟩
abbrev S1x4000 : Shape := ⟨2, ![1, 4000]⟩
abbrev S1x1x4000 : Shape := ⟨3, ![1, 1, 4000]⟩
abbrev S1x1x1 : Shape := ⟨3, ![1, 1, 1]⟩
abbrev S128 : Shape := ⟨1, ![128]⟩
abbrev S1x128 : Shape := ⟨2, ![1, 128]⟩
abbrev S128x256 : Shape := ⟨2, ![128, 256]⟩
abbrev S1x256 : Shape := ⟨2, ![1, 256]⟩
abbrev S64x256 : Shape := ⟨2, ![64, 256]⟩
abbrev S64x2 : Shape := ⟨2, ![64, 2]⟩

abbrev nBuf : Table → Nat
  | .hbm => 29
  | .local .tc .vmem => 13
  | .local .scVector .vmem => 6
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S48000, .i32⟩
  | .hbm, ⟨9, _⟩ => ⟨S12x4000, .i32⟩
  | .hbm, ⟨10, _⟩ => ⟨S32x64x128, .f32⟩
  | .hbm, ⟨11, _⟩ => ⟨S64x128, .f32⟩
  | .hbm, ⟨12, _⟩ => ⟨S_, .f32⟩
  | .hbm, ⟨13, _⟩ => ⟨S128x256, .f32⟩
  | .hbm, ⟨14, _⟩ => ⟨S_, .i32⟩
  | .hbm, ⟨15, _⟩ => ⟨S1, .i32⟩
  | .hbm, ⟨16, _⟩ => ⟨S128x256, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S1x256, .f32⟩
  | .hbm, ⟨26, _⟩ => ⟨S1x256, .f32⟩
  | .hbm, ⟨27, _⟩ => ⟨S64x128, .f32⟩
  | .hbm, ⟨28, _⟩ => ⟨S64x2, .f32⟩
  | .local .tc .vmem, ⟨0, _⟩ => ⟨S4000x128, .f32⟩
  | .local .tc .vmem, ⟨1, _⟩ => ⟨S4000x128, .f32⟩
  | .local .tc .vmem, ⟨2, _⟩ => ⟨S12x4000, .i32⟩
  | .local .tc .vmem, ⟨3, _⟩ => ⟨S64x128, .f32⟩
  | .local .tc .vmem, ⟨4, _⟩ => ⟨S32x64x128, .f32⟩
  | .local .tc .vmem, ⟨5, _⟩ => ⟨S64x128, .f32⟩
  | .local .tc .vmem, ⟨6, _⟩ => ⟨S256x128, .f32⟩
  | .local .tc .vmem, ⟨7, _⟩ => ⟨S1x256, .f32⟩
  | .local .tc .vmem, ⟨8, _⟩ => ⟨S256x256, .f32⟩
  | .local .tc .vmem, ⟨9, _⟩ => ⟨S1x256, .f32⟩
  | .local .tc .vmem, ⟨10, _⟩ => ⟨S128x256, .f32⟩
  | .local .tc .vmem, ⟨11, _⟩ => ⟨S1x128, .f32⟩
  | .local .tc .vmem, ⟨12, _⟩ => ⟨S64x128, .f32⟩
  | .local .scVector .vmem, ⟨0, _⟩ => ⟨S1680, .i32⟩
  | .local .scVector .vmem, ⟨1, _⟩ => ⟨S125x128, .f32⟩
  | .local .scVector .vmem, ⟨2, _⟩ => ⟨S125x128, .f32⟩
  | .local .scVector .vmem, ⟨3, _⟩ => ⟨S125x128, .f32⟩
  | .local .scVector .vmem, ⟨4, _⟩ => ⟨S125x128, .f32⟩
  | .local .scVector .vmem, ⟨5, _⟩ => ⟨S64x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_arg0_scv : Ref sig .scVector := ⟨.hbm, 0, rfl⟩
abbrev main_arg1_scv : Ref sig .scVector := ⟨.hbm, 1, rfl⟩
abbrev main_v2_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  ![v20.toNat]
@[reducible] def k0_t1_loop : Scf.Loop 32 :=
  let c0_i32_6 : BitVec 32 := 0#32
  let c64_i32 : BitVec 32 := 64#32
  let v23 : BitVec 32 := Scalar.addi c0_i32_6 c64_i32
  let c1_i32_7 : BitVec 32 := 1#32
  ⟨c0_i32_6, v23, c1_i32_7⟩
def k0_off2 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v147 : Index := Scalar.indexCast arg15
  let c0 : Index := 0#32
  ![v147.toNat, 0]
def k0_off3 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v149 : Index := Scalar.indexCast arg15
  let c16 : Index := 16#32
  ![v149.toNat, 16]
def k0_off4 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v151 : Index := Scalar.indexCast arg15
  let c32 : Index := 32#32
  ![v151.toNat, 32]
def k0_off5 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v153 : Index := Scalar.indexCast arg15
  let c48 : Index := 48#32
  ![v153.toNat, 48]
def k0_off6 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v155 : Index := Scalar.indexCast arg15
  let c64 : Index := 64#32
  ![v155.toNat, 64]
def k0_off7 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v157 : Index := Scalar.indexCast arg15
  let c80 : Index := 80#32
  ![v157.toNat, 80]
def k0_off8 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v159 : Index := Scalar.indexCast arg15
  let c96 : Index := 96#32
  ![v159.toNat, 96]
def k0_off9 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let v161 : Index := Scalar.indexCast arg15
  let c112 : Index := 112#32
  ![v161.toNat, 112]
def k0_off10 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let v25 : BitVec 32 := Scalar.addi v2 c0_i32_9
  let c0_i32_10 : BitVec 32 := 0#32
  ![v25.toNat, 0]
def k0_off10_at (r : Fin 5) : BitVec 32 :=
  if r.val < 2 then
    if r.val < 1 then
      0#32
    else
      125#32
  else
    if r.val < 3 then
      250#32
    else
      if r.val < 4 then
        375#32
      else
        1000#32
@[reducible] def k0_t2_loop : Scf.Loop 32 :=
  let c0_i32_18 : BitVec 32 := 0#32
  let c2_i32_19 : BitVec 32 := 2#32
  let v37 : BitVec 32 := Scalar.addi c0_i32_18 c2_i32_19
  let c1_i32_20 : BitVec 32 := 1#32
  ⟨c0_i32_18, v37, c1_i32_20⟩
def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32 : BitVec 32 := 4#32
  let v147 : BitVec 32 := Scalar.muli arg15 c4_i32
  let c0_i32_55 : BitVec 32 := 0#32
  let v148 : BitVec 32 := Scalar.addi v147 c0_i32_55
  let c125_i32_56 : BitVec 32 := 125#32
  let v149 : BitVec 32 := Scalar.muli v148 c125_i32_56
  let v150 : BitVec 32 := Scalar.addi v2 v149
  let c0_i32_57 : BitVec 32 := 0#32
  ![v150.toNat, 0]
def k0_off12 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32 : BitVec 32 := 4#32
  let v147 : BitVec 32 := Scalar.muli arg15 c4_i32
  let c0_i32_55 : BitVec 32 := 0#32
  let v148 : BitVec 32 := Scalar.addi v147 c0_i32_55
  let c125_i32_59 : BitVec 32 := 125#32
  let v153 : BitVec 32 := Scalar.muli v148 c125_i32_59
  let v154 : BitVec 32 := Scalar.addi v21 v153
  let v155 : Index := Scalar.indexCast v154
  ![v155.toNat]
def k0_off13 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32 : BitVec 32 := 4#32
  let v147 : BitVec 32 := Scalar.muli arg15 c4_i32
  let c0_i32_55 : BitVec 32 := 0#32
  let v148 : BitVec 32 := Scalar.addi v147 c0_i32_55
  let c125_i32_59 : BitVec 32 := 125#32
  let v153 : BitVec 32 := Scalar.muli v148 c125_i32_59
  let v154 : BitVec 32 := Scalar.addi v21 v153
  let c125_i32_60 : BitVec 32 := 125#32
  let v159 : BitVec 32 := Scalar.addi v154 c125_i32_60
  let c1_i32_61 : BitVec 32 := 1#32
  let v160 : BitVec 32 := Scalar.subi v159 c1_i32_61
  let v161 : Index := Scalar.indexCast v160
  ![v161.toNat]
@[reducible] def k0_t3_loop : Scf.Loop 32 :=
  let c1_i32_113 : BitVec 32 := 1#32
  let c24_i32 : BitVec 32 := 24#32
  let v299 : BitVec 32 := Scalar.addi c1_i32_113 c24_i32
  let c1_i32_114 : BitVec 32 := 1#32
  ⟨c1_i32_113, v299, c1_i32_114⟩
def k0_off14 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v415 : Index := Scalar.indexCast v414
  let c0_189 : Index := 0#32
  ![v415.toNat, 0]
def k0_off15 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v418 : Index := Scalar.indexCast v414
  let c16_190 : Index := 16#32
  ![v418.toNat, 16]
def k0_off16 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v421 : Index := Scalar.indexCast v414
  let c32_191 : Index := 32#32
  ![v421.toNat, 32]
def k0_off17 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v424 : Index := Scalar.indexCast v414
  let c48_192 : Index := 48#32
  ![v424.toNat, 48]
def k0_off18 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v427 : Index := Scalar.indexCast v414
  let c64_193 : Index := 64#32
  ![v427.toNat, 64]
def k0_off19 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v430 : Index := Scalar.indexCast v414
  let c80_194 : Index := 80#32
  ![v430.toNat, 80]
def k0_off20 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v433 : Index := Scalar.indexCast v414
  let c96_195 : Index := 96#32
  ![v433.toNat, 96]
def k0_off21 (k0_t3 : Fin k0_t3_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t3
  let c5_i32 : BitVec 32 := 5#32
  let v413 : BitVec 32 := Scalar.muli arg25 c5_i32
  let v414 : BitVec 32 := Scalar.addi v413 c0_i32_188
  let v436 : Index := Scalar.indexCast v414
  let c112_196 : Index := 112#32
  ![v436.toNat, 112]
def k0_off22 (v158 : BitVec 32) : Fin 2 → Nat :=
  let v397 : Index := Scalar.indexCast v158
  let c0_180 : Index := 0#32
  ![v397.toNat, 0]
def k0_cond1 (v158 : BitVec 32) (v164 : BitVec 32) : BitVec 1 :=
  let v168 : BitVec 1 := Scalar.cmpi .eq v158 v164
  let v169 : BitVec 32 := Scalar.extui v168
  let c0_i32_62 : BitVec 32 := 0#32
  let v170 : BitVec 1 := Scalar.cmpi .ne v169 c0_i32_62
  v170

def k0_off23 (v158 : BitVec 32) : Fin 2 → Nat :=
  let v399 : Index := Scalar.indexCast v158
  let c16_181 : Index := 16#32
  ![v399.toNat, 16]
def k0_off24 (v158 : BitVec 32) : Fin 2 → Nat :=
  let v401 : Index := Scalar.indexCast v158
  let c32_182 : Index := 32#32
  ![v401.toNat, 32]
def k0_off25 (v158 : BitVec 32) : Fin 2 → Nat :=
  let v403 : Index := Scalar.indexCast v158
  let c48_183 : Index := 48#32
  ![v403.toNat, 48]
def k0_off26 (v158 : BitVec 32) : Fin 2 → Nat :=
  let v405 : Index := Scalar.indexCast v158
  let c64_184 : Index := 64#32
  ![v405.toNat, 64]
def k0_off27 (v158 : BitVec 32) : Fin 2 → Nat :=
  let v407 : Index := Scalar.indexCast v158
  let c80_185 : Index := 80#32
  ![v407.toNat, 80]
def k0_off28 (v158 : BitVec 32) : Fin 2 → Nat :=
  let v409 : Index := Scalar.indexCast v158
  let c96_186 : Index := 96#32
  ![v409.toNat, 96]
def k0_off29 (v158 : BitVec 32) : Fin 2 → Nat :=
  let v411 : Index := Scalar.indexCast v158
  let c112_187 : Index := 112#32
  ![v411.toNat, 112]

def k0_chk1 (v158 : BitVec 32) (v164 : BitVec 32) : Prop :=
  (∀ (k0_h1 : k0_cond1 v158 v164 = 1#1), ∀ a, (k0_off22 v158) a + S1x16.size a ≤ S64x128.size a) ∧
  (∀ (k0_h1 : k0_cond1 v158 v164 = 1#1), ∀ a, (k0_off23 v158) a + S1x16.size a ≤ S64x128.size a) ∧
  (∀ (k0_h1 : k0_cond1 v158 v164 = 1#1), ∀ a, (k0_off24 v158) a + S1x16.size a ≤ S64x128.size a) ∧
  (∀ (k0_h1 : k0_cond1 v158 v164 = 1#1), ∀ a, (k0_off25 v158) a + S1x16.size a ≤ S64x128.size a) ∧
  (∀ (k0_h1 : k0_cond1 v158 v164 = 1#1), ∀ a, (k0_off26 v158) a + S1x16.size a ≤ S64x128.size a) ∧
  (∀ (k0_h1 : k0_cond1 v158 v164 = 1#1), ∀ a, (k0_off27 v158) a + S1x16.size a ≤ S64x128.size a) ∧
  (∀ (k0_h1 : k0_cond1 v158 v164 = 1#1), ∀ a, (k0_off28 v158) a + S1x16.size a ≤ S64x128.size a) ∧
  (∀ (k0_h1 : k0_cond1 v158 v164 = 1#1), ∀ a, (k0_off29 v158) a + S1x16.size a ≤ S64x128.size a)
theorem k0_off22_inb : ∀ (v158 : BitVec 32) (v164 : BitVec 32) (k0_hw1 : k0_chk1 v158 v164), ∀ (k0_h1 : k0_cond1 v158 v164 = 1#1), ∀ a, (k0_off22 v158) a + S1x16.size a ≤ S64x128.size a := fun v158 v164 k0_hw1 k0_h1 => k0_hw1.1 k0_h1
theorem k0_off23_inb : ∀ (v158 : BitVec 32) (v164 : BitVec 32) (k0_hw1 : k0_chk1 v158 v164), ∀ (k0_h1 : k0_cond1 v158 v164 = 1#1), ∀ a, (k0_off23 v158) a + S1x16.size a ≤ S64x128.size a := fun v158 v164 k0_hw1 k0_h1 => k0_hw1.2.1 k0_h1
theorem k0_off24_inb : ∀ (v158 : BitVec 32) (v164 : BitVec 32) (k0_hw1 : k0_chk1 v158 v164), ∀ (k0_h1 : k0_cond1 v158 v164 = 1#1), ∀ a, (k0_off24 v158) a + S1x16.size a ≤ S64x128.size a := fun v158 v164 k0_hw1 k0_h1 => k0_hw1.2.2.1 k0_h1
theorem k0_off25_inb : ∀ (v158 : BitVec 32) (v164 : BitVec 32) (k0_hw1 : k0_chk1 v158 v164), ∀ (k0_h1 : k0_cond1 v158 v164 = 1#1), ∀ a, (k0_off25 v158) a + S1x16.size a ≤ S64x128.size a := fun v158 v164 k0_hw1 k0_h1 => k0_hw1.2.2.2.1 k0_h1
theorem k0_off26_inb : ∀ (v158 : BitVec 32) (v164 : BitVec 32) (k0_hw1 : k0_chk1 v158 v164), ∀ (k0_h1 : k0_cond1 v158 v164 = 1#1), ∀ a, (k0_off26 v158) a + S1x16.size a ≤ S64x128.size a := fun v158 v164 k0_hw1 k0_h1 => k0_hw1.2.2.2.2.1 k0_h1
theorem k0_off27_inb : ∀ (v158 : BitVec 32) (v164 : BitVec 32) (k0_hw1 : k0_chk1 v158 v164), ∀ (k0_h1 : k0_cond1 v158 v164 = 1#1), ∀ a, (k0_off27 v158) a + S1x16.size a ≤ S64x128.size a := fun v158 v164 k0_hw1 k0_h1 => k0_hw1.2.2.2.2.2.1 k0_h1
theorem k0_off28_inb : ∀ (v158 : BitVec 32) (v164 : BitVec 32) (k0_hw1 : k0_chk1 v158 v164), ∀ (k0_h1 : k0_cond1 v158 v164 = 1#1), ∀ a, (k0_off28 v158) a + S1x16.size a ≤ S64x128.size a := fun v158 v164 k0_hw1 k0_h1 => k0_hw1.2.2.2.2.2.2.1 k0_h1
theorem k0_off29_inb : ∀ (v158 : BitVec 32) (v164 : BitVec 32) (k0_hw1 : k0_chk1 v158 v164), ∀ (k0_h1 : k0_cond1 v158 v164 = 1#1), ∀ a, (k0_off29 v158) a + S1x16.size a ≤ S64x128.size a := fun v158 v164 k0_hw1 k0_h1 => k0_hw1.2.2.2.2.2.2.2 k0_h1

@[reducible] def k0_t4_loop : Scf.Loop 32 :=
  let c0_i32_105 : BitVec 32 := 0#32
  let c125_i32_106 : BitVec 32 := 125#32
  let v267 : BitVec 32 := Scalar.addi c0_i32_105 c125_i32_106
  let c1_i32_107 : BitVec 32 := 1#32
  ⟨c0_i32_105, v267, c1_i32_107⟩
def k0_off30 (i : grid0.Coords) (k0_t2 : Fin k0_t2_loop.trips) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32 : BitVec 32 := 4#32
  let v147 : BitVec 32 := Scalar.muli arg15 c4_i32
  let c0_i32_55 : BitVec 32 := 0#32
  let v148 : BitVec 32 := Scalar.addi v147 c0_i32_55
  let c125_i32_59 : BitVec 32 := 125#32
  let v153 : BitVec 32 := Scalar.muli v148 c125_i32_59
  let v154 : BitVec 32 := Scalar.addi v21 v153
  let c0_i32_105 : BitVec 32 := 0#32
  let c1_i32_107 : BitVec 32 := 1#32
  let arg25 : BitVec 32 := Scf.iv c0_i32_105 c1_i32_107 k0_t4
  let v269 : BitVec 32 := Scalar.addi v154 arg25
  let v270 : Index := Scalar.indexCast v269
  ![v270.toNat]
def k0_off31 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v277 : Index := Scalar.indexCast arg25
  let c0 : Index := 0#32
  ![v277.toNat, 0]
def k0_off32 (v273 : BitVec 32) : Fin 2 → Nat :=
  let v281 : Index := Scalar.indexCast v273
  let c0_109 : Index := 0#32
  ![v281.toNat, 0]

def k0_off33 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v283 : Index := Scalar.indexCast arg25
  let c16 : Index := 16#32
  ![v283.toNat, 16]
def k0_off34 (v273 : BitVec 32) : Fin 2 → Nat :=
  let v287 : Index := Scalar.indexCast v273
  let c16_110 : Index := 16#32
  ![v287.toNat, 16]
def k0_off35 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v289 : Index := Scalar.indexCast arg25
  let c32 : Index := 32#32
  ![v289.toNat, 32]
def k0_off36 (v273 : BitVec 32) : Fin 2 → Nat :=
  let v293 : Index := Scalar.indexCast v273
  let c32_111 : Index := 32#32
  ![v293.toNat, 32]
def k0_off37 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v295 : Index := Scalar.indexCast arg25
  let c48 : Index := 48#32
  ![v295.toNat, 48]
def k0_off38 (v273 : BitVec 32) : Fin 2 → Nat :=
  let v299 : Index := Scalar.indexCast v273
  let c48_112 : Index := 48#32
  ![v299.toNat, 48]
def k0_off39 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v301 : Index := Scalar.indexCast arg25
  let c64 : Index := 64#32
  ![v301.toNat, 64]
def k0_off40 (v273 : BitVec 32) : Fin 2 → Nat :=
  let v305 : Index := Scalar.indexCast v273
  let c64_113 : Index := 64#32
  ![v305.toNat, 64]
def k0_off41 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v307 : Index := Scalar.indexCast arg25
  let c80 : Index := 80#32
  ![v307.toNat, 80]
def k0_off42 (v273 : BitVec 32) : Fin 2 → Nat :=
  let v311 : Index := Scalar.indexCast v273
  let c80_114 : Index := 80#32
  ![v311.toNat, 80]
def k0_off43 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v313 : Index := Scalar.indexCast arg25
  let c96 : Index := 96#32
  ![v313.toNat, 96]
def k0_off44 (v273 : BitVec 32) : Fin 2 → Nat :=
  let v317 : Index := Scalar.indexCast v273
  let c96_115 : Index := 96#32
  ![v317.toNat, 96]
def k0_off45 (k0_t4 : Fin k0_t4_loop.trips) : Fin 2 → Nat :=
  let c0_i32_105 : BitVec 32 := 0#32
  let c1_i32_107 : BitVec 32 := 1#32
  let arg25 : BitVec 32 := Scf.iv c0_i32_105 c1_i32_107 k0_t4
  let v319 : Index := Scalar.indexCast arg25
  let c112 : Index := 112#32
  ![v319.toNat, 112]
def k0_off46 (v273 : BitVec 32) : Fin 2 → Nat :=
  let v323 : Index := Scalar.indexCast v273
  let c112_116 : Index := 112#32
  ![v323.toNat, 112]

def k0_chk2 (v158 : BitVec 32) (v164 : BitVec 32) (v273 : BitVec 32) : Prop :=
  (∀ (k0_h1 : ¬(k0_cond1 v158 v164 = 1#1)), ∀ a, (k0_off32 v273) a + S1x16.size a ≤ S64x128.size a) ∧
  (∀ (k0_h1 : ¬(k0_cond1 v158 v164 = 1#1)), ∀ a, (k0_off34 v273) a + S1x16.size a ≤ S64x128.size a) ∧
  (∀ (k0_h1 : ¬(k0_cond1 v158 v164 = 1#1)), ∀ a, (k0_off36 v273) a + S1x16.size a ≤ S64x128.size a) ∧
  (∀ (k0_h1 : ¬(k0_cond1 v158 v164 = 1#1)), ∀ a, (k0_off38 v273) a + S1x16.size a ≤ S64x128.size a) ∧
  (∀ (k0_h1 : ¬(k0_cond1 v158 v164 = 1#1)), ∀ a, (k0_off40 v273) a + S1x16.size a ≤ S64x128.size a) ∧
  (∀ (k0_h1 : ¬(k0_cond1 v158 v164 = 1#1)), ∀ a, (k0_off42 v273) a + S1x16.size a ≤ S64x128.size a) ∧
  (∀ (k0_h1 : ¬(k0_cond1 v158 v164 = 1#1)), ∀ a, (k0_off44 v273) a + S1x16.size a ≤ S64x128.size a) ∧
  (∀ (k0_h1 : ¬(k0_cond1 v158 v164 = 1#1)), ∀ a, (k0_off46 v273) a + S1x16.size a ≤ S64x128.size a)
theorem k0_off32_inb : ∀ (v158 : BitVec 32) (v164 : BitVec 32) (v273 : BitVec 32) (k0_hw2 : k0_chk2 v158 v164 v273), ∀ (k0_h1 : ¬(k0_cond1 v158 v164 = 1#1)), ∀ a, (k0_off32 v273) a + S1x16.size a ≤ S64x128.size a := fun v158 v164 v273 k0_hw2 k0_h1 => k0_hw2.1 k0_h1
theorem k0_off34_inb : ∀ (v158 : BitVec 32) (v164 : BitVec 32) (v273 : BitVec 32) (k0_hw2 : k0_chk2 v158 v164 v273), ∀ (k0_h1 : ¬(k0_cond1 v158 v164 = 1#1)), ∀ a, (k0_off34 v273) a + S1x16.size a ≤ S64x128.size a := fun v158 v164 v273 k0_hw2 k0_h1 => k0_hw2.2.1 k0_h1
theorem k0_off36_inb : ∀ (v158 : BitVec 32) (v164 : BitVec 32) (v273 : BitVec 32) (k0_hw2 : k0_chk2 v158 v164 v273), ∀ (k0_h1 : ¬(k0_cond1 v158 v164 = 1#1)), ∀ a, (k0_off36 v273) a + S1x16.size a ≤ S64x128.size a := fun v158 v164 v273 k0_hw2 k0_h1 => k0_hw2.2.2.1 k0_h1
theorem k0_off38_inb : ∀ (v158 : BitVec 32) (v164 : BitVec 32) (v273 : BitVec 32) (k0_hw2 : k0_chk2 v158 v164 v273), ∀ (k0_h1 : ¬(k0_cond1 v158 v164 = 1#1)), ∀ a, (k0_off38 v273) a + S1x16.size a ≤ S64x128.size a := fun v158 v164 v273 k0_hw2 k0_h1 => k0_hw2.2.2.2.1 k0_h1
theorem k0_off40_inb : ∀ (v158 : BitVec 32) (v164 : BitVec 32) (v273 : BitVec 32) (k0_hw2 : k0_chk2 v158 v164 v273), ∀ (k0_h1 : ¬(k0_cond1 v158 v164 = 1#1)), ∀ a, (k0_off40 v273) a + S1x16.size a ≤ S64x128.size a := fun v158 v164 v273 k0_hw2 k0_h1 => k0_hw2.2.2.2.2.1 k0_h1
theorem k0_off42_inb : ∀ (v158 : BitVec 32) (v164 : BitVec 32) (v273 : BitVec 32) (k0_hw2 : k0_chk2 v158 v164 v273), ∀ (k0_h1 : ¬(k0_cond1 v158 v164 = 1#1)), ∀ a, (k0_off42 v273) a + S1x16.size a ≤ S64x128.size a := fun v158 v164 v273 k0_hw2 k0_h1 => k0_hw2.2.2.2.2.2.1 k0_h1
theorem k0_off44_inb : ∀ (v158 : BitVec 32) (v164 : BitVec 32) (v273 : BitVec 32) (k0_hw2 : k0_chk2 v158 v164 v273), ∀ (k0_h1 : ¬(k0_cond1 v158 v164 = 1#1)), ∀ a, (k0_off44 v273) a + S1x16.size a ≤ S64x128.size a := fun v158 v164 v273 k0_hw2 k0_h1 => k0_hw2.2.2.2.2.2.2.1 k0_h1
theorem k0_off46_inb : ∀ (v158 : BitVec 32) (v164 : BitVec 32) (v273 : BitVec 32) (k0_hw2 : k0_chk2 v158 v164 v273), ∀ (k0_h1 : ¬(k0_cond1 v158 v164 = 1#1)), ∀ a, (k0_off46 v273) a + S1x16.size a ≤ S64x128.size a := fun v158 v164 v273 k0_hw2 k0_h1 => k0_hw2.2.2.2.2.2.2.2 k0_h1

def k0_off47 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32 : BitVec 32 := 4#32
  let v147 : BitVec 32 := Scalar.muli arg15 c4_i32
  let c0_i32_55 : BitVec 32 := 0#32
  let v148 : BitVec 32 := Scalar.addi v147 c0_i32_55
  let c4_i32_63 : BitVec 32 := 4#32
  let v172 : BitVec 32 := Scalar.addi v148 c4_i32_63
  let c125_i32_64 : BitVec 32 := 125#32
  let v173 : BitVec 32 := Scalar.muli v172 c125_i32_64
  let v174 : BitVec 32 := Scalar.addi v2 v173
  let c0_i32_65 : BitVec 32 := 0#32
  ![v174.toNat, 0]
def k0_off48 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_67 : BitVec 32 := 4#32
  let v177 : BitVec 32 := Scalar.muli arg15 c4_i32_67
  let c1_i32_68 : BitVec 32 := 1#32
  let v178 : BitVec 32 := Scalar.addi v177 c1_i32_68
  let c125_i32_69 : BitVec 32 := 125#32
  let v179 : BitVec 32 := Scalar.muli v178 c125_i32_69
  let v180 : BitVec 32 := Scalar.addi v2 v179
  let c0_i32_70 : BitVec 32 := 0#32
  ![v180.toNat, 0]
def k0_off49 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_67 : BitVec 32 := 4#32
  let v177 : BitVec 32 := Scalar.muli arg15 c4_i32_67
  let c1_i32_68 : BitVec 32 := 1#32
  let v178 : BitVec 32 := Scalar.addi v177 c1_i32_68
  let c125_i32_72 : BitVec 32 := 125#32
  let v183 : BitVec 32 := Scalar.muli v178 c125_i32_72
  let v184 : BitVec 32 := Scalar.addi v21 v183
  let v185 : Index := Scalar.indexCast v184
  ![v185.toNat]
def k0_off50 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_67 : BitVec 32 := 4#32
  let v177 : BitVec 32 := Scalar.muli arg15 c4_i32_67
  let c1_i32_68 : BitVec 32 := 1#32
  let v178 : BitVec 32 := Scalar.addi v177 c1_i32_68
  let c125_i32_72 : BitVec 32 := 125#32
  let v183 : BitVec 32 := Scalar.muli v178 c125_i32_72
  let v184 : BitVec 32 := Scalar.addi v21 v183
  let c125_i32_73 : BitVec 32 := 125#32
  let v189 : BitVec 32 := Scalar.addi v184 c125_i32_73
  let c1_i32_74 : BitVec 32 := 1#32
  let v190 : BitVec 32 := Scalar.subi v189 c1_i32_74
  let v191 : Index := Scalar.indexCast v190
  ![v191.toNat]
@[reducible] def k0_t5_loop : Scf.Loop 32 :=
  let c1_i32_113 : BitVec 32 := 1#32
  let c24_i32 : BitVec 32 := 24#32
  let v299 : BitVec 32 := Scalar.addi c1_i32_113 c24_i32
  let c1_i32_114 : BitVec 32 := 1#32
  ⟨c1_i32_113, v299, c1_i32_114⟩
def k0_off51 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v415 : Index := Scalar.indexCast v414
  let c0_189 : Index := 0#32
  ![v415.toNat, 0]
def k0_off52 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v418 : Index := Scalar.indexCast v414
  let c16_190 : Index := 16#32
  ![v418.toNat, 16]
def k0_off53 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v421 : Index := Scalar.indexCast v414
  let c32_191 : Index := 32#32
  ![v421.toNat, 32]
def k0_off54 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v424 : Index := Scalar.indexCast v414
  let c48_192 : Index := 48#32
  ![v424.toNat, 48]
def k0_off55 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v427 : Index := Scalar.indexCast v414
  let c64_193 : Index := 64#32
  ![v427.toNat, 64]
def k0_off56 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v430 : Index := Scalar.indexCast v414
  let c80_194 : Index := 80#32
  ![v430.toNat, 80]
def k0_off57 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v433 : Index := Scalar.indexCast v414
  let c96_195 : Index := 96#32
  ![v433.toNat, 96]
def k0_off58 (k0_t5 : Fin k0_t5_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t5
  let c5_i32 : BitVec 32 := 5#32
  let v413 : BitVec 32 := Scalar.muli arg25 c5_i32
  let v414 : BitVec 32 := Scalar.addi v413 c0_i32_188
  let v436 : Index := Scalar.indexCast v414
  let c112_196 : Index := 112#32
  ![v436.toNat, 112]
def k0_off59 (v188 : BitVec 32) : Fin 2 → Nat :=
  let v397 : Index := Scalar.indexCast v188
  let c0_180 : Index := 0#32
  ![v397.toNat, 0]
def k0_cond2 (v188 : BitVec 32) (v194 : BitVec 32) : BitVec 1 :=
  let v198 : BitVec 1 := Scalar.cmpi .eq v188 v194
  let v199 : BitVec 32 := Scalar.extui v198
  let c0_i32_75 : BitVec 32 := 0#32
  let v200 : BitVec 1 := Scalar.cmpi .ne v199 c0_i32_75
  v200

def k0_off60 (v188 : BitVec 32) : Fin 2 → Nat :=
  let v399 : Index := Scalar.indexCast v188
  let c16_181 : Index := 16#32
  ![v399.toNat, 16]
def k0_off61 (v188 : BitVec 32) : Fin 2 → Nat :=
  let v401 : Index := Scalar.indexCast v188
  let c32_182 : Index := 32#32
  ![v401.toNat, 32]
def k0_off62 (v188 : BitVec 32) : Fin 2 → Nat :=
  let v403 : Index := Scalar.indexCast v188
  let c48_183 : Index := 48#32
  ![v403.toNat, 48]
def k0_off63 (v188 : BitVec 32) : Fin 2 → Nat :=
  let v405 : Index := Scalar.indexCast v188
  let c64_184 : Index := 64#32
  ![v405.toNat, 64]
def k0_off64 (v188 : BitVec 32) : Fin 2 → Nat :=
  let v407 : Index := Scalar.indexCast v188
  let c80_185 : Index := 80#32
  ![v407.toNat, 80]
def k0_off65 (v188 : BitVec 32) : Fin 2 → Nat :=
  let v409 : Index := Scalar.indexCast v188
  let c96_186 : Index := 96#32
  ![v409.toNat, 96]
def k0_off66 (v188 : BitVec 32) : Fin 2 → Nat :=
  let v411 : Index := Scalar.indexCast v188
  let c112_187 : Index := 112#32
  ![v411.toNat, 112]

def k0_chk3 (v188 : BitVec 32) (v194 : BitVec 32) : Prop :=
  (∀ (k0_h2 : k0_cond2 v188 v194 = 1#1), ∀ a, (k0_off59 v188) a + S1x16.size a ≤ S64x128.size a) ∧
  (∀ (k0_h2 : k0_cond2 v188 v194 = 1#1), ∀ a, (k0_off60 v188) a + S1x16.size a ≤ S64x128.size a) ∧
  (∀ (k0_h2 : k0_cond2 v188 v194 = 1#1), ∀ a, (k0_off61 v188) a + S1x16.size a ≤ S64x128.size a) ∧
  (∀ (k0_h2 : k0_cond2 v188 v194 = 1#1), ∀ a, (k0_off62 v188) a + S1x16.size a ≤ S64x128.size a) ∧
  (∀ (k0_h2 : k0_cond2 v188 v194 = 1#1), ∀ a, (k0_off63 v188) a + S1x16.size a ≤ S64x128.size a) ∧
  (∀ (k0_h2 : k0_cond2 v188 v194 = 1#1), ∀ a, (k0_off64 v188) a + S1x16.size a ≤ S64x128.size a) ∧
  (∀ (k0_h2 : k0_cond2 v188 v194 = 1#1), ∀ a, (k0_off65 v188) a + S1x16.size a ≤ S64x128.size a) ∧
  (∀ (k0_h2 : k0_cond2 v188 v194 = 1#1), ∀ a, (k0_off66 v188) a + S1x16.size a ≤ S64x128.size a)
theorem k0_off59_inb : ∀ (v188 : BitVec 32) (v194 : BitVec 32) (k0_hw3 : k0_chk3 v188 v194), ∀ (k0_h2 : k0_cond2 v188 v194 = 1#1), ∀ a, (k0_off59 v188) a + S1x16.size a ≤ S64x128.size a := fun v188 v194 k0_hw3 k0_h2 => k0_hw3.1 k0_h2
theorem k0_off60_inb : ∀ (v188 : BitVec 32) (v194 : BitVec 32) (k0_hw3 : k0_chk3 v188 v194), ∀ (k0_h2 : k0_cond2 v188 v194 = 1#1), ∀ a, (k0_off60 v188) a + S1x16.size a ≤ S64x128.size a := fun v188 v194 k0_hw3 k0_h2 => k0_hw3.2.1 k0_h2
theorem k0_off61_inb : ∀ (v188 : BitVec 32) (v194 : BitVec 32) (k0_hw3 : k0_chk3 v188 v194), ∀ (k0_h2 : k0_cond2 v188 v194 = 1#1), ∀ a, (k0_off61 v188) a + S1x16.size a ≤ S64x128.size a := fun v188 v194 k0_hw3 k0_h2 => k0_hw3.2.2.1 k0_h2
theorem k0_off62_inb : ∀ (v188 : BitVec 32) (v194 : BitVec 32) (k0_hw3 : k0_chk3 v188 v194), ∀ (k0_h2 : k0_cond2 v188 v194 = 1#1), ∀ a, (k0_off62 v188) a + S1x16.size a ≤ S64x128.size a := fun v188 v194 k0_hw3 k0_h2 => k0_hw3.2.2.2.1 k0_h2
theorem k0_off63_inb : ∀ (v188 : BitVec 32) (v194 : BitVec 32) (k0_hw3 : k0_chk3 v188 v194), ∀ (k0_h2 : k0_cond2 v188 v194 = 1#1), ∀ a, (k0_off63 v188) a + S1x16.size a ≤ S64x128.size a := fun v188 v194 k0_hw3 k0_h2 => k0_hw3.2.2.2.2.1 k0_h2
theorem k0_off64_inb : ∀ (v188 : BitVec 32) (v194 : BitVec 32) (k0_hw3 : k0_chk3 v188 v194), ∀ (k0_h2 : k0_cond2 v188 v194 = 1#1), ∀ a, (k0_off64 v188) a + S1x16.size a ≤ S64x128.size a := fun v188 v194 k0_hw3 k0_h2 => k0_hw3.2.2.2.2.2.1 k0_h2
theorem k0_off65_inb : ∀ (v188 : BitVec 32) (v194 : BitVec 32) (k0_hw3 : k0_chk3 v188 v194), ∀ (k0_h2 : k0_cond2 v188 v194 = 1#1), ∀ a, (k0_off65 v188) a + S1x16.size a ≤ S64x128.size a := fun v188 v194 k0_hw3 k0_h2 => k0_hw3.2.2.2.2.2.2.1 k0_h2
theorem k0_off66_inb : ∀ (v188 : BitVec 32) (v194 : BitVec 32) (k0_hw3 : k0_chk3 v188 v194), ∀ (k0_h2 : k0_cond2 v188 v194 = 1#1), ∀ a, (k0_off66 v188) a + S1x16.size a ≤ S64x128.size a := fun v188 v194 k0_hw3 k0_h2 => k0_hw3.2.2.2.2.2.2.2 k0_h2

@[reducible] def k0_t6_loop : Scf.Loop 32 :=
  let c0_i32_105 : BitVec 32 := 0#32
  let c125_i32_106 : BitVec 32 := 125#32
  let v267 : BitVec 32 := Scalar.addi c0_i32_105 c125_i32_106
  let c1_i32_107 : BitVec 32 := 1#32
  ⟨c0_i32_105, v267, c1_i32_107⟩
def k0_off67 (i : grid0.Coords) (k0_t2 : Fin k0_t2_loop.trips) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_67 : BitVec 32 := 4#32
  let v177 : BitVec 32 := Scalar.muli arg15 c4_i32_67
  let c1_i32_68 : BitVec 32 := 1#32
  let v178 : BitVec 32 := Scalar.addi v177 c1_i32_68
  let c125_i32_72 : BitVec 32 := 125#32
  let v183 : BitVec 32 := Scalar.muli v178 c125_i32_72
  let v184 : BitVec 32 := Scalar.addi v21 v183
  let c0_i32_105 : BitVec 32 := 0#32
  let c1_i32_107 : BitVec 32 := 1#32
  let arg25 : BitVec 32 := Scf.iv c0_i32_105 c1_i32_107 k0_t6
  let v269 : BitVec 32 := Scalar.addi v184 arg25
  let v270 : Index := Scalar.indexCast v269
  ![v270.toNat]
def k0_off68 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v277 : Index := Scalar.indexCast arg25
  let c0 : Index := 0#32
  ![v277.toNat, 0]
def k0_off69 (v273 : BitVec 32) : Fin 2 → Nat :=
  let v281 : Index := Scalar.indexCast v273
  let c0_109 : Index := 0#32
  ![v281.toNat, 0]

def k0_off70 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v283 : Index := Scalar.indexCast arg25
  let c16 : Index := 16#32
  ![v283.toNat, 16]
def k0_off71 (v273 : BitVec 32) : Fin 2 → Nat :=
  let v287 : Index := Scalar.indexCast v273
  let c16_110 : Index := 16#32
  ![v287.toNat, 16]
def k0_off72 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v289 : Index := Scalar.indexCast arg25
  let c32 : Index := 32#32
  ![v289.toNat, 32]
def k0_off73 (v273 : BitVec 32) : Fin 2 → Nat :=
  let v293 : Index := Scalar.indexCast v273
  let c32_111 : Index := 32#32
  ![v293.toNat, 32]
def k0_off74 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v295 : Index := Scalar.indexCast arg25
  let c48 : Index := 48#32
  ![v295.toNat, 48]
def k0_off75 (v273 : BitVec 32) : Fin 2 → Nat :=
  let v299 : Index := Scalar.indexCast v273
  let c48_112 : Index := 48#32
  ![v299.toNat, 48]
def k0_off76 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v301 : Index := Scalar.indexCast arg25
  let c64 : Index := 64#32
  ![v301.toNat, 64]
def k0_off77 (v273 : BitVec 32) : Fin 2 → Nat :=
  let v305 : Index := Scalar.indexCast v273
  let c64_113 : Index := 64#32
  ![v305.toNat, 64]
def k0_off78 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v307 : Index := Scalar.indexCast arg25
  let c80 : Index := 80#32
  ![v307.toNat, 80]
def k0_off79 (v273 : BitVec 32) : Fin 2 → Nat :=
  let v311 : Index := Scalar.indexCast v273
  let c80_114 : Index := 80#32
  ![v311.toNat, 80]
def k0_off80 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v313 : Index := Scalar.indexCast arg25
  let c96 : Index := 96#32
  ![v313.toNat, 96]
def k0_off81 (v273 : BitVec 32) : Fin 2 → Nat :=
  let v317 : Index := Scalar.indexCast v273
  let c96_115 : Index := 96#32
  ![v317.toNat, 96]
def k0_off82 (k0_t6 : Fin k0_t6_loop.trips) : Fin 2 → Nat :=
  let c0_i32_105 : BitVec 32 := 0#32
  let c1_i32_107 : BitVec 32 := 1#32
  let arg25 : BitVec 32 := Scf.iv c0_i32_105 c1_i32_107 k0_t6
  let v319 : Index := Scalar.indexCast arg25
  let c112 : Index := 112#32
  ![v319.toNat, 112]
def k0_off83 (v273 : BitVec 32) : Fin 2 → Nat :=
  let v323 : Index := Scalar.indexCast v273
  let c112_116 : Index := 112#32
  ![v323.toNat, 112]

def k0_chk4 (v188 : BitVec 32) (v194 : BitVec 32) (v273 : BitVec 32) : Prop :=
  (∀ (k0_h2 : ¬(k0_cond2 v188 v194 = 1#1)), ∀ a, (k0_off69 v273) a + S1x16.size a ≤ S64x128.size a) ∧
  (∀ (k0_h2 : ¬(k0_cond2 v188 v194 = 1#1)), ∀ a, (k0_off71 v273) a + S1x16.size a ≤ S64x128.size a) ∧
  (∀ (k0_h2 : ¬(k0_cond2 v188 v194 = 1#1)), ∀ a, (k0_off73 v273) a + S1x16.size a ≤ S64x128.size a) ∧
  (∀ (k0_h2 : ¬(k0_cond2 v188 v194 = 1#1)), ∀ a, (k0_off75 v273) a + S1x16.size a ≤ S64x128.size a) ∧
  (∀ (k0_h2 : ¬(k0_cond2 v188 v194 = 1#1)), ∀ a, (k0_off77 v273) a + S1x16.size a ≤ S64x128.size a) ∧
  (∀ (k0_h2 : ¬(k0_cond2 v188 v194 = 1#1)), ∀ a, (k0_off79 v273) a + S1x16.size a ≤ S64x128.size a) ∧
  (∀ (k0_h2 : ¬(k0_cond2 v188 v194 = 1#1)), ∀ a, (k0_off81 v273) a + S1x16.size a ≤ S64x128.size a) ∧
  (∀ (k0_h2 : ¬(k0_cond2 v188 v194 = 1#1)), ∀ a, (k0_off83 v273) a + S1x16.size a ≤ S64x128.size a)
theorem k0_off69_inb : ∀ (v188 : BitVec 32) (v194 : BitVec 32) (v273 : BitVec 32) (k0_hw4 : k0_chk4 v188 v194 v273), ∀ (k0_h2 : ¬(k0_cond2 v188 v194 = 1#1)), ∀ a, (k0_off69 v273) a + S1x16.size a ≤ S64x128.size a := fun v188 v194 v273 k0_hw4 k0_h2 => k0_hw4.1 k0_h2
theorem k0_off71_inb : ∀ (v188 : BitVec 32) (v194 : BitVec 32) (v273 : BitVec 32) (k0_hw4 : k0_chk4 v188 v194 v273), ∀ (k0_h2 : ¬(k0_cond2 v188 v194 = 1#1)), ∀ a, (k0_off71 v273) a + S1x16.size a ≤ S64x128.size a := fun v188 v194 v273 k0_hw4 k0_h2 => k0_hw4.2.1 k0_h2
theorem k0_off73_inb : ∀ (v188 : BitVec 32) (v194 : BitVec 32) (v273 : BitVec 32) (k0_hw4 : k0_chk4 v188 v194 v273), ∀ (k0_h2 : ¬(k0_cond2 v188 v194 = 1#1)), ∀ a, (k0_off73 v273) a + S1x16.size a ≤ S64x128.size a := fun v188 v194 v273 k0_hw4 k0_h2 => k0_hw4.2.2.1 k0_h2
theorem k0_off75_inb : ∀ (v188 : BitVec 32) (v194 : BitVec 32) (v273 : BitVec 32) (k0_hw4 : k0_chk4 v188 v194 v273), ∀ (k0_h2 : ¬(k0_cond2 v188 v194 = 1#1)), ∀ a, (k0_off75 v273) a + S1x16.size a ≤ S64x128.size a := fun v188 v194 v273 k0_hw4 k0_h2 => k0_hw4.2.2.2.1 k0_h2
theorem k0_off77_inb : ∀ (v188 : BitVec 32) (v194 : BitVec 32) (v273 : BitVec 32) (k0_hw4 : k0_chk4 v188 v194 v273), ∀ (k0_h2 : ¬(k0_cond2 v188 v194 = 1#1)), ∀ a, (k0_off77 v273) a + S1x16.size a ≤ S64x128.size a := fun v188 v194 v273 k0_hw4 k0_h2 => k0_hw4.2.2.2.2.1 k0_h2
theorem k0_off79_inb : ∀ (v188 : BitVec 32) (v194 : BitVec 32) (v273 : BitVec 32) (k0_hw4 : k0_chk4 v188 v194 v273), ∀ (k0_h2 : ¬(k0_cond2 v188 v194 = 1#1)), ∀ a, (k0_off79 v273) a + S1x16.size a ≤ S64x128.size a := fun v188 v194 v273 k0_hw4 k0_h2 => k0_hw4.2.2.2.2.2.1 k0_h2
theorem k0_off81_inb : ∀ (v188 : BitVec 32) (v194 : BitVec 32) (v273 : BitVec 32) (k0_hw4 : k0_chk4 v188 v194 v273), ∀ (k0_h2 : ¬(k0_cond2 v188 v194 = 1#1)), ∀ a, (k0_off81 v273) a + S1x16.size a ≤ S64x128.size a := fun v188 v194 v273 k0_hw4 k0_h2 => k0_hw4.2.2.2.2.2.2.1 k0_h2
theorem k0_off83_inb : ∀ (v188 : BitVec 32) (v194 : BitVec 32) (v273 : BitVec 32) (k0_hw4 : k0_chk4 v188 v194 v273), ∀ (k0_h2 : ¬(k0_cond2 v188 v194 = 1#1)), ∀ a, (k0_off83 v273) a + S1x16.size a ≤ S64x128.size a := fun v188 v194 v273 k0_hw4 k0_h2 => k0_hw4.2.2.2.2.2.2.2 k0_h2

def k0_off84 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_67 : BitVec 32 := 4#32
  let v177 : BitVec 32 := Scalar.muli arg15 c4_i32_67
  let c1_i32_68 : BitVec 32 := 1#32
  let v178 : BitVec 32 := Scalar.addi v177 c1_i32_68
  let c4_i32_76 : BitVec 32 := 4#32
  let v202 : BitVec 32 := Scalar.addi v178 c4_i32_76
  let c125_i32_77 : BitVec 32 := 125#32
  let v203 : BitVec 32 := Scalar.muli v202 c125_i32_77
  let v204 : BitVec 32 := Scalar.addi v2 v203
  let c0_i32_78 : BitVec 32 := 0#32
  ![v204.toNat, 0]
def k0_off85 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_80 : BitVec 32 := 4#32
  let v207 : BitVec 32 := Scalar.muli arg15 c4_i32_80
  let c2_i32_81 : BitVec 32 := 2#32
  let v208 : BitVec 32 := Scalar.addi v207 c2_i32_81
  let c125_i32_82 : BitVec 32 := 125#32
  let v209 : BitVec 32 := Scalar.muli v208 c125_i32_82
  let v210 : BitVec 32 := Scalar.addi v2 v209
  let c0_i32_83 : BitVec 32 := 0#32
  ![v210.toNat, 0]
def k0_off86 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_80 : BitVec 32 := 4#32
  let v207 : BitVec 32 := Scalar.muli arg15 c4_i32_80
  let c2_i32_81 : BitVec 32 := 2#32
  let v208 : BitVec 32 := Scalar.addi v207 c2_i32_81
  let c125_i32_85 : BitVec 32 := 125#32
  let v213 : BitVec 32 := Scalar.muli v208 c125_i32_85
  let v214 : BitVec 32 := Scalar.addi v21 v213
  let v215 : Index := Scalar.indexCast v214
  ![v215.toNat]
def k0_off87 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_80 : BitVec 32 := 4#32
  let v207 : BitVec 32 := Scalar.muli arg15 c4_i32_80
  let c2_i32_81 : BitVec 32 := 2#32
  let v208 : BitVec 32 := Scalar.addi v207 c2_i32_81
  let c125_i32_85 : BitVec 32 := 125#32
  let v213 : BitVec 32 := Scalar.muli v208 c125_i32_85
  let v214 : BitVec 32 := Scalar.addi v21 v213
  let c125_i32_86 : BitVec 32 := 125#32
  let v219 : BitVec 32 := Scalar.addi v214 c125_i32_86
  let c1_i32_87 : BitVec 32 := 1#32
  let v220 : BitVec 32 := Scalar.subi v219 c1_i32_87
  let v221 : Index := Scalar.indexCast v220
  ![v221.toNat]
@[reducible] def k0_t7_loop : Scf.Loop 32 :=
  let c1_i32_113 : BitVec 32 := 1#32
  let c24_i32 : BitVec 32 := 24#32
  let v299 : BitVec 32 := Scalar.addi c1_i32_113 c24_i32
  let c1_i32_114 : BitVec 32 := 1#32
  ⟨c1_i32_113, v299, c1_i32_114⟩
def k0_off88 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v415 : Index := Scalar.indexCast v414
  let c0_189 : Index := 0#32
  ![v415.toNat, 0]
def k0_off89 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v418 : Index := Scalar.indexCast v414
  let c16_190 : Index := 16#32
  ![v418.toNat, 16]
def k0_off90 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v421 : Index := Scalar.indexCast v414
  let c32_191 : Index := 32#32
  ![v421.toNat, 32]
def k0_off91 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v424 : Index := Scalar.indexCast v414
  let c48_192 : Index := 48#32
  ![v424.toNat, 48]
def k0_off92 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v427 : Index := Scalar.indexCast v414
  let c64_193 : Index := 64#32
  ![v427.toNat, 64]
def k0_off93 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v430 : Index := Scalar.indexCast v414
  let c80_194 : Index := 80#32
  ![v430.toNat, 80]
def k0_off94 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v433 : Index := Scalar.indexCast v414
  let c96_195 : Index := 96#32
  ![v433.toNat, 96]
def k0_off95 (k0_t7 : Fin k0_t7_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t7
  let c5_i32 : BitVec 32 := 5#32
  let v413 : BitVec 32 := Scalar.muli arg25 c5_i32
  let v414 : BitVec 32 := Scalar.addi v413 c0_i32_188
  let v436 : Index := Scalar.indexCast v414
  let c112_196 : Index := 112#32
  ![v436.toNat, 112]
def k0_off96 (v218 : BitVec 32) : Fin 2 → Nat :=
  let v397 : Index := Scalar.indexCast v218
  let c0_180 : Index := 0#32
  ![v397.toNat, 0]
def k0_cond3 (v218 : BitVec 32) (v224 : BitVec 32) : BitVec 1 :=
  let v228 : BitVec 1 := Scalar.cmpi .eq v218 v224
  let v229 : BitVec 32 := Scalar.extui v228
  let c0_i32_88 : BitVec 32 := 0#32
  let v230 : BitVec 1 := Scalar.cmpi .ne v229 c0_i32_88
  v230

def k0_off97 (v218 : BitVec 32) : Fin 2 → Nat :=
  let v399 : Index := Scalar.indexCast v218
  let c16_181 : Index := 16#32
  ![v399.toNat, 16]
def k0_off98 (v218 : BitVec 32) : Fin 2 → Nat :=
  let v401 : Index := Scalar.indexCast v218
  let c32_182 : Index := 32#32
  ![v401.toNat, 32]
def k0_off99 (v218 : BitVec 32) : Fin 2 → Nat :=
  let v403 : Index := Scalar.indexCast v218
  let c48_183 : Index := 48#32
  ![v403.toNat, 48]
def k0_off100 (v218 : BitVec 32) : Fin 2 → Nat :=
  let v405 : Index := Scalar.indexCast v218
  let c64_184 : Index := 64#32
  ![v405.toNat, 64]
def k0_off101 (v218 : BitVec 32) : Fin 2 → Nat :=
  let v407 : Index := Scalar.indexCast v218
  let c80_185 : Index := 80#32
  ![v407.toNat, 80]
def k0_off102 (v218 : BitVec 32) : Fin 2 → Nat :=
  let v409 : Index := Scalar.indexCast v218
  let c96_186 : Index := 96#32
  ![v409.toNat, 96]
def k0_off103 (v218 : BitVec 32) : Fin 2 → Nat :=
  let v411 : Index := Scalar.indexCast v218
  let c112_187 : Index := 112#32
  ![v411.toNat, 112]

def k0_chk5 (v218 : BitVec 32) (v224 : BitVec 32) : Prop :=
  (∀ (k0_h3 : k0_cond3 v218 v224 = 1#1), ∀ a, (k0_off96 v218) a + S1x16.size a ≤ S64x128.size a) ∧
  (∀ (k0_h3 : k0_cond3 v218 v224 = 1#1), ∀ a, (k0_off97 v218) a + S1x16.size a ≤ S64x128.size a) ∧
  (∀ (k0_h3 : k0_cond3 v218 v224 = 1#1), ∀ a, (k0_off98 v218) a + S1x16.size a ≤ S64x128.size a) ∧
  (∀ (k0_h3 : k0_cond3 v218 v224 = 1#1), ∀ a, (k0_off99 v218) a + S1x16.size a ≤ S64x128.size a) ∧
  (∀ (k0_h3 : k0_cond3 v218 v224 = 1#1), ∀ a, (k0_off100 v218) a + S1x16.size a ≤ S64x128.size a) ∧
  (∀ (k0_h3 : k0_cond3 v218 v224 = 1#1), ∀ a, (k0_off101 v218) a + S1x16.size a ≤ S64x128.size a) ∧
  (∀ (k0_h3 : k0_cond3 v218 v224 = 1#1), ∀ a, (k0_off102 v218) a + S1x16.size a ≤ S64x128.size a) ∧
  (∀ (k0_h3 : k0_cond3 v218 v224 = 1#1), ∀ a, (k0_off103 v218) a + S1x16.size a ≤ S64x128.size a)
theorem k0_off96_inb : ∀ (v218 : BitVec 32) (v224 : BitVec 32) (k0_hw5 : k0_chk5 v218 v224), ∀ (k0_h3 : k0_cond3 v218 v224 = 1#1), ∀ a, (k0_off96 v218) a + S1x16.size a ≤ S64x128.size a := fun v218 v224 k0_hw5 k0_h3 => k0_hw5.1 k0_h3
theorem k0_off97_inb : ∀ (v218 : BitVec 32) (v224 : BitVec 32) (k0_hw5 : k0_chk5 v218 v224), ∀ (k0_h3 : k0_cond3 v218 v224 = 1#1), ∀ a, (k0_off97 v218) a + S1x16.size a ≤ S64x128.size a := fun v218 v224 k0_hw5 k0_h3 => k0_hw5.2.1 k0_h3
theorem k0_off98_inb : ∀ (v218 : BitVec 32) (v224 : BitVec 32) (k0_hw5 : k0_chk5 v218 v224), ∀ (k0_h3 : k0_cond3 v218 v224 = 1#1), ∀ a, (k0_off98 v218) a + S1x16.size a ≤ S64x128.size a := fun v218 v224 k0_hw5 k0_h3 => k0_hw5.2.2.1 k0_h3
theorem k0_off99_inb : ∀ (v218 : BitVec 32) (v224 : BitVec 32) (k0_hw5 : k0_chk5 v218 v224), ∀ (k0_h3 : k0_cond3 v218 v224 = 1#1), ∀ a, (k0_off99 v218) a + S1x16.size a ≤ S64x128.size a := fun v218 v224 k0_hw5 k0_h3 => k0_hw5.2.2.2.1 k0_h3
theorem k0_off100_inb : ∀ (v218 : BitVec 32) (v224 : BitVec 32) (k0_hw5 : k0_chk5 v218 v224), ∀ (k0_h3 : k0_cond3 v218 v224 = 1#1), ∀ a, (k0_off100 v218) a + S1x16.size a ≤ S64x128.size a := fun v218 v224 k0_hw5 k0_h3 => k0_hw5.2.2.2.2.1 k0_h3
theorem k0_off101_inb : ∀ (v218 : BitVec 32) (v224 : BitVec 32) (k0_hw5 : k0_chk5 v218 v224), ∀ (k0_h3 : k0_cond3 v218 v224 = 1#1), ∀ a, (k0_off101 v218) a + S1x16.size a ≤ S64x128.size a := fun v218 v224 k0_hw5 k0_h3 => k0_hw5.2.2.2.2.2.1 k0_h3
theorem k0_off102_inb : ∀ (v218 : BitVec 32) (v224 : BitVec 32) (k0_hw5 : k0_chk5 v218 v224), ∀ (k0_h3 : k0_cond3 v218 v224 = 1#1), ∀ a, (k0_off102 v218) a + S1x16.size a ≤ S64x128.size a := fun v218 v224 k0_hw5 k0_h3 => k0_hw5.2.2.2.2.2.2.1 k0_h3
theorem k0_off103_inb : ∀ (v218 : BitVec 32) (v224 : BitVec 32) (k0_hw5 : k0_chk5 v218 v224), ∀ (k0_h3 : k0_cond3 v218 v224 = 1#1), ∀ a, (k0_off103 v218) a + S1x16.size a ≤ S64x128.size a := fun v218 v224 k0_hw5 k0_h3 => k0_hw5.2.2.2.2.2.2.2 k0_h3

@[reducible] def k0_t8_loop : Scf.Loop 32 :=
  let c0_i32_105 : BitVec 32 := 0#32
  let c125_i32_106 : BitVec 32 := 125#32
  let v267 : BitVec 32 := Scalar.addi c0_i32_105 c125_i32_106
  let c1_i32_107 : BitVec 32 := 1#32
  ⟨c0_i32_105, v267, c1_i32_107⟩
def k0_off104 (i : grid0.Coords) (k0_t2 : Fin k0_t2_loop.trips) (k0_t8 : Fin k0_t8_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_80 : BitVec 32 := 4#32
  let v207 : BitVec 32 := Scalar.muli arg15 c4_i32_80
  let c2_i32_81 : BitVec 32 := 2#32
  let v208 : BitVec 32 := Scalar.addi v207 c2_i32_81
  let c125_i32_85 : BitVec 32 := 125#32
  let v213 : BitVec 32 := Scalar.muli v208 c125_i32_85
  let v214 : BitVec 32 := Scalar.addi v21 v213
  let c0_i32_105 : BitVec 32 := 0#32
  let c1_i32_107 : BitVec 32 := 1#32
  let arg25 : BitVec 32 := Scf.iv c0_i32_105 c1_i32_107 k0_t8
  let v269 : BitVec 32 := Scalar.addi v214 arg25
  let v270 : Index := Scalar.indexCast v269
  ![v270.toNat]
def k0_off105 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v277 : Index := Scalar.indexCast arg25
  let c0 : Index := 0#32
  ![v277.toNat, 0]
def k0_off106 (v273 : BitVec 32) : Fin 2 → Nat :=
  let v281 : Index := Scalar.indexCast v273
  let c0_109 : Index := 0#32
  ![v281.toNat, 0]

def k0_off107 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v283 : Index := Scalar.indexCast arg25
  let c16 : Index := 16#32
  ![v283.toNat, 16]
def k0_off108 (v273 : BitVec 32) : Fin 2 → Nat :=
  let v287 : Index := Scalar.indexCast v273
  let c16_110 : Index := 16#32
  ![v287.toNat, 16]
def k0_off109 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v289 : Index := Scalar.indexCast arg25
  let c32 : Index := 32#32
  ![v289.toNat, 32]
def k0_off110 (v273 : BitVec 32) : Fin 2 → Nat :=
  let v293 : Index := Scalar.indexCast v273
  let c32_111 : Index := 32#32
  ![v293.toNat, 32]
def k0_off111 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v295 : Index := Scalar.indexCast arg25
  let c48 : Index := 48#32
  ![v295.toNat, 48]
def k0_off112 (v273 : BitVec 32) : Fin 2 → Nat :=
  let v299 : Index := Scalar.indexCast v273
  let c48_112 : Index := 48#32
  ![v299.toNat, 48]
def k0_off113 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v301 : Index := Scalar.indexCast arg25
  let c64 : Index := 64#32
  ![v301.toNat, 64]
def k0_off114 (v273 : BitVec 32) : Fin 2 → Nat :=
  let v305 : Index := Scalar.indexCast v273
  let c64_113 : Index := 64#32
  ![v305.toNat, 64]
def k0_off115 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v307 : Index := Scalar.indexCast arg25
  let c80 : Index := 80#32
  ![v307.toNat, 80]
def k0_off116 (v273 : BitVec 32) : Fin 2 → Nat :=
  let v311 : Index := Scalar.indexCast v273
  let c80_114 : Index := 80#32
  ![v311.toNat, 80]
def k0_off117 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v313 : Index := Scalar.indexCast arg25
  let c96 : Index := 96#32
  ![v313.toNat, 96]
def k0_off118 (v273 : BitVec 32) : Fin 2 → Nat :=
  let v317 : Index := Scalar.indexCast v273
  let c96_115 : Index := 96#32
  ![v317.toNat, 96]
def k0_off119 (k0_t8 : Fin k0_t8_loop.trips) : Fin 2 → Nat :=
  let c0_i32_105 : BitVec 32 := 0#32
  let c1_i32_107 : BitVec 32 := 1#32
  let arg25 : BitVec 32 := Scf.iv c0_i32_105 c1_i32_107 k0_t8
  let v319 : Index := Scalar.indexCast arg25
  let c112 : Index := 112#32
  ![v319.toNat, 112]
def k0_off120 (v273 : BitVec 32) : Fin 2 → Nat :=
  let v323 : Index := Scalar.indexCast v273
  let c112_116 : Index := 112#32
  ![v323.toNat, 112]

def k0_chk6 (v218 : BitVec 32) (v224 : BitVec 32) (v273 : BitVec 32) : Prop :=
  (∀ (k0_h3 : ¬(k0_cond3 v218 v224 = 1#1)), ∀ a, (k0_off106 v273) a + S1x16.size a ≤ S64x128.size a) ∧
  (∀ (k0_h3 : ¬(k0_cond3 v218 v224 = 1#1)), ∀ a, (k0_off108 v273) a + S1x16.size a ≤ S64x128.size a) ∧
  (∀ (k0_h3 : ¬(k0_cond3 v218 v224 = 1#1)), ∀ a, (k0_off110 v273) a + S1x16.size a ≤ S64x128.size a) ∧
  (∀ (k0_h3 : ¬(k0_cond3 v218 v224 = 1#1)), ∀ a, (k0_off112 v273) a + S1x16.size a ≤ S64x128.size a) ∧
  (∀ (k0_h3 : ¬(k0_cond3 v218 v224 = 1#1)), ∀ a, (k0_off114 v273) a + S1x16.size a ≤ S64x128.size a) ∧
  (∀ (k0_h3 : ¬(k0_cond3 v218 v224 = 1#1)), ∀ a, (k0_off116 v273) a + S1x16.size a ≤ S64x128.size a) ∧
  (∀ (k0_h3 : ¬(k0_cond3 v218 v224 = 1#1)), ∀ a, (k0_off118 v273) a + S1x16.size a ≤ S64x128.size a) ∧
  (∀ (k0_h3 : ¬(k0_cond3 v218 v224 = 1#1)), ∀ a, (k0_off120 v273) a + S1x16.size a ≤ S64x128.size a)
theorem k0_off106_inb : ∀ (v218 : BitVec 32) (v224 : BitVec 32) (v273 : BitVec 32) (k0_hw6 : k0_chk6 v218 v224 v273), ∀ (k0_h3 : ¬(k0_cond3 v218 v224 = 1#1)), ∀ a, (k0_off106 v273) a + S1x16.size a ≤ S64x128.size a := fun v218 v224 v273 k0_hw6 k0_h3 => k0_hw6.1 k0_h3
theorem k0_off108_inb : ∀ (v218 : BitVec 32) (v224 : BitVec 32) (v273 : BitVec 32) (k0_hw6 : k0_chk6 v218 v224 v273), ∀ (k0_h3 : ¬(k0_cond3 v218 v224 = 1#1)), ∀ a, (k0_off108 v273) a + S1x16.size a ≤ S64x128.size a := fun v218 v224 v273 k0_hw6 k0_h3 => k0_hw6.2.1 k0_h3
theorem k0_off110_inb : ∀ (v218 : BitVec 32) (v224 : BitVec 32) (v273 : BitVec 32) (k0_hw6 : k0_chk6 v218 v224 v273), ∀ (k0_h3 : ¬(k0_cond3 v218 v224 = 1#1)), ∀ a, (k0_off110 v273) a + S1x16.size a ≤ S64x128.size a := fun v218 v224 v273 k0_hw6 k0_h3 => k0_hw6.2.2.1 k0_h3
theorem k0_off112_inb : ∀ (v218 : BitVec 32) (v224 : BitVec 32) (v273 : BitVec 32) (k0_hw6 : k0_chk6 v218 v224 v273), ∀ (k0_h3 : ¬(k0_cond3 v218 v224 = 1#1)), ∀ a, (k0_off112 v273) a + S1x16.size a ≤ S64x128.size a := fun v218 v224 v273 k0_hw6 k0_h3 => k0_hw6.2.2.2.1 k0_h3
theorem k0_off114_inb : ∀ (v218 : BitVec 32) (v224 : BitVec 32) (v273 : BitVec 32) (k0_hw6 : k0_chk6 v218 v224 v273), ∀ (k0_h3 : ¬(k0_cond3 v218 v224 = 1#1)), ∀ a, (k0_off114 v273) a + S1x16.size a ≤ S64x128.size a := fun v218 v224 v273 k0_hw6 k0_h3 => k0_hw6.2.2.2.2.1 k0_h3
theorem k0_off116_inb : ∀ (v218 : BitVec 32) (v224 : BitVec 32) (v273 : BitVec 32) (k0_hw6 : k0_chk6 v218 v224 v273), ∀ (k0_h3 : ¬(k0_cond3 v218 v224 = 1#1)), ∀ a, (k0_off116 v273) a + S1x16.size a ≤ S64x128.size a := fun v218 v224 v273 k0_hw6 k0_h3 => k0_hw6.2.2.2.2.2.1 k0_h3
theorem k0_off118_inb : ∀ (v218 : BitVec 32) (v224 : BitVec 32) (v273 : BitVec 32) (k0_hw6 : k0_chk6 v218 v224 v273), ∀ (k0_h3 : ¬(k0_cond3 v218 v224 = 1#1)), ∀ a, (k0_off118 v273) a + S1x16.size a ≤ S64x128.size a := fun v218 v224 v273 k0_hw6 k0_h3 => k0_hw6.2.2.2.2.2.2.1 k0_h3
theorem k0_off120_inb : ∀ (v218 : BitVec 32) (v224 : BitVec 32) (v273 : BitVec 32) (k0_hw6 : k0_chk6 v218 v224 v273), ∀ (k0_h3 : ¬(k0_cond3 v218 v224 = 1#1)), ∀ a, (k0_off120 v273) a + S1x16.size a ≤ S64x128.size a := fun v218 v224 v273 k0_hw6 k0_h3 => k0_hw6.2.2.2.2.2.2.2 k0_h3

def k0_off121 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_80 : BitVec 32 := 4#32
  let v207 : BitVec 32 := Scalar.muli arg15 c4_i32_80
  let c2_i32_81 : BitVec 32 := 2#32
  let v208 : BitVec 32 := Scalar.addi v207 c2_i32_81
  let c4_i32_89 : BitVec 32 := 4#32
  let v232 : BitVec 32 := Scalar.addi v208 c4_i32_89
  let c125_i32_90 : BitVec 32 := 125#32
  let v233 : BitVec 32 := Scalar.muli v232 c125_i32_90
  let v234 : BitVec 32 := Scalar.addi v2 v233
  let c0_i32_91 : BitVec 32 := 0#32
  ![v234.toNat, 0]
def k0_off122 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_93 : BitVec 32 := 4#32
  let v237 : BitVec 32 := Scalar.muli arg15 c4_i32_93
  let c3_i32 : BitVec 32 := 3#32
  let v238 : BitVec 32 := Scalar.addi v237 c3_i32
  let c125_i32_94 : BitVec 32 := 125#32
  let v239 : BitVec 32 := Scalar.muli v238 c125_i32_94
  let v240 : BitVec 32 := Scalar.addi v2 v239
  let c0_i32_95 : BitVec 32 := 0#32
  ![v240.toNat, 0]
def k0_off123 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_93 : BitVec 32 := 4#32
  let v237 : BitVec 32 := Scalar.muli arg15 c4_i32_93
  let c3_i32 : BitVec 32 := 3#32
  let v238 : BitVec 32 := Scalar.addi v237 c3_i32
  let c125_i32_97 : BitVec 32 := 125#32
  let v243 : BitVec 32 := Scalar.muli v238 c125_i32_97
  let v244 : BitVec 32 := Scalar.addi v21 v243
  let v245 : Index := Scalar.indexCast v244
  ![v245.toNat]
def k0_off124 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_93 : BitVec 32 := 4#32
  let v237 : BitVec 32 := Scalar.muli arg15 c4_i32_93
  let c3_i32 : BitVec 32 := 3#32
  let v238 : BitVec 32 := Scalar.addi v237 c3_i32
  let c125_i32_97 : BitVec 32 := 125#32
  let v243 : BitVec 32 := Scalar.muli v238 c125_i32_97
  let v244 : BitVec 32 := Scalar.addi v21 v243
  let c125_i32_98 : BitVec 32 := 125#32
  let v249 : BitVec 32 := Scalar.addi v244 c125_i32_98
  let c1_i32_99 : BitVec 32 := 1#32
  let v250 : BitVec 32 := Scalar.subi v249 c1_i32_99
  let v251 : Index := Scalar.indexCast v250
  ![v251.toNat]
@[reducible] def k0_t9_loop : Scf.Loop 32 :=
  let c1_i32_113 : BitVec 32 := 1#32
  let c24_i32 : BitVec 32 := 24#32
  let v299 : BitVec 32 := Scalar.addi c1_i32_113 c24_i32
  let c1_i32_114 : BitVec 32 := 1#32
  ⟨c1_i32_113, v299, c1_i32_114⟩
def k0_off125 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v415 : Index := Scalar.indexCast v414
  let c0_189 : Index := 0#32
  ![v415.toNat, 0]
def k0_off126 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v418 : Index := Scalar.indexCast v414
  let c16_190 : Index := 16#32
  ![v418.toNat, 16]
def k0_off127 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v421 : Index := Scalar.indexCast v414
  let c32_191 : Index := 32#32
  ![v421.toNat, 32]
def k0_off128 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v424 : Index := Scalar.indexCast v414
  let c48_192 : Index := 48#32
  ![v424.toNat, 48]
def k0_off129 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v427 : Index := Scalar.indexCast v414
  let c64_193 : Index := 64#32
  ![v427.toNat, 64]
def k0_off130 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v430 : Index := Scalar.indexCast v414
  let c80_194 : Index := 80#32
  ![v430.toNat, 80]
def k0_off131 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v433 : Index := Scalar.indexCast v414
  let c96_195 : Index := 96#32
  ![v433.toNat, 96]
def k0_off132 (k0_t9 : Fin k0_t9_loop.trips) (c0_i32_188 : BitVec 32) : Fin 2 → Nat :=
  let c1_i32_113 : BitVec 32 := 1#32
  let c1_i32_114 : BitVec 32 := 1#32
  let arg25 : BitVec 32 := Scf.iv c1_i32_113 c1_i32_114 k0_t9
  let c5_i32 : BitVec 32 := 5#32
  let v413 : BitVec 32 := Scalar.muli arg25 c5_i32
  let v414 : BitVec 32 := Scalar.addi v413 c0_i32_188
  let v436 : Index := Scalar.indexCast v414
  let c112_196 : Index := 112#32
  ![v436.toNat, 112]
def k0_off133 (v248 : BitVec 32) : Fin 2 → Nat :=
  let v397 : Index := Scalar.indexCast v248
  let c0_180 : Index := 0#32
  ![v397.toNat, 0]
def k0_cond4 (v248 : BitVec 32) (v254 : BitVec 32) : BitVec 1 :=
  let v258 : BitVec 1 := Scalar.cmpi .eq v248 v254
  let v259 : BitVec 32 := Scalar.extui v258
  let c0_i32_100 : BitVec 32 := 0#32
  let v260 : BitVec 1 := Scalar.cmpi .ne v259 c0_i32_100
  v260

def k0_off134 (v248 : BitVec 32) : Fin 2 → Nat :=
  let v399 : Index := Scalar.indexCast v248
  let c16_181 : Index := 16#32
  ![v399.toNat, 16]
def k0_off135 (v248 : BitVec 32) : Fin 2 → Nat :=
  let v401 : Index := Scalar.indexCast v248
  let c32_182 : Index := 32#32
  ![v401.toNat, 32]
def k0_off136 (v248 : BitVec 32) : Fin 2 → Nat :=
  let v403 : Index := Scalar.indexCast v248
  let c48_183 : Index := 48#32
  ![v403.toNat, 48]
def k0_off137 (v248 : BitVec 32) : Fin 2 → Nat :=
  let v405 : Index := Scalar.indexCast v248
  let c64_184 : Index := 64#32
  ![v405.toNat, 64]
def k0_off138 (v248 : BitVec 32) : Fin 2 → Nat :=
  let v407 : Index := Scalar.indexCast v248
  let c80_185 : Index := 80#32
  ![v407.toNat, 80]
def k0_off139 (v248 : BitVec 32) : Fin 2 → Nat :=
  let v409 : Index := Scalar.indexCast v248
  let c96_186 : Index := 96#32
  ![v409.toNat, 96]
def k0_off140 (v248 : BitVec 32) : Fin 2 → Nat :=
  let v411 : Index := Scalar.indexCast v248
  let c112_187 : Index := 112#32
  ![v411.toNat, 112]

def k0_chk7 (v248 : BitVec 32) (v254 : BitVec 32) : Prop :=
  (∀ (k0_h4 : k0_cond4 v248 v254 = 1#1), ∀ a, (k0_off133 v248) a + S1x16.size a ≤ S64x128.size a) ∧
  (∀ (k0_h4 : k0_cond4 v248 v254 = 1#1), ∀ a, (k0_off134 v248) a + S1x16.size a ≤ S64x128.size a) ∧
  (∀ (k0_h4 : k0_cond4 v248 v254 = 1#1), ∀ a, (k0_off135 v248) a + S1x16.size a ≤ S64x128.size a) ∧
  (∀ (k0_h4 : k0_cond4 v248 v254 = 1#1), ∀ a, (k0_off136 v248) a + S1x16.size a ≤ S64x128.size a) ∧
  (∀ (k0_h4 : k0_cond4 v248 v254 = 1#1), ∀ a, (k0_off137 v248) a + S1x16.size a ≤ S64x128.size a) ∧
  (∀ (k0_h4 : k0_cond4 v248 v254 = 1#1), ∀ a, (k0_off138 v248) a + S1x16.size a ≤ S64x128.size a) ∧
  (∀ (k0_h4 : k0_cond4 v248 v254 = 1#1), ∀ a, (k0_off139 v248) a + S1x16.size a ≤ S64x128.size a) ∧
  (∀ (k0_h4 : k0_cond4 v248 v254 = 1#1), ∀ a, (k0_off140 v248) a + S1x16.size a ≤ S64x128.size a)
theorem k0_off133_inb : ∀ (v248 : BitVec 32) (v254 : BitVec 32) (k0_hw7 : k0_chk7 v248 v254), ∀ (k0_h4 : k0_cond4 v248 v254 = 1#1), ∀ a, (k0_off133 v248) a + S1x16.size a ≤ S64x128.size a := fun v248 v254 k0_hw7 k0_h4 => k0_hw7.1 k0_h4
theorem k0_off134_inb : ∀ (v248 : BitVec 32) (v254 : BitVec 32) (k0_hw7 : k0_chk7 v248 v254), ∀ (k0_h4 : k0_cond4 v248 v254 = 1#1), ∀ a, (k0_off134 v248) a + S1x16.size a ≤ S64x128.size a := fun v248 v254 k0_hw7 k0_h4 => k0_hw7.2.1 k0_h4
theorem k0_off135_inb : ∀ (v248 : BitVec 32) (v254 : BitVec 32) (k0_hw7 : k0_chk7 v248 v254), ∀ (k0_h4 : k0_cond4 v248 v254 = 1#1), ∀ a, (k0_off135 v248) a + S1x16.size a ≤ S64x128.size a := fun v248 v254 k0_hw7 k0_h4 => k0_hw7.2.2.1 k0_h4
theorem k0_off136_inb : ∀ (v248 : BitVec 32) (v254 : BitVec 32) (k0_hw7 : k0_chk7 v248 v254), ∀ (k0_h4 : k0_cond4 v248 v254 = 1#1), ∀ a, (k0_off136 v248) a + S1x16.size a ≤ S64x128.size a := fun v248 v254 k0_hw7 k0_h4 => k0_hw7.2.2.2.1 k0_h4
theorem k0_off137_inb : ∀ (v248 : BitVec 32) (v254 : BitVec 32) (k0_hw7 : k0_chk7 v248 v254), ∀ (k0_h4 : k0_cond4 v248 v254 = 1#1), ∀ a, (k0_off137 v248) a + S1x16.size a ≤ S64x128.size a := fun v248 v254 k0_hw7 k0_h4 => k0_hw7.2.2.2.2.1 k0_h4
theorem k0_off138_inb : ∀ (v248 : BitVec 32) (v254 : BitVec 32) (k0_hw7 : k0_chk7 v248 v254), ∀ (k0_h4 : k0_cond4 v248 v254 = 1#1), ∀ a, (k0_off138 v248) a + S1x16.size a ≤ S64x128.size a := fun v248 v254 k0_hw7 k0_h4 => k0_hw7.2.2.2.2.2.1 k0_h4
theorem k0_off139_inb : ∀ (v248 : BitVec 32) (v254 : BitVec 32) (k0_hw7 : k0_chk7 v248 v254), ∀ (k0_h4 : k0_cond4 v248 v254 = 1#1), ∀ a, (k0_off139 v248) a + S1x16.size a ≤ S64x128.size a := fun v248 v254 k0_hw7 k0_h4 => k0_hw7.2.2.2.2.2.2.1 k0_h4
theorem k0_off140_inb : ∀ (v248 : BitVec 32) (v254 : BitVec 32) (k0_hw7 : k0_chk7 v248 v254), ∀ (k0_h4 : k0_cond4 v248 v254 = 1#1), ∀ a, (k0_off140 v248) a + S1x16.size a ≤ S64x128.size a := fun v248 v254 k0_hw7 k0_h4 => k0_hw7.2.2.2.2.2.2.2 k0_h4

@[reducible] def k0_t10_loop : Scf.Loop 32 :=
  let c0_i32_105 : BitVec 32 := 0#32
  let c125_i32_106 : BitVec 32 := 125#32
  let v267 : BitVec 32 := Scalar.addi c0_i32_105 c125_i32_106
  let c1_i32_107 : BitVec 32 := 1#32
  ⟨c0_i32_105, v267, c1_i32_107⟩
def k0_off141 (i : grid0.Coords) (k0_t2 : Fin k0_t2_loop.trips) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_18 : BitVec 32 := 0#32
  let c1_i32_20 : BitVec 32 := 1#32
  let arg15 : BitVec 32 := Scf.iv c0_i32_18 c1_i32_20 k0_t2
  let c4_i32_93 : BitVec 32 := 4#32
  let v237 : BitVec 32 := Scalar.muli arg15 c4_i32_93
  let c3_i32 : BitVec 32 := 3#32
  let v238 : BitVec 32 := Scalar.addi v237 c3_i32
  let c125_i32_97 : BitVec 32 := 125#32
  let v243 : BitVec 32 := Scalar.muli v238 c125_i32_97
  let v244 : BitVec 32 := Scalar.addi v21 v243
  let c0_i32_105 : BitVec 32 := 0#32
  let c1_i32_107 : BitVec 32 := 1#32
  let arg25 : BitVec 32 := Scf.iv c0_i32_105 c1_i32_107 k0_t10
  let v269 : BitVec 32 := Scalar.addi v244 arg25
  let v270 : Index := Scalar.indexCast v269
  ![v270.toNat]
def k0_off142 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v277 : Index := Scalar.indexCast arg25
  let c0 : Index := 0#32
  ![v277.toNat, 0]
def k0_off143 (v273 : BitVec 32) : Fin 2 → Nat :=
  let v281 : Index := Scalar.indexCast v273
  let c0_109 : Index := 0#32
  ![v281.toNat, 0]

def k0_off144 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v283 : Index := Scalar.indexCast arg25
  let c16 : Index := 16#32
  ![v283.toNat, 16]
def k0_off145 (v273 : BitVec 32) : Fin 2 → Nat :=
  let v287 : Index := Scalar.indexCast v273
  let c16_110 : Index := 16#32
  ![v287.toNat, 16]
def k0_off146 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v289 : Index := Scalar.indexCast arg25
  let c32 : Index := 32#32
  ![v289.toNat, 32]
def k0_off147 (v273 : BitVec 32) : Fin 2 → Nat :=
  let v293 : Index := Scalar.indexCast v273
  let c32_111 : Index := 32#32
  ![v293.toNat, 32]
def k0_off148 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v295 : Index := Scalar.indexCast arg25
  let c48 : Index := 48#32
  ![v295.toNat, 48]
def k0_off149 (v273 : BitVec 32) : Fin 2 → Nat :=
  let v299 : Index := Scalar.indexCast v273
  let c48_112 : Index := 48#32
  ![v299.toNat, 48]
def k0_off150 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v301 : Index := Scalar.indexCast arg25
  let c64 : Index := 64#32
  ![v301.toNat, 64]
def k0_off151 (v273 : BitVec 32) : Fin 2 → Nat :=
  let v305 : Index := Scalar.indexCast v273
  let c64_113 : Index := 64#32
  ![v305.toNat, 64]
def k0_off152 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v307 : Index := Scalar.indexCast arg25
  let c80 : Index := 80#32
  ![v307.toNat, 80]
def k0_off153 (v273 : BitVec 32) : Fin 2 → Nat :=
  let v311 : Index := Scalar.indexCast v273
  let c80_114 : Index := 80#32
  ![v311.toNat, 80]
def k0_off154 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v313 : Index := Scalar.indexCast arg25
  let c96 : Index := 96#32
  ![v313.toNat, 96]
def k0_off155 (v273 : BitVec 32) : Fin 2 → Nat :=
  let v317 : Index := Scalar.indexCast v273
  let c96_115 : Index := 96#32
  ![v317.toNat, 96]
def k0_off156 (k0_t10 : Fin k0_t10_loop.trips) : Fin 2 → Nat :=
  let c0_i32_105 : BitVec 32 := 0#32
  let c1_i32_107 : BitVec 32 := 1#32
  let arg25 : BitVec 32 := Scf.iv c0_i32_105 c1_i32_107 k0_t10
  let v319 : Index := Scalar.indexCast arg25
  let c112 : Index := 112#32
  ![v319.toNat, 112]
def k0_off157 (v273 : BitVec 32) : Fin 2 → Nat :=
  let v323 : Index := Scalar.indexCast v273
  let c112_116 : Index := 112#32
  ![v323.toNat, 112]

def k0_chk8 (v248 : BitVec 32) (v254 : BitVec 32) (v273 : BitVec 32) : Prop :=
  (∀ (k0_h4 : ¬(k0_cond4 v248 v254 = 1#1)), ∀ a, (k0_off143 v273) a + S1x16.size a ≤ S64x128.size a) ∧
  (∀ (k0_h4 : ¬(k0_cond4 v248 v254 = 1#1)), ∀ a, (k0_off145 v273) a + S1x16.size a ≤ S64x128.size a) ∧
  (∀ (k0_h4 : ¬(k0_cond4 v248 v254 = 1#1)), ∀ a, (k0_off147 v273) a + S1x16.size a ≤ S64x128.size a) ∧
  (∀ (k0_h4 : ¬(k0_cond4 v248 v254 = 1#1)), ∀ a, (k0_off149 v273) a + S1x16.size a ≤ S64x128.size a) ∧
  (∀ (k0_h4 : ¬(k0_cond4 v248 v254 = 1#1)), ∀ a, (k0_off151 v273) a + S1x16.size a ≤ S64x128.size a) ∧
  (∀ (k0_h4 : ¬(k0_cond4 v248 v254 = 1#1)), ∀ a, (k0_off153 v273) a + S1x16.size a ≤ S64x128.size a) ∧
  (∀ (k0_h4 : ¬(k0_cond4 v248 v254 = 1#1)), ∀ a, (k0_off155 v273) a + S1x16.size a ≤ S64x128.size a) ∧
  (∀ (k0_h4 : ¬(k0_cond4 v248 v254 = 1#1)), ∀ a, (k0_off157 v273) a + S1x16.size a ≤ S64x128.size a)
theorem k0_off143_inb : ∀ (v248 : BitVec 32) (v254 : BitVec 32) (v273 : BitVec 32) (k0_hw8 : k0_chk8 v248 v254 v273), ∀ (k0_h4 : ¬(k0_cond4 v248 v254 = 1#1)), ∀ a, (k0_off143 v273) a + S1x16.size a ≤ S64x128.size a := fun v248 v254 v273 k0_hw8 k0_h4 => k0_hw8.1 k0_h4
theorem k0_off145_inb : ∀ (v248 : BitVec 32) (v254 : BitVec 32) (v273 : BitVec 32) (k0_hw8 : k0_chk8 v248 v254 v273), ∀ (k0_h4 : ¬(k0_cond4 v248 v254 = 1#1)), ∀ a, (k0_off145 v273) a + S1x16.size a ≤ S64x128.size a := fun v248 v254 v273 k0_hw8 k0_h4 => k0_hw8.2.1 k0_h4
theorem k0_off147_inb : ∀ (v248 : BitVec 32) (v254 : BitVec 32) (v273 : BitVec 32) (k0_hw8 : k0_chk8 v248 v254 v273), ∀ (k0_h4 : ¬(k0_cond4 v248 v254 = 1#1)), ∀ a, (k0_off147 v273) a + S1x16.size a ≤ S64x128.size a := fun v248 v254 v273 k0_hw8 k0_h4 => k0_hw8.2.2.1 k0_h4
theorem k0_off149_inb : ∀ (v248 : BitVec 32) (v254 : BitVec 32) (v273 : BitVec 32) (k0_hw8 : k0_chk8 v248 v254 v273), ∀ (k0_h4 : ¬(k0_cond4 v248 v254 = 1#1)), ∀ a, (k0_off149 v273) a + S1x16.size a ≤ S64x128.size a := fun v248 v254 v273 k0_hw8 k0_h4 => k0_hw8.2.2.2.1 k0_h4
theorem k0_off151_inb : ∀ (v248 : BitVec 32) (v254 : BitVec 32) (v273 : BitVec 32) (k0_hw8 : k0_chk8 v248 v254 v273), ∀ (k0_h4 : ¬(k0_cond4 v248 v254 = 1#1)), ∀ a, (k0_off151 v273) a + S1x16.size a ≤ S64x128.size a := fun v248 v254 v273 k0_hw8 k0_h4 => k0_hw8.2.2.2.2.1 k0_h4
theorem k0_off153_inb : ∀ (v248 : BitVec 32) (v254 : BitVec 32) (v273 : BitVec 32) (k0_hw8 : k0_chk8 v248 v254 v273), ∀ (k0_h4 : ¬(k0_cond4 v248 v254 = 1#1)), ∀ a, (k0_off153 v273) a + S1x16.size a ≤ S64x128.size a := fun v248 v254 v273 k0_hw8 k0_h4 => k0_hw8.2.2.2.2.2.1 k0_h4
theorem k0_off155_inb : ∀ (v248 : BitVec 32) (v254 : BitVec 32) (v273 : BitVec 32) (k0_hw8 : k0_chk8 v248 v254 v273), ∀ (k0_h4 : ¬(k0_cond4 v248 v254 = 1#1)), ∀ a, (k0_off155 v273) a + S1x16.size a ≤ S64x128.size a := fun v248 v254 v273 k0_hw8 k0_h4 => k0_hw8.2.2.2.2.2.2.1 k0_h4
theorem k0_off157_inb : ∀ (v248 : BitVec 32) (v254 : BitVec 32) (v273 : BitVec 32) (k0_hw8 : k0_chk8 v248 v254 v273), ∀ (k0_h4 : ¬(k0_cond4 v248 v254 = 1#1)), ∀ a, (k0_off157 v273) a + S1x16.size a ≤ S64x128.size a := fun v248 v254 v273 k0_hw8 k0_h4 => k0_hw8.2.2.2.2.2.2.2 k0_h4

def k0_off158 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32_18 : BitVec 32 := 0#32
  let c1_i32_20 : BitVec 32 := 1#32
  let arg15 : BitVec 32 := Scf.iv c0_i32_18 c1_i32_20 k0_t2
  let c4_i32_93 : BitVec 32 := 4#32
  let v237 : BitVec 32 := Scalar.muli arg15 c4_i32_93
  let c3_i32 : BitVec 32 := 3#32
  let v238 : BitVec 32 := Scalar.addi v237 c3_i32
  let c4_i32_101 : BitVec 32 := 4#32
  let v262 : BitVec 32 := Scalar.addi v238 c4_i32_101
  let c125_i32_102 : BitVec 32 := 125#32
  let v263 : BitVec 32 := Scalar.muli v262 c125_i32_102
  let v264 : BitVec 32 := Scalar.addi v2 v263
  let c0_i32_103 : BitVec 32 := 0#32
  ![v264.toNat, 0]
def k0_off159 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1000_i32_24 : BitVec 32 := 1000#32
  let v42 : BitVec 32 := Scalar.addi v21 c1000_i32_24
  let v43 : Index := Scalar.indexCast v42
  ![v43.toNat]
def k0_off160 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1000_i32_24 : BitVec 32 := 1000#32
  let v42 : BitVec 32 := Scalar.addi v21 c1000_i32_24
  let c125_i32_25 : BitVec 32 := 125#32
  let v47 : BitVec 32 := Scalar.addi v42 c125_i32_25
  let c1_i32_26 : BitVec 32 := 1#32
  let v48 : BitVec 32 := Scalar.subi v47 c1_i32_26
  let v49 : Index := Scalar.indexCast v48
  ![v49.toNat]
@[reducible] def k0_t11_loop : Scf.Loop 32 :=
  let c1_i32_63 : BitVec 32 := 1#32
  let c24_i32 : BitVec 32 := 24#32
  let v179 : BitVec 32 := Scalar.addi c1_i32_63 c24_i32
  let c1_i32_64 : BitVec 32 := 1#32
  ⟨c1_i32_63, v179, c1_i32_64⟩
def k0_off161 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v295 : Index := Scalar.indexCast v294
  let c0_137 : Index := 0#32
  ![v295.toNat, 0]
def k0_off162 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v298 : Index := Scalar.indexCast v294
  let c16_138 : Index := 16#32
  ![v298.toNat, 16]
def k0_off163 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v301 : Index := Scalar.indexCast v294
  let c32_139 : Index := 32#32
  ![v301.toNat, 32]
def k0_off164 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v304 : Index := Scalar.indexCast v294
  let c48_140 : Index := 48#32
  ![v304.toNat, 48]
def k0_off165 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v307 : Index := Scalar.indexCast v294
  let c64_141 : Index := 64#32
  ![v307.toNat, 64]
def k0_off166 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v310 : Index := Scalar.indexCast v294
  let c80_142 : Index := 80#32
  ![v310.toNat, 80]
def k0_off167 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v313 : Index := Scalar.indexCast v294
  let c96_143 : Index := 96#32
  ![v313.toNat, 96]
def k0_off168 (k0_t11 : Fin k0_t11_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t11
  let c5_i32 : BitVec 32 := 5#32
  let v293 : BitVec 32 := Scalar.muli arg15 c5_i32
  let v294 : BitVec 32 := Scalar.addi v293 c0_i32_136
  let v316 : Index := Scalar.indexCast v294
  let c112_144 : Index := 112#32
  ![v316.toNat, 112]
def k0_off169 (v46 : BitVec 32) : Fin 2 → Nat :=
  let v277 : Index := Scalar.indexCast v46
  let c0_128 : Index := 0#32
  ![v277.toNat, 0]
def k0_cond5 (v46 : BitVec 32) (v52 : BitVec 32) : BitVec 1 :=
  let v56 : BitVec 1 := Scalar.cmpi .eq v46 v52
  let v57 : BitVec 32 := Scalar.extui v56
  let c0_i32_27 : BitVec 32 := 0#32
  let v58 : BitVec 1 := Scalar.cmpi .ne v57 c0_i32_27
  v58

def k0_off170 (v46 : BitVec 32) : Fin 2 → Nat :=
  let v279 : Index := Scalar.indexCast v46
  let c16_129 : Index := 16#32
  ![v279.toNat, 16]
def k0_off171 (v46 : BitVec 32) : Fin 2 → Nat :=
  let v281 : Index := Scalar.indexCast v46
  let c32_130 : Index := 32#32
  ![v281.toNat, 32]
def k0_off172 (v46 : BitVec 32) : Fin 2 → Nat :=
  let v283 : Index := Scalar.indexCast v46
  let c48_131 : Index := 48#32
  ![v283.toNat, 48]
def k0_off173 (v46 : BitVec 32) : Fin 2 → Nat :=
  let v285 : Index := Scalar.indexCast v46
  let c64_132 : Index := 64#32
  ![v285.toNat, 64]
def k0_off174 (v46 : BitVec 32) : Fin 2 → Nat :=
  let v287 : Index := Scalar.indexCast v46
  let c80_133 : Index := 80#32
  ![v287.toNat, 80]
def k0_off175 (v46 : BitVec 32) : Fin 2 → Nat :=
  let v289 : Index := Scalar.indexCast v46
  let c96_134 : Index := 96#32
  ![v289.toNat, 96]
def k0_off176 (v46 : BitVec 32) : Fin 2 → Nat :=
  let v291 : Index := Scalar.indexCast v46
  let c112_135 : Index := 112#32
  ![v291.toNat, 112]

def k0_chk9 (v46 : BitVec 32) (v52 : BitVec 32) : Prop :=
  (∀ (k0_h5 : k0_cond5 v46 v52 = 1#1), ∀ a, (k0_off169 v46) a + S1x16.size a ≤ S64x128.size a) ∧
  (∀ (k0_h5 : k0_cond5 v46 v52 = 1#1), ∀ a, (k0_off170 v46) a + S1x16.size a ≤ S64x128.size a) ∧
  (∀ (k0_h5 : k0_cond5 v46 v52 = 1#1), ∀ a, (k0_off171 v46) a + S1x16.size a ≤ S64x128.size a) ∧
  (∀ (k0_h5 : k0_cond5 v46 v52 = 1#1), ∀ a, (k0_off172 v46) a + S1x16.size a ≤ S64x128.size a) ∧
  (∀ (k0_h5 : k0_cond5 v46 v52 = 1#1), ∀ a, (k0_off173 v46) a + S1x16.size a ≤ S64x128.size a) ∧
  (∀ (k0_h5 : k0_cond5 v46 v52 = 1#1), ∀ a, (k0_off174 v46) a + S1x16.size a ≤ S64x128.size a) ∧
  (∀ (k0_h5 : k0_cond5 v46 v52 = 1#1), ∀ a, (k0_off175 v46) a + S1x16.size a ≤ S64x128.size a) ∧
  (∀ (k0_h5 : k0_cond5 v46 v52 = 1#1), ∀ a, (k0_off176 v46) a + S1x16.size a ≤ S64x128.size a)
theorem k0_off169_inb : ∀ (v46 : BitVec 32) (v52 : BitVec 32) (k0_hw9 : k0_chk9 v46 v52), ∀ (k0_h5 : k0_cond5 v46 v52 = 1#1), ∀ a, (k0_off169 v46) a + S1x16.size a ≤ S64x128.size a := fun v46 v52 k0_hw9 k0_h5 => k0_hw9.1 k0_h5
theorem k0_off170_inb : ∀ (v46 : BitVec 32) (v52 : BitVec 32) (k0_hw9 : k0_chk9 v46 v52), ∀ (k0_h5 : k0_cond5 v46 v52 = 1#1), ∀ a, (k0_off170 v46) a + S1x16.size a ≤ S64x128.size a := fun v46 v52 k0_hw9 k0_h5 => k0_hw9.2.1 k0_h5
theorem k0_off171_inb : ∀ (v46 : BitVec 32) (v52 : BitVec 32) (k0_hw9 : k0_chk9 v46 v52), ∀ (k0_h5 : k0_cond5 v46 v52 = 1#1), ∀ a, (k0_off171 v46) a + S1x16.size a ≤ S64x128.size a := fun v46 v52 k0_hw9 k0_h5 => k0_hw9.2.2.1 k0_h5
theorem k0_off172_inb : ∀ (v46 : BitVec 32) (v52 : BitVec 32) (k0_hw9 : k0_chk9 v46 v52), ∀ (k0_h5 : k0_cond5 v46 v52 = 1#1), ∀ a, (k0_off172 v46) a + S1x16.size a ≤ S64x128.size a := fun v46 v52 k0_hw9 k0_h5 => k0_hw9.2.2.2.1 k0_h5
theorem k0_off173_inb : ∀ (v46 : BitVec 32) (v52 : BitVec 32) (k0_hw9 : k0_chk9 v46 v52), ∀ (k0_h5 : k0_cond5 v46 v52 = 1#1), ∀ a, (k0_off173 v46) a + S1x16.size a ≤ S64x128.size a := fun v46 v52 k0_hw9 k0_h5 => k0_hw9.2.2.2.2.1 k0_h5
theorem k0_off174_inb : ∀ (v46 : BitVec 32) (v52 : BitVec 32) (k0_hw9 : k0_chk9 v46 v52), ∀ (k0_h5 : k0_cond5 v46 v52 = 1#1), ∀ a, (k0_off174 v46) a + S1x16.size a ≤ S64x128.size a := fun v46 v52 k0_hw9 k0_h5 => k0_hw9.2.2.2.2.2.1 k0_h5
theorem k0_off175_inb : ∀ (v46 : BitVec 32) (v52 : BitVec 32) (k0_hw9 : k0_chk9 v46 v52), ∀ (k0_h5 : k0_cond5 v46 v52 = 1#1), ∀ a, (k0_off175 v46) a + S1x16.size a ≤ S64x128.size a := fun v46 v52 k0_hw9 k0_h5 => k0_hw9.2.2.2.2.2.2.1 k0_h5
theorem k0_off176_inb : ∀ (v46 : BitVec 32) (v52 : BitVec 32) (k0_hw9 : k0_chk9 v46 v52), ∀ (k0_h5 : k0_cond5 v46 v52 = 1#1), ∀ a, (k0_off176 v46) a + S1x16.size a ≤ S64x128.size a := fun v46 v52 k0_hw9 k0_h5 => k0_hw9.2.2.2.2.2.2.2 k0_h5

@[reducible] def k0_t12_loop : Scf.Loop 32 :=
  let c0_i32_55 : BitVec 32 := 0#32
  let c125_i32_56 : BitVec 32 := 125#32
  let v147 : BitVec 32 := Scalar.addi c0_i32_55 c125_i32_56
  let c1_i32_57 : BitVec 32 := 1#32
  ⟨c0_i32_55, v147, c1_i32_57⟩
def k0_off177 (i : grid0.Coords) (k0_t12 : Fin k0_t12_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1000_i32_24 : BitVec 32 := 1000#32
  let v42 : BitVec 32 := Scalar.addi v21 c1000_i32_24
  let c0_i32_55 : BitVec 32 := 0#32
  let c1_i32_57 : BitVec 32 := 1#32
  let arg15 : BitVec 32 := Scf.iv c0_i32_55 c1_i32_57 k0_t12
  let v149 : BitVec 32 := Scalar.addi v42 arg15
  let v150 : Index := Scalar.indexCast v149
  ![v150.toNat]
def k0_off178 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v157 : Index := Scalar.indexCast arg15
  let c0 : Index := 0#32
  ![v157.toNat, 0]
def k0_off179 (v153 : BitVec 32) : Fin 2 → Nat :=
  let v161 : Index := Scalar.indexCast v153
  let c0_59 : Index := 0#32
  ![v161.toNat, 0]

def k0_off180 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v163 : Index := Scalar.indexCast arg15
  let c16 : Index := 16#32
  ![v163.toNat, 16]
def k0_off181 (v153 : BitVec 32) : Fin 2 → Nat :=
  let v167 : Index := Scalar.indexCast v153
  let c16_60 : Index := 16#32
  ![v167.toNat, 16]
def k0_off182 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v169 : Index := Scalar.indexCast arg15
  let c32 : Index := 32#32
  ![v169.toNat, 32]
def k0_off183 (v153 : BitVec 32) : Fin 2 → Nat :=
  let v173 : Index := Scalar.indexCast v153
  let c32_61 : Index := 32#32
  ![v173.toNat, 32]
def k0_off184 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v175 : Index := Scalar.indexCast arg15
  let c48 : Index := 48#32
  ![v175.toNat, 48]
def k0_off185 (v153 : BitVec 32) : Fin 2 → Nat :=
  let v179 : Index := Scalar.indexCast v153
  let c48_62 : Index := 48#32
  ![v179.toNat, 48]
def k0_off186 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v181 : Index := Scalar.indexCast arg15
  let c64 : Index := 64#32
  ![v181.toNat, 64]
def k0_off187 (v153 : BitVec 32) : Fin 2 → Nat :=
  let v185 : Index := Scalar.indexCast v153
  let c64_63 : Index := 64#32
  ![v185.toNat, 64]
def k0_off188 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v187 : Index := Scalar.indexCast arg15
  let c80 : Index := 80#32
  ![v187.toNat, 80]
def k0_off189 (v153 : BitVec 32) : Fin 2 → Nat :=
  let v191 : Index := Scalar.indexCast v153
  let c80_64 : Index := 80#32
  ![v191.toNat, 80]
def k0_off190 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v193 : Index := Scalar.indexCast arg15
  let c96 : Index := 96#32
  ![v193.toNat, 96]
def k0_off191 (v153 : BitVec 32) : Fin 2 → Nat :=
  let v197 : Index := Scalar.indexCast v153
  let c96_65 : Index := 96#32
  ![v197.toNat, 96]
def k0_off192 (k0_t12 : Fin k0_t12_loop.trips) : Fin 2 → Nat :=
  let c0_i32_55 : BitVec 32 := 0#32
  let c1_i32_57 : BitVec 32 := 1#32
  let arg15 : BitVec 32 := Scf.iv c0_i32_55 c1_i32_57 k0_t12
  let v199 : Index := Scalar.indexCast arg15
  let c112 : Index := 112#32
  ![v199.toNat, 112]
def k0_off193 (v153 : BitVec 32) : Fin 2 → Nat :=
  let v203 : Index := Scalar.indexCast v153
  let c112_66 : Index := 112#32
  ![v203.toNat, 112]

def k0_chk10 (v46 : BitVec 32) (v52 : BitVec 32) (v153 : BitVec 32) : Prop :=
  (∀ (k0_h5 : ¬(k0_cond5 v46 v52 = 1#1)), ∀ a, (k0_off179 v153) a + S1x16.size a ≤ S64x128.size a) ∧
  (∀ (k0_h5 : ¬(k0_cond5 v46 v52 = 1#1)), ∀ a, (k0_off181 v153) a + S1x16.size a ≤ S64x128.size a) ∧
  (∀ (k0_h5 : ¬(k0_cond5 v46 v52 = 1#1)), ∀ a, (k0_off183 v153) a + S1x16.size a ≤ S64x128.size a) ∧
  (∀ (k0_h5 : ¬(k0_cond5 v46 v52 = 1#1)), ∀ a, (k0_off185 v153) a + S1x16.size a ≤ S64x128.size a) ∧
  (∀ (k0_h5 : ¬(k0_cond5 v46 v52 = 1#1)), ∀ a, (k0_off187 v153) a + S1x16.size a ≤ S64x128.size a) ∧
  (∀ (k0_h5 : ¬(k0_cond5 v46 v52 = 1#1)), ∀ a, (k0_off189 v153) a + S1x16.size a ≤ S64x128.size a) ∧
  (∀ (k0_h5 : ¬(k0_cond5 v46 v52 = 1#1)), ∀ a, (k0_off191 v153) a + S1x16.size a ≤ S64x128.size a) ∧
  (∀ (k0_h5 : ¬(k0_cond5 v46 v52 = 1#1)), ∀ a, (k0_off193 v153) a + S1x16.size a ≤ S64x128.size a)
theorem k0_off179_inb : ∀ (v46 : BitVec 32) (v52 : BitVec 32) (v153 : BitVec 32) (k0_hw10 : k0_chk10 v46 v52 v153), ∀ (k0_h5 : ¬(k0_cond5 v46 v52 = 1#1)), ∀ a, (k0_off179 v153) a + S1x16.size a ≤ S64x128.size a := fun v46 v52 v153 k0_hw10 k0_h5 => k0_hw10.1 k0_h5
theorem k0_off181_inb : ∀ (v46 : BitVec 32) (v52 : BitVec 32) (v153 : BitVec 32) (k0_hw10 : k0_chk10 v46 v52 v153), ∀ (k0_h5 : ¬(k0_cond5 v46 v52 = 1#1)), ∀ a, (k0_off181 v153) a + S1x16.size a ≤ S64x128.size a := fun v46 v52 v153 k0_hw10 k0_h5 => k0_hw10.2.1 k0_h5
theorem k0_off183_inb : ∀ (v46 : BitVec 32) (v52 : BitVec 32) (v153 : BitVec 32) (k0_hw10 : k0_chk10 v46 v52 v153), ∀ (k0_h5 : ¬(k0_cond5 v46 v52 = 1#1)), ∀ a, (k0_off183 v153) a + S1x16.size a ≤ S64x128.size a := fun v46 v52 v153 k0_hw10 k0_h5 => k0_hw10.2.2.1 k0_h5
theorem k0_off185_inb : ∀ (v46 : BitVec 32) (v52 : BitVec 32) (v153 : BitVec 32) (k0_hw10 : k0_chk10 v46 v52 v153), ∀ (k0_h5 : ¬(k0_cond5 v46 v52 = 1#1)), ∀ a, (k0_off185 v153) a + S1x16.size a ≤ S64x128.size a := fun v46 v52 v153 k0_hw10 k0_h5 => k0_hw10.2.2.2.1 k0_h5
theorem k0_off187_inb : ∀ (v46 : BitVec 32) (v52 : BitVec 32) (v153 : BitVec 32) (k0_hw10 : k0_chk10 v46 v52 v153), ∀ (k0_h5 : ¬(k0_cond5 v46 v52 = 1#1)), ∀ a, (k0_off187 v153) a + S1x16.size a ≤ S64x128.size a := fun v46 v52 v153 k0_hw10 k0_h5 => k0_hw10.2.2.2.2.1 k0_h5
theorem k0_off189_inb : ∀ (v46 : BitVec 32) (v52 : BitVec 32) (v153 : BitVec 32) (k0_hw10 : k0_chk10 v46 v52 v153), ∀ (k0_h5 : ¬(k0_cond5 v46 v52 = 1#1)), ∀ a, (k0_off189 v153) a + S1x16.size a ≤ S64x128.size a := fun v46 v52 v153 k0_hw10 k0_h5 => k0_hw10.2.2.2.2.2.1 k0_h5
theorem k0_off191_inb : ∀ (v46 : BitVec 32) (v52 : BitVec 32) (v153 : BitVec 32) (k0_hw10 : k0_chk10 v46 v52 v153), ∀ (k0_h5 : ¬(k0_cond5 v46 v52 = 1#1)), ∀ a, (k0_off191 v153) a + S1x16.size a ≤ S64x128.size a := fun v46 v52 v153 k0_hw10 k0_h5 => k0_hw10.2.2.2.2.2.2.1 k0_h5
theorem k0_off193_inb : ∀ (v46 : BitVec 32) (v52 : BitVec 32) (v153 : BitVec 32) (k0_hw10 : k0_chk10 v46 v52 v153), ∀ (k0_h5 : ¬(k0_cond5 v46 v52 = 1#1)), ∀ a, (k0_off193 v153) a + S1x16.size a ≤ S64x128.size a := fun v46 v52 v153 k0_hw10 k0_h5 => k0_hw10.2.2.2.2.2.2.2 k0_h5

def k0_off194 (i : grid0.Coords) (c1500_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let v60 : BitVec 32 := Scalar.addi v2 c1500_i32
  let c0_i32_28 : BitVec 32 := 0#32
  ![v60.toNat, 0]
def k0_off195 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1125_i32_32 : BitVec 32 := 1125#32
  let v66 : BitVec 32 := Scalar.addi v21 c1125_i32_32
  let v67 : Index := Scalar.indexCast v66
  ![v67.toNat]
def k0_off196 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1125_i32_32 : BitVec 32 := 1125#32
  let v66 : BitVec 32 := Scalar.addi v21 c1125_i32_32
  let c125_i32_33 : BitVec 32 := 125#32
  let v71 : BitVec 32 := Scalar.addi v66 c125_i32_33
  let c1_i32_34 : BitVec 32 := 1#32
  let v72 : BitVec 32 := Scalar.subi v71 c1_i32_34
  let v73 : Index := Scalar.indexCast v72
  ![v73.toNat]
@[reducible] def k0_t13_loop : Scf.Loop 32 :=
  let c1_i32_63 : BitVec 32 := 1#32
  let c24_i32 : BitVec 32 := 24#32
  let v179 : BitVec 32 := Scalar.addi c1_i32_63 c24_i32
  let c1_i32_64 : BitVec 32 := 1#32
  ⟨c1_i32_63, v179, c1_i32_64⟩
def k0_off197 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v295 : Index := Scalar.indexCast v294
  let c0_137 : Index := 0#32
  ![v295.toNat, 0]
def k0_off198 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v298 : Index := Scalar.indexCast v294
  let c16_138 : Index := 16#32
  ![v298.toNat, 16]
def k0_off199 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v301 : Index := Scalar.indexCast v294
  let c32_139 : Index := 32#32
  ![v301.toNat, 32]
def k0_off200 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v304 : Index := Scalar.indexCast v294
  let c48_140 : Index := 48#32
  ![v304.toNat, 48]
def k0_off201 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v307 : Index := Scalar.indexCast v294
  let c64_141 : Index := 64#32
  ![v307.toNat, 64]
def k0_off202 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v310 : Index := Scalar.indexCast v294
  let c80_142 : Index := 80#32
  ![v310.toNat, 80]
def k0_off203 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v313 : Index := Scalar.indexCast v294
  let c96_143 : Index := 96#32
  ![v313.toNat, 96]
def k0_off204 (k0_t13 : Fin k0_t13_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t13
  let c5_i32 : BitVec 32 := 5#32
  let v293 : BitVec 32 := Scalar.muli arg15 c5_i32
  let v294 : BitVec 32 := Scalar.addi v293 c0_i32_136
  let v316 : Index := Scalar.indexCast v294
  let c112_144 : Index := 112#32
  ![v316.toNat, 112]
def k0_off205 (v70 : BitVec 32) : Fin 2 → Nat :=
  let v277 : Index := Scalar.indexCast v70
  let c0_128 : Index := 0#32
  ![v277.toNat, 0]
def k0_cond6 (v70 : BitVec 32) (v76 : BitVec 32) : BitVec 1 :=
  let v80 : BitVec 1 := Scalar.cmpi .eq v70 v76
  let v81 : BitVec 32 := Scalar.extui v80
  let c0_i32_35 : BitVec 32 := 0#32
  let v82 : BitVec 1 := Scalar.cmpi .ne v81 c0_i32_35
  v82

def k0_off206 (v70 : BitVec 32) : Fin 2 → Nat :=
  let v279 : Index := Scalar.indexCast v70
  let c16_129 : Index := 16#32
  ![v279.toNat, 16]
def k0_off207 (v70 : BitVec 32) : Fin 2 → Nat :=
  let v281 : Index := Scalar.indexCast v70
  let c32_130 : Index := 32#32
  ![v281.toNat, 32]
def k0_off208 (v70 : BitVec 32) : Fin 2 → Nat :=
  let v283 : Index := Scalar.indexCast v70
  let c48_131 : Index := 48#32
  ![v283.toNat, 48]
def k0_off209 (v70 : BitVec 32) : Fin 2 → Nat :=
  let v285 : Index := Scalar.indexCast v70
  let c64_132 : Index := 64#32
  ![v285.toNat, 64]
def k0_off210 (v70 : BitVec 32) : Fin 2 → Nat :=
  let v287 : Index := Scalar.indexCast v70
  let c80_133 : Index := 80#32
  ![v287.toNat, 80]
def k0_off211 (v70 : BitVec 32) : Fin 2 → Nat :=
  let v289 : Index := Scalar.indexCast v70
  let c96_134 : Index := 96#32
  ![v289.toNat, 96]
def k0_off212 (v70 : BitVec 32) : Fin 2 → Nat :=
  let v291 : Index := Scalar.indexCast v70
  let c112_135 : Index := 112#32
  ![v291.toNat, 112]

def k0_chk11 (v70 : BitVec 32) (v76 : BitVec 32) : Prop :=
  (∀ (k0_h6 : k0_cond6 v70 v76 = 1#1), ∀ a, (k0_off205 v70) a + S1x16.size a ≤ S64x128.size a) ∧
  (∀ (k0_h6 : k0_cond6 v70 v76 = 1#1), ∀ a, (k0_off206 v70) a + S1x16.size a ≤ S64x128.size a) ∧
  (∀ (k0_h6 : k0_cond6 v70 v76 = 1#1), ∀ a, (k0_off207 v70) a + S1x16.size a ≤ S64x128.size a) ∧
  (∀ (k0_h6 : k0_cond6 v70 v76 = 1#1), ∀ a, (k0_off208 v70) a + S1x16.size a ≤ S64x128.size a) ∧
  (∀ (k0_h6 : k0_cond6 v70 v76 = 1#1), ∀ a, (k0_off209 v70) a + S1x16.size a ≤ S64x128.size a) ∧
  (∀ (k0_h6 : k0_cond6 v70 v76 = 1#1), ∀ a, (k0_off210 v70) a + S1x16.size a ≤ S64x128.size a) ∧
  (∀ (k0_h6 : k0_cond6 v70 v76 = 1#1), ∀ a, (k0_off211 v70) a + S1x16.size a ≤ S64x128.size a) ∧
  (∀ (k0_h6 : k0_cond6 v70 v76 = 1#1), ∀ a, (k0_off212 v70) a + S1x16.size a ≤ S64x128.size a)
theorem k0_off205_inb : ∀ (v70 : BitVec 32) (v76 : BitVec 32) (k0_hw11 : k0_chk11 v70 v76), ∀ (k0_h6 : k0_cond6 v70 v76 = 1#1), ∀ a, (k0_off205 v70) a + S1x16.size a ≤ S64x128.size a := fun v70 v76 k0_hw11 k0_h6 => k0_hw11.1 k0_h6
theorem k0_off206_inb : ∀ (v70 : BitVec 32) (v76 : BitVec 32) (k0_hw11 : k0_chk11 v70 v76), ∀ (k0_h6 : k0_cond6 v70 v76 = 1#1), ∀ a, (k0_off206 v70) a + S1x16.size a ≤ S64x128.size a := fun v70 v76 k0_hw11 k0_h6 => k0_hw11.2.1 k0_h6
theorem k0_off207_inb : ∀ (v70 : BitVec 32) (v76 : BitVec 32) (k0_hw11 : k0_chk11 v70 v76), ∀ (k0_h6 : k0_cond6 v70 v76 = 1#1), ∀ a, (k0_off207 v70) a + S1x16.size a ≤ S64x128.size a := fun v70 v76 k0_hw11 k0_h6 => k0_hw11.2.2.1 k0_h6
theorem k0_off208_inb : ∀ (v70 : BitVec 32) (v76 : BitVec 32) (k0_hw11 : k0_chk11 v70 v76), ∀ (k0_h6 : k0_cond6 v70 v76 = 1#1), ∀ a, (k0_off208 v70) a + S1x16.size a ≤ S64x128.size a := fun v70 v76 k0_hw11 k0_h6 => k0_hw11.2.2.2.1 k0_h6
theorem k0_off209_inb : ∀ (v70 : BitVec 32) (v76 : BitVec 32) (k0_hw11 : k0_chk11 v70 v76), ∀ (k0_h6 : k0_cond6 v70 v76 = 1#1), ∀ a, (k0_off209 v70) a + S1x16.size a ≤ S64x128.size a := fun v70 v76 k0_hw11 k0_h6 => k0_hw11.2.2.2.2.1 k0_h6
theorem k0_off210_inb : ∀ (v70 : BitVec 32) (v76 : BitVec 32) (k0_hw11 : k0_chk11 v70 v76), ∀ (k0_h6 : k0_cond6 v70 v76 = 1#1), ∀ a, (k0_off210 v70) a + S1x16.size a ≤ S64x128.size a := fun v70 v76 k0_hw11 k0_h6 => k0_hw11.2.2.2.2.2.1 k0_h6
theorem k0_off211_inb : ∀ (v70 : BitVec 32) (v76 : BitVec 32) (k0_hw11 : k0_chk11 v70 v76), ∀ (k0_h6 : k0_cond6 v70 v76 = 1#1), ∀ a, (k0_off211 v70) a + S1x16.size a ≤ S64x128.size a := fun v70 v76 k0_hw11 k0_h6 => k0_hw11.2.2.2.2.2.2.1 k0_h6
theorem k0_off212_inb : ∀ (v70 : BitVec 32) (v76 : BitVec 32) (k0_hw11 : k0_chk11 v70 v76), ∀ (k0_h6 : k0_cond6 v70 v76 = 1#1), ∀ a, (k0_off212 v70) a + S1x16.size a ≤ S64x128.size a := fun v70 v76 k0_hw11 k0_h6 => k0_hw11.2.2.2.2.2.2.2 k0_h6

@[reducible] def k0_t14_loop : Scf.Loop 32 :=
  let c0_i32_55 : BitVec 32 := 0#32
  let c125_i32_56 : BitVec 32 := 125#32
  let v147 : BitVec 32 := Scalar.addi c0_i32_55 c125_i32_56
  let c1_i32_57 : BitVec 32 := 1#32
  ⟨c0_i32_55, v147, c1_i32_57⟩
def k0_off213 (i : grid0.Coords) (k0_t14 : Fin k0_t14_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1125_i32_32 : BitVec 32 := 1125#32
  let v66 : BitVec 32 := Scalar.addi v21 c1125_i32_32
  let c0_i32_55 : BitVec 32 := 0#32
  let c1_i32_57 : BitVec 32 := 1#32
  let arg15 : BitVec 32 := Scf.iv c0_i32_55 c1_i32_57 k0_t14
  let v149 : BitVec 32 := Scalar.addi v66 arg15
  let v150 : Index := Scalar.indexCast v149
  ![v150.toNat]
def k0_off214 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v157 : Index := Scalar.indexCast arg15
  let c0 : Index := 0#32
  ![v157.toNat, 0]
def k0_off215 (v153 : BitVec 32) : Fin 2 → Nat :=
  let v161 : Index := Scalar.indexCast v153
  let c0_59 : Index := 0#32
  ![v161.toNat, 0]

def k0_off216 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v163 : Index := Scalar.indexCast arg15
  let c16 : Index := 16#32
  ![v163.toNat, 16]
def k0_off217 (v153 : BitVec 32) : Fin 2 → Nat :=
  let v167 : Index := Scalar.indexCast v153
  let c16_60 : Index := 16#32
  ![v167.toNat, 16]
def k0_off218 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v169 : Index := Scalar.indexCast arg15
  let c32 : Index := 32#32
  ![v169.toNat, 32]
def k0_off219 (v153 : BitVec 32) : Fin 2 → Nat :=
  let v173 : Index := Scalar.indexCast v153
  let c32_61 : Index := 32#32
  ![v173.toNat, 32]
def k0_off220 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v175 : Index := Scalar.indexCast arg15
  let c48 : Index := 48#32
  ![v175.toNat, 48]
def k0_off221 (v153 : BitVec 32) : Fin 2 → Nat :=
  let v179 : Index := Scalar.indexCast v153
  let c48_62 : Index := 48#32
  ![v179.toNat, 48]
def k0_off222 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v181 : Index := Scalar.indexCast arg15
  let c64 : Index := 64#32
  ![v181.toNat, 64]
def k0_off223 (v153 : BitVec 32) : Fin 2 → Nat :=
  let v185 : Index := Scalar.indexCast v153
  let c64_63 : Index := 64#32
  ![v185.toNat, 64]
def k0_off224 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v187 : Index := Scalar.indexCast arg15
  let c80 : Index := 80#32
  ![v187.toNat, 80]
def k0_off225 (v153 : BitVec 32) : Fin 2 → Nat :=
  let v191 : Index := Scalar.indexCast v153
  let c80_64 : Index := 80#32
  ![v191.toNat, 80]
def k0_off226 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v193 : Index := Scalar.indexCast arg15
  let c96 : Index := 96#32
  ![v193.toNat, 96]
def k0_off227 (v153 : BitVec 32) : Fin 2 → Nat :=
  let v197 : Index := Scalar.indexCast v153
  let c96_65 : Index := 96#32
  ![v197.toNat, 96]
def k0_off228 (k0_t14 : Fin k0_t14_loop.trips) : Fin 2 → Nat :=
  let c0_i32_55 : BitVec 32 := 0#32
  let c1_i32_57 : BitVec 32 := 1#32
  let arg15 : BitVec 32 := Scf.iv c0_i32_55 c1_i32_57 k0_t14
  let v199 : Index := Scalar.indexCast arg15
  let c112 : Index := 112#32
  ![v199.toNat, 112]
def k0_off229 (v153 : BitVec 32) : Fin 2 → Nat :=
  let v203 : Index := Scalar.indexCast v153
  let c112_66 : Index := 112#32
  ![v203.toNat, 112]

def k0_chk12 (v70 : BitVec 32) (v76 : BitVec 32) (v153 : BitVec 32) : Prop :=
  (∀ (k0_h6 : ¬(k0_cond6 v70 v76 = 1#1)), ∀ a, (k0_off215 v153) a + S1x16.size a ≤ S64x128.size a) ∧
  (∀ (k0_h6 : ¬(k0_cond6 v70 v76 = 1#1)), ∀ a, (k0_off217 v153) a + S1x16.size a ≤ S64x128.size a) ∧
  (∀ (k0_h6 : ¬(k0_cond6 v70 v76 = 1#1)), ∀ a, (k0_off219 v153) a + S1x16.size a ≤ S64x128.size a) ∧
  (∀ (k0_h6 : ¬(k0_cond6 v70 v76 = 1#1)), ∀ a, (k0_off221 v153) a + S1x16.size a ≤ S64x128.size a) ∧
  (∀ (k0_h6 : ¬(k0_cond6 v70 v76 = 1#1)), ∀ a, (k0_off223 v153) a + S1x16.size a ≤ S64x128.size a) ∧
  (∀ (k0_h6 : ¬(k0_cond6 v70 v76 = 1#1)), ∀ a, (k0_off225 v153) a + S1x16.size a ≤ S64x128.size a) ∧
  (∀ (k0_h6 : ¬(k0_cond6 v70 v76 = 1#1)), ∀ a, (k0_off227 v153) a + S1x16.size a ≤ S64x128.size a) ∧
  (∀ (k0_h6 : ¬(k0_cond6 v70 v76 = 1#1)), ∀ a, (k0_off229 v153) a + S1x16.size a ≤ S64x128.size a)
theorem k0_off215_inb : ∀ (v70 : BitVec 32) (v76 : BitVec 32) (v153 : BitVec 32) (k0_hw12 : k0_chk12 v70 v76 v153), ∀ (k0_h6 : ¬(k0_cond6 v70 v76 = 1#1)), ∀ a, (k0_off215 v153) a + S1x16.size a ≤ S64x128.size a := fun v70 v76 v153 k0_hw12 k0_h6 => k0_hw12.1 k0_h6
theorem k0_off217_inb : ∀ (v70 : BitVec 32) (v76 : BitVec 32) (v153 : BitVec 32) (k0_hw12 : k0_chk12 v70 v76 v153), ∀ (k0_h6 : ¬(k0_cond6 v70 v76 = 1#1)), ∀ a, (k0_off217 v153) a + S1x16.size a ≤ S64x128.size a := fun v70 v76 v153 k0_hw12 k0_h6 => k0_hw12.2.1 k0_h6
theorem k0_off219_inb : ∀ (v70 : BitVec 32) (v76 : BitVec 32) (v153 : BitVec 32) (k0_hw12 : k0_chk12 v70 v76 v153), ∀ (k0_h6 : ¬(k0_cond6 v70 v76 = 1#1)), ∀ a, (k0_off219 v153) a + S1x16.size a ≤ S64x128.size a := fun v70 v76 v153 k0_hw12 k0_h6 => k0_hw12.2.2.1 k0_h6
theorem k0_off221_inb : ∀ (v70 : BitVec 32) (v76 : BitVec 32) (v153 : BitVec 32) (k0_hw12 : k0_chk12 v70 v76 v153), ∀ (k0_h6 : ¬(k0_cond6 v70 v76 = 1#1)), ∀ a, (k0_off221 v153) a + S1x16.size a ≤ S64x128.size a := fun v70 v76 v153 k0_hw12 k0_h6 => k0_hw12.2.2.2.1 k0_h6
theorem k0_off223_inb : ∀ (v70 : BitVec 32) (v76 : BitVec 32) (v153 : BitVec 32) (k0_hw12 : k0_chk12 v70 v76 v153), ∀ (k0_h6 : ¬(k0_cond6 v70 v76 = 1#1)), ∀ a, (k0_off223 v153) a + S1x16.size a ≤ S64x128.size a := fun v70 v76 v153 k0_hw12 k0_h6 => k0_hw12.2.2.2.2.1 k0_h6
theorem k0_off225_inb : ∀ (v70 : BitVec 32) (v76 : BitVec 32) (v153 : BitVec 32) (k0_hw12 : k0_chk12 v70 v76 v153), ∀ (k0_h6 : ¬(k0_cond6 v70 v76 = 1#1)), ∀ a, (k0_off225 v153) a + S1x16.size a ≤ S64x128.size a := fun v70 v76 v153 k0_hw12 k0_h6 => k0_hw12.2.2.2.2.2.1 k0_h6
theorem k0_off227_inb : ∀ (v70 : BitVec 32) (v76 : BitVec 32) (v153 : BitVec 32) (k0_hw12 : k0_chk12 v70 v76 v153), ∀ (k0_h6 : ¬(k0_cond6 v70 v76 = 1#1)), ∀ a, (k0_off227 v153) a + S1x16.size a ≤ S64x128.size a := fun v70 v76 v153 k0_hw12 k0_h6 => k0_hw12.2.2.2.2.2.2.1 k0_h6
theorem k0_off229_inb : ∀ (v70 : BitVec 32) (v76 : BitVec 32) (v153 : BitVec 32) (k0_hw12 : k0_chk12 v70 v76 v153), ∀ (k0_h6 : ¬(k0_cond6 v70 v76 = 1#1)), ∀ a, (k0_off229 v153) a + S1x16.size a ≤ S64x128.size a := fun v70 v76 v153 k0_hw12 k0_h6 => k0_hw12.2.2.2.2.2.2.2 k0_h6

def k0_off230 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c1250_i32 : BitVec 32 := 1250#32
  let v84 : BitVec 32 := Scalar.addi v2 c1250_i32
  let c0_i32_36 : BitVec 32 := 0#32
  ![v84.toNat, 0]
def k0_off231 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1250_i32_38 : BitVec 32 := 1250#32
  let v87 : BitVec 32 := Scalar.addi v21 c1250_i32_38
  let v88 : Index := Scalar.indexCast v87
  ![v88.toNat]
def k0_off232 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1250_i32_38 : BitVec 32 := 1250#32
  let v87 : BitVec 32 := Scalar.addi v21 c1250_i32_38
  let c125_i32_39 : BitVec 32 := 125#32
  let v92 : BitVec 32 := Scalar.addi v87 c125_i32_39
  let c1_i32_40 : BitVec 32 := 1#32
  let v93 : BitVec 32 := Scalar.subi v92 c1_i32_40
  let v94 : Index := Scalar.indexCast v93
  ![v94.toNat]
@[reducible] def k0_t15_loop : Scf.Loop 32 :=
  let c1_i32_63 : BitVec 32 := 1#32
  let c24_i32 : BitVec 32 := 24#32
  let v179 : BitVec 32 := Scalar.addi c1_i32_63 c24_i32
  let c1_i32_64 : BitVec 32 := 1#32
  ⟨c1_i32_63, v179, c1_i32_64⟩
def k0_off233 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v295 : Index := Scalar.indexCast v294
  let c0_137 : Index := 0#32
  ![v295.toNat, 0]
def k0_off234 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v298 : Index := Scalar.indexCast v294
  let c16_138 : Index := 16#32
  ![v298.toNat, 16]
def k0_off235 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v301 : Index := Scalar.indexCast v294
  let c32_139 : Index := 32#32
  ![v301.toNat, 32]
def k0_off236 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v304 : Index := Scalar.indexCast v294
  let c48_140 : Index := 48#32
  ![v304.toNat, 48]
def k0_off237 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v307 : Index := Scalar.indexCast v294
  let c64_141 : Index := 64#32
  ![v307.toNat, 64]
def k0_off238 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v310 : Index := Scalar.indexCast v294
  let c80_142 : Index := 80#32
  ![v310.toNat, 80]
def k0_off239 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v313 : Index := Scalar.indexCast v294
  let c96_143 : Index := 96#32
  ![v313.toNat, 96]
def k0_off240 (k0_t15 : Fin k0_t15_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t15
  let c5_i32 : BitVec 32 := 5#32
  let v293 : BitVec 32 := Scalar.muli arg15 c5_i32
  let v294 : BitVec 32 := Scalar.addi v293 c0_i32_136
  let v316 : Index := Scalar.indexCast v294
  let c112_144 : Index := 112#32
  ![v316.toNat, 112]
def k0_off241 (v91 : BitVec 32) : Fin 2 → Nat :=
  let v277 : Index := Scalar.indexCast v91
  let c0_128 : Index := 0#32
  ![v277.toNat, 0]
def k0_cond7 (v91 : BitVec 32) (v97 : BitVec 32) : BitVec 1 :=
  let v101 : BitVec 1 := Scalar.cmpi .eq v91 v97
  let v102 : BitVec 32 := Scalar.extui v101
  let c0_i32_41 : BitVec 32 := 0#32
  let v103 : BitVec 1 := Scalar.cmpi .ne v102 c0_i32_41
  v103

def k0_off242 (v91 : BitVec 32) : Fin 2 → Nat :=
  let v279 : Index := Scalar.indexCast v91
  let c16_129 : Index := 16#32
  ![v279.toNat, 16]
def k0_off243 (v91 : BitVec 32) : Fin 2 → Nat :=
  let v281 : Index := Scalar.indexCast v91
  let c32_130 : Index := 32#32
  ![v281.toNat, 32]
def k0_off244 (v91 : BitVec 32) : Fin 2 → Nat :=
  let v283 : Index := Scalar.indexCast v91
  let c48_131 : Index := 48#32
  ![v283.toNat, 48]
def k0_off245 (v91 : BitVec 32) : Fin 2 → Nat :=
  let v285 : Index := Scalar.indexCast v91
  let c64_132 : Index := 64#32
  ![v285.toNat, 64]
def k0_off246 (v91 : BitVec 32) : Fin 2 → Nat :=
  let v287 : Index := Scalar.indexCast v91
  let c80_133 : Index := 80#32
  ![v287.toNat, 80]
def k0_off247 (v91 : BitVec 32) : Fin 2 → Nat :=
  let v289 : Index := Scalar.indexCast v91
  let c96_134 : Index := 96#32
  ![v289.toNat, 96]
def k0_off248 (v91 : BitVec 32) : Fin 2 → Nat :=
  let v291 : Index := Scalar.indexCast v91
  let c112_135 : Index := 112#32
  ![v291.toNat, 112]

def k0_chk13 (v91 : BitVec 32) (v97 : BitVec 32) : Prop :=
  (∀ (k0_h7 : k0_cond7 v91 v97 = 1#1), ∀ a, (k0_off241 v91) a + S1x16.size a ≤ S64x128.size a) ∧
  (∀ (k0_h7 : k0_cond7 v91 v97 = 1#1), ∀ a, (k0_off242 v91) a + S1x16.size a ≤ S64x128.size a) ∧
  (∀ (k0_h7 : k0_cond7 v91 v97 = 1#1), ∀ a, (k0_off243 v91) a + S1x16.size a ≤ S64x128.size a) ∧
  (∀ (k0_h7 : k0_cond7 v91 v97 = 1#1), ∀ a, (k0_off244 v91) a + S1x16.size a ≤ S64x128.size a) ∧
  (∀ (k0_h7 : k0_cond7 v91 v97 = 1#1), ∀ a, (k0_off245 v91) a + S1x16.size a ≤ S64x128.size a) ∧
  (∀ (k0_h7 : k0_cond7 v91 v97 = 1#1), ∀ a, (k0_off246 v91) a + S1x16.size a ≤ S64x128.size a) ∧
  (∀ (k0_h7 : k0_cond7 v91 v97 = 1#1), ∀ a, (k0_off247 v91) a + S1x16.size a ≤ S64x128.size a) ∧
  (∀ (k0_h7 : k0_cond7 v91 v97 = 1#1), ∀ a, (k0_off248 v91) a + S1x16.size a ≤ S64x128.size a)
theorem k0_off241_inb : ∀ (v91 : BitVec 32) (v97 : BitVec 32) (k0_hw13 : k0_chk13 v91 v97), ∀ (k0_h7 : k0_cond7 v91 v97 = 1#1), ∀ a, (k0_off241 v91) a + S1x16.size a ≤ S64x128.size a := fun v91 v97 k0_hw13 k0_h7 => k0_hw13.1 k0_h7
theorem k0_off242_inb : ∀ (v91 : BitVec 32) (v97 : BitVec 32) (k0_hw13 : k0_chk13 v91 v97), ∀ (k0_h7 : k0_cond7 v91 v97 = 1#1), ∀ a, (k0_off242 v91) a + S1x16.size a ≤ S64x128.size a := fun v91 v97 k0_hw13 k0_h7 => k0_hw13.2.1 k0_h7
theorem k0_off243_inb : ∀ (v91 : BitVec 32) (v97 : BitVec 32) (k0_hw13 : k0_chk13 v91 v97), ∀ (k0_h7 : k0_cond7 v91 v97 = 1#1), ∀ a, (k0_off243 v91) a + S1x16.size a ≤ S64x128.size a := fun v91 v97 k0_hw13 k0_h7 => k0_hw13.2.2.1 k0_h7
theorem k0_off244_inb : ∀ (v91 : BitVec 32) (v97 : BitVec 32) (k0_hw13 : k0_chk13 v91 v97), ∀ (k0_h7 : k0_cond7 v91 v97 = 1#1), ∀ a, (k0_off244 v91) a + S1x16.size a ≤ S64x128.size a := fun v91 v97 k0_hw13 k0_h7 => k0_hw13.2.2.2.1 k0_h7
theorem k0_off245_inb : ∀ (v91 : BitVec 32) (v97 : BitVec 32) (k0_hw13 : k0_chk13 v91 v97), ∀ (k0_h7 : k0_cond7 v91 v97 = 1#1), ∀ a, (k0_off245 v91) a + S1x16.size a ≤ S64x128.size a := fun v91 v97 k0_hw13 k0_h7 => k0_hw13.2.2.2.2.1 k0_h7
theorem k0_off246_inb : ∀ (v91 : BitVec 32) (v97 : BitVec 32) (k0_hw13 : k0_chk13 v91 v97), ∀ (k0_h7 : k0_cond7 v91 v97 = 1#1), ∀ a, (k0_off246 v91) a + S1x16.size a ≤ S64x128.size a := fun v91 v97 k0_hw13 k0_h7 => k0_hw13.2.2.2.2.2.1 k0_h7
theorem k0_off247_inb : ∀ (v91 : BitVec 32) (v97 : BitVec 32) (k0_hw13 : k0_chk13 v91 v97), ∀ (k0_h7 : k0_cond7 v91 v97 = 1#1), ∀ a, (k0_off247 v91) a + S1x16.size a ≤ S64x128.size a := fun v91 v97 k0_hw13 k0_h7 => k0_hw13.2.2.2.2.2.2.1 k0_h7
theorem k0_off248_inb : ∀ (v91 : BitVec 32) (v97 : BitVec 32) (k0_hw13 : k0_chk13 v91 v97), ∀ (k0_h7 : k0_cond7 v91 v97 = 1#1), ∀ a, (k0_off248 v91) a + S1x16.size a ≤ S64x128.size a := fun v91 v97 k0_hw13 k0_h7 => k0_hw13.2.2.2.2.2.2.2 k0_h7

@[reducible] def k0_t16_loop : Scf.Loop 32 :=
  let c0_i32_55 : BitVec 32 := 0#32
  let c125_i32_56 : BitVec 32 := 125#32
  let v147 : BitVec 32 := Scalar.addi c0_i32_55 c125_i32_56
  let c1_i32_57 : BitVec 32 := 1#32
  ⟨c0_i32_55, v147, c1_i32_57⟩
def k0_off249 (i : grid0.Coords) (k0_t16 : Fin k0_t16_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1250_i32_38 : BitVec 32 := 1250#32
  let v87 : BitVec 32 := Scalar.addi v21 c1250_i32_38
  let c0_i32_55 : BitVec 32 := 0#32
  let c1_i32_57 : BitVec 32 := 1#32
  let arg15 : BitVec 32 := Scf.iv c0_i32_55 c1_i32_57 k0_t16
  let v149 : BitVec 32 := Scalar.addi v87 arg15
  let v150 : Index := Scalar.indexCast v149
  ![v150.toNat]
def k0_off250 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v157 : Index := Scalar.indexCast arg15
  let c0 : Index := 0#32
  ![v157.toNat, 0]
def k0_off251 (v153 : BitVec 32) : Fin 2 → Nat :=
  let v161 : Index := Scalar.indexCast v153
  let c0_59 : Index := 0#32
  ![v161.toNat, 0]

def k0_off252 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v163 : Index := Scalar.indexCast arg15
  let c16 : Index := 16#32
  ![v163.toNat, 16]
def k0_off253 (v153 : BitVec 32) : Fin 2 → Nat :=
  let v167 : Index := Scalar.indexCast v153
  let c16_60 : Index := 16#32
  ![v167.toNat, 16]
def k0_off254 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v169 : Index := Scalar.indexCast arg15
  let c32 : Index := 32#32
  ![v169.toNat, 32]
def k0_off255 (v153 : BitVec 32) : Fin 2 → Nat :=
  let v173 : Index := Scalar.indexCast v153
  let c32_61 : Index := 32#32
  ![v173.toNat, 32]
def k0_off256 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v175 : Index := Scalar.indexCast arg15
  let c48 : Index := 48#32
  ![v175.toNat, 48]
def k0_off257 (v153 : BitVec 32) : Fin 2 → Nat :=
  let v179 : Index := Scalar.indexCast v153
  let c48_62 : Index := 48#32
  ![v179.toNat, 48]
def k0_off258 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v181 : Index := Scalar.indexCast arg15
  let c64 : Index := 64#32
  ![v181.toNat, 64]
def k0_off259 (v153 : BitVec 32) : Fin 2 → Nat :=
  let v185 : Index := Scalar.indexCast v153
  let c64_63 : Index := 64#32
  ![v185.toNat, 64]
def k0_off260 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v187 : Index := Scalar.indexCast arg15
  let c80 : Index := 80#32
  ![v187.toNat, 80]
def k0_off261 (v153 : BitVec 32) : Fin 2 → Nat :=
  let v191 : Index := Scalar.indexCast v153
  let c80_64 : Index := 80#32
  ![v191.toNat, 80]
def k0_off262 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v193 : Index := Scalar.indexCast arg15
  let c96 : Index := 96#32
  ![v193.toNat, 96]
def k0_off263 (v153 : BitVec 32) : Fin 2 → Nat :=
  let v197 : Index := Scalar.indexCast v153
  let c96_65 : Index := 96#32
  ![v197.toNat, 96]
def k0_off264 (k0_t16 : Fin k0_t16_loop.trips) : Fin 2 → Nat :=
  let c0_i32_55 : BitVec 32 := 0#32
  let c1_i32_57 : BitVec 32 := 1#32
  let arg15 : BitVec 32 := Scf.iv c0_i32_55 c1_i32_57 k0_t16
  let v199 : Index := Scalar.indexCast arg15
  let c112 : Index := 112#32
  ![v199.toNat, 112]
def k0_off265 (v153 : BitVec 32) : Fin 2 → Nat :=
  let v203 : Index := Scalar.indexCast v153
  let c112_66 : Index := 112#32
  ![v203.toNat, 112]

def k0_chk14 (v91 : BitVec 32) (v97 : BitVec 32) (v153 : BitVec 32) : Prop :=
  (∀ (k0_h7 : ¬(k0_cond7 v91 v97 = 1#1)), ∀ a, (k0_off251 v153) a + S1x16.size a ≤ S64x128.size a) ∧
  (∀ (k0_h7 : ¬(k0_cond7 v91 v97 = 1#1)), ∀ a, (k0_off253 v153) a + S1x16.size a ≤ S64x128.size a) ∧
  (∀ (k0_h7 : ¬(k0_cond7 v91 v97 = 1#1)), ∀ a, (k0_off255 v153) a + S1x16.size a ≤ S64x128.size a) ∧
  (∀ (k0_h7 : ¬(k0_cond7 v91 v97 = 1#1)), ∀ a, (k0_off257 v153) a + S1x16.size a ≤ S64x128.size a) ∧
  (∀ (k0_h7 : ¬(k0_cond7 v91 v97 = 1#1)), ∀ a, (k0_off259 v153) a + S1x16.size a ≤ S64x128.size a) ∧
  (∀ (k0_h7 : ¬(k0_cond7 v91 v97 = 1#1)), ∀ a, (k0_off261 v153) a + S1x16.size a ≤ S64x128.size a) ∧
  (∀ (k0_h7 : ¬(k0_cond7 v91 v97 = 1#1)), ∀ a, (k0_off263 v153) a + S1x16.size a ≤ S64x128.size a) ∧
  (∀ (k0_h7 : ¬(k0_cond7 v91 v97 = 1#1)), ∀ a, (k0_off265 v153) a + S1x16.size a ≤ S64x128.size a)
theorem k0_off251_inb : ∀ (v91 : BitVec 32) (v97 : BitVec 32) (v153 : BitVec 32) (k0_hw14 : k0_chk14 v91 v97 v153), ∀ (k0_h7 : ¬(k0_cond7 v91 v97 = 1#1)), ∀ a, (k0_off251 v153) a + S1x16.size a ≤ S64x128.size a := fun v91 v97 v153 k0_hw14 k0_h7 => k0_hw14.1 k0_h7
theorem k0_off253_inb : ∀ (v91 : BitVec 32) (v97 : BitVec 32) (v153 : BitVec 32) (k0_hw14 : k0_chk14 v91 v97 v153), ∀ (k0_h7 : ¬(k0_cond7 v91 v97 = 1#1)), ∀ a, (k0_off253 v153) a + S1x16.size a ≤ S64x128.size a := fun v91 v97 v153 k0_hw14 k0_h7 => k0_hw14.2.1 k0_h7
theorem k0_off255_inb : ∀ (v91 : BitVec 32) (v97 : BitVec 32) (v153 : BitVec 32) (k0_hw14 : k0_chk14 v91 v97 v153), ∀ (k0_h7 : ¬(k0_cond7 v91 v97 = 1#1)), ∀ a, (k0_off255 v153) a + S1x16.size a ≤ S64x128.size a := fun v91 v97 v153 k0_hw14 k0_h7 => k0_hw14.2.2.1 k0_h7
theorem k0_off257_inb : ∀ (v91 : BitVec 32) (v97 : BitVec 32) (v153 : BitVec 32) (k0_hw14 : k0_chk14 v91 v97 v153), ∀ (k0_h7 : ¬(k0_cond7 v91 v97 = 1#1)), ∀ a, (k0_off257 v153) a + S1x16.size a ≤ S64x128.size a := fun v91 v97 v153 k0_hw14 k0_h7 => k0_hw14.2.2.2.1 k0_h7
theorem k0_off259_inb : ∀ (v91 : BitVec 32) (v97 : BitVec 32) (v153 : BitVec 32) (k0_hw14 : k0_chk14 v91 v97 v153), ∀ (k0_h7 : ¬(k0_cond7 v91 v97 = 1#1)), ∀ a, (k0_off259 v153) a + S1x16.size a ≤ S64x128.size a := fun v91 v97 v153 k0_hw14 k0_h7 => k0_hw14.2.2.2.2.1 k0_h7
theorem k0_off261_inb : ∀ (v91 : BitVec 32) (v97 : BitVec 32) (v153 : BitVec 32) (k0_hw14 : k0_chk14 v91 v97 v153), ∀ (k0_h7 : ¬(k0_cond7 v91 v97 = 1#1)), ∀ a, (k0_off261 v153) a + S1x16.size a ≤ S64x128.size a := fun v91 v97 v153 k0_hw14 k0_h7 => k0_hw14.2.2.2.2.2.1 k0_h7
theorem k0_off263_inb : ∀ (v91 : BitVec 32) (v97 : BitVec 32) (v153 : BitVec 32) (k0_hw14 : k0_chk14 v91 v97 v153), ∀ (k0_h7 : ¬(k0_cond7 v91 v97 = 1#1)), ∀ a, (k0_off263 v153) a + S1x16.size a ≤ S64x128.size a := fun v91 v97 v153 k0_hw14 k0_h7 => k0_hw14.2.2.2.2.2.2.1 k0_h7
theorem k0_off265_inb : ∀ (v91 : BitVec 32) (v97 : BitVec 32) (v153 : BitVec 32) (k0_hw14 : k0_chk14 v91 v97 v153), ∀ (k0_h7 : ¬(k0_cond7 v91 v97 = 1#1)), ∀ a, (k0_off265 v153) a + S1x16.size a ≤ S64x128.size a := fun v91 v97 v153 k0_hw14 k0_h7 => k0_hw14.2.2.2.2.2.2.2 k0_h7

def k0_off266 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c1375_i32 : BitVec 32 := 1375#32
  let v105 : BitVec 32 := Scalar.addi v2 c1375_i32
  let c0_i32_42 : BitVec 32 := 0#32
  ![v105.toNat, 0]
def k0_off267 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1375_i32_44 : BitVec 32 := 1375#32
  let v108 : BitVec 32 := Scalar.addi v21 c1375_i32_44
  let v109 : Index := Scalar.indexCast v108
  ![v109.toNat]
def k0_off268 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1375_i32_44 : BitVec 32 := 1375#32
  let v108 : BitVec 32 := Scalar.addi v21 c1375_i32_44
  let c125_i32_45 : BitVec 32 := 125#32
  let v113 : BitVec 32 := Scalar.addi v108 c125_i32_45
  let c1_i32_46 : BitVec 32 := 1#32
  let v114 : BitVec 32 := Scalar.subi v113 c1_i32_46
  let v115 : Index := Scalar.indexCast v114
  ![v115.toNat]
@[reducible] def k0_t17_loop : Scf.Loop 32 :=
  let c1_i32_63 : BitVec 32 := 1#32
  let c24_i32 : BitVec 32 := 24#32
  let v179 : BitVec 32 := Scalar.addi c1_i32_63 c24_i32
  let c1_i32_64 : BitVec 32 := 1#32
  ⟨c1_i32_63, v179, c1_i32_64⟩
def k0_off269 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v295 : Index := Scalar.indexCast v294
  let c0_137 : Index := 0#32
  ![v295.toNat, 0]
def k0_off270 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v298 : Index := Scalar.indexCast v294
  let c16_138 : Index := 16#32
  ![v298.toNat, 16]
def k0_off271 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v301 : Index := Scalar.indexCast v294
  let c32_139 : Index := 32#32
  ![v301.toNat, 32]
def k0_off272 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v304 : Index := Scalar.indexCast v294
  let c48_140 : Index := 48#32
  ![v304.toNat, 48]
def k0_off273 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v307 : Index := Scalar.indexCast v294
  let c64_141 : Index := 64#32
  ![v307.toNat, 64]
def k0_off274 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v310 : Index := Scalar.indexCast v294
  let c80_142 : Index := 80#32
  ![v310.toNat, 80]
def k0_off275 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v313 : Index := Scalar.indexCast v294
  let c96_143 : Index := 96#32
  ![v313.toNat, 96]
def k0_off276 (k0_t17 : Fin k0_t17_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t17
  let c5_i32 : BitVec 32 := 5#32
  let v293 : BitVec 32 := Scalar.muli arg15 c5_i32
  let v294 : BitVec 32 := Scalar.addi v293 c0_i32_136
  let v316 : Index := Scalar.indexCast v294
  let c112_144 : Index := 112#32
  ![v316.toNat, 112]
def k0_off277 (v112 : BitVec 32) : Fin 2 → Nat :=
  let v277 : Index := Scalar.indexCast v112
  let c0_128 : Index := 0#32
  ![v277.toNat, 0]
def k0_cond8 (v112 : BitVec 32) (v118 : BitVec 32) : BitVec 1 :=
  let v122 : BitVec 1 := Scalar.cmpi .eq v112 v118
  let v123 : BitVec 32 := Scalar.extui v122
  let c0_i32_47 : BitVec 32 := 0#32
  let v124 : BitVec 1 := Scalar.cmpi .ne v123 c0_i32_47
  v124

def k0_off278 (v112 : BitVec 32) : Fin 2 → Nat :=
  let v279 : Index := Scalar.indexCast v112
  let c16_129 : Index := 16#32
  ![v279.toNat, 16]
def k0_off279 (v112 : BitVec 32) : Fin 2 → Nat :=
  let v281 : Index := Scalar.indexCast v112
  let c32_130 : Index := 32#32
  ![v281.toNat, 32]
def k0_off280 (v112 : BitVec 32) : Fin 2 → Nat :=
  let v283 : Index := Scalar.indexCast v112
  let c48_131 : Index := 48#32
  ![v283.toNat, 48]
def k0_off281 (v112 : BitVec 32) : Fin 2 → Nat :=
  let v285 : Index := Scalar.indexCast v112
  let c64_132 : Index := 64#32
  ![v285.toNat, 64]
def k0_off282 (v112 : BitVec 32) : Fin 2 → Nat :=
  let v287 : Index := Scalar.indexCast v112
  let c80_133 : Index := 80#32
  ![v287.toNat, 80]
def k0_off283 (v112 : BitVec 32) : Fin 2 → Nat :=
  let v289 : Index := Scalar.indexCast v112
  let c96_134 : Index := 96#32
  ![v289.toNat, 96]
def k0_off284 (v112 : BitVec 32) : Fin 2 → Nat :=
  let v291 : Index := Scalar.indexCast v112
  let c112_135 : Index := 112#32
  ![v291.toNat, 112]

def k0_chk15 (v112 : BitVec 32) (v118 : BitVec 32) : Prop :=
  (∀ (k0_h8 : k0_cond8 v112 v118 = 1#1), ∀ a, (k0_off277 v112) a + S1x16.size a ≤ S64x128.size a) ∧
  (∀ (k0_h8 : k0_cond8 v112 v118 = 1#1), ∀ a, (k0_off278 v112) a + S1x16.size a ≤ S64x128.size a) ∧
  (∀ (k0_h8 : k0_cond8 v112 v118 = 1#1), ∀ a, (k0_off279 v112) a + S1x16.size a ≤ S64x128.size a) ∧
  (∀ (k0_h8 : k0_cond8 v112 v118 = 1#1), ∀ a, (k0_off280 v112) a + S1x16.size a ≤ S64x128.size a) ∧
  (∀ (k0_h8 : k0_cond8 v112 v118 = 1#1), ∀ a, (k0_off281 v112) a + S1x16.size a ≤ S64x128.size a) ∧
  (∀ (k0_h8 : k0_cond8 v112 v118 = 1#1), ∀ a, (k0_off282 v112) a + S1x16.size a ≤ S64x128.size a) ∧
  (∀ (k0_h8 : k0_cond8 v112 v118 = 1#1), ∀ a, (k0_off283 v112) a + S1x16.size a ≤ S64x128.size a) ∧
  (∀ (k0_h8 : k0_cond8 v112 v118 = 1#1), ∀ a, (k0_off284 v112) a + S1x16.size a ≤ S64x128.size a)
theorem k0_off277_inb : ∀ (v112 : BitVec 32) (v118 : BitVec 32) (k0_hw15 : k0_chk15 v112 v118), ∀ (k0_h8 : k0_cond8 v112 v118 = 1#1), ∀ a, (k0_off277 v112) a + S1x16.size a ≤ S64x128.size a := fun v112 v118 k0_hw15 k0_h8 => k0_hw15.1 k0_h8
theorem k0_off278_inb : ∀ (v112 : BitVec 32) (v118 : BitVec 32) (k0_hw15 : k0_chk15 v112 v118), ∀ (k0_h8 : k0_cond8 v112 v118 = 1#1), ∀ a, (k0_off278 v112) a + S1x16.size a ≤ S64x128.size a := fun v112 v118 k0_hw15 k0_h8 => k0_hw15.2.1 k0_h8
theorem k0_off279_inb : ∀ (v112 : BitVec 32) (v118 : BitVec 32) (k0_hw15 : k0_chk15 v112 v118), ∀ (k0_h8 : k0_cond8 v112 v118 = 1#1), ∀ a, (k0_off279 v112) a + S1x16.size a ≤ S64x128.size a := fun v112 v118 k0_hw15 k0_h8 => k0_hw15.2.2.1 k0_h8
theorem k0_off280_inb : ∀ (v112 : BitVec 32) (v118 : BitVec 32) (k0_hw15 : k0_chk15 v112 v118), ∀ (k0_h8 : k0_cond8 v112 v118 = 1#1), ∀ a, (k0_off280 v112) a + S1x16.size a ≤ S64x128.size a := fun v112 v118 k0_hw15 k0_h8 => k0_hw15.2.2.2.1 k0_h8
theorem k0_off281_inb : ∀ (v112 : BitVec 32) (v118 : BitVec 32) (k0_hw15 : k0_chk15 v112 v118), ∀ (k0_h8 : k0_cond8 v112 v118 = 1#1), ∀ a, (k0_off281 v112) a + S1x16.size a ≤ S64x128.size a := fun v112 v118 k0_hw15 k0_h8 => k0_hw15.2.2.2.2.1 k0_h8
theorem k0_off282_inb : ∀ (v112 : BitVec 32) (v118 : BitVec 32) (k0_hw15 : k0_chk15 v112 v118), ∀ (k0_h8 : k0_cond8 v112 v118 = 1#1), ∀ a, (k0_off282 v112) a + S1x16.size a ≤ S64x128.size a := fun v112 v118 k0_hw15 k0_h8 => k0_hw15.2.2.2.2.2.1 k0_h8
theorem k0_off283_inb : ∀ (v112 : BitVec 32) (v118 : BitVec 32) (k0_hw15 : k0_chk15 v112 v118), ∀ (k0_h8 : k0_cond8 v112 v118 = 1#1), ∀ a, (k0_off283 v112) a + S1x16.size a ≤ S64x128.size a := fun v112 v118 k0_hw15 k0_h8 => k0_hw15.2.2.2.2.2.2.1 k0_h8
theorem k0_off284_inb : ∀ (v112 : BitVec 32) (v118 : BitVec 32) (k0_hw15 : k0_chk15 v112 v118), ∀ (k0_h8 : k0_cond8 v112 v118 = 1#1), ∀ a, (k0_off284 v112) a + S1x16.size a ≤ S64x128.size a := fun v112 v118 k0_hw15 k0_h8 => k0_hw15.2.2.2.2.2.2.2 k0_h8

@[reducible] def k0_t18_loop : Scf.Loop 32 :=
  let c0_i32_55 : BitVec 32 := 0#32
  let c125_i32_56 : BitVec 32 := 125#32
  let v147 : BitVec 32 := Scalar.addi c0_i32_55 c125_i32_56
  let c1_i32_57 : BitVec 32 := 1#32
  ⟨c0_i32_55, v147, c1_i32_57⟩
def k0_off285 (i : grid0.Coords) (k0_t18 : Fin k0_t18_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1375_i32_44 : BitVec 32 := 1375#32
  let v108 : BitVec 32 := Scalar.addi v21 c1375_i32_44
  let c0_i32_55 : BitVec 32 := 0#32
  let c1_i32_57 : BitVec 32 := 1#32
  let arg15 : BitVec 32 := Scf.iv c0_i32_55 c1_i32_57 k0_t18
  let v149 : BitVec 32 := Scalar.addi v108 arg15
  let v150 : Index := Scalar.indexCast v149
  ![v150.toNat]
def k0_off286 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v157 : Index := Scalar.indexCast arg15
  let c0 : Index := 0#32
  ![v157.toNat, 0]
def k0_off287 (v153 : BitVec 32) : Fin 2 → Nat :=
  let v161 : Index := Scalar.indexCast v153
  let c0_59 : Index := 0#32
  ![v161.toNat, 0]

def k0_off288 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v163 : Index := Scalar.indexCast arg15
  let c16 : Index := 16#32
  ![v163.toNat, 16]
def k0_off289 (v153 : BitVec 32) : Fin 2 → Nat :=
  let v167 : Index := Scalar.indexCast v153
  let c16_60 : Index := 16#32
  ![v167.toNat, 16]
def k0_off290 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v169 : Index := Scalar.indexCast arg15
  let c32 : Index := 32#32
  ![v169.toNat, 32]
def k0_off291 (v153 : BitVec 32) : Fin 2 → Nat :=
  let v173 : Index := Scalar.indexCast v153
  let c32_61 : Index := 32#32
  ![v173.toNat, 32]
def k0_off292 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v175 : Index := Scalar.indexCast arg15
  let c48 : Index := 48#32
  ![v175.toNat, 48]
def k0_off293 (v153 : BitVec 32) : Fin 2 → Nat :=
  let v179 : Index := Scalar.indexCast v153
  let c48_62 : Index := 48#32
  ![v179.toNat, 48]
def k0_off294 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v181 : Index := Scalar.indexCast arg15
  let c64 : Index := 64#32
  ![v181.toNat, 64]
def k0_off295 (v153 : BitVec 32) : Fin 2 → Nat :=
  let v185 : Index := Scalar.indexCast v153
  let c64_63 : Index := 64#32
  ![v185.toNat, 64]
def k0_off296 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v187 : Index := Scalar.indexCast arg15
  let c80 : Index := 80#32
  ![v187.toNat, 80]
def k0_off297 (v153 : BitVec 32) : Fin 2 → Nat :=
  let v191 : Index := Scalar.indexCast v153
  let c80_64 : Index := 80#32
  ![v191.toNat, 80]
def k0_off298 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v193 : Index := Scalar.indexCast arg15
  let c96 : Index := 96#32
  ![v193.toNat, 96]
def k0_off299 (v153 : BitVec 32) : Fin 2 → Nat :=
  let v197 : Index := Scalar.indexCast v153
  let c96_65 : Index := 96#32
  ![v197.toNat, 96]
def k0_off300 (k0_t18 : Fin k0_t18_loop.trips) : Fin 2 → Nat :=
  let c0_i32_55 : BitVec 32 := 0#32
  let c1_i32_57 : BitVec 32 := 1#32
  let arg15 : BitVec 32 := Scf.iv c0_i32_55 c1_i32_57 k0_t18
  let v199 : Index := Scalar.indexCast arg15
  let c112 : Index := 112#32
  ![v199.toNat, 112]
def k0_off301 (v153 : BitVec 32) : Fin 2 → Nat :=
  let v203 : Index := Scalar.indexCast v153
  let c112_66 : Index := 112#32
  ![v203.toNat, 112]

def k0_chk16 (v112 : BitVec 32) (v118 : BitVec 32) (v153 : BitVec 32) : Prop :=
  (∀ (k0_h8 : ¬(k0_cond8 v112 v118 = 1#1)), ∀ a, (k0_off287 v153) a + S1x16.size a ≤ S64x128.size a) ∧
  (∀ (k0_h8 : ¬(k0_cond8 v112 v118 = 1#1)), ∀ a, (k0_off289 v153) a + S1x16.size a ≤ S64x128.size a) ∧
  (∀ (k0_h8 : ¬(k0_cond8 v112 v118 = 1#1)), ∀ a, (k0_off291 v153) a + S1x16.size a ≤ S64x128.size a) ∧
  (∀ (k0_h8 : ¬(k0_cond8 v112 v118 = 1#1)), ∀ a, (k0_off293 v153) a + S1x16.size a ≤ S64x128.size a) ∧
  (∀ (k0_h8 : ¬(k0_cond8 v112 v118 = 1#1)), ∀ a, (k0_off295 v153) a + S1x16.size a ≤ S64x128.size a) ∧
  (∀ (k0_h8 : ¬(k0_cond8 v112 v118 = 1#1)), ∀ a, (k0_off297 v153) a + S1x16.size a ≤ S64x128.size a) ∧
  (∀ (k0_h8 : ¬(k0_cond8 v112 v118 = 1#1)), ∀ a, (k0_off299 v153) a + S1x16.size a ≤ S64x128.size a) ∧
  (∀ (k0_h8 : ¬(k0_cond8 v112 v118 = 1#1)), ∀ a, (k0_off301 v153) a + S1x16.size a ≤ S64x128.size a)
theorem k0_off287_inb : ∀ (v112 : BitVec 32) (v118 : BitVec 32) (v153 : BitVec 32) (k0_hw16 : k0_chk16 v112 v118 v153), ∀ (k0_h8 : ¬(k0_cond8 v112 v118 = 1#1)), ∀ a, (k0_off287 v153) a + S1x16.size a ≤ S64x128.size a := fun v112 v118 v153 k0_hw16 k0_h8 => k0_hw16.1 k0_h8
theorem k0_off289_inb : ∀ (v112 : BitVec 32) (v118 : BitVec 32) (v153 : BitVec 32) (k0_hw16 : k0_chk16 v112 v118 v153), ∀ (k0_h8 : ¬(k0_cond8 v112 v118 = 1#1)), ∀ a, (k0_off289 v153) a + S1x16.size a ≤ S64x128.size a := fun v112 v118 v153 k0_hw16 k0_h8 => k0_hw16.2.1 k0_h8
theorem k0_off291_inb : ∀ (v112 : BitVec 32) (v118 : BitVec 32) (v153 : BitVec 32) (k0_hw16 : k0_chk16 v112 v118 v153), ∀ (k0_h8 : ¬(k0_cond8 v112 v118 = 1#1)), ∀ a, (k0_off291 v153) a + S1x16.size a ≤ S64x128.size a := fun v112 v118 v153 k0_hw16 k0_h8 => k0_hw16.2.2.1 k0_h8
theorem k0_off293_inb : ∀ (v112 : BitVec 32) (v118 : BitVec 32) (v153 : BitVec 32) (k0_hw16 : k0_chk16 v112 v118 v153), ∀ (k0_h8 : ¬(k0_cond8 v112 v118 = 1#1)), ∀ a, (k0_off293 v153) a + S1x16.size a ≤ S64x128.size a := fun v112 v118 v153 k0_hw16 k0_h8 => k0_hw16.2.2.2.1 k0_h8
theorem k0_off295_inb : ∀ (v112 : BitVec 32) (v118 : BitVec 32) (v153 : BitVec 32) (k0_hw16 : k0_chk16 v112 v118 v153), ∀ (k0_h8 : ¬(k0_cond8 v112 v118 = 1#1)), ∀ a, (k0_off295 v153) a + S1x16.size a ≤ S64x128.size a := fun v112 v118 v153 k0_hw16 k0_h8 => k0_hw16.2.2.2.2.1 k0_h8
theorem k0_off297_inb : ∀ (v112 : BitVec 32) (v118 : BitVec 32) (v153 : BitVec 32) (k0_hw16 : k0_chk16 v112 v118 v153), ∀ (k0_h8 : ¬(k0_cond8 v112 v118 = 1#1)), ∀ a, (k0_off297 v153) a + S1x16.size a ≤ S64x128.size a := fun v112 v118 v153 k0_hw16 k0_h8 => k0_hw16.2.2.2.2.2.1 k0_h8
theorem k0_off299_inb : ∀ (v112 : BitVec 32) (v118 : BitVec 32) (v153 : BitVec 32) (k0_hw16 : k0_chk16 v112 v118 v153), ∀ (k0_h8 : ¬(k0_cond8 v112 v118 = 1#1)), ∀ a, (k0_off299 v153) a + S1x16.size a ≤ S64x128.size a := fun v112 v118 v153 k0_hw16 k0_h8 => k0_hw16.2.2.2.2.2.2.1 k0_h8
theorem k0_off301_inb : ∀ (v112 : BitVec 32) (v118 : BitVec 32) (v153 : BitVec 32) (k0_hw16 : k0_chk16 v112 v118 v153), ∀ (k0_h8 : ¬(k0_cond8 v112 v118 = 1#1)), ∀ a, (k0_off301 v153) a + S1x16.size a ≤ S64x128.size a := fun v112 v118 v153 k0_hw16 k0_h8 => k0_hw16.2.2.2.2.2.2.2 k0_h8

def k0_off302 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c1500_i32_48 : BitVec 32 := 1500#32
  let v126 : BitVec 32 := Scalar.addi v2 c1500_i32_48
  let c0_i32_49 : BitVec 32 := 0#32
  ![v126.toNat, 0]
def k0_off303 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1500_i32_51 : BitVec 32 := 1500#32
  let v129 : BitVec 32 := Scalar.addi v21 c1500_i32_51
  let v130 : Index := Scalar.indexCast v129
  ![v130.toNat]
def k0_off304 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1500_i32_51 : BitVec 32 := 1500#32
  let v129 : BitVec 32 := Scalar.addi v21 c1500_i32_51
  let c125_i32_52 : BitVec 32 := 125#32
  let v134 : BitVec 32 := Scalar.addi v129 c125_i32_52
  let c1_i32_53 : BitVec 32 := 1#32
  let v135 : BitVec 32 := Scalar.subi v134 c1_i32_53
  let v136 : Index := Scalar.indexCast v135
  ![v136.toNat]
@[reducible] def k0_t19_loop : Scf.Loop 32 :=
  let c1_i32_63 : BitVec 32 := 1#32
  let c24_i32 : BitVec 32 := 24#32
  let v179 : BitVec 32 := Scalar.addi c1_i32_63 c24_i32
  let c1_i32_64 : BitVec 32 := 1#32
  ⟨c1_i32_63, v179, c1_i32_64⟩
def k0_off305 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v295 : Index := Scalar.indexCast v294
  let c0_137 : Index := 0#32
  ![v295.toNat, 0]
def k0_off306 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v298 : Index := Scalar.indexCast v294
  let c16_138 : Index := 16#32
  ![v298.toNat, 16]
def k0_off307 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v301 : Index := Scalar.indexCast v294
  let c32_139 : Index := 32#32
  ![v301.toNat, 32]
def k0_off308 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v304 : Index := Scalar.indexCast v294
  let c48_140 : Index := 48#32
  ![v304.toNat, 48]
def k0_off309 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v307 : Index := Scalar.indexCast v294
  let c64_141 : Index := 64#32
  ![v307.toNat, 64]
def k0_off310 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v310 : Index := Scalar.indexCast v294
  let c80_142 : Index := 80#32
  ![v310.toNat, 80]
def k0_off311 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v313 : Index := Scalar.indexCast v294
  let c96_143 : Index := 96#32
  ![v313.toNat, 96]
def k0_off312 (k0_t19 : Fin k0_t19_loop.trips) (c0_i32_136 : BitVec 32) : Fin 2 → Nat :=
  let c1_i32_63 : BitVec 32 := 1#32
  let c1_i32_64 : BitVec 32 := 1#32
  let arg15 : BitVec 32 := Scf.iv c1_i32_63 c1_i32_64 k0_t19
  let c5_i32 : BitVec 32 := 5#32
  let v293 : BitVec 32 := Scalar.muli arg15 c5_i32
  let v294 : BitVec 32 := Scalar.addi v293 c0_i32_136
  let v316 : Index := Scalar.indexCast v294
  let c112_144 : Index := 112#32
  ![v316.toNat, 112]
def k0_off313 (v133 : BitVec 32) : Fin 2 → Nat :=
  let v277 : Index := Scalar.indexCast v133
  let c0_128 : Index := 0#32
  ![v277.toNat, 0]
def k0_cond9 (v133 : BitVec 32) (v139 : BitVec 32) : BitVec 1 :=
  let v143 : BitVec 1 := Scalar.cmpi .eq v133 v139
  let v144 : BitVec 32 := Scalar.extui v143
  let c0_i32_54 : BitVec 32 := 0#32
  let v145 : BitVec 1 := Scalar.cmpi .ne v144 c0_i32_54
  v145

def k0_off314 (v133 : BitVec 32) : Fin 2 → Nat :=
  let v279 : Index := Scalar.indexCast v133
  let c16_129 : Index := 16#32
  ![v279.toNat, 16]
def k0_off315 (v133 : BitVec 32) : Fin 2 → Nat :=
  let v281 : Index := Scalar.indexCast v133
  let c32_130 : Index := 32#32
  ![v281.toNat, 32]
def k0_off316 (v133 : BitVec 32) : Fin 2 → Nat :=
  let v283 : Index := Scalar.indexCast v133
  let c48_131 : Index := 48#32
  ![v283.toNat, 48]
def k0_off317 (v133 : BitVec 32) : Fin 2 → Nat :=
  let v285 : Index := Scalar.indexCast v133
  let c64_132 : Index := 64#32
  ![v285.toNat, 64]
def k0_off318 (v133 : BitVec 32) : Fin 2 → Nat :=
  let v287 : Index := Scalar.indexCast v133
  let c80_133 : Index := 80#32
  ![v287.toNat, 80]
def k0_off319 (v133 : BitVec 32) : Fin 2 → Nat :=
  let v289 : Index := Scalar.indexCast v133
  let c96_134 : Index := 96#32
  ![v289.toNat, 96]
def k0_off320 (v133 : BitVec 32) : Fin 2 → Nat :=
  let v291 : Index := Scalar.indexCast v133
  let c112_135 : Index := 112#32
  ![v291.toNat, 112]

def k0_chk17 (v133 : BitVec 32) (v139 : BitVec 32) : Prop :=
  (∀ (k0_h9 : k0_cond9 v133 v139 = 1#1), ∀ a, (k0_off313 v133) a + S1x16.size a ≤ S64x128.size a) ∧
  (∀ (k0_h9 : k0_cond9 v133 v139 = 1#1), ∀ a, (k0_off314 v133) a + S1x16.size a ≤ S64x128.size a) ∧
  (∀ (k0_h9 : k0_cond9 v133 v139 = 1#1), ∀ a, (k0_off315 v133) a + S1x16.size a ≤ S64x128.size a) ∧
  (∀ (k0_h9 : k0_cond9 v133 v139 = 1#1), ∀ a, (k0_off316 v133) a + S1x16.size a ≤ S64x128.size a) ∧
  (∀ (k0_h9 : k0_cond9 v133 v139 = 1#1), ∀ a, (k0_off317 v133) a + S1x16.size a ≤ S64x128.size a) ∧
  (∀ (k0_h9 : k0_cond9 v133 v139 = 1#1), ∀ a, (k0_off318 v133) a + S1x16.size a ≤ S64x128.size a) ∧
  (∀ (k0_h9 : k0_cond9 v133 v139 = 1#1), ∀ a, (k0_off319 v133) a + S1x16.size a ≤ S64x128.size a) ∧
  (∀ (k0_h9 : k0_cond9 v133 v139 = 1#1), ∀ a, (k0_off320 v133) a + S1x16.size a ≤ S64x128.size a)
theorem k0_off313_inb : ∀ (v133 : BitVec 32) (v139 : BitVec 32) (k0_hw17 : k0_chk17 v133 v139), ∀ (k0_h9 : k0_cond9 v133 v139 = 1#1), ∀ a, (k0_off313 v133) a + S1x16.size a ≤ S64x128.size a := fun v133 v139 k0_hw17 k0_h9 => k0_hw17.1 k0_h9
theorem k0_off314_inb : ∀ (v133 : BitVec 32) (v139 : BitVec 32) (k0_hw17 : k0_chk17 v133 v139), ∀ (k0_h9 : k0_cond9 v133 v139 = 1#1), ∀ a, (k0_off314 v133) a + S1x16.size a ≤ S64x128.size a := fun v133 v139 k0_hw17 k0_h9 => k0_hw17.2.1 k0_h9
theorem k0_off315_inb : ∀ (v133 : BitVec 32) (v139 : BitVec 32) (k0_hw17 : k0_chk17 v133 v139), ∀ (k0_h9 : k0_cond9 v133 v139 = 1#1), ∀ a, (k0_off315 v133) a + S1x16.size a ≤ S64x128.size a := fun v133 v139 k0_hw17 k0_h9 => k0_hw17.2.2.1 k0_h9
theorem k0_off316_inb : ∀ (v133 : BitVec 32) (v139 : BitVec 32) (k0_hw17 : k0_chk17 v133 v139), ∀ (k0_h9 : k0_cond9 v133 v139 = 1#1), ∀ a, (k0_off316 v133) a + S1x16.size a ≤ S64x128.size a := fun v133 v139 k0_hw17 k0_h9 => k0_hw17.2.2.2.1 k0_h9
theorem k0_off317_inb : ∀ (v133 : BitVec 32) (v139 : BitVec 32) (k0_hw17 : k0_chk17 v133 v139), ∀ (k0_h9 : k0_cond9 v133 v139 = 1#1), ∀ a, (k0_off317 v133) a + S1x16.size a ≤ S64x128.size a := fun v133 v139 k0_hw17 k0_h9 => k0_hw17.2.2.2.2.1 k0_h9
theorem k0_off318_inb : ∀ (v133 : BitVec 32) (v139 : BitVec 32) (k0_hw17 : k0_chk17 v133 v139), ∀ (k0_h9 : k0_cond9 v133 v139 = 1#1), ∀ a, (k0_off318 v133) a + S1x16.size a ≤ S64x128.size a := fun v133 v139 k0_hw17 k0_h9 => k0_hw17.2.2.2.2.2.1 k0_h9
theorem k0_off319_inb : ∀ (v133 : BitVec 32) (v139 : BitVec 32) (k0_hw17 : k0_chk17 v133 v139), ∀ (k0_h9 : k0_cond9 v133 v139 = 1#1), ∀ a, (k0_off319 v133) a + S1x16.size a ≤ S64x128.size a := fun v133 v139 k0_hw17 k0_h9 => k0_hw17.2.2.2.2.2.2.1 k0_h9
theorem k0_off320_inb : ∀ (v133 : BitVec 32) (v139 : BitVec 32) (k0_hw17 : k0_chk17 v133 v139), ∀ (k0_h9 : k0_cond9 v133 v139 = 1#1), ∀ a, (k0_off320 v133) a + S1x16.size a ≤ S64x128.size a := fun v133 v139 k0_hw17 k0_h9 => k0_hw17.2.2.2.2.2.2.2 k0_h9

@[reducible] def k0_t20_loop : Scf.Loop 32 :=
  let c0_i32_55 : BitVec 32 := 0#32
  let c125_i32_56 : BitVec 32 := 125#32
  let v147 : BitVec 32 := Scalar.addi c0_i32_55 c125_i32_56
  let c1_i32_57 : BitVec 32 := 1#32
  ⟨c0_i32_55, v147, c1_i32_57⟩
def k0_off321 (i : grid0.Coords) (k0_t20 : Fin k0_t20_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1625_i32 : BitVec 32 := 1625#32
  let v2 : BitVec 32 := Scalar.muli v1 c1625_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c1500_i32_51 : BitVec 32 := 1500#32
  let v129 : BitVec 32 := Scalar.addi v21 c1500_i32_51
  let c0_i32_55 : BitVec 32 := 0#32
  let c1_i32_57 : BitVec 32 := 1#32
  let arg15 : BitVec 32 := Scf.iv c0_i32_55 c1_i32_57 k0_t20
  let v149 : BitVec 32 := Scalar.addi v129 arg15
  let v150 : Index := Scalar.indexCast v149
  ![v150.toNat]
def k0_off322 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v157 : Index := Scalar.indexCast arg15
  let c0 : Index := 0#32
  ![v157.toNat, 0]
def k0_off323 (v153 : BitVec 32) : Fin 2 → Nat :=
  let v161 : Index := Scalar.indexCast v153
  let c0_59 : Index := 0#32
  ![v161.toNat, 0]

def k0_off324 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v163 : Index := Scalar.indexCast arg15
  let c16 : Index := 16#32
  ![v163.toNat, 16]
def k0_off325 (v153 : BitVec 32) : Fin 2 → Nat :=
  let v167 : Index := Scalar.indexCast v153
  let c16_60 : Index := 16#32
  ![v167.toNat, 16]
def k0_off326 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v169 : Index := Scalar.indexCast arg15
  let c32 : Index := 32#32
  ![v169.toNat, 32]
def k0_off327 (v153 : BitVec 32) : Fin 2 → Nat :=
  let v173 : Index := Scalar.indexCast v153
  let c32_61 : Index := 32#32
  ![v173.toNat, 32]
def k0_off328 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v175 : Index := Scalar.indexCast arg15
  let c48 : Index := 48#32
  ![v175.toNat, 48]
def k0_off329 (v153 : BitVec 32) : Fin 2 → Nat :=
  let v179 : Index := Scalar.indexCast v153
  let c48_62 : Index := 48#32
  ![v179.toNat, 48]
def k0_off330 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v181 : Index := Scalar.indexCast arg15
  let c64 : Index := 64#32
  ![v181.toNat, 64]
def k0_off331 (v153 : BitVec 32) : Fin 2 → Nat :=
  let v185 : Index := Scalar.indexCast v153
  let c64_63 : Index := 64#32
  ![v185.toNat, 64]
def k0_off332 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v187 : Index := Scalar.indexCast arg15
  let c80 : Index := 80#32
  ![v187.toNat, 80]
def k0_off333 (v153 : BitVec 32) : Fin 2 → Nat :=
  let v191 : Index := Scalar.indexCast v153
  let c80_64 : Index := 80#32
  ![v191.toNat, 80]
def k0_off334 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v193 : Index := Scalar.indexCast arg15
  let c96 : Index := 96#32
  ![v193.toNat, 96]
def k0_off335 (v153 : BitVec 32) : Fin 2 → Nat :=
  let v197 : Index := Scalar.indexCast v153
  let c96_65 : Index := 96#32
  ![v197.toNat, 96]
def k0_off336 (k0_t20 : Fin k0_t20_loop.trips) : Fin 2 → Nat :=
  let c0_i32_55 : BitVec 32 := 0#32
  let c1_i32_57 : BitVec 32 := 1#32
  let arg15 : BitVec 32 := Scf.iv c0_i32_55 c1_i32_57 k0_t20
  let v199 : Index := Scalar.indexCast arg15
  let c112 : Index := 112#32
  ![v199.toNat, 112]
def k0_off337 (v153 : BitVec 32) : Fin 2 → Nat :=
  let v203 : Index := Scalar.indexCast v153
  let c112_66 : Index := 112#32
  ![v203.toNat, 112]

def k0_chk18 (v133 : BitVec 32) (v139 : BitVec 32) (v153 : BitVec 32) : Prop :=
  (∀ (k0_h9 : ¬(k0_cond9 v133 v139 = 1#1)), ∀ a, (k0_off323 v153) a + S1x16.size a ≤ S64x128.size a) ∧
  (∀ (k0_h9 : ¬(k0_cond9 v133 v139 = 1#1)), ∀ a, (k0_off325 v153) a + S1x16.size a ≤ S64x128.size a) ∧
  (∀ (k0_h9 : ¬(k0_cond9 v133 v139 = 1#1)), ∀ a, (k0_off327 v153) a + S1x16.size a ≤ S64x128.size a) ∧
  (∀ (k0_h9 : ¬(k0_cond9 v133 v139 = 1#1)), ∀ a, (k0_off329 v153) a + S1x16.size a ≤ S64x128.size a) ∧
  (∀ (k0_h9 : ¬(k0_cond9 v133 v139 = 1#1)), ∀ a, (k0_off331 v153) a + S1x16.size a ≤ S64x128.size a) ∧
  (∀ (k0_h9 : ¬(k0_cond9 v133 v139 = 1#1)), ∀ a, (k0_off333 v153) a + S1x16.size a ≤ S64x128.size a) ∧
  (∀ (k0_h9 : ¬(k0_cond9 v133 v139 = 1#1)), ∀ a, (k0_off335 v153) a + S1x16.size a ≤ S64x128.size a) ∧
  (∀ (k0_h9 : ¬(k0_cond9 v133 v139 = 1#1)), ∀ a, (k0_off337 v153) a + S1x16.size a ≤ S64x128.size a)
theorem k0_off323_inb : ∀ (v133 : BitVec 32) (v139 : BitVec 32) (v153 : BitVec 32) (k0_hw18 : k0_chk18 v133 v139 v153), ∀ (k0_h9 : ¬(k0_cond9 v133 v139 = 1#1)), ∀ a, (k0_off323 v153) a + S1x16.size a ≤ S64x128.size a := fun v133 v139 v153 k0_hw18 k0_h9 => k0_hw18.1 k0_h9
theorem k0_off325_inb : ∀ (v133 : BitVec 32) (v139 : BitVec 32) (v153 : BitVec 32) (k0_hw18 : k0_chk18 v133 v139 v153), ∀ (k0_h9 : ¬(k0_cond9 v133 v139 = 1#1)), ∀ a, (k0_off325 v153) a + S1x16.size a ≤ S64x128.size a := fun v133 v139 v153 k0_hw18 k0_h9 => k0_hw18.2.1 k0_h9
theorem k0_off327_inb : ∀ (v133 : BitVec 32) (v139 : BitVec 32) (v153 : BitVec 32) (k0_hw18 : k0_chk18 v133 v139 v153), ∀ (k0_h9 : ¬(k0_cond9 v133 v139 = 1#1)), ∀ a, (k0_off327 v153) a + S1x16.size a ≤ S64x128.size a := fun v133 v139 v153 k0_hw18 k0_h9 => k0_hw18.2.2.1 k0_h9
theorem k0_off329_inb : ∀ (v133 : BitVec 32) (v139 : BitVec 32) (v153 : BitVec 32) (k0_hw18 : k0_chk18 v133 v139 v153), ∀ (k0_h9 : ¬(k0_cond9 v133 v139 = 1#1)), ∀ a, (k0_off329 v153) a + S1x16.size a ≤ S64x128.size a := fun v133 v139 v153 k0_hw18 k0_h9 => k0_hw18.2.2.2.1 k0_h9
theorem k0_off331_inb : ∀ (v133 : BitVec 32) (v139 : BitVec 32) (v153 : BitVec 32) (k0_hw18 : k0_chk18 v133 v139 v153), ∀ (k0_h9 : ¬(k0_cond9 v133 v139 = 1#1)), ∀ a, (k0_off331 v153) a + S1x16.size a ≤ S64x128.size a := fun v133 v139 v153 k0_hw18 k0_h9 => k0_hw18.2.2.2.2.1 k0_h9
theorem k0_off333_inb : ∀ (v133 : BitVec 32) (v139 : BitVec 32) (v153 : BitVec 32) (k0_hw18 : k0_chk18 v133 v139 v153), ∀ (k0_h9 : ¬(k0_cond9 v133 v139 = 1#1)), ∀ a, (k0_off333 v153) a + S1x16.size a ≤ S64x128.size a := fun v133 v139 v153 k0_hw18 k0_h9 => k0_hw18.2.2.2.2.2.1 k0_h9
theorem k0_off335_inb : ∀ (v133 : BitVec 32) (v139 : BitVec 32) (v153 : BitVec 32) (k0_hw18 : k0_chk18 v133 v139 v153), ∀ (k0_h9 : ¬(k0_cond9 v133 v139 = 1#1)), ∀ a, (k0_off335 v153) a + S1x16.size a ≤ S64x128.size a := fun v133 v139 v153 k0_hw18 k0_h9 => k0_hw18.2.2.2.2.2.2.1 k0_h9
theorem k0_off337_inb : ∀ (v133 : BitVec 32) (v139 : BitVec 32) (v153 : BitVec 32) (k0_hw18 : k0_chk18 v133 v139 v153), ∀ (k0_h9 : ¬(k0_cond9 v133 v139 = 1#1)), ∀ a, (k0_off337 v153) a + S1x16.size a ≤ S64x128.size a := fun v133 v139 v153 k0_hw18 k0_h9 => k0_hw18.2.2.2.2.2.2.2 k0_h9

def k0_off338 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_55_r1 : BitVec 32 := 0#32
  let c0_i32_56_r1 : BitVec 32 := 0#32
  ![v1.toNat, 0, 0]
abbrev grid1 : Pipeline.Grid := ⟨1, ![12], ![false]⟩

def k1_off1 (i : grid1.Coords) : Fin 2 → Nat :=
  let arg0 : BitVec 32 := BitVec.ofNat 32 (i 0).val
  let v3 : Index := Scalar.indexCast arg0
  let c0 : Index := 0#32
  ![v3.toNat, 0]
def k1_off2 (v9 : BitVec 32) : Fin 2 → Nat :=
  let v22 : Index := Scalar.indexCast v9
  let c0_7 : Index := 0#32
  ![v22.toNat, 0]
def k1_cond2 (v9 : BitVec 32) (v13 : BitVec 32) : BitVec 1 :=
  let v15 : BitVec 1 := Scalar.cmpi .eq v9 v13
  let v16 : BitVec 32 := Scalar.extui v15
  let c0_i32_4 : BitVec 32 := 0#32
  let v17 : BitVec 1 := Scalar.cmpi .ne v16 c0_i32_4
  v17

@[reducible] def k1_t1_loop (v9 : BitVec 32) (v13 : BitVec 32) : Scf.Loop 32 :=
  let c1_i32 : BitVec 32 := 1#32
  let v22 : BitVec 32 := Scalar.addi v13 c1_i32
  let v23 : BitVec 32 := Scalar.subi v22 v9
  let c1_i32_7 : BitVec 32 := 1#32
  let v25 : BitVec 32 := Scalar.divsi v23 c1_i32_7
  let v26 : BitVec 32 := Scalar.muli v25 c1_i32_7
  let v27 : BitVec 32 := Scalar.addi v9 v26
  let c1_i32_8 : BitVec 32 := 1#32
  ⟨v9, v27, c1_i32_8⟩
def k1_cond3 (v9 : BitVec 32) (v13 : BitVec 32) : BitVec 1 :=
  let v18 : BitVec 1 := Scalar.cmpi .ne v9 v13
  let v19 : BitVec 32 := Scalar.extui v18
  let c0_i32_5 : BitVec 32 := 0#32
  let v20 : BitVec 1 := Scalar.cmpi .ne v19 c0_i32_5
  v20

def k1_off3 (v9 : BitVec 32) (v13 : BitVec 32) (k1_t1 : Fin (k1_t1_loop v9 v13).trips) : Fin 2 → Nat :=
  let c1_i32_8 : BitVec 32 := 1#32
  let arg4 : BitVec 32 := Scf.iv v9 c1_i32_8 k1_t1
  let v52 : Index := Scalar.indexCast arg4
  let c0_14 : Index := 0#32
  ![v52.toNat, 0]
@[reducible] def k1_t2_loop (v9 : BitVec 32) (v13 : BitVec 32) : Scf.Loop 32 :=
  let c1_i32 : BitVec 32 := 1#32
  let v22 : BitVec 32 := Scalar.addi v13 c1_i32
  let v23 : BitVec 32 := Scalar.subi v22 v9
  let c1_i32_7 : BitVec 32 := 1#32
  let v25 : BitVec 32 := Scalar.divsi v23 c1_i32_7
  let v26 : BitVec 32 := Scalar.muli v25 c1_i32_7
  let v27 : BitVec 32 := Scalar.addi v9 v26
  let v24 : BitVec 32 := Scalar.addi v9 v23
  let c1_i32_9 : BitVec 32 := 1#32
  ⟨v27, v24, c1_i32_9⟩
def k1_off4 (v9 : BitVec 32) (v13 : BitVec 32) (k1_t2 : Fin (k1_t2_loop v9 v13).trips) : Fin 2 → Nat :=
  let c1_i32 : BitVec 32 := 1#32
  let v22 : BitVec 32 := Scalar.addi v13 c1_i32
  let v23 : BitVec 32 := Scalar.subi v22 v9
  let c1_i32_7 : BitVec 32 := 1#32
  let v25 : BitVec 32 := Scalar.divsi v23 c1_i32_7
  let v26 : BitVec 32 := Scalar.muli v25 c1_i32_7
  let v27 : BitVec 32 := Scalar.addi v9 v26
  let c1_i32_9 : BitVec 32 := 1#32
  let arg4 : BitVec 32 := Scf.iv v27 c1_i32_9 k1_t2
  let v52 : Index := Scalar.indexCast arg4
  let c0_14 : Index := 0#32
  ![v52.toNat, 0]

def k1_chk1 (v9 : BitVec 32) (v13 : BitVec 32) : Prop :=
  (∀ (k1_h2 : k1_cond2 v9 v13 = 1#1), ∀ a, (k1_off2 v9) a + S1x128.size a ≤ S64x128.size a) ∧
  (∀ (k1_h3 : k1_cond3 v9 v13 = 1#1), (k1_t1_loop v9 v13).OK) ∧
  (∀ k1_t1 : Fin (k1_t1_loop v9 v13).trips, ∀ (k1_h3 : k1_cond3 v9 v13 = 1#1), ∀ a, (k1_off3 v9 v13 k1_t1) a + S1x128.size a ≤ S64x128.size a) ∧
  (∀ (k1_h3 : k1_cond3 v9 v13 = 1#1), (k1_t2_loop v9 v13).OK) ∧
  (∀ k1_t2 : Fin (k1_t2_loop v9 v13).trips, ∀ (k1_h3 : k1_cond3 v9 v13 = 1#1), ∀ a, (k1_off4 v9 v13 k1_t2) a + S1x128.size a ≤ S64x128.size a)
theorem k1_off2_inb : ∀ (v9 : BitVec 32) (v13 : BitVec 32) (k1_hw1 : k1_chk1 v9 v13), ∀ (k1_h2 : k1_cond2 v9 v13 = 1#1), ∀ a, (k1_off2 v9) a + S1x128.size a ≤ S64x128.size a := fun v9 v13 k1_hw1 k1_h2 => k1_hw1.1 k1_h2
theorem k1_t1_ok : ∀ (v9 : BitVec 32) (v13 : BitVec 32) (k1_hw1 : k1_chk1 v9 v13), ∀ (k1_h3 : k1_cond3 v9 v13 = 1#1), (k1_t1_loop v9 v13).OK := fun v9 v13 k1_hw1 k1_h3 => k1_hw1.2.1 k1_h3
theorem k1_off3_inb : ∀ (v9 : BitVec 32) (v13 : BitVec 32) (k1_hw1 : k1_chk1 v9 v13) (k1_t1 : Fin (k1_t1_loop v9 v13).trips), ∀ (k1_h3 : k1_cond3 v9 v13 = 1#1), ∀ a, (k1_off3 v9 v13 k1_t1) a + S1x128.size a ≤ S64x128.size a := fun v9 v13 k1_hw1 k1_t1 k1_h3 => k1_hw1.2.2.1 k1_t1 k1_h3
theorem k1_t2_ok : ∀ (v9 : BitVec 32) (v13 : BitVec 32) (k1_hw1 : k1_chk1 v9 v13), ∀ (k1_h3 : k1_cond3 v9 v13 = 1#1), (k1_t2_loop v9 v13).OK := fun v9 v13 k1_hw1 k1_h3 => k1_hw1.2.2.2.1 k1_h3
theorem k1_off4_inb : ∀ (v9 : BitVec 32) (v13 : BitVec 32) (k1_hw1 : k1_chk1 v9 v13) (k1_t2 : Fin (k1_t2_loop v9 v13).trips), ∀ (k1_h3 : k1_cond3 v9 v13 = 1#1), ∀ a, (k1_off4 v9 v13 k1_t2) a + S1x128.size a ≤ S64x128.size a := fun v9 v13 k1_hw1 k1_t2 k1_h3 => k1_hw1.2.2.2.2 k1_t2 k1_h3

def cc1_transform_0 (i : grid1.Coords) : Fin 2 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12x4000 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S256x128 : Shape := ⟨2, ![256, 128]⟩
abbrev S256 : Shape := ⟨1, ![256]⟩
abbrev S256x256 : Shape := ⟨2, ![256, 256]⟩
abbrev S2x256 : Shape := ⟨2, ![2, 256]⟩
abbrev S2 : Shape := ⟨1, ![2]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩
abbrev S64x100000x1 : Shape := ⟨3, ![64, 100000, 1]⟩
abbrev S1x100000x128 : Shape := ⟨3, ![1, 100000, 128]⟩
abbrev S_ : Shape := ⟨0, ![]⟩
abbrev S64x100000x128 : Shape := ⟨3, ![64, 100000, 128]⟩
abbrev S64x128 : Shape := ⟨2, ![64, 128]⟩
abbrev S128x256 : Shape := ⟨2, ![128, 256]⟩
abbrev S64x256 : Shape := ⟨2, ![64, 256]⟩
abbrev S1x256 : Shape := ⟨2, ![1, 256]⟩
abbrev S256x2 : Shape := ⟨2, ![256, 2]⟩
abbrev S64x2 : Shape := ⟨2, ![64, 2]⟩
abbrev S1x2 : Shape := ⟨2, ![1, 2]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S1x100000, .i32⟩
  | .hbm, ⟨9, _⟩ => ⟨S64, .i32⟩
  | .hbm, ⟨10, _⟩ => ⟨S64x1, .i32⟩
  | .hbm, ⟨11, _⟩ => ⟨S64x100000, .i32⟩
  | .hbm, ⟨12, _⟩ => ⟨S64x100000, .i32⟩
  | .hbm, ⟨13, _⟩ => ⟨S64x100000, .i1⟩
  | .hbm, ⟨14, _⟩ => ⟨S64x100000x1, .i1⟩
  | .hbm, ⟨15, _⟩ => ⟨S1x100000x128, .f32⟩
  | .hbm, ⟨16, _⟩ => ⟨S_, .f32⟩
  | .hbm, ⟨17, _⟩ => ⟨S_, .f32⟩
  | .hbm, ⟨18, _⟩ => ⟨S64x100000x128, .i1⟩
  | .hbm, ⟨19, _⟩ => ⟨S64x100000x128, .f32⟩
  | .hbm, ⟨20, _⟩ => ⟨S64x100000x128, .f32⟩
  | .hbm, ⟨21, _⟩ => ⟨S64x100000x128, .f32⟩
  | .hbm, ⟨22, _⟩ => ⟨S_, .f32⟩
  | .hbm, ⟨23, _⟩ => ⟨S64x128, .f32⟩
  | .hbm, ⟨24, _⟩ => ⟨S64x100000, .i32⟩
  | .hbm, ⟨25, _⟩ => ⟨S_, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S64x1, .i1⟩
  | .hbm, ⟨31, _⟩ => ⟨S_, .f32⟩
  | .hbm, ⟨32, _⟩ => ⟨S_, .f32⟩
  | .hbm, ⟨33, _⟩ => ⟨S64x128, .i1⟩
  | .hbm, ⟨34, _⟩ => ⟨S64x128, .f32⟩
  | .hbm, ⟨35, _⟩ => ⟨S64x128, .f32⟩
  | .hbm, ⟨36, _⟩ => ⟨S128x256, .f32⟩
  | .hbm, ⟨37, _⟩ => ⟨S64x256, .f32⟩
  | .hbm, ⟨38, _⟩ => ⟨S1x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64x256, .f32⟩
  | .hbm, ⟨43, _⟩ => ⟨S64x256, .f32⟩
  | .hbm, ⟨44, _⟩ => ⟨S256x256, .f32⟩
  | .hbm, ⟨45, _⟩ => ⟨S64x256, .f32⟩
  | .hbm, ⟨46, _⟩ => ⟨S1x256, .f32⟩
  | .hbm, ⟨47, _⟩ => ⟨S64x256, .f32⟩
  | .hbm, ⟨48, _⟩ => ⟨S64x256, .f32⟩
  | .hbm, ⟨49, _⟩ => ⟨S_, .f32⟩
  | .hbm, ⟨50, _⟩ => ⟨S64x256, .f32⟩
  | .hbm, ⟨51, _⟩ => ⟨S64x256, .f32⟩
  | .hbm, ⟨52, _⟩ => ⟨S256x2, .f32⟩
  | .hbm, ⟨53, _⟩ => ⟨S64x2, .f32⟩
  | .hbm, ⟨54, _⟩ => ⟨S1x2, .f32⟩
  | .hbm, ⟨55, _⟩ => ⟨S64x2, .f32⟩
  | .hbm, ⟨56, _⟩ => ⟨S64x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call3_cst : Ref sig .tc := ⟨.hbm, 49, rfl⟩
abbrev main_call3_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Proof.Base.lean ====
/- The program's parts as the launch rule sees them, and small rules for a SparseCore tile's straight-line code:
   a load of sixteen lanes of a row, a store of sixteen lanes of a row, a load of batch words, a check. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

/-! ## The program as the launch rule sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The rounds of the TensorCore's pipelines. -/
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by unfold EP; infer_instance

/-- A tile's coordinates are its SparseCore and its subcore. -/
abbrev cV (L : grid0.Coords) : Fin τ.nSC := (L 0).castLE hcore0
abbrev jV (L : grid0.Coords) : Fin τ.nSub := (L 1).castLE hsub0

/-! ## Rows of 128 as eight groups of sixteen lanes -/

abbrev V16 (F : FTy → Type) : Type := FVec F S16 .f32
abbrev T8 (F : FTy → Type) : Type := V16 F × V16 F × V16 F × V16 F × V16 F × V16 F × V16 F × V16 F
abbrev T9 (F : FTy → Type) : Type := BitVec 32 × T8 F

/-- Column `16 j + z`. -/
def lane (j : Fin 8) (z : Fin 16) : Fin 128 := ⟨16 * j.val + z.val, by omega⟩

/-- Lanes `16 j` to `16 j + 15` of a row. -/
def seg (g : Fin 128 → F .f32) (j : Fin 8) : V16 F := fun z => g (lane j (z 0))

/-- A row as the eight vectors the kernel carries. -/
def tup (g : Fin 128 → F .f32) : T8 F :=
  (seg g 0, seg g 1, seg g 2, seg g 3, seg g 4, seg g 5, seg g 6, seg g 7)

/-- Entry `(r, c)` of a table of rows of 128. -/
abbrev ix {n : ℕ} (r : Fin n) (c : Fin 128) : (⟨2, ![n, 128]⟩ : Shape).Idx := Fin.cons r (Fin.cons c (fun a => a.elim0))

def rowOf {n : ℕ} (X : (⟨2, ![n, 128]⟩ : Shape).Idx → F .f32) (r : Fin n) : Fin 128 → F .f32 := fun c => X (ix r c)

/-- Maximum, lane by lane. -/
def mx (g h : Fin 128 → F .f32) : Fin 128 → F .f32 := fun c => FloatOps.maximumf (g c) (h c)

theorem maximumf_seg (g h : Fin 128 → F .f32) (j : Fin 8) : maximumf (seg g j) (seg h j) = seg (mx g h) j := rfl

/-- Carry a running row while the graph number stays the same. -/
def carry (same : Prop) [Decidable same] (ng : F .f32) (g : Fin 128 → F .f32) : Fin 128 → F .f32 :=
  fun c => if same then g c else ng

theorem select_seg (w s : BitVec 32) (ng : F .f32) (g : Fin 128 → F .f32) (j : Fin 8) :
    select (cmpi .eq (broadcast S16 w) (broadcast S16 s)) (seg g j) (broadcast S16 ng) = seg (carry (w = s) ng g) j := by
  funext z
  show (if BitVec.ofBool (w == s) = 1 then _ else _) = (if w = s then _ else _)
  by_cases h : w = s
  · subst h; simp [seg]
  · have : (w == s) = false := by simpa using h
    rw [this, if_neg h]; rfl

/-- What a load of lanes `16 j …` of row `r` reads. -/
def ldv {n : ℕ} (X : (⟨2, ![n, 128]⟩ : Shape).Idx → F .f32) (r : Fin n) (j : Fin 8) : S1x16.Idx → F .f32 :=
  fun z => X (ix r (lane j (z 1)))

theorem cast_ldv {n : ℕ} (X : (⟨2, ![n, 128]⟩ : Shape).Idx → F .f32) (r : Fin n) (j : Fin 8) :
    shapeCast S16 (ldv X r j) shapeCasts_S1x16_S16 = seg (rowOf X r) j := by
  have key : ∀ z : S16.Idx, (Shape.reshapeEquiv shapeCasts_S1x16_S16 z 1).val = (z 0).val := by
    decide +kernel
  funext z
  show X _ = X _
  congr 1; funext a
  refine Fin.cases ?_ (fun a => Fin.cases ?_ (fun a => a.elim0) a) a
  · rfl
  · apply Fin.ext
    show 16 * j.val + _ = 16 * j.val + _
    rw [key z]

/-! ## Storing into the accumulator -/

/-- Row `r` replaced in lanes `16 j …`. -/
def setSeg {n : ℕ} (A : (⟨2, ![n, 128]⟩ : Shape).Idx → F .f32) (r : Fin n) (j : Fin 8) (g : Fin 128 → F .f32) :
    (⟨2, ![n, 128]⟩ : Shape).Idx → F .f32 :=
  fun i => if (i 0).val = r.val ∧ (i 1).val / 16 = j.val then g (i 1) else A i

/-- Row `r` replaced. -/
def setRow {n : ℕ} (A : (⟨2, ![n, 128]⟩ : Shape).Idx → F .f32) (r : Fin n) (g : Fin 128 → F .f32) :
    (⟨2, ![n, 128]⟩ : Shape).Idx → F .f32 :=
  fun i => if (i 0).val = r.val then g (i 1) else A i

theorem setSeg_all {n : ℕ} (A : (⟨2, ![n, 128]⟩ : Shape).Idx → F .f32) (r : Fin n) (g : Fin 128 → F .f32) :
    setSeg (setSeg (setSeg (setSeg (setSeg (setSeg (setSeg (setSeg A r 0 g) r 1 g) r 2 g) r 3 g) r 4 g) r 5 g) r 6 g) r 7 g
      = setRow A r g := by
  funext i
  have hl : (i 1).val < 128 := (i 1).isLt
  by_cases hr : (i 0).val = r.val
  · have : (i 1).val / 16 < 8 := by omega
    obtain ⟨j, hj⟩ : ∃ j : Fin 8, (i 1).val / 16 = j.val := ⟨⟨_, this⟩, rfl⟩
    simp only [setSeg, setRow, hr, true_and, if_true]
    rw [hj]
    fin_cases j <;> simp
  · simp [setSeg, setRow, hr]

/-! ## What a tile's code does to its buffers -/

local notation "bbW" => (Memref.whole Cert.KernelIdeal.cc0_scratch0 : Memref Cert.KernelIdeal.sig Kind.scVector Space.vmem Cert.KernelIdeal.S1680 EltTy.i32)
local notation "accW" => (Memref.whole Cert.KernelIdeal.cc0_scratch5 : Memref Cert.KernelIdeal.sig Kind.scVector Space.vmem Cert.KernelIdeal.S64x128 EltTy.f32)

section Steps

variable (d : Dev nD) (L : grid0.Coords) (buf : Memref sig .scVector .vmem S125x128 .f32)

/-- The program of a tile. -/
abbrev TProg (F : FTy → Type) (L : grid0.Coords) (α : Type) : Type 1 := Prog (TpuEff nD τ sig (Elt F) Λ₀ (.scVector (cV L) (jV L))) α

/-- A tile's row buffer, its batch words and its accumulator, and the rest of what it holds. -/
def Bufs (R : sProp 𝕄) (fx : Buf (Elt F) (buf.view.loc (V d (cV L) (jV L)))) (fw : S1680.Idx → BitVec 32) (fa : S64x128.Idx → F .f32) : sProp 𝕄 :=
  iprop((buf.view.loc (V d (cV L) (jV L)) ↦{fullShare} fx) ∗ ((bbW).view.loc (V d (cV L) (jV L)) ↦{fullShare} fw)
    ∗ ((accW).view.loc (V d (cV L) (jV L)) ↦{fullShare} fa) ∗ R)

/-- From `P` the program ends with value `a` and in `P'`. -/
def Runs {α : Type} (P : sProp 𝕄) (p : TProg F L α) (a : α) (P' : sProp 𝕄) : Prop :=
  P ⊢ wp frame (wpE (defs₀ (F := F)) 𝒱₀ (V d (cV L) (jV L)) none) Set.univ p (fun x => iprop(⌜x = a⌝ ∗ P'))

variable {d L buf}

theorem Runs.ret {α : Type} {P : sProp 𝕄} {a : α} : Runs d L P (Prog.ret a) a P := by
  refine BIBase.Entails.trans ?_ (le_wp_ret _ _ _ _ _)
  iintro H; isplitr; · ipureintro; rfl
  iexact H

theorem Runs.bind {α β : Type} {P P' P'' : sProp 𝕄} {p : TProg F L α} {k : α → TProg F L β} {a : α} {b : β}
    (h : Runs d L P p a P') (h' : Runs d L P' (k a) b P'') : Runs d L P (Prog.bind p k) b P'' := by
  unfold Runs at *
  refine BIBase.Entails.trans ?_ (Entails.of_eq (wp_bind ..).symm)
  refine h.trans (wp_mono _ _ _ ?_)
  intro x
  iintro ⟨%hx, H⟩
  subst hx
  iapply h' $$ H

/-- Use: run a piece of the program with the rest of the resources kept. -/
theorem Runs.use {α : Type} {P P' R : sProp 𝕄} {p : TProg F L α} {a : α} {Q : α → sProp 𝕄}
    (h : Runs d L P p a P') (hQ : iprop(P' ∗ R) ⊢ Q a) :
    iprop(P ∗ R) ⊢ wp frame (wpE (defs₀ (F := F)) 𝒱₀ (V d (cV L) (jV L)) none) Set.univ p Q := by
  refine (sep_mono_left h).trans ?_
  refine (wp_frame_r _ _ _).trans (wp_mono _ _ _ ?_)
  intro x
  iintro ⟨⟨%hx, H⟩, HR⟩
  subst hx
  iapply hQ
  isplitl [H] <;> iassumption

/-- A load of sixteen lanes of a row of the row buffer. -/
theorem Runs.ld {α : Type} {P' R : sProp 𝕄} {a : α} {fx : Buf (Elt F) (buf.view.loc (V d (cV L) (jV L)))}
    {fw : S1680.Idx → BitVec 32} {fa : S64x128.Idx → F .f32} {off : Fin 2 → ℕ}
    {inb : ∀ a, off a + S1x16.size a ≤ S125x128.size a} {hl} {k : (S1x16.Idx → F .f32) → TProg F L α}
    (r : Fin 125) (j : Fin 8) (ho : off = ![r.val, 16 * j.val])
    (h : Runs d L (Bufs d L buf R fx fw fa) (k (ldv (buf.view.read (Elt F) fx) r j)) a P') :
    Runs d L (Bufs d L buf R fx fw fa)
      (.op (.load buf (Rect.unit (s := S125x128) off S1x16.size inb).toLoadRect hl) k) a P' := by
  subst ho
  unfold Runs at *
  have hv : buf.view.readAt (Elt F) (Rect.unit (s := S125x128) ![r.val, 16 * j.val] S1x16.size inb).toLoadRect fx
      = ldv (buf.view.read (Elt F) fx) r j := by
    funext z
    rw [View.readAt_apply]
    show _ = buf.view.read (Elt F) fx _
    congr 1
    funext a
    apply Fin.ext
    show _ + 1 * (z a).val = _
    refine Fin.cases ?_ (fun a => Fin.cases ?_ (fun a => a.elim0) a) a
    · have : (z 0).val < 1 := (z 0).isLt
      show r.val + 1 * (z 0).val = r.val
      omega
    · show 16 * j.val + 1 * (z 1).val = 16 * j.val + (z 1).val
      omega
  rw [← hv] at h
  unfold Bufs at *
  iintro ⟨Hx, Hw, Ha, HR⟩
  iapply (wp_load 𝒱₀ (V d (cV L) (jV L)) none Set.univ (S := Finset.univ) (Finset.subset_univ _)) $$ Hx
  iintro Hx
  iapply h
  isplitl [Hx]; · iexact Hx
  isplitl [Hw]; · iexact Hw
  isplitl [Ha]; · iexact Ha
  iexact HR

/-- A store of sixteen lanes of a row of the accumulator. -/
theorem Runs.st {α : Type} {P' R : sProp 𝕄} {a : α} {fx : Buf (Elt F) (buf.view.loc (V d (cV L) (jV L)))}
    {fw : S1680.Idx → BitVec 32} {fa : S64x128.Idx → F .f32} {off : Fin 2 → ℕ}
    {inb : ∀ a, off a + S1x16.size a ≤ S64x128.size a} {hx hm} {k : PUnit → TProg F L α} (g : Fin 128 → F .f32)
    (r : Fin 64) (j : Fin 8) (ho : off = ![r.val, 16 * j.val])
    (h : Runs d L (Bufs d L buf R fx fw (setSeg fa r j g)) (k ⟨⟩) a P') :
    Runs d L (Bufs d L buf R fx fw fa)
      (.op (.store accW (Rect.unit (s := S64x128) off S1x16.size inb) (shapeCast S1x16 (seg g j) shapeCasts_S16_S1x16)
        Finset.univ hx hm) k) a P' := by
  subst ho
  unfold Runs at *
  have hv : ((accW).access (Rect.unit (s := S64x128) ![r.val, 16 * j.val] S1x16.size inb)).write (Elt F) fa
      (shapeCast S1x16 (seg g j) shapeCasts_S16_S1x16) Finset.univ = setSeg fa r j g := by
    funext i
    have e1 : ∀ (f : S64x128.Idx → F .f32) (y : S64x128.Idx), (accW).view.read (Elt F) f y = f y := fun f y => by
      exact congrFun (View.read_whole (Val := Elt F) cc0_scratch5 f) y
    by_cases hi : (i 0).val = r.val ∧ (i 1).val / 16 = j.val
    · have hz : ∃ z : S1x16.Idx, (Rect.unit (s := S64x128) ![r.val, 16 * j.val] S1x16.size inb).emb z = i ∧ lane j (z 1) = i 1 := by
        refine ⟨Fin.cons ⟨0, by decide⟩ (Fin.cons ⟨(i 1).val % 16, Nat.mod_lt _ (by decide)⟩ (fun a => a.elim0)), ?_, ?_⟩
        · funext a; apply Fin.ext
          rw [Rect.emb_apply]
          refine Fin.cases ?_ (fun a => Fin.cases ?_ (fun a => a.elim0) a) a
          · show r.val + 1 * 0 = (i 0).val
            omega
          · show 16 * j.val + 1 * ((i 1).val % 16) = (i 1).val
            omega
        · apply Fin.ext
          show 16 * j.val + (i 1).val % 16 = (i 1).val
          omega
      obtain ⟨z, hz, hl⟩ := hz
      have := View.read_slice_write_emb (v := (accW).view) (Val := Elt F) (Rect.unit (s := S64x128) ![r.val, 16 * j.val] S1x16.size inb) fa
        (shapeCast S1x16 (seg g j) shapeCasts_S16_S1x16) (M := Finset.univ) (Finset.mem_univ z)
      rw [hz, e1] at this
      refine this.trans ?_
      rw [setSeg, if_pos hi, ← hl]
      show g (lane j _) = _
      congr 2
      have key : ∀ z : S1x16.Idx, (Shape.reshapeEquiv shapeCasts_S16_S1x16 z 0).val = (z 1).val := by decide +kernel
      exact Fin.ext (key z)
    · have := View.read_slice_write_of_not_mem (v := (accW).view) (Val := Elt F) (Rect.unit (s := S64x128) ![r.val, 16 * j.val] S1x16.size inb) fa
        (shapeCast S1x16 (seg g j) shapeCasts_S16_S1x16) Finset.univ (y := i) (by
          intro hm
          obtain ⟨z, -, hz⟩ := Finset.mem_map.mp hm
          apply hi
          subst hz
          rw [Rect.emb_apply, Rect.emb_apply]
          have h0 : (z 0).val < 1 := (z 0).isLt
          have h1 : (z 1).val < 16 := (z 1).isLt
          constructor
          · show r.val + 1 * (z 0).val = r.val
            omega
          · show (16 * j.val + 1 * (z 1).val) / 16 = j.val
            omega)
      rw [e1, e1] at this
      refine this.trans ?_
      rw [setSeg, if_neg hi]
  rw [← hv] at h
  unfold Bufs at *
  iintro ⟨Hx, Hw, Ha, HR⟩
  iapply (wp_store (m := accW) (r := Rect.unit (s := S64x128) ![r.val, 16 * j.val] S1x16.size inb) (f := fa) 𝒱₀ (V d (cV L) (jV L)) none Set.univ (S := Finset.univ) (Finset.subset_univ _)) $$ Ha
  iintro Ha
  iapply h
  isplitl [Hx]; · iexact Hx
  isplitl [Hw]; · iexact Hw
  isplitl [Ha]; · iexact Ha
  iexact HR

/-- A load of the accumulator whose value is dropped. -/
theorem Runs.lda {α : Type} {P' R : sProp 𝕄} {a : α} {fx : Buf (Elt F) (buf.view.loc (V d (cV L) (jV L)))}
    {fw : S1680.Idx → BitVec 32} {fa : S64x128.Idx → F .f32} {off : Fin 2 → ℕ}
    {inb : ∀ a, off a + S1x16.size a ≤ S64x128.size a} {hl} {k : (S1x16.Idx → F .f32) → TProg F L α}
    (h : ∀ x, Runs d L (Bufs d L buf R fx fw fa) (k x) a P') :
    Runs d L (Bufs d L buf R fx fw fa)
      (.op (.load accW (Rect.unit (s := S64x128) off S1x16.size inb).toLoadRect hl) k) a P' := by
  unfold Runs at *
  unfold Bufs at *
  iintro ⟨Hx, Hw, Ha, HR⟩
  iapply (wp_load 𝒱₀ (V d (cV L) (jV L)) none Set.univ (S := Finset.univ) (Finset.subset_univ _)) $$ Ha
  iintro Ha
  iapply h
  isplitl [Hx]; · iexact Hx
  isplitl [Hw]; · iexact Hw
  isplitl [Ha]; · iexact Ha
  iexact HR

/-- Position `k` of the batch words' buffer. -/
def wix (k : ℕ) : S1680.Idx := Fin.cons (⟨k % 1680, Nat.mod_lt _ (by decide)⟩ : Fin 1680) (fun a => a.elim0)

/-- The first of sixteen batch words. -/
def word (v : S16.Idx → BitVec 32) : BitVec 32 := extractAt ![0] (extractStridedSlice S1 ![0] v slices_S16_o0_S1) inpos_S1_p0

/-- A load of sixteen batch words, of which the first is used. -/
theorem Runs.ldw {α : Type} {P' R : sProp 𝕄} {a : α} {fx : Buf (Elt F) (buf.view.loc (V d (cV L) (jV L)))}
    {fw : S1680.Idx → BitVec 32} {fa : S64x128.Idx → F .f32} {off : Fin 1 → ℕ}
    {inb : ∀ a, off a + S16.size a ≤ S1680.size a} {hl} {k : (S16.Idx → BitVec 32) → TProg F L α}
    (h : ∀ v, word v = fw (wix (off 0)) →
      Runs d L (Bufs d L buf R fx fw fa) (k v) a P') :
    Runs d L (Bufs d L buf R fx fw fa)
      (.op (.load bbW (Rect.unit (s := S1680) off S16.size inb).toLoadRect hl) k) a P' := by
  have h' := h ((bbW).view.readAt (Elt F) (Rect.unit (s := S1680) off S16.size inb).toLoadRect fw) (by
    unfold word extractAt extractStridedSlice
    rw [View.readAt_apply]
    show fw _ = fw _
    congr 1; funext a; apply Fin.ext
    have h0 : a = (0 : Fin 1) := Subsingleton.elim (α := Fin 1) _ _
    subst h0
    have : off 0 + 16 ≤ 1680 := inb 0
    show off 0 + 1 * 0 = off 0 % 1680
    omega)
  unfold Runs at *
  unfold Bufs at *
  iintro ⟨Hx, Hw, Ha, HR⟩
  iapply (wp_load 𝒱₀ (V d (cV L) (jV L)) none Set.univ (S := Finset.univ) (Finset.subset_univ _)) $$ Hw
  iintro Hw
  iapply h'
  isplitl [Hx]; · iexact Hx
  isplitl [Hw]; · iexact Hw
  isplitl [Ha]; · iexact Ha
  iexact HR

/-- A check that holds. -/
theorem Runs.chk {α : Type} {P P' : sProp 𝕄} {a : α} {C : Prop} {dec : Decidable C} {k : PLift C → TProg F L α}
    (hC : C) (h : Runs d L P (k ⟨hC⟩) a P') : Runs d L P (.op (.assume C dec) k) a P' :=
  BIBase.Entails.trans h (wp_assume 𝒱₀ (V d (cV L) (jV L)) none Set.univ hC)

/-- A counted loop: the carried value and the state after `n` rounds are given by functions of `n`. -/
theorem Runs.loop {σ : Type} {P : ℕ → sProp 𝕄} (l : Scf.Loop 32) (ok : l.OK) (v : ℕ → σ)
    (body : Fin l.trips → σ → TProg F L σ)
    (h : ∀ t : Fin l.trips, Runs d L (P t.val) (body t (v t.val)) (v (t.val + 1)) (P (t.val + 1))) :
    Runs d L (P 0) (Scf.Loop.for l ok (v 0) body) (v l.trips) (P l.trips) := by
  unfold Runs at *
  refine BIBase.Entails.trans ?_ (Scf.wp_for _ _ _ l.lb l.ub l.st ok (v 0) body (fun n a => iprop(⌜a = v n⌝ ∗ P n)) ?_)
  · iintro H
    isplitl [H]
    · isplitr; · ipureintro; rfl
      iexact H
    · iintro %acc H
      iexact H
  · intro t acc
    iintro ⟨%he, H⟩
    subst he
    iapply (h t) $$ H

end Steps

end Cert.Proof.Pool

end
-- ==== Proof.Block.lean ====
/- One block of 125 rows on one tile, written once for the nine places where the kernel's text has it, and what it leaves
   in the accumulator and in the carried row. -/
module

public import proofs.«01_k».proof.Proof.Base

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "accW" => (Memref.whole Cert.KernelIdeal.cc0_scratch5 : Memref Cert.KernelIdeal.sig Kind.scVector Space.vmem Cert.KernelIdeal.S64x128 EltTy.f32)

/-! ## The block's text -/

section Text

variable (L : grid0.Coords) (buf : Memref sig .scVector .vmem S125x128 .f32)

/-- Sixteen lanes of the row buffer. -/
abbrev ldB (off : Fin 2 → ℕ) (inb : ∀ a, off a + S1x16.size a ≤ S125x128.size a) : TProg F L (Vec F S1x16 .f32) :=
  Prog.lift (.load buf (Rect.unit (s := S125x128) off S1x16.size inb).toLoadRect (View.loadsAt_vmem h_S1x16))

/-- Sixteen lanes of the accumulator: read (the value dropped), then written. -/
abbrev stA (off : Fin 2 → ℕ) (inb : ∀ a, off a + S1x16.size a ≤ S64x128.size a) (v : V16 F) : TProg F L PUnit := do
  let _ ← (Prog.lift (.load accW (Rect.unit (s := S64x128) off S1x16.size inb).toLoadRect (View.loadsAt_vmem h_S1x16)) : TProg F L (Vec F S1x16 .f32))
  Prog.lift (.store accW (Rect.unit (s := S64x128) off S1x16.size inb) (shapeCast S1x16 v shapeCasts_S16_S1x16) Finset.univ
    (View.stores_vmem_bits_univ h_S1x16 rfl) (.inl rfl))

/-- The larger of a carried vector and loaded lanes. -/
abbrev mxL (v : V16 F) (x : Vec F S1x16 .f32) : V16 F := maximumf v (shapeCast S16 x shapeCasts_S1x16_S16)

/-- What the first cut after the loop hands on. -/
abbrev Mid (F : FTy → Type) : Type := Σ' (_ : V16 F) (_ : V16 F) (_ : V16 F) (_ : V16 F) (_ : V16 F) (_ : V16 F) (_ : V16 F) (_ : V16 F), Vec F S1x16 .f32

/-- One trip of the loop over the rows `5 t … 5 t + 4`: row `u` of it. -/
def rowU (t : Fin k0_t3_loop.trips) (u : Fin 5) (y : T8 F) : TProg F L (T8 F) := do
  let x0 ← ldB L buf (k0_off14 t (BitVec.ofNat 32 u.val)) (k0_off14_inb t u)
  let x1 ← ldB L buf (k0_off15 t (BitVec.ofNat 32 u.val)) (k0_off15_inb t u)
  let x2 ← ldB L buf (k0_off16 t (BitVec.ofNat 32 u.val)) (k0_off16_inb t u)
  let x3 ← ldB L buf (k0_off17 t (BitVec.ofNat 32 u.val)) (k0_off17_inb t u)
  let x4 ← ldB L buf (k0_off18 t (BitVec.ofNat 32 u.val)) (k0_off18_inb t u)
  let x5 ← ldB L buf (k0_off19 t (BitVec.ofNat 32 u.val)) (k0_off19_inb t u)
  let x6 ← ldB L buf (k0_off20 t (BitVec.ofNat 32 u.val)) (k0_off20_inb t u)
  let x7 ← ldB L buf (k0_off21 t (BitVec.ofNat 32 u.val)) (k0_off21_inb t u)
  pure (mxL y.1 x0, mxL y.2.1 x1, mxL y.2.2.1 x2, mxL y.2.2.2.1 x3, mxL y.2.2.2.2.1 x4, mxL y.2.2.2.2.2.1 x5,
    mxL y.2.2.2.2.2.2.1 x6, mxL y.2.2.2.2.2.2.2 x7)

/-- One trip of that loop. -/
def tripG (t : Fin k0_t3_loop.trips) (y : T8 F) : TProg F L (T8 F) := do
  let y ← rowU L buf t 0 y
  let y ← rowU L buf t 1 y
  let y ← rowU L buf t 2 y
  let y ← rowU L buf t 3 y
  rowU L buf t 4 y

/-- What the cut before the loop hands on. -/
abbrev Mid0 (F : FTy → Type) : Type := Σ' (_ : V16 F) (_ : V16 F) (_ : V16 F) (_ : V16 F) (_ : V16 F) (_ : V16 F) (_ : V16 F) (_ : V16 F) (_ : BitVec 32), BitVec 32

/-- Row 0, on top of the carried row. -/
def headG (sm : IVec S16 1) (ng : V16 F) (c : T8 F) : TProg F L (Mid0 F) := do
  let x0 ← ldB L buf ![0, 0] inb_S125x128_S1x16_0_0
  let x1 ← ldB L buf ![0, 16] inb_S125x128_S1x16_0_16
  let x2 ← ldB L buf ![0, 32] inb_S125x128_S1x16_0_32
  let x3 ← ldB L buf ![0, 48] inb_S125x128_S1x16_0_48
  let x4 ← ldB L buf ![0, 64] inb_S125x128_S1x16_0_64
  let x5 ← ldB L buf ![0, 80] inb_S125x128_S1x16_0_80
  let x6 ← ldB L buf ![0, 96] inb_S125x128_S1x16_0_96
  let x7 ← ldB L buf ![0, 112] inb_S125x128_S1x16_0_112
  pure ⟨mxL (select sm c.1 ng) x0, mxL (select sm c.2.1 ng) x1, mxL (select sm c.2.2.1 ng) x2,
    mxL (select sm c.2.2.2.1 ng) x3, mxL (select sm c.2.2.2.2.1 ng) x4, mxL (select sm c.2.2.2.2.2.1 ng) x5,
    mxL (select sm c.2.2.2.2.2.2.1 ng) x6, mxL (select sm c.2.2.2.2.2.2.2 ng) x7, 1#32, 1#32⟩

/-- The loop, row 1 and the start of row 2. -/
def midA (v0 v1 v2 v3 v4 v5 v6 v7 : V16 F) : TProg F L (Mid F) := do
  let (r0, r1, r2, r3, r4, r5, r6, r7) ← Scf.Loop.for k0_t3_loop k0_t3_ok (v0, v1, v2, v3, v4, v5, v6, v7) (tripG L buf)
  let x0 ← ldB L buf ![1, 0] inb_S125x128_S1x16_1_0
  let x1 ← ldB L buf ![1, 16] inb_S125x128_S1x16_1_16
  let x2 ← ldB L buf ![1, 32] inb_S125x128_S1x16_1_32
  let x3 ← ldB L buf ![1, 48] inb_S125x128_S1x16_1_48
  let x4 ← ldB L buf ![1, 64] inb_S125x128_S1x16_1_64
  let x5 ← ldB L buf ![1, 80] inb_S125x128_S1x16_1_80
  let x6 ← ldB L buf ![1, 96] inb_S125x128_S1x16_1_96
  let x7 ← ldB L buf ![1, 112] inb_S125x128_S1x16_1_112
  let z0 ← ldB L buf ![2, 0] inb_S125x128_S1x16_2_0
  let z1 ← ldB L buf ![2, 16] inb_S125x128_S1x16_2_16
  pure ⟨mxL r1 x1, mxL r2 x2, mxL r3 x3, mxL r4 x4, mxL r5 x5, mxL r6 x6, mxL r7 x7, mxL (mxL r0 x0) z0, z1⟩

/-- The rest of row 2 and the start of row 3. -/
def midB (v1 v2 v3 v4 v5 v6 v7 v0 : V16 F) (z1 : Vec F S1x16 .f32) : TProg F L (Mid F) := do
  let z2 ← ldB L buf ![2, 32] inb_S125x128_S1x16_2_32
  let z3 ← ldB L buf ![2, 48] inb_S125x128_S1x16_2_48
  let z4 ← ldB L buf ![2, 64] inb_S125x128_S1x16_2_64
  let z5 ← ldB L buf ![2, 80] inb_S125x128_S1x16_2_80
  let z6 ← ldB L buf ![2, 96] inb_S125x128_S1x16_2_96
  let z7 ← ldB L buf ![2, 112] inb_S125x128_S1x16_2_112
  let y0 ← ldB L buf ![3, 0] inb_S125x128_S1x16_3_0
  let y1 ← ldB L buf ![3, 16] inb_S125x128_S1x16_3_16
  let y2 ← ldB L buf ![3, 32] inb_S125x128_S1x16_3_32
  let y3 ← ldB L buf ![3, 48] inb_S125x128_S1x16_3_48
  pure ⟨mxL v3 z3, mxL v4 z4, mxL v5 z5, mxL v6 z6, mxL v7 z7, mxL v0 y0, mxL (mxL v1 z1) y1, mxL (mxL v2 z2) y2, y3⟩

/-- The rest of row 3 and the start of row 4. -/
def midC (v3 v4 v5 v6 v7 v0 v1 v2 : V16 F) (y3 : Vec F S1x16 .f32) : TProg F L (Mid F) := do
  let y4 ← ldB L buf ![3, 64] inb_S125x128_S1x16_3_64
  let y5 ← ldB L buf ![3, 80] inb_S125x128_S1x16_3_80
  let y6 ← ldB L buf ![3, 96] inb_S125x128_S1x16_3_96
  let y7 ← ldB L buf ![3, 112] inb_S125x128_S1x16_3_112
  let z0 ← ldB L buf ![4, 0] inb_S125x128_S1x16_4_0
  let z1 ← ldB L buf ![4, 16] inb_S125x128_S1x16_4_16
  let z2 ← ldB L buf ![4, 32] inb_S125x128_S1x16_4_32
  let z3 ← ldB L buf ![4, 48] inb_S125x128_S1x16_4_48
  let z4 ← ldB L buf ![4, 64] inb_S125x128_S1x16_4_64
  let z5 ← ldB L buf ![4, 80] inb_S125x128_S1x16_4_80
  pure ⟨mxL v5 y5, mxL v6 y6, mxL v7 y7, mxL v0 z0, mxL v1 z1, mxL v2 z2, mxL (mxL v3 y3) z3, mxL (mxL v4 y4) z4, z5⟩

/-- The accumulator's row `w` written. -/
def storeG (w w' : BitVec 32) (hw : k0_chk1 w w') (h1 : k0_cond1 w w' = 1#1) (v0 v1 v2 v3 v4 v5 v6 v7 : V16 F) : TProg F L PUnit := do
  stA L (k0_off22 w) (k0_off22_inb w w' hw h1) v0
  stA L (k0_off23 w) (k0_off23_inb w w' hw h1) v1
  stA L (k0_off24 w) (k0_off24_inb w w' hw h1) v2
  stA L (k0_off25 w) (k0_off25_inb w w' hw h1) v3
  stA L (k0_off26 w) (k0_off26_inb w w' hw h1) v4
  stA L (k0_off27 w) (k0_off27_inb w w' hw h1) v5
  stA L (k0_off28 w) (k0_off28_inb w w' hw h1) v6
  stA L (k0_off29 w) (k0_off29_inb w w' hw h1) v7

/-- All rows of the block belong to one graph. -/
def fastG (w w' : BitVec 32) (hw : k0_chk1 w w') (h1 : k0_cond1 w w' = 1#1) (sm : IVec S16 1) (ng : V16 F) (c : T8 F)
    {β : Type} (k : T9 F → TProg F L β) : TProg F L β := do
  let ⟨v0, v1, v2, v3, v4, v5, v6, v7, _, _⟩ ← headG L buf sm ng c
  let ⟨v1, v2, v3, v4, v5, v6, v7, v0, z1⟩ ← midA L buf v0 v1 v2 v3 v4 v5 v6 v7
  let ⟨v3, v4, v5, v6, v7, v0, v1, v2, y3⟩ ← midB L buf v1 v2 v3 v4 v5 v6 v7 v0 z1
  let ⟨v5, v6, v7, v0, v1, v2, v3, v4, z5⟩ ← midC L buf v3 v4 v5 v6 v7 v0 v1 v2 y3
  let z6 ← ldB L buf ![4, 96] inb_S125x128_S1x16_4_96
  let z7 ← ldB L buf ![4, 112] inb_S125x128_S1x16_4_112
  storeG L w w' hw h1 v0 v1 v2 v3 v4 (mxL v5 z5) (mxL v6 z6) (mxL v7 z7)
  k (w, v0, v1, v2, v3, v4, mxL v5 z5, mxL v6 z6, mxL v7 z7)

/-- Row `t` of a block whose rows belong to several graphs. -/
def slowRow (ow : Fin k0_t4_loop.trips → Fin 1 → ℕ) (how : ∀ t a, ow t a + S16.size a ≤ S1680.size a)
    (w w' : BitVec 32) (h1 : ¬ k0_cond1 w w' = 1#1) (ng : V16 F) (t : Fin k0_t4_loop.trips) (c : T9 F) : TProg F L (T9 F) := do
  let wv ← (Prog.lift (.load bbW (Rect.unit (s := S1680) (ow t) S16.size (how t)).toLoadRect (View.loadsAt_vmem h_S16)) : TProg F L (Vec F S16 .i32))
  let s : BitVec 32 := extractAt ![0] (extractStridedSlice S1 ![0] wv slices_S16_o0_S1) inpos_S1_p0
  let hw ← (Prog.lift (TpuEff.assume (k0_chk2 w w' s) (k0_chk2.dec w w' s)) : TProg F L (PLift (k0_chk2 w w' s)))
  let sm : IVec S16 1 := cmpi .eq (broadcast S16 s) (broadcast S16 c.1)
  let x0 ← ldB L buf (k0_off31 t) (k0_off31_inb t)
  let v0 : V16 F := mxL (select sm c.2.1 ng) x0
  stA L (k0_off32 s) (k0_off32_inb w w' s hw.down h1) v0
  let x1 ← ldB L buf (k0_off33 t) (k0_off33_inb t)
  let v1 : V16 F := mxL (select sm c.2.2.1 ng) x1
  stA L (k0_off34 s) (k0_off34_inb w w' s hw.down h1) v1
  let x2 ← ldB L buf (k0_off35 t) (k0_off35_inb t)
  let v2 : V16 F := mxL (select sm c.2.2.2.1 ng) x2
  stA L (k0_off36 s) (k0_off36_inb w w' s hw.down h1) v2
  let x3 ← ldB L buf (k0_off37 t) (k0_off37_inb t)
  let v3 : V16 F := mxL (select sm c.2.2.2.2.1 ng) x3
  stA L (k0_off38 s) (k0_off38_inb w w' s hw.down h1) v3
  let x4 ← ldB L buf (k0_off39 t) (k0_off39_inb t)
  let v4 : V16 F := mxL (select sm c.2.2.2.2.2.1 ng) x4
  stA L (k0_off40 s) (k0_off40_inb w w' s hw.down h1) v4
  let x5 ← ldB L buf (k0_off41 t) (k0_off41_inb t)
  let v5 : V16 F := mxL (select sm c.2.2.2.2.2.2.1 ng) x5
  stA L (k0_off42 s) (k0_off42_inb w w' s hw.down h1) v5
  let x6 ← ldB L buf (k0_off43 t) (k0_off43_inb t)
  let v6 : V16 F := mxL (select sm c.2.2.2.2.2.2.2.1 ng) x6
  stA L (k0_off44 s) (k0_off44_inb w w' s hw.down h1) v6
  let x7 ← ldB L buf (k0_off45 t) (k0_off45_inb t)
  let v7 : V16 F := mxL (select sm c.2.2.2.2.2.2.2.2 ng) x7
  stA L (k0_off46 s) (k0_off46_inb w w' s hw.down h1) v7
  pure (s, v0, v1, v2, v3, v4, v5, v6, v7)

/-- A block and what follows it: the fast path where its first and last row belong to one graph, row by row otherwise. -/
def blockG (ow : Fin k0_t4_loop.trips → Fin 1 → ℕ) (how : ∀ t a, ow t a + S16.size a ≤ S1680.size a)
    (w w' : BitVec 32) (hw : k0_chk1 w w') (ng : V16 F) (c : T9 F) {β : Type} (k : T9 F → TProg F L β) : TProg F L β :=
  if h1 : k0_cond1 w w' = 1#1 then
    fastG L buf w w' hw h1 (cmpi .eq (broadcast S16 w) (broadcast S16 c.1)) ng c.2 k
  else do
    let r ← Scf.Loop.for k0_t4_loop k0_t4_ok c (slowRow L buf ow how w w' h1 ng)
    k r

/-- A block's step and what follows it: its two batch words, their check, its rows. -/
def stepG (o1 o2 : Fin 1 → ℕ) (ho1 : ∀ a, o1 a + S16.size a ≤ S1680.size a) (ho2 : ∀ a, o2 a + S16.size a ≤ S1680.size a)
    (ow : Fin k0_t4_loop.trips → Fin 1 → ℕ) (how : ∀ t a, ow t a + S16.size a ≤ S1680.size a) (ng : V16 F) (c : T9 F)
    {β : Type} (k : T9 F → TProg F L β) : TProg F L β := do
  let wv ← (Prog.lift (.load bbW (Rect.unit (s := S1680) o1 S16.size ho1).toLoadRect (View.loadsAt_vmem h_S16)) : TProg F L (Vec F S16 .i32))
  let w : BitVec 32 := extractAt ![0] (extractStridedSlice S1 ![0] wv slices_S16_o0_S1) inpos_S1_p0
  let wv' ← (Prog.lift (.load bbW (Rect.unit (s := S1680) o2 S16.size ho2).toLoadRect (View.loadsAt_vmem h_S16)) : TProg F L (Vec F S16 .i32))
  let w' : BitVec 32 := extractAt ![0] (extractStridedSlice S1 ![0] wv' slices_S16_o0_S1) inpos_S1_p0
  let hw ← (Prog.lift (TpuEff.assume (k0_chk1 w w') (k0_chk1.dec w w')) : TProg F L (PLift (k0_chk1 w w')))
  blockG L buf ow how w w' hw.down ng c k

end Text

end Cert.Proof.Pool

end
-- ==== Proof.Model.lean ====
/- What one block of 125 rows leaves: the carried row, its graph and the table of maxima, as functions of the rows and the
   batch words. -/
module

public import proofs.«01_k».proof.Proof.Base

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The block as a function -/

/-- Row `r` of a block. -/
def rowN (X : S125x128.Idx → F .f32) (r : ℕ) : Fin 128 → F .f32 := rowOf X ⟨r % 125, Nat.mod_lt _ (by decide)⟩

/-- The running maximum over the rows `a, …, a + n − 1`. -/
def foldR (X : S125x128.Idx → F .f32) (a : ℕ) (g : Fin 128 → F .f32) : ℕ → Fin 128 → F .f32
  | 0 => g
  | n + 1 => mx (foldR X a g n) (rowN X (a + n))

theorem foldR_add (X : S125x128.Idx → F .f32) (a : ℕ) (g : Fin 128 → F .f32) (m n : ℕ) :
    foldR X a g (m + n) = foldR X (a + m) (foldR X a g m) n := by
  induction n with
  | zero => rfl
  | succ n ih => rw [← Nat.add_assoc]; simp only [foldR, ih]; rw [Nat.add_assoc]

/-- The graph carried, its running row, the table. -/
abbrev St (F : FTy → Type) : Type := BitVec 32 × (Fin 128 → F .f32) × (S64x128.Idx → F .f32)

/-- The table's row of a graph. -/
def gr (w : BitVec 32) : Fin 64 := ⟨w.toNat % 64, Nat.mod_lt _ (by decide)⟩

/-- One row, its graph `s`. -/
def stepS (ng : F .f32) (s : BitVec 32) (x : Fin 128 → F .f32) (st : St F) : St F :=
  (s, mx (carry (s = st.1) ng st.2.1) x, setRow st.2.2 (gr s) (mx (carry (s = st.1) ng st.2.1) x))

/-- Row by row: the first `n` rows. -/
def slowS (ng : F .f32) (wd : ℕ → BitVec 32) (X : S125x128.Idx → F .f32) (st : St F) : ℕ → St F
  | 0 => st
  | n + 1 => stepS ng (wd n) (rowN X n) (slowS ng wd X st n)

/-- All rows of one graph `w`: row 0, then rows 5 to 124, then rows 1 to 4. -/
def fastS (ng : F .f32) (w : BitVec 32) (X : S125x128.Idx → F .f32) (st : St F) : St F :=
  let g := foldR X 1 (foldR X 5 (foldR X 0 (carry (w = st.1) ng st.2.1) 1) 120) 4
  (w, g, setRow st.2.2 (gr w) g)

/-- The row a block of one graph leaves, written out around its loop. -/
def fastRow (ng : F .f32) (w : BitVec 32) (X : S125x128.Idx → F .f32) (st : St F) : Fin 128 → F .f32 :=
  mx (mx (mx (mx (foldR X 5 (mx (carry (w = st.1) ng st.2.1) (rowOf X 0)) 120) (rowOf X 1)) (rowOf X 2)) (rowOf X 3)) (rowOf X 4)

theorem fastS_eq (ng : F .f32) (w : BitVec 32) (X : S125x128.Idx → F .f32) (st : St F) :
    fastS ng w X st = (w, fastRow ng w X st, setRow st.2.2 (gr w) (fastRow ng w X st)) := by
  rfl

/-- A block whose batch words are `wd 0, …, wd 124`. -/
def blockS (ng : F .f32) (wd : ℕ → BitVec 32) (X : S125x128.Idx → F .f32) (st : St F) : St F :=
  if wd 0 = wd 124 then fastS ng (wd 0) X st else slowS ng wd X st 125

end Cert.Proof.Pool

end
-- ==== Proof.BlockRun.lean ====
/- One block of 125 rows run: from the row buffer, the batch words and the accumulator to what the block's function says. -/
module

public import proofs.«01_k».proof.Proof.Block
public import proofs.«01_k».proof.Proof.Model

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "accW" => (Memref.whole Cert.KernelIdeal.cc0_scratch5 : Memref Cert.KernelIdeal.sig Kind.scVector Space.vmem Cert.KernelIdeal.S64x128 EltTy.f32)

section Run

variable {d : Dev nD} {L : grid0.Coords} {R : sProp (MT nD τ sig (SparseCore.Cfg.HIx 1) (Elt F) ℕ UU ℕ)} {buf : Memref sig .scVector .vmem S125x128 .f32}
  {fx : Buf (Elt F) (buf.view.loc (V d (cV L) (jV L)))} {fw : S1680.Idx → BitVec 32} {fa : S64x128.Idx → F .f32}

theorem Runs.ret' {α : Type} {P : sProp (MT nD τ sig (SparseCore.Cfg.HIx 1) (Elt F) ℕ UU ℕ)} {a b : α} (h : b = a) : Runs d L P (Prog.ret b) a P := by
  subst h; exact Runs.ret

local notation "RX" => buf.view.read (Elt F) fx

theorem mxL_seg (g : Fin 128 → F .f32) (j : Fin 8) (X : S125x128.Idx → F .f32) (r : Fin 125) :
    mxL (seg g j) (ldv X r j) = seg (mx g (rowOf X r)) j := by
  show maximumf _ _ = _
  rw [cast_ldv, maximumf_seg]

theorem run_head (w s : BitVec 32) (ng : F .f32) (g : Fin 128 → F .f32) :
    Runs d L (Bufs d L buf R fx fw fa) (headG L buf (cmpi .eq (broadcast S16 w) (broadcast S16 s)) (broadcast S16 ng) (tup g))
      ⟨seg (mx (carry (w = s) ng g) (rowOf RX 0)) 0, seg (mx (carry (w = s) ng g) (rowOf RX 0)) 1,
        seg (mx (carry (w = s) ng g) (rowOf RX 0)) 2, seg (mx (carry (w = s) ng g) (rowOf RX 0)) 3,
        seg (mx (carry (w = s) ng g) (rowOf RX 0)) 4, seg (mx (carry (w = s) ng g) (rowOf RX 0)) 5,
        seg (mx (carry (w = s) ng g) (rowOf RX 0)) 6, seg (mx (carry (w = s) ng g) (rowOf RX 0)) 7, 1#32, 1#32⟩
      (Bufs d L buf R fx fw fa) := by
  refine Runs.ld 0 0 rfl ?_
  refine Runs.ld 0 1 rfl ?_
  refine Runs.ld 0 2 rfl ?_
  refine Runs.ld 0 3 rfl ?_
  refine Runs.ld 0 4 rfl ?_
  refine Runs.ld 0 5 rfl ?_
  refine Runs.ld 0 6 rfl ?_
  refine Runs.ld 0 7 rfl ?_
  exact Runs.ret' (by simp only [tup, select_seg, mxL_seg])

theorem run_row (t : Fin k0_t3_loop.trips) (u : Fin 5) (g : Fin 128 → F .f32) :
    Runs d L (Bufs d L buf R fx fw fa) (rowU L buf t u (tup g)) (tup (mx g (rowN RX (5 + (5 * t.val + u.val))))) (Bufs d L buf R fx fw fa) := by
  have ht : t.val < 24 := t.isLt
  have hr : 5 * t.val + u.val + 5 < 125 := by omega
  refine Runs.ld ⟨5 * t.val + u.val + 5, hr⟩ 0 (k0_off14_eq t u) ?_
  refine Runs.ld ⟨5 * t.val + u.val + 5, hr⟩ 1 (k0_off15_eq t u) ?_
  refine Runs.ld ⟨5 * t.val + u.val + 5, hr⟩ 2 (k0_off16_eq t u) ?_
  refine Runs.ld ⟨5 * t.val + u.val + 5, hr⟩ 3 (k0_off17_eq t u) ?_
  refine Runs.ld ⟨5 * t.val + u.val + 5, hr⟩ 4 (k0_off18_eq t u) ?_
  refine Runs.ld ⟨5 * t.val + u.val + 5, hr⟩ 5 (k0_off19_eq t u) ?_
  refine Runs.ld ⟨5 * t.val + u.val + 5, hr⟩ 6 (k0_off20_eq t u) ?_
  refine Runs.ld ⟨5 * t.val + u.val + 5, hr⟩ 7 (k0_off21_eq t u) ?_
  have e : rowN RX (5 + (5 * t.val + u.val)) = rowOf RX ⟨5 * t.val + u.val + 5, hr⟩ := by
    unfold rowN; congr 1; apply Fin.ext
    show (5 + (5 * t.val + u.val)) % 125 = 5 * t.val + u.val + 5
    omega
  exact Runs.ret' (by rw [e]; simp only [tup, mxL_seg])

theorem run_trip (t : Fin k0_t3_loop.trips) (g : Fin 128 → F .f32) :
    Runs d L (Bufs d L buf R fx fw fa) (tripG L buf t (tup (foldR RX 5 g (5 * t.val)))) (tup (foldR RX 5 g (5 * (t.val + 1))))
      (Bufs d L buf R fx fw fa) := by
  refine Runs.bind (run_row t 0 _) ?_
  refine Runs.bind (run_row t 1 _) ?_
  refine Runs.bind (run_row t 2 _) ?_
  refine Runs.bind (run_row t 3 _) ?_
  exact run_row t 4 _

theorem run_loop (g : Fin 128 → F .f32) :
    Runs d L (Bufs d L buf R fx fw fa) (Scf.Loop.for k0_t3_loop k0_t3_ok (tup g) (tripG L buf)) (tup (foldR RX 5 g 120)) (Bufs d L buf R fx fw fa) :=
  Runs.loop (P := fun _ => Bufs d L buf R fx fw fa) k0_t3_loop k0_t3_ok (fun n => tup (foldR RX 5 g (5 * n))) (tripG L buf)
    (fun t => run_trip t g)

theorem run_midA (g : Fin 128 → F .f32) :
    Runs d L (Bufs d L buf R fx fw fa) (midA L buf (seg g 0) (seg g 1) (seg g 2) (seg g 3) (seg g 4) (seg g 5) (seg g 6) (seg g 7))
      (let h := mx (foldR RX 5 g 120) (rowOf RX 1); ⟨seg h 1, seg h 2, seg h 3, seg h 4, seg h 5, seg h 6, seg h 7, seg (mx h (rowOf RX 2)) 0, ldv RX 2 1⟩)
      (Bufs d L buf R fx fw fa) := by
  refine Runs.bind (run_loop g) ?_
  refine Runs.ld 1 0 rfl ?_
  refine Runs.ld 1 1 rfl ?_
  refine Runs.ld 1 2 rfl ?_
  refine Runs.ld 1 3 rfl ?_
  refine Runs.ld 1 4 rfl ?_
  refine Runs.ld 1 5 rfl ?_
  refine Runs.ld 1 6 rfl ?_
  refine Runs.ld 1 7 rfl ?_
  refine Runs.ld 2 0 rfl ?_
  refine Runs.ld 2 1 rfl ?_
  exact Runs.ret' (by simp only [mxL_seg])

theorem run_midB (h : Fin 128 → F .f32) :
    Runs d L (Bufs d L buf R fx fw fa) (midB L buf (seg h 1) (seg h 2) (seg h 3) (seg h 4) (seg h 5) (seg h 6) (seg h 7) (seg (mx h (rowOf RX 2)) 0) (ldv RX 2 1))
      (let h := mx h (rowOf RX 2); ⟨seg h 3, seg h 4, seg h 5, seg h 6, seg h 7, seg (mx h (rowOf RX 3)) 0, seg (mx h (rowOf RX 3)) 1, seg (mx h (rowOf RX 3)) 2, ldv RX 3 3⟩)
      (Bufs d L buf R fx fw fa) := by
  refine Runs.ld 2 2 rfl ?_
  refine Runs.ld 2 3 rfl ?_
  refine Runs.ld 2 4 rfl ?_
  refine Runs.ld 2 5 rfl ?_
  refine Runs.ld 2 6 rfl ?_
  refine Runs.ld 2 7 rfl ?_
  refine Runs.ld 3 0 rfl ?_
  refine Runs.ld 3 1 rfl ?_
  refine Runs.ld 3 2 rfl ?_
  refine Runs.ld 3 3 rfl ?_
  exact Runs.ret' (by simp only [mxL_seg])

theorem run_midC (h : Fin 128 → F .f32) :
    Runs d L (Bufs d L buf R fx fw fa) (midC L buf (seg h 3) (seg h 4) (seg h 5) (seg h 6) (seg h 7) (seg (mx h (rowOf RX 3)) 0) (seg (mx h (rowOf RX 3)) 1)
        (seg (mx h (rowOf RX 3)) 2) (ldv RX 3 3))
      (let h := mx h (rowOf RX 3); let h' := mx h (rowOf RX 4); ⟨seg h 5, seg h 6, seg h 7, seg h' 0, seg h' 1, seg h' 2, seg h' 3, seg h' 4, ldv RX 4 5⟩)
      (Bufs d L buf R fx fw fa) := by
  refine Runs.ld 3 4 rfl ?_
  refine Runs.ld 3 5 rfl ?_
  refine Runs.ld 3 6 rfl ?_
  refine Runs.ld 3 7 rfl ?_
  refine Runs.ld 4 0 rfl ?_
  refine Runs.ld 4 1 rfl ?_
  refine Runs.ld 4 2 rfl ?_
  refine Runs.ld 4 3 rfl ?_
  refine Runs.ld 4 4 rfl ?_
  refine Runs.ld 4 5 rfl ?_
  exact Runs.ret' (by simp only [mxL_seg])

/-- Eight stores of a row's lanes. -/
theorem run_store {w w' : BitVec 32} {hw : k0_chk1 w w'} {h1 : k0_cond1 w w' = 1#1} (hr : w.toNat < 64) (g : Fin 128 → F .f32) :
    Runs d L (Bufs d L buf R fx fw fa) (storeG L w w' hw h1 (seg g 0) (seg g 1) (seg g 2) (seg g 3) (seg g 4) (seg g 5) (seg g 6) (seg g 7))
      ⟨⟩ (Bufs d L buf R fx fw (setRow fa (gr w) g)) := by
  have e : w.toNat = (gr w).val := by show _ = w.toNat % 64; omega
  rw [← setSeg_all]
  refine Runs.lda fun _ => ?_
  refine Runs.st g (gr w) 0 (by rw [← e]; rfl) ?_
  refine Runs.lda fun _ => ?_
  refine Runs.st g (gr w) 1 (by rw [← e]; rfl) ?_
  refine Runs.lda fun _ => ?_
  refine Runs.st g (gr w) 2 (by rw [← e]; rfl) ?_
  refine Runs.lda fun _ => ?_
  refine Runs.st g (gr w) 3 (by rw [← e]; rfl) ?_
  refine Runs.lda fun _ => ?_
  refine Runs.st g (gr w) 4 (by rw [← e]; rfl) ?_
  refine Runs.lda fun _ => ?_
  refine Runs.st g (gr w) 5 (by rw [← e]; rfl) ?_
  refine Runs.lda fun _ => ?_
  refine Runs.st g (gr w) 6 (by rw [← e]; rfl) ?_
  refine Runs.lda fun _ => ?_
  refine Runs.st g (gr w) 7 (by rw [← e]; rfl) ?_
  exact Runs.ret

theorem run_fast {β : Type} {P : sProp (MT nD τ sig (SparseCore.Cfg.HIx 1) (Elt F) ℕ UU ℕ)} {b : β} {w w' : BitVec 32} {hw : k0_chk1 w w'} {h1 : k0_cond1 w w' = 1#1} (hr : w.toNat < 64)
    (ng : F .f32) (st : St F) {k : T9 F → TProg F L β}
    (hk : Runs d L (Bufs d L buf R fx fw (fastS ng w RX st).2.2) (k (w, tup (fastS ng w RX st).2.1)) b P) :
    Runs d L (Bufs d L buf R fx fw st.2.2)
      (fastG L buf w w' hw h1 (cmpi .eq (broadcast S16 w) (broadcast S16 st.1)) (broadcast S16 ng) (tup st.2.1) k) b P := by
  have e : fastS ng w RX st = (w, fastRow ng w RX st, setRow st.2.2 (gr w) (fastRow ng w RX st)) := fastS_eq ng w RX st
  rw [e] at hk
  unfold fastRow at hk
  generalize hg : mx (carry (w = st.1) ng st.2.1) (rowOf RX 0) = g at hk
  refine Runs.bind (run_head w st.1 ng st.2.1) ?_
  rw [hg]
  refine Runs.bind (run_midA g) ?_
  generalize hh : mx (foldR RX 5 g 120) (rowOf RX 1) = h at hk
  refine Runs.bind (run_midB h) ?_
  refine Runs.bind (run_midC (mx h (rowOf RX 2))) ?_
  refine Runs.ld 4 6 rfl ?_
  refine Runs.ld 4 7 rfl ?_
  have hs := run_store (d := d) (L := L) (buf := buf) (R := R) (fx := fx) (fw := fw) (fa := st.2.2) (w := w) (w' := w') (hw := hw) (h1 := h1) hr
    (mx (mx (mx h (rowOf RX 2)) (rowOf RX 3)) (rowOf RX 4))
  dsimp only [tup] at hk
  rw [← mxL_seg _ 5, ← mxL_seg _ 6, ← mxL_seg _ 7] at hs hk
  have hb := Runs.bind (k := fun _ => k _) hs hk
  exact hb

theorem chk1 {w w' : BitVec 32} (hr : w.toNat < 64) : k0_chk1 w w' := by
  refine ⟨?_, ?_, ?_, ?_, ?_, ?_, ?_, ?_⟩ <;> intro _ a <;> fin_cases a <;> first | (show w.toNat + 1 ≤ 64; omega) | exact Nat.le_of_ble_eq_true rfl

/-- A store of a vector known to be a row's lanes. -/
theorem Runs.st' {α : Type} {P' : sProp (MT nD τ sig (SparseCore.Cfg.HIx 1) (Elt F) ℕ UU ℕ)} {a : α} {off : Fin 2 → ℕ}
    {inb : ∀ a, off a + S1x16.size a ≤ S64x128.size a} {hx hm} {k : PUnit → TProg F L α} {v : V16 F} (g : Fin 128 → F .f32)
    (r : Fin 64) (j : Fin 8) (ho : off = ![r.val, 16 * j.val]) (hv : v = seg g j)
    (h : Runs d L (Bufs d L buf R fx fw (setSeg fa r j g)) (k ⟨⟩) a P') :
    Runs d L (Bufs d L buf R fx fw fa)
      (.op (.store accW (Rect.unit (s := S64x128) off S1x16.size inb) (shapeCast S1x16 v shapeCasts_S16_S1x16)
        Finset.univ hx hm) k) a P' := by
  subst hv; exact Runs.st g r j ho h

theorem run_slowRow {ow : Fin k0_t4_loop.trips → Fin 1 → ℕ} {how : ∀ t a, ow t a + S16.size a ≤ S1680.size a} {w w' : BitVec 32}
    {h1 : ¬ k0_cond1 w w' = 1#1} (ng : F .f32) (t : Fin k0_t4_loop.trips) (hr : (fw (wix (ow t 0))).toNat < 64) (st : St F) :
    Runs d L (Bufs d L buf R fx fw st.2.2) (slowRow L buf ow how w w' h1 (broadcast S16 ng) t (st.1, tup st.2.1))
      ((stepS ng (fw (wix (ow t 0))) (rowN RX t.val) st).1, tup (stepS ng (fw (wix (ow t 0))) (rowN RX t.val) st).2.1)
      (Bufs d L buf R fx fw (stepS ng (fw (wix (ow t 0))) (rowN RX t.val) st).2.2) := by
  refine Runs.ldw fun v hv => ?_
  rw [← hv] at hr ⊢
  have ht : t.val < 125 := t.isLt
  have e : (word v).toNat = (gr (word v)).val := by show _ = (word v).toNat % 64; omega
  have er : rowN RX t.val = rowOf RX ⟨t.val, ht⟩ := by
    unfold rowN; congr 1; apply Fin.ext
    show t.val % 125 = t.val
    omega
  have hC : k0_chk2 w w' (word v) := by
    refine ⟨?_, ?_, ?_, ?_, ?_, ?_, ?_, ?_⟩ <;> intro _ a <;> fin_cases a <;> first | (show (word v).toNat + 1 ≤ 64; omega) | exact Nat.le_of_ble_eq_true rfl
  refine Runs.chk hC ?_
  unfold stepS
  rw [← setSeg_all, er]
  simp only [tup, select_seg]
  refine Runs.ld ⟨t.val, ht⟩ 0 (k0_off31_eq t) ?_
  refine Runs.lda fun _ => ?_
  refine Runs.st' (mx (carry (word v = st.1) ng st.2.1) (rowOf RX ⟨t.val, ht⟩)) (gr (word v)) 0 (by rw [← e]; rfl) (mxL_seg _ _ _ _) ?_
  refine Runs.ld ⟨t.val, ht⟩ 1 (k0_off33_eq t) ?_
  refine Runs.lda fun _ => ?_
  refine Runs.st' (mx (carry (word v = st.1) ng st.2.1) (rowOf RX ⟨t.val, ht⟩)) (gr (word v)) 1 (by rw [← e]; rfl) (mxL_seg _ _ _ _) ?_
  refine Runs.ld ⟨t.val, ht⟩ 2 (k0_off35_eq t) ?_
  refine Runs.lda fun _ => ?_
  refine Runs.st' (mx (carry (word v = st.1) ng st.2.1) (rowOf RX ⟨t.val, ht⟩)) (gr (word v)) 2 (by rw [← e]; rfl) (mxL_seg _ _ _ _) ?_
  refine Runs.ld ⟨t.val, ht⟩ 3 (k0_off37_eq t) ?_
  refine Runs.lda fun _ => ?_
  refine Runs.st' (mx (carry (word v = st.1) ng st.2.1) (rowOf RX ⟨t.val, ht⟩)) (gr (word v)) 3 (by rw [← e]; rfl) (mxL_seg _ _ _ _) ?_
  refine Runs.ld ⟨t.val, ht⟩ 4 (k0_off39_eq t) ?_
  refine Runs.lda fun _ => ?_
  refine Runs.st' (mx (carry (word v = st.1) ng st.2.1) (rowOf RX ⟨t.val, ht⟩)) (gr (word v)) 4 (by rw [← e]; rfl) (mxL_seg _ _ _ _) ?_
  refine Runs.ld ⟨t.val, ht⟩ 5 (k0_off41_eq t) ?_
  refine Runs.lda fun _ => ?_
  refine Runs.st' (mx (carry (word v = st.1) ng st.2.1) (rowOf RX ⟨t.val, ht⟩)) (gr (word v)) 5 (by rw [← e]; rfl) (mxL_seg _ _ _ _) ?_
  refine Runs.ld ⟨t.val, ht⟩ 6 (k0_off43_eq t) ?_
  refine Runs.lda fun _ => ?_
  refine Runs.st' (mx (carry (word v = st.1) ng st.2.1) (rowOf RX ⟨t.val, ht⟩)) (gr (word v)) 6 (by rw [← e]; rfl) (mxL_seg _ _ _ _) ?_
  refine Runs.ld ⟨t.val, ht⟩ 7 (k0_off45_eq t) ?_
  refine Runs.lda fun _ => ?_
  refine Runs.st' (mx (carry (word v = st.1) ng st.2.1) (rowOf RX ⟨t.val, ht⟩)) (gr (word v)) 7 (by rw [← e]; rfl) (mxL_seg _ _ _ _) ?_
  exact Runs.ret' (by simp only [mxL_seg]; rfl)

/-- A block, and what follows it. -/
theorem run_block {β : Type} {P : sProp (MT nD τ sig (SparseCore.Cfg.HIx 1) (Elt F) ℕ UU ℕ)} {b : β} {ow : Fin k0_t4_loop.trips → Fin 1 → ℕ} {how : ∀ t a, ow t a + S16.size a ≤ S1680.size a}
    {w w' : BitVec 32} {hw : k0_chk1 w w'} (o : ℕ) (how' : ∀ t, ow t 0 = o + t.val) (ew : w = fw (wix o)) (ew' : w' = fw (wix (o + 124)))
    (hr : ∀ n < 125, (fw (wix (o + n))).toNat < 64) (ng : F .f32) (st : St F) {k : T9 F → TProg F L β}
    (hk : Runs d L (Bufs d L buf R fx fw (blockS ng (fun n => fw (wix (o + n))) RX st).2.2)
      (k ((blockS ng (fun n => fw (wix (o + n))) RX st).1, tup (blockS ng (fun n => fw (wix (o + n))) RX st).2.1)) b P) :
    Runs d L (Bufs d L buf R fx fw st.2.2) (blockG L buf ow how w w' hw (broadcast S16 ng) (st.1, tup st.2.1) k) b P := by
  subst ew; subst ew'
  have hc : k0_cond1 (fw (wix o)) (fw (wix (o + 124))) = 1#1 ↔ fw (wix o) = fw (wix (o + 124)) := by
    generalize fw (wix o) = a
    generalize fw (wix (o + 124)) = c
    show BitVec.ofBool (BitVec.setWidth 32 (BitVec.ofBool (a == c)) != 0#32) = 1#1 ↔ _
    by_cases h : a = c
    · subst h; simp
    · have : (a == c) = false := by simpa using h
      rw [this]; simp [h]
  unfold blockG
  by_cases h : fw (wix o) = fw (wix (o + 124))
  · rw [dif_pos (hc.mpr h)]
    have e : blockS ng (fun n => fw (wix (o + n))) RX st = fastS ng (fw (wix o)) RX st := if_pos h
    rw [e] at hk
    exact run_fast (hr 0 (by decide)) ng st hk
  · rw [dif_neg (fun h' => h (hc.mp h'))]
    have e : blockS ng (fun n => fw (wix (o + n))) RX st = slowS ng (fun n => fw (wix (o + n))) RX st 125 := if_neg h
    rw [e] at hk
    refine Runs.bind (Runs.loop (P := fun n => Bufs d L buf R fx fw (slowS ng (fun n => fw (wix (o + n))) RX st n).2.2) k0_t4_loop k0_t4_ok
      (fun n => ((slowS ng (fun n => fw (wix (o + n))) RX st n).1, tup (slowS ng (fun n => fw (wix (o + n))) RX st n).2.1)) _ (fun t => ?_)) hk
    have := run_slowRow (d := d) (L := L) (buf := buf) (R := R) (fx := fx) (fw := fw) (ow := ow) (how := how) (w := fw (wix o)) (w' := fw (wix (o + 124)))
      (h1 := fun h' => h (hc.mp h')) ng t (by rw [how']; exact hr _ t.isLt) (slowS ng (fun n => fw (wix (o + n))) RX st t.val)
    rw [how'] at this
    exact this

/-- A block with its two words' loads and their check, and what follows it. -/
theorem run_step {β : Type} {P : sProp (MT nD τ sig (SparseCore.Cfg.HIx 1) (Elt F) ℕ UU ℕ)} {b : β} {o1 o2 : Fin 1 → ℕ} {ho1 : ∀ a, o1 a + S16.size a ≤ S1680.size a} {ho2 : ∀ a, o2 a + S16.size a ≤ S1680.size a}
    {ow : Fin k0_t4_loop.trips → Fin 1 → ℕ} {how : ∀ t a, ow t a + S16.size a ≤ S1680.size a}
    (o : ℕ) (h1 : o1 0 = o) (h2 : o2 0 = o + 124) (how' : ∀ t, ow t 0 = o + t.val)
    (hr : ∀ n < 125, (fw (wix (o + n))).toNat < 64) (ng : F .f32) (st : St F) {k : T9 F → TProg F L β}
    (hk : Runs d L (Bufs d L buf R fx fw (blockS ng (fun n => fw (wix (o + n))) RX st).2.2)
      (k ((blockS ng (fun n => fw (wix (o + n))) RX st).1, tup (blockS ng (fun n => fw (wix (o + n))) RX st).2.1)) b P) :
    Runs d L (Bufs d L buf R fx fw st.2.2) (stepG L buf o1 o2 ho1 ho2 ow how (broadcast S16 ng) (st.1, tup st.2.1) k) b P := by
  refine Runs.ldw fun v hv => ?_
  refine Runs.ldw fun v' hv' => ?_
  rw [h1] at hv
  rw [h2] at hv'
  refine Runs.chk (chk1 (by
    show (word v).toNat < 64
    rw [hv]; exact hr 0 (by decide))) ?_
  exact run_block o how' hv hv' hr ng st hk

end Run

end Cert.Proof.Pool

end
-- ==== Proof.Text.lean ====
/- The tile's text with its nine blocks named. -/
module

public import proofs.«01_k».proof.Proof.Block

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

/-- Start a fetch of the block at `off` into a row buffer. -/
abbrev enqB (off : Fin 2 → ℕ) (inb : ∀ a, off a + S125x128.size a ≤ S100000x128.size a) (buf : Memref sig .scVector .vmem S125x128 .f32)
    (hb : buf.IsWhole) (sem : DmaSems sig S_) : TProg F L PUnit :=
  Prog.lift (.enqueueDma ((xW).slice (Rect.unit (s := S100000x128) off S125x128.size inb) (fun _ => rfl)) (.here buf) (.dma sem.sem)
    (View.wordExact_bits rfl) hb.wordExact ⟨Or.inl rfl, trivial⟩)

/-- Wait for it. -/
abbrev waitB (off : Fin 2 → ℕ) (inb : ∀ a, off a + S125x128.size a ≤ S100000x128.size a) (buf : Memref sig .scVector .vmem S125x128 .f32)
    (hb : buf.IsWhole) (sem : DmaSems sig S_) : TProg F L PUnit :=
  Prog.lift (.waitDma2 sem.sem ((xW).slice (Rect.unit (s := S100000x128) off S125x128.size inb) (fun _ => rfl)) buf
    (View.wordExact_bits rfl) hb.wordExact)

/-- Sixteen batch words. -/
abbrev ldW (off : Fin 1 → ℕ) (inb : ∀ a, off a + S16.size a ≤ S1680.size a) : TProg F L (Vec F S16 .i32) :=
  Prog.lift (.load bbW (Rect.unit (s := S1680) off S16.size inb).toLoadRect (View.loadsAt_vmem h_S16))

/-- A carried row handed on by a cut, with what else it hands on. -/
abbrev Out (F : FTy → Type) (β : Type) : Type := Σ' (_ : BitVec 32) (_ : V16 F) (_ : V16 F) (_ : V16 F) (_ : V16 F) (_ : V16 F) (_ : V16 F) (_ : V16 F) (_ : V16 F), β

abbrev Out' (F : FTy → Type) : Type := Σ' (_ : BitVec 32) (_ : V16 F) (_ : V16 F) (_ : V16 F) (_ : V16 F) (_ : V16 F) (_ : V16 F) (_ : V16 F), V16 F

def p33 (ng : V16 F) (t : Fin k0_t2_loop.trips) (c : T9 F) : TProg F L (Σ' (_ : BitVec 32), Out F (Σ' (_ : BitVec 32), BitVec 32)) := do
  waitB L (k0_off11 L t) (k0_off11_inb L t) b0W (Memref.isWhole_whole _) cc0_scratch6
  stepG L b0W (k0_off12 L t) (k0_off13 L t) (k0_off12_inb L t) (k0_off13_inb L t) (k0_off30 L t) (k0_off30_inb L t) ng c fun r => do
    enqB L (k0_off47 L t) (k0_off47_inb L t) b0W (Memref.isWhole_whole _) cc0_scratch6
    waitB L (k0_off48 L t) (k0_off48_inb L t) b1W (Memref.isWhole_whole _) cc0_scratch7
    pure ⟨Scf.iv 0#32 1#32 t, r.1, r.2.1, r.2.2.1, r.2.2.2.1, r.2.2.2.2.1, r.2.2.2.2.2.1, r.2.2.2.2.2.2.1, r.2.2.2.2.2.2.2.1, r.2.2.2.2.2.2.2.2,
      Scalar.addi (Scalar.muli (Scf.iv 0#32 1#32 t) 4#32) 1#32, 125#32⟩

set_option maxHeartbeats 4000000 in
theorem p33_eq (v2 v21 : BitVec 32) (ng : V16 F) (t : Fin k0_t2_loop.trips) (a0 : BitVec 32) (a1 a2 a3 a4 a5 a6 a7 a8 : V16 F) :
    k0_part33 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng 0#32 1#32 t a0 a1 a2 a3 a4 a5 a6 a7 a8
      = p33 L ng t (a0, a1, a2, a3, a4, a5, a6, a7, a8) := by
  rfl

end Text

end Cert.Proof.Pool

end
-- ==== Proof.Text4.lean ====
/- The blocks after the tile's loop, named. -/
module

public import proofs.«01_k».proof.Proof.Text

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

def p78 (ng : V16 F) (v21 : BitVec 32) (c : T9 F) (w w' : BitVec 32) (hw : k0_chk1 w w') : TProg F L (Out F (Σ' (_ : BitVec 32) (_ : BitVec 32), BitVec 32)) :=
  blockG L b0W (k0_off177 L) (k0_off177_inb L) w w' hw ng c fun r => do
    enqB L (k0_off194 L 1500#32) (k0_off194_inb L 1) b0W (Memref.isWhole_whole _) cc0_scratch6
    waitB L (k0_off194 L 1125#32) (k0_off194_inb L 0) b1W (Memref.isWhole_whole _) cc0_scratch7
    stepG L b1W (k0_off195 L) (k0_off196 L) (k0_off195_inb L) (k0_off196_inb L) (k0_off213 L) (k0_off213_inb L) ng r fun r => do
      waitB L (k0_off230 L) (k0_off230_inb L) b2W (Memref.isWhole_whole _) cc0_scratch8
      let v ← ldW L (k0_off231 L) (k0_off231_inb L)
      let v' ← ldW L (k0_off232 L) (k0_off232_inb L)
      pure ⟨r.1, r.2.1, r.2.2.1, r.2.2.2.1, r.2.2.2.2.1, r.2.2.2.2.2.1, r.2.2.2.2.2.2.1, r.2.2.2.2.2.2.2.1, r.2.2.2.2.2.2.2.2, Scalar.addi v21 1250#32, word v, word v'⟩

set_option maxHeartbeats 4000000 in
theorem p78_eq (v2 v21 : BitVec 32) (ng : V16 F) (a0 : BitVec 32) (a1 a2 a3 a4 a5 a6 a7 a8 : V16 F) (v42 w w' : BitVec 32) (hw : k0_chk9 w w') :
    k0_part78 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng a0 a1 a2 a3 a4 a5 a6 a7 a8 v42 w w' hw
        (cmpi .eq (broadcast S16 w) (broadcast S16 a0)) (Scalar.extui (Scalar.cmpi .eq w w')) 0#32
      = p78 L ng v21 (a0, a1, a2, a3, a4, a5, a6, a7, a8) w w' hw := by
  rfl

end Text

end Cert.Proof.Pool

end
-- ==== Proof.Text5.lean ====
/- The blocks after those, named. -/
module

public import proofs.«01_k».proof.Proof.Text

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

def p79 (ng : V16 F) (v21 : BitVec 32) (c : T9 F) (w w' : BitVec 32) : TProg F L (Out F (Σ' (_ : BitVec 32) (_ : BitVec 32), BitVec 32)) := do
  let hw ← (Prog.lift (TpuEff.assume (k0_chk1 w w') (k0_chk1.dec w w')) : TProg F L (PLift (k0_chk1 w w')))
  blockG L b2W (k0_off249 L) (k0_off249_inb L) w w' hw.down ng c fun r => do
    waitB L (k0_off266 L) (k0_off266_inb L) b3W (Memref.isWhole_whole _) cc0_scratch9
    stepG L b3W (k0_off267 L) (k0_off268 L) (k0_off267_inb L) (k0_off268_inb L) (k0_off285 L) (k0_off285_inb L) ng r fun r => do
      waitB L (k0_off302 L) (k0_off302_inb L) b0W (Memref.isWhole_whole _) cc0_scratch6
      let v ← ldW L (k0_off303 L) (k0_off303_inb L)
      let v' ← ldW L (k0_off304 L) (k0_off304_inb L)
      pure ⟨r.1, r.2.1, r.2.2.1, r.2.2.2.1, r.2.2.2.2.1, r.2.2.2.2.2.1, r.2.2.2.2.2.2.1, r.2.2.2.2.2.2.2.1, r.2.2.2.2.2.2.2.2, Scalar.addi v21 1500#32, word v, word v'⟩

set_option maxHeartbeats 4000000 in
theorem p79_eq (v2 v21 : BitVec 32) (ng : V16 F) (a0 : BitVec 32) (a1 a2 a3 a4 a5 a6 a7 a8 : V16 F) (v87 w w' : BitVec 32) :
    k0_part79 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng a0 a1 a2 a3 a4 a5 a6 a7 a8 v87 w w'
      = p79 L ng v21 (a0, a1, a2, a3, a4, a5, a6, a7, a8) w w' := by
  rfl

end Text

end Cert.Proof.Pool

end
-- ==== Proof.Text2.lean ====
/- The second and third block of a round of the tile's loop, named. -/
module

public import proofs.«01_k».proof.Proof.Text

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

def p34 (ng : V16 F) (v21 : BitVec 32) (t : Fin k0_t2_loop.trips) (arg15 : BitVec 32) (c : T9 F) : TProg F L (Out F (Σ' (_ : BitVec 32) (_ : BitVec 32) (_ : BitVec 32), BitVec 32)) :=
  stepG L b1W (k0_off49 L t) (k0_off50 L t) (k0_off49_inb L t) (k0_off50_inb L t) (k0_off67 L t) (k0_off67_inb L t) ng c fun r => do
    enqB L (k0_off84 L t) (k0_off84_inb L t) b1W (Memref.isWhole_whole _) cc0_scratch7
    let v208 : BitVec 32 := Scalar.addi (Scalar.muli arg15 4#32) 2#32
    waitB L (k0_off85 L t) (k0_off85_inb L t) b2W (Memref.isWhole_whole _) cc0_scratch8
    let v214 : BitVec 32 := Scalar.addi v21 (Scalar.muli v208 125#32)
    let v ← ldW L (k0_off86 L t) (k0_off86_inb L t)
    let v' ← ldW L (k0_off87 L t) (k0_off87_inb L t)
    pure ⟨r.1, r.2.1, r.2.2.1, r.2.2.2.1, r.2.2.2.2.1, r.2.2.2.2.2.1, r.2.2.2.2.2.2.1, r.2.2.2.2.2.2.2.1, r.2.2.2.2.2.2.2.2, v208, v214, word v, word v'⟩

set_option maxHeartbeats 4000000 in
theorem p34_eq (v2 v21 : BitVec 32) (ng : V16 F) (t : Fin k0_t2_loop.trips) (arg15 : BitVec 32) (a0 : BitVec 32) (a1 a2 a3 a4 a5 a6 a7 a8 : V16 F) (v178 : BitVec 32) :
    k0_part34 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng t arg15 a0 a1 a2 a3 a4 a5 a6 a7 a8 v178 125#32
      = p34 L ng v21 t arg15 (a0, a1, a2, a3, a4, a5, a6, a7, a8) := by
  rfl

end Text

end Cert.Proof.Pool

end
-- ==== Proof.Text3.lean ====
/- The last two blocks of a round of the tile's loop, named. -/
module

public import proofs.«01_k».proof.Proof.Text

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

def p35 (ng : V16 F) (t : Fin k0_t2_loop.trips) (c : T9 F) (w w' : BitVec 32) : TProg F L (Out' F) := do
  let hw ← (Prog.lift (TpuEff.assume (k0_chk1 w w') (k0_chk1.dec w w')) : TProg F L (PLift (k0_chk1 w w')))
  blockG L b2W (k0_off104 L t) (k0_off104_inb L t) w w' hw.down ng c fun r => do
    enqB L (k0_off121 L t) (k0_off121_inb L t) b2W (Memref.isWhole_whole _) cc0_scratch8
    waitB L (k0_off122 L t) (k0_off122_inb L t) b3W (Memref.isWhole_whole _) cc0_scratch9
    stepG L b3W (k0_off123 L t) (k0_off124 L t) (k0_off123_inb L t) (k0_off124_inb L t) (k0_off141 L t) (k0_off141_inb L t) ng r fun r =>
      pure ⟨r.1, r.2.1, r.2.2.1, r.2.2.2.1, r.2.2.2.2.1, r.2.2.2.2.2.1, r.2.2.2.2.2.2.1, r.2.2.2.2.2.2.2.1, r.2.2.2.2.2.2.2.2⟩

set_option maxHeartbeats 4000000 in
theorem p35_eq (v2 v21 : BitVec 32) (ng : V16 F) (t : Fin k0_t2_loop.trips) (arg15 : BitVec 32) (a0 : BitVec 32) (a1 a2 a3 a4 a5 a6 a7 a8 : V16 F) (v208 v214 w w' : BitVec 32) :
    k0_part35 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng t arg15 a0 a1 a2 a3 a4 a5 a6 a7 a8 v208 v214 w w'
      = p35 L ng t (a0, a1, a2, a3, a4, a5, a6, a7, a8) w w' := by
  rfl

end Text

end Cert.Proof.Pool

end
-- ==== Proof.Text6.lean ====
/- The tile's loop and the frame around it, named. -/
module

public import proofs.«01_k».proof.Proof.Text2
public import proofs.«01_k».proof.Proof.Text3

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

/-- One round of the tile's loop: four blocks. -/
def round (ng : V16 F) (v21 : BitVec 32) (t : Fin k0_t2_loop.trips) (c : T9 F) : TProg F L (T9 F) := do
  let ⟨arg15, c0, c1, c2, c3, c4, c5, c6, c7, c8, _, _⟩ ← p33 L ng t c
  let ⟨c0, c1, c2, c3, c4, c5, c6, c7, c8, _, _, w, w'⟩ ← p34 L ng v21 t arg15 (c0, c1, c2, c3, c4, c5, c6, c7, c8)
  let ⟨c0, c1, c2, c3, c4, c5, c6, c7, c8⟩ ← p35 L ng t (c0, c1, c2, c3, c4, c5, c6, c7, c8) w w'
  enqB L (k0_off158 L t) (k0_off158_inb L t) b3W (Memref.isWhole_whole _) cc0_scratch9
  pure (c0, c1, c2, c3, c4, c5, c6, c7, c8)

def p77 (ng : V16 F) (v21 : BitVec 32) : TProg F L (Out F (Σ' (v42 : BitVec 32) (v46 : BitVec 32) (v52 : BitVec 32) (_ : k0_chk9 v46 v52) (_ : IVec S16 1) (_ : BitVec 32), BitVec 32)) := do
  enqB L (k0_off10 L 0#32) (k0_off10_inb L 0) b0W (Memref.isWhole_whole _) cc0_scratch6
  enqB L (k0_off10 L 125#32) (k0_off10_inb L 1) b1W (Memref.isWhole_whole _) cc0_scratch7
  enqB L (k0_off10 L 250#32) (k0_off10_inb L 2) b2W (Memref.isWhole_whole _) cc0_scratch8
  enqB L (k0_off10 L 375#32) (k0_off10_inb L 3) b3W (Memref.isWhole_whole _) cc0_scratch9
  let (c0, c1, c2, c3, c4, c5, c6, c7, c8) ← Scf.Loop.for k0_t2_loop k0_t2_ok (4294967295#32, ng, ng, ng, ng, ng, ng, ng, ng) (round L ng v21)
  waitB L (k0_off10 L 1000#32) (k0_off10_inb L 4) b0W (Memref.isWhole_whole _) cc0_scratch6
  let v ← ldW L (k0_off159 L) (k0_off159_inb L)
  let v' ← ldW L (k0_off160 L) (k0_off160_inb L)
  let hw ← (Prog.lift (TpuEff.assume (k0_chk9 (word v) (word v')) (k0_chk9.dec (word v) (word v'))) : TProg F L (PLift (k0_chk9 (word v) (word v'))))
  pure ⟨c0, c1, c2, c3, c4, c5, c6, c7, c8, Scalar.addi v21 1000#32, word v, word v', hw.down,
    cmpi .eq (broadcast S16 (word v)) (broadcast S16 c0), Scalar.extui (Scalar.cmpi .eq (word v) (word v')), 0#32⟩

set_option maxHeartbeats 4000000 in
theorem p77_eq (v2 v21 : BitVec 32) (ng : V16 F) :
    k0_part77 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 v2 v21 ng
      = p77 L ng v21 := by
  unfold k0_part77 p77 round
  simp only [p33_eq, p34_eq, p35_eq]
  rfl

end Text

end Cert.Proof.Pool

end
-- ==== Proof.Text7.lean ====
/- The tile's whole text: its prologue, its loop, the blocks after it, the copy out. -/
module

public import proofs.«01_k».proof.Proof.Text4
public import proofs.«01_k».proof.Proof.Text5
public import proofs.«01_k».proof.Proof.Text6

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

/-- The accumulator copied to row `wid` of the partial tables. -/
def outG : TProg F L PUnit := do
  Prog.lift (.enqueueDma accW (.here (((pW).slice (Rect.unit (s := S32x64x128) (k0_off338 L) S1x64x128.size (k0_off338_inb L)) (fun _ => rfl)).squeeze S64x128 squeezes_S1x64x128_S64x128))
    (.dma cc0_scoped1.sem) (Memref.isWhole_whole _).wordExact ((View.wordExact_bits rfl).reshape _ _) ⟨Or.inl rfl, trivial⟩)
  Prog.lift (.waitDma2 cc0_scoped1.sem accW (((pW).slice (Rect.unit (s := S32x64x128) (k0_off338 L) S1x64x128.size (k0_off338_inb L)) (fun _ => rfl)).squeeze S64x128 squeezes_S1x64x128_S64x128)
    (Memref.isWhole_whole _).wordExact ((View.wordExact_bits rfl).reshape _ _))
  pure ⟨⟩

/-- The last block and the copy out. -/
def p80 (ng : V16 F) (c : T9 F) (w w' : BitVec 32) : TProg F L PUnit := do
  let hw ← (Prog.lift (TpuEff.assume (k0_chk1 w w') (k0_chk1.dec w w')) : TProg F L (PLift (k0_chk1 w w')))
  blockG L b0W (k0_off321 L) (k0_off321_inb L) w w' hw.down ng c fun _ => outG L

set_option maxHeartbeats 4000000 in
theorem body_eq :
    cc0__sc_body (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1
      = (do
        let ⟨v2, v21, ng⟩ ← k0_part76 L xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1
        let ⟨c0, c1, c2, c3, c4, c5, c6, c7, c8, v42, w, w', hw, v55, v57, z⟩ ← k0_part77 L xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1 v2 v21 ng
        let ⟨c0, c1, c2, c3, c4, c5, c6, c7, c8, v87, w, w'⟩ ← k0_part78 L xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1 v2 v21 ng c0 c1 c2 c3 c4 c5 c6 c7 c8 v42 w w' hw v55 v57 z
        let ⟨c0, c1, c2, c3, c4, c5, c6, c7, c8, _, w, w'⟩ ← k0_part79 L xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1 v2 v21 ng c0 c1 c2 c3 c4 c5 c6 c7 c8 v87 w w'
        p80 L ng (c0, c1, c2, c3, c4, c5, c6, c7, c8) w w') := by
  rfl

end Text

end Cert.Proof.Pool

end
-- ==== Proof.Offs.lean ====
/- Where the tile's accesses lie: its first row, its place in the batch words, block by block. -/
module

public import proofs.«01_k».proof.Proof.Base

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A tile's first row. -/
def bo (i : grid0.Coords) : ℕ := 3250 * (i 1).val + 1625 * (i 0).val

/-- Where its first row's batch word lies in its buffer of words. -/
def wo (i : grid0.Coords) : ℕ := bo i % 16

theorem bo_le (i : grid0.Coords) : bo i + 1625 ≤ 52000 := by
  have h0 : (i 0).val < 2 := (i 0).isLt
  have h1 : (i 1).val < 16 := (i 1).isLt
  unfold bo; omega

theorem wo_lt (i : grid0.Coords) : wo i < 16 := Nat.mod_lt _ (by decide)

theorem off1_eq : ∀ i : grid0.Coords, k0_off1 i 0 = bo i - wo i := by decide +kernel
theorem off10_eq : ∀ (i : grid0.Coords) (r : Fin 4), k0_off10 i (BitVec.ofNat 32 (125 * r.val)) = ![bo i + 125 * r.val, 0] := by decide +kernel
theorem off10_eq' : ∀ (i : grid0.Coords), k0_off10 i 1000#32 = ![bo i + 1000, 0] := by decide +kernel
theorem w12_eq : ∀ (i : grid0.Coords) (t : Fin k0_t2_loop.trips), k0_off12 i t 0 = wo i + (500 * t.val + 0) := by decide +kernel
theorem w13_eq : ∀ (i : grid0.Coords) (t : Fin k0_t2_loop.trips), k0_off13 i t 0 = wo i + (500 * t.val + 124) := by decide +kernel
theorem w49_eq : ∀ (i : grid0.Coords) (t : Fin k0_t2_loop.trips), k0_off49 i t 0 = wo i + (500 * t.val + 125) := by decide +kernel
theorem w50_eq : ∀ (i : grid0.Coords) (t : Fin k0_t2_loop.trips), k0_off50 i t 0 = wo i + (500 * t.val + 249) := by decide +kernel
theorem w86_eq : ∀ (i : grid0.Coords) (t : Fin k0_t2_loop.trips), k0_off86 i t 0 = wo i + (500 * t.val + 250) := by decide +kernel
theorem w87_eq : ∀ (i : grid0.Coords) (t : Fin k0_t2_loop.trips), k0_off87 i t 0 = wo i + (500 * t.val + 374) := by decide +kernel
theorem w123_eq : ∀ (i : grid0.Coords) (t : Fin k0_t2_loop.trips), k0_off123 i t 0 = wo i + (500 * t.val + 375) := by decide +kernel
theorem w124_eq : ∀ (i : grid0.Coords) (t : Fin k0_t2_loop.trips), k0_off124 i t 0 = wo i + (500 * t.val + 499) := by decide +kernel
theorem w30_eq : ∀ (i : grid0.Coords) (t : Fin k0_t2_loop.trips) (u : Fin k0_t4_loop.trips), k0_off30 i t u 0 = wo i + (500 * t.val + 0) + u.val := by decide +kernel
theorem w67_eq : ∀ (i : grid0.Coords) (t : Fin k0_t2_loop.trips) (u : Fin k0_t6_loop.trips), k0_off67 i t u 0 = wo i + (500 * t.val + 125) + u.val := by decide +kernel
theorem w104_eq : ∀ (i : grid0.Coords) (t : Fin k0_t2_loop.trips) (u : Fin k0_t8_loop.trips), k0_off104 i t u 0 = wo i + (500 * t.val + 250) + u.val := by decide +kernel
theorem w141_eq : ∀ (i : grid0.Coords) (t : Fin k0_t2_loop.trips) (u : Fin k0_t10_loop.trips), k0_off141 i t u 0 = wo i + (500 * t.val + 375) + u.val := by decide +kernel
theorem w159_eq : ∀ i : grid0.Coords, k0_off159 i 0 = wo i + 1000 := by decide +kernel
theorem w160_eq : ∀ i : grid0.Coords, k0_off160 i 0 = wo i + 1124 := by decide +kernel
theorem w195_eq : ∀ i : grid0.Coords, k0_off195 i 0 = wo i + 1125 := by decide +kernel
theorem w196_eq : ∀ i : grid0.Coords, k0_off196 i 0 = wo i + 1249 := by decide +kernel
theorem w231_eq : ∀ i : grid0.Coords, k0_off231 i 0 = wo i + 1250 := by decide +kernel
theorem w232_eq : ∀ i : grid0.Coords, k0_off232 i 0 = wo i + 1374 := by decide +kernel
theorem w267_eq : ∀ i : grid0.Coords, k0_off267 i 0 = wo i + 1375 := by decide +kernel
theorem w268_eq : ∀ i : grid0.Coords, k0_off268 i 0 = wo i + 1499 := by decide +kernel
theorem w303_eq : ∀ i : grid0.Coords, k0_off303 i 0 = wo i + 1500 := by decide +kernel
theorem w304_eq : ∀ i : grid0.Coords, k0_off304 i 0 = wo i + 1624 := by decide +kernel
theorem w177_eq : ∀ (i : grid0.Coords) (u : Fin k0_t12_loop.trips), k0_off177 i u 0 = wo i + 1000 + u.val := by decide +kernel
theorem w213_eq : ∀ (i : grid0.Coords) (u : Fin k0_t14_loop.trips), k0_off213 i u 0 = wo i + 1125 + u.val := by decide +kernel
theorem w249_eq : ∀ (i : grid0.Coords) (u : Fin k0_t16_loop.trips), k0_off249 i u 0 = wo i + 1250 + u.val := by decide +kernel
theorem w285_eq : ∀ (i : grid0.Coords) (u : Fin k0_t18_loop.trips), k0_off285 i u 0 = wo i + 1375 + u.val := by decide +kernel
theorem w321_eq : ∀ (i : grid0.Coords) (u : Fin k0_t20_loop.trips), k0_off321 i u 0 = wo i + 1500 + u.val := by decide +kernel

end Cert.Proof.Pool

end
-- ==== Proof.Slots.lean ====
/- The four row buffers of a tile, each with its semaphore and its share of the feature matrix:
   idle, being filled by a transfer, or filled. -/
module

public import proofs.«01_k».proof.Proof.BlockRun
public import proofs.«01_k».proof.Proof.Text7
public import proofs.«01_k».proof.Proof.Offs

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S100000x128 EltTy.f32)
local notation "bbW" => (Memref.whole Cert.KernelIdeal.cc0_scratch0 : Memref Cert.KernelIdeal.sig Kind.scVector Space.vmem Cert.KernelIdeal.S1680 EltTy.i32)
local notation "accW" => (Memref.whole Cert.KernelIdeal.cc0_scratch5 : Memref Cert.KernelIdeal.sig Kind.scVector Space.vmem Cert.KernelIdeal.S64x128 EltTy.f32)

/-- What a transfer in flight gives back may be joined by something kept aside. -/
theorem flight_frame {thr : Thread nD τ} {s : SemLoc sig} {N : ℕ} {A X : sProp 𝕄} :
    iprop(Transfers.Flight countersEmb thr s (default : HIx 1) N A ∗ X) ⊢ Transfers.Flight countersEmb thr s (default : HIx 1) N iprop(A ∗ X) := by
  unfold Transfers.Flight
  iintro ⟨⟨⟨%R, HR, %hR, %hp⟩, Hc⟩, HX⟩
  isplitr [Hc]
  · iexists iprop(R ∗ X)
    isplitl [HR HX]
    · isplitl [HR] <;> iassumption
    isplitr
    · ipureintro
      intro Kk
      refine BIBase.Entails.trans ?_ (hR Kk)
      iintro ⟨⟨HR, HX⟩, HK⟩
      isplitl [HR]; · iexact HR
      iintro ⟨Hs, HA⟩
      iapply HK
      isplitl [Hs]; · iexact Hs
      isplitl [HA] <;> iassumption
    · ipureintro
      intro Kk
      refine BIBase.Entails.trans ?_ (hp Kk)
      iintro ⟨⟨HR, HX⟩, HK⟩
      isplitl [HR]; · iexact HR
      iintro HR
      iapply HK
      isplitl [HR] <;> iassumption
  · iexact Hc

/-- The four row buffers and their semaphores. -/
def rb : Fin 4 → Memref sig .scVector .vmem S125x128 .f32
  | 0 => Memref.whole cc0_scratch1
  | 1 => Memref.whole cc0_scratch2
  | 2 => Memref.whole cc0_scratch3
  | 3 => Memref.whole cc0_scratch4

def rs : Fin 4 → DmaSems sig S_
  | 0 => cc0_scratch6
  | 1 => cc0_scratch7
  | 2 => cc0_scratch8
  | 3 => cc0_scratch9

theorem rb_whole : ∀ j, (rb j).IsWhole
  | 0 => Memref.isWhole_whole _
  | 1 => Memref.isWhole_whole _
  | 2 => Memref.isWhole_whole _
  | 3 => Memref.isWhole_whole _

theorem rb_set : ∀ j, (rb j).view.set = Finset.univ
  | 0 => View.set_whole _
  | 1 => View.set_whole _
  | 2 => View.set_whole _
  | 3 => View.set_whole _

/-- The 125 rows of `X` from row `o` on. -/
def Xblk (X : S100000x128.Idx → F .f32) (o : ℕ) : S125x128.Idx → F .f32 :=
  fun i => X (ix ⟨(o + (i 0).val) % 100000, Nat.mod_lt _ (by decide)⟩ (i 1))

/-- Where a row buffer stands. -/
inductive Sl : Type
  | idle | fly (o : ℕ) | full (o : ℕ)

section Slot

variable (d : Dev nD) (L : grid0.Coords) (X : S100000x128.Idx → F .f32) (q : Fin 4 → PosShare TreeShare)
variable (O : CellTallies nD τ sig (HIx 1)) (W : Waits sig (HIx 1)) (E : sProp (MT nD τ sig (HIx 1) (Elt F) ℕ UU ℕ))

/-- A row buffer that holds the block from row `o` on. -/
def Held (j : Fin 4) (o : ℕ) : sProp 𝕄 :=
  iprop(∃ f, ⌜(rb j).view.read (Elt F) f = Xblk X o⌝ ∗ ((rb j).view.loc (V d (cV L) (jV L)) ↦{fullShare} f))

/-- A read share of the feature matrix. -/
abbrev xsh (j : Fin 4) : sProp 𝕄 := ((xW).view.loc (V d (cV L) (jV L)) ↦{q j} X)

def Slot (j : Fin 4) : Sl → sProp 𝕄
  | .idle => iprop((∃ f, ((rb j).view.loc (V d (cV L) (jV L)) ↦{fullShare} f)) ∗ xsh d L X q j ∗ semVal ((V d (cV L) (jV L)), .dma (rs j).sem) 0)
  | .fly o => Transfers.Flight countersEmb (V d (cV L) (jV L)) (.dma (rs j).sem) (default : HIx 1) (rb j).view.dmaCredit
      iprop(Held d L X j o ∗ xsh d L X q j)
  | .full o => iprop(Held d L X j o ∗ xsh d L X q j ∗ semVal ((V d (cV L) (jV L)), .dma (rs j).sem) 0)

/-- What the tile owes and has waited for, and what it keeps aside. -/
def OW : sProp 𝕄 :=
  iprop(Transfers.MayWaits (V d (cV L) (jV L)) (default : HIx 1) O ∗ (∃ W', ⌜∀ p ∈ W', p ∈ W ∨ p.2 = none⌝ ∗ owes (V d (cV L) (jV L)) O W') ∗ E)

/-- A tile's state during the blocks. -/
def TS (s : Fin 4 → Sl) (fw : S1680.Idx → BitVec 32) (fa : S64x128.Idx → F .f32) : sProp 𝕄 :=
  iprop((bigSep Finset.univ fun j => Slot d L X q j (s j)) ∗ ((bbW).view.loc (V d (cV L) (jV L)) ↦{fullShare} fw)
    ∗ ((accW).view.loc (V d (cV L) (jV L)) ↦{fullShare} fa) ∗ OW d L O W E)

variable {d L X q O W E}
variable {s s' : Fin 4 → Sl} {fw : S1680.Idx → BitVec 32} {fa : S64x128.Idx → F .f32}

/-- Starting a fetch. -/
theorem TS.enq (j : Fin 4) (o : ℕ) {off : Fin 2 → ℕ} {inb : ∀ a, off a + S125x128.size a ≤ S100000x128.size a} {hb}
    (ho : off = ![o, 0]) (hs : s j = .idle) (hs' : s' = Function.update s j (.fly o)) :
    Runs d L (TS d L X q O W E s fw fa) (enqB L off inb (rb j) hb (rs j)) ⟨⟩ (TS d L X q O W E s' fw fa) := by
  subst ho hs'
  have hrd : ((xW).slice (Rect.unit (s := S100000x128) ![o, 0] S125x128.size inb) (fun _ => rfl)).view.read (Elt F) X = Xblk X o := by
    funext i
    show X _ = X _
    congr 1
    have h0 : o + 125 ≤ 100000 := inb 0
    have h1 : (i 0).val < 125 := (i 0).isLt
    funext a
    apply Fin.ext
    refine Fin.cases ?_ (fun a => Fin.cases ?_ (fun a => a.elim0) a) a
    · show o + 1 * (i 0).val = (o + (i 0).val) % 100000
      omega
    · show 0 + 1 * (i 1).val = (i 1).val
      omega
  unfold Runs TS
  iintro ⟨HS, Hw, Ha, HO⟩
  ihave HS := (bigSep_univ_turn (fun j (x : Sl) => Slot d L X q j x) s j) $$ HS
  icases HS with ⟨HS, Hback⟩
  rw [hs]
  unfold Slot
  icases HS with ⟨⟨%f, Hb⟩, Hx, Hv⟩
  ihave Hx := (pointsTo_split_subset (I := ((xW).slice (Rect.unit (s := S100000x128) ![o, 0] S125x128.size inb) (fun _ => rfl)).view.set)
    (Finset.subset_univ _)).1 $$ Hx
  icases Hx with ⟨Hx, Hxr⟩
  iapply (Transfers.wp_dmaLocal countersEmb 𝒱₀ (V d (cV L) (jV L)) none (default : HIx 1) (rb j).view.dmaCredit rfl
    (View.dmaCredit_pos (rb j).view (by decide)) (Sd := Finset.univ) (Finset.subset_univ _)) $$ [Hx Hb Hv]
  · isplitl [Hx]; · iexact Hx
    isplitl [Hb]; · iexact Hb
    iexact Hv
  iintro Hf
  ihave Hf := (flight_frame (X := ((xW).view.loc (V d (cV L) (jV L))
      ↦[Finset.univ \ ((xW).slice (Rect.unit (s := S100000x128) ![o, 0] S125x128.size inb) (fun _ => rfl)).view.set]{q j} X))) $$ [Hf Hxr]
  · isplitl [Hf] <;> iassumption
  iapply le_wp_ret
  isplitr; · ipureintro; rfl
  isplitr [Hw Ha HO]
  · ispecialize Hback $$ %(Sl.fly o)
    iapply Hback
    iapply (Transfers.Flight_mono countersEmb _ ?_) $$ Hf
    iintro ⟨⟨Hd, Hx⟩, Hxr⟩
    isplitl [Hd]
    · unfold Held
      iexists _
      isplitr
      swap
      · iexact Hd
      · ipureintro
        rw [← hrd]
        exact View.read_write_univ (v := (rb j).view) (Val := Elt F) f _
    · iapply (pointsTo_split_subset (I := ((xW).slice (Rect.unit (s := S100000x128) ![o, 0] S125x128.size inb) (fun _ => rfl)).view.set)
        (Finset.subset_univ _)).2
      isplitl [Hx] <;> iassumption
  isplitl [Hw]; · iexact Hw
  isplitl [Ha]; · iexact Ha
  iexact HO

/-- Waiting for one. -/
theorem TS.wait (j : Fin 4) (o : ℕ) {off : Fin 2 → ℕ} {inb : ∀ a, off a + S125x128.size a ≤ S100000x128.size a} {hb}
    (hs : s j = .fly o) (hs' : s' = Function.update s j (.full o)) :
    Runs d L (TS d L X q O W E s fw fa) (waitB L off inb (rb j) hb (rs j)) ⟨⟩ (TS d L X q O W E s' fw fa) := by
  subst hs'
  unfold Runs TS
  iintro ⟨HS, Hw, Ha, HO⟩
  ihave HS := (bigSep_univ_turn (fun j (x : Sl) => Slot d L X q j x) s j) $$ HS
  icases HS with ⟨HS, Hback⟩
  rw [hs]
  unfold Slot OW
  icases HO with ⟨#Hmw, ⟨%W', %hW', HO⟩, HE⟩
  iapply (Transfers.wp_waitLocalO countersEmb 𝒱₀ (V d (cV L) (jV L)) none (default : HIx 1) rfl) $$ [HS HO]
  · isplitl [HS]; · iexact HS
    isplitl [HO]; · iexact HO
    iapply Transfers.MayWaits.elim $$ Hmw
  iintro ⟨⟨Hd, Hx⟩, Hv, HO⟩
  iapply le_wp_ret
  isplitr; · ipureintro; rfl
  isplitr [Hw Ha HO HE]
  · ispecialize Hback $$ %(Sl.full o)
    iapply Hback
    isplitl [Hd]; · iexact Hd
    isplitl [Hx] <;> iassumption
  isplitl [Hw]; · iexact Hw
  isplitl [Ha]; · iexact Ha
  isplitr; · iexact Hmw
  isplitr [HE]
  · iexists _
    isplitr
    swap
    · iexact HO
    · ipureintro
      intro p hp
      rcases Finset.mem_insert.mp hp with h | h
      · right; rw [h]; rfl
      · exact hW' p h
  iexact HE

/-- One batch word. -/
theorem TS.ldw {α : Type} {P' : sProp 𝕄} {a : α} {off : Fin 1 → ℕ} {inb : ∀ a, off a + S16.size a ≤ S1680.size a} {hl}
    {k : (S16.Idx → BitVec 32) → TProg F L α}
    (h : ∀ v, word v = fw (wix (off 0)) → Runs d L (TS d L X q O W E s fw fa) (k v) a P') :
    Runs d L (TS d L X q O W E s fw fa)
      (.op (.load bbW (Rect.unit (s := S1680) off S16.size inb).toLoadRect hl) k) a P' := by
  have h' := h ((bbW).view.readAt (Elt F) (Rect.unit (s := S1680) off S16.size inb).toLoadRect fw) (by
    unfold word extractAt extractStridedSlice
    rw [View.readAt_apply]
    show fw _ = fw _
    congr 1; funext a; apply Fin.ext
    have h0 : a = (0 : Fin 1) := Subsingleton.elim (α := Fin 1) _ _
    subst h0
    have : off 0 + 16 ≤ 1680 := inb 0
    show off 0 + 1 * 0 = off 0 % 1680
    omega)
  unfold Runs at *
  unfold TS at *
  iintro ⟨HS, Hw, Ha, HO⟩
  iapply (wp_load 𝒱₀ (V d (cV L) (jV L)) none Set.univ (S := Finset.univ) (Finset.subset_univ _)) $$ Hw
  iintro Hw
  iapply h'
  isplitl [HS]; · iexact HS
  isplitl [Hw]; · iexact Hw
  isplitl [Ha]; · iexact Ha
  iexact HO

/-- What is left of a tile's state when one filled buffer, the words and the table are taken out. -/
def Rest (d : Dev nD) (L : grid0.Coords) (X : S100000x128.Idx → F .f32) (q : Fin 4 → PosShare TreeShare) (O : CellTallies nD τ sig (HIx 1))
    (W : Waits sig (HIx 1)) (E : sProp 𝕄) (s : Fin 4 → Sl) (j : Fin 4) : sProp 𝕄 :=
  iprop(xsh d L X q j ∗ semVal ((V d (cV L) (jV L)), .dma (rs j).sem) 0
    ∗ (∀ x, Slot d L X q j x -∗ bigSep Finset.univ fun i => Slot d L X q i (Function.update s j x i)) ∗ OW d L O W E)

/-- Working on a filled buffer. -/
theorem TS.work {α : Type} {P' : sProp 𝕄} {a : α} {p : TProg F L α} (j : Fin 4) (o : ℕ) (hs : s j = .full o)
    (h : ∀ fx, (rb j).view.read (Elt F) fx = Xblk X o → Runs d L (Bufs d L (rb j) (Rest d L X q O W E s j) fx fw fa) p a P') :
    Runs d L (TS d L X q O W E s fw fa) p a P' := by
  unfold Runs TS Bufs Rest at *
  iintro ⟨HS, Hw, Ha, HO⟩
  ihave HS := (bigSep_univ_turn (fun j (x : Sl) => Slot d L X q j x) s j) $$ HS
  icases HS with ⟨HS, Hback⟩
  have hsl : Slot d L X q j (s j) = iprop(Held d L X j o ∗ xsh d L X q j ∗ semVal ((V d (cV L) (jV L)), .dma (rs j).sem) 0) := by rw [hs]; rfl
  ihave HS := (Entails.of_eq hsl) $$ HS
  unfold Held
  icases HS with ⟨⟨%f, %hf, Hb⟩, Hx, Hv⟩
  iapply (h f hf)
  isplitl [Hb]; · iexact Hb
  isplitl [Hw]; · iexact Hw
  isplitl [Ha]; · iexact Ha
  isplitl [Hx]; · iexact Hx
  isplitl [Hv]; · iexact Hv
  isplitl [Hback]; · iexact Hback
  iexact HO

/-- Working on an idle buffer. -/
theorem TS.workIdle {α : Type} {P' : sProp 𝕄} {a : α} {p : TProg F L α} (j : Fin 4) (hs : s j = .idle)
    (h : ∀ fx, Runs d L (Bufs d L (rb j) (Rest d L X q O W E s j) fx fw fa) p a P') :
    Runs d L (TS d L X q O W E s fw fa) p a P' := by
  unfold Runs TS Bufs Rest at *
  iintro ⟨HS, Hw, Ha, HO⟩
  ihave HS := (bigSep_univ_turn (fun j (x : Sl) => Slot d L X q j x) s j) $$ HS
  icases HS with ⟨HS, Hback⟩
  have hsl : Slot d L X q j (s j) = iprop((∃ f, ((rb j).view.loc (V d (cV L) (jV L)) ↦{fullShare} f)) ∗ xsh d L X q j
      ∗ semVal ((V d (cV L) (jV L)), .dma (rs j).sem) 0) := by rw [hs]; rfl
  ihave HS := (Entails.of_eq hsl) $$ HS
  icases HS with ⟨⟨%f, Hb⟩, Hx, Hv⟩
  iapply (h f)
  isplitl [Hb]; · iexact Hb
  isplitl [Hw]; · iexact Hw
  isplitl [Ha]; · iexact Ha
  isplitl [Hx]; · iexact Hx
  isplitl [Hv]; · iexact Hv
  isplitl [Hback]; · iexact Hback
  iexact HO

/-- After the work the buffer is idle again. -/
theorem TS.done {α : Type} {P' : sProp 𝕄} {a : α} {p : TProg F L α} (j : Fin 4) {fx} (hs' : s' = Function.update s j .idle)
    (h : Runs d L (TS d L X q O W E s' fw fa) p a P') :
    Runs d L (Bufs d L (rb j) (Rest d L X q O W E s j) fx fw fa) p a P' := by
  subst hs'
  unfold Runs at *
  refine BIBase.Entails.trans ?_ h
  unfold TS Bufs Rest
  iintro ⟨Hb, Hw, Ha, Hx, Hv, Hback, HO⟩
  isplitr [Hw Ha HO]
  · ispecialize Hback $$ %Sl.idle
    iapply Hback
    unfold Slot
    isplitl [Hb]; · iexists _; iexact Hb
    isplitl [Hx]; · iexact Hx
    iexact Hv
  isplitl [Hw]; · iexact Hw
  isplitl [Ha]; · iexact Ha
  iexact HO

end Slot

end Cert.Proof.Pool

end
-- ==== Proof.Tile.lean ====
/- The tile's thirteen blocks, one after another: each part of the tile's text takes the state of the row buffers
   and the running state after `k` blocks to the state after its last block. -/
module

public import proofs.«01_k».proof.Proof.Slots

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

/-- The value no entry of a table starts above. -/
abbrev ninf : F .f32 := Scalar.ofBits .f32 0xFF800000#32

/-- A tile's running state after `k` blocks: its batch words are `fw`, its features `X`. -/
def ch (L : grid0.Coords) (fw : S1680.Idx → BitVec 32) (X : S100000x128.Idx → F .f32) : ℕ → St F
  | 0 => (4294967295#32, fun _ => ninf, fun _ => ninf)
  | k + 1 => blockS ninf (fun n => fw (wix (wo L + 125 * k + n))) (Xblk X (bo L + 125 * k)) (ch L fw X k)

/-- The carried part of the state. -/
abbrev cr (st : St F) : T9 F := (st.1, tup st.2.1)

/-- A row buffer on its way to, or holding, block `k`. -/
abbrev fl (L : grid0.Coords) (k : ℕ) : Sl := .fly (bo L + 125 * k)
abbrev fu (L : grid0.Coords) (k : ℕ) : Sl := .full (bo L + 125 * k)

section Run

variable {d : Dev nD} {L : grid0.Coords} {X : S100000x128.Idx → F .f32} {q : Fin 4 → PosShare TreeShare}
variable {O : CellTallies nD τ sig (HIx 1)} {W : Waits sig (HIx 1)} {E : sProp (MT nD τ sig (HIx 1) (Elt F) ℕ UU ℕ)}
variable {s s' : Fin 4 → Sl} {fw : S1680.Idx → BitVec 32}

theorem off_of {a b : ℕ} {off : Fin 2 → ℕ} (h : off = ![a, 0]) (e : a = b) : off = ![b, 0] := by rw [h, e]

/-- A block whose words are at hand. -/
theorem TS.block {β : Type} {P : sProp 𝕄} {b : β} (j : Fin 4) (k : ℕ) {ow : Fin k0_t4_loop.trips → Fin 1 → ℕ}
    {how : ∀ t a, ow t a + S16.size a ≤ S1680.size a} {w w' : BitVec 32} {hw : k0_chk1 w w'}
    (hk13 : k < 13) (hr : ∀ n < 1625, (fw (wix (wo L + n))).toNat < 64)
    (hs : s j = fu L k) (hs' : s' = Function.update s j .idle)
    (how' : ∀ t, ow t 0 = wo L + 125 * k + t.val) (ew : w = fw (wix (wo L + 125 * k))) (ew' : w' = fw (wix (wo L + 125 * k + 124)))
    {kk : T9 F → TProg F L β}
    (hk : Runs d L (TS d L X q O W E s' fw (ch L fw X (k + 1)).2.2) (kk (cr (ch L fw X (k + 1)))) b P) :
    Runs d L (TS d L X q O W E s fw (ch L fw X k).2.2) (blockG L (rb j) ow how w w' hw (broadcast S16 ninf) (cr (ch L fw X k)) kk) b P := by
  refine TS.work j _ hs fun fx hfx => ?_
  refine run_block (wo L + 125 * k) how' ew ew' (fun n hn => ?_) ninf (ch L fw X k) ?_
  · rw [Nat.add_assoc]; exact hr _ (by omega)
  · rw [hfx]
    exact TS.done j hs' hk

/-- A block with the loads of its words. -/
theorem TS.step {β : Type} {P : sProp 𝕄} {b : β} (j : Fin 4) (k : ℕ) {o1 o2 : Fin 1 → ℕ} {ho1 : ∀ a, o1 a + S16.size a ≤ S1680.size a}
    {ho2 : ∀ a, o2 a + S16.size a ≤ S1680.size a} {ow : Fin k0_t4_loop.trips → Fin 1 → ℕ}
    {how : ∀ t a, ow t a + S16.size a ≤ S1680.size a}
    (hk13 : k < 13) (hr : ∀ n < 1625, (fw (wix (wo L + n))).toNat < 64)
    (hs : s j = fu L k) (hs' : s' = Function.update s j .idle)
    (h1 : o1 0 = wo L + 125 * k) (h2 : o2 0 = wo L + 125 * k + 124) (how' : ∀ t, ow t 0 = wo L + 125 * k + t.val)
    {kk : T9 F → TProg F L β}
    (hk : Runs d L (TS d L X q O W E s' fw (ch L fw X (k + 1)).2.2) (kk (cr (ch L fw X (k + 1)))) b P) :
    Runs d L (TS d L X q O W E s fw (ch L fw X k).2.2) (stepG L (rb j) o1 o2 ho1 ho2 ow how (broadcast S16 ninf) (cr (ch L fw X k)) kk) b P := by
  refine TS.work j _ hs fun fx hfx => ?_
  refine run_step (wo L + 125 * k) h1 h2 how' (fun n hn => ?_) ninf (ch L fw X k) ?_
  · rw [Nat.add_assoc]; exact hr _ (by omega)
  · rw [hfx]
    exact TS.done j hs' hk

theorem run_p33 (hr : ∀ n < 1625, (fw (wix (wo L + n))).toNat < 64) (t : Fin k0_t2_loop.trips) (ht : t.val < 2) :
    Runs d L (TS d L X q O W E ![fl L (4 * t.val), fl L (4 * t.val + 1), fl L (4 * t.val + 2), fl L (4 * t.val + 3)] fw (ch L fw X (4 * t.val)).2.2)
      (p33 L (broadcast S16 ninf) t (cr (ch L fw X (4 * t.val))))
      (let st := ch L fw X (4 * t.val + 1);
       ⟨Scf.iv 0#32 1#32 t, st.1, seg st.2.1 0, seg st.2.1 1, seg st.2.1 2, seg st.2.1 3, seg st.2.1 4, seg st.2.1 5, seg st.2.1 6, seg st.2.1 7,
        Scalar.addi (Scalar.muli (Scf.iv 0#32 1#32 t) 4#32) 1#32, 125#32⟩)
      (TS d L X q O W E ![fl L (4 * t.val + 4), fu L (4 * t.val + 1), fl L (4 * t.val + 2), fl L (4 * t.val + 3)] fw (ch L fw X (4 * t.val + 1)).2.2) := by
  unfold p33
  refine Runs.bind (TS.wait 0 (bo L + 125 * (4 * t.val)) rfl rfl) ?_
  refine TS.step 0 (4 * t.val) (by omega) hr rfl rfl (by rw [w12_eq]; omega) (by rw [w13_eq]; omega) (fun u => by rw [w30_eq]; omega) ?_
  refine Runs.bind (TS.enq 0 (bo L + 125 * (4 * t.val + 4)) (off_of (k0_off47_eq L t) (by unfold bo; omega)) rfl rfl) ?_
  refine Runs.bind (TS.wait 1 (bo L + 125 * (4 * t.val + 1)) (s' := ![fl L (4 * t.val + 4), fu L (4 * t.val + 1), fl L (4 * t.val + 2), fl L (4 * t.val + 3)]) rfl (by funext i; fin_cases i <;> rfl)) ?_
  exact Runs.ret

theorem run_p34 (hr : ∀ n < 1625, (fw (wix (wo L + n))).toNat < 64) (t : Fin k0_t2_loop.trips) (ht : t.val < 2) (v21 arg15 : BitVec 32) :
    Runs d L (TS d L X q O W E ![fl L (4 * t.val + 4), fu L (4 * t.val + 1), fl L (4 * t.val + 2), fl L (4 * t.val + 3)] fw (ch L fw X (4 * t.val + 1)).2.2)
      (p34 L (broadcast S16 ninf) v21 t arg15 (cr (ch L fw X (4 * t.val + 1))))
      (let st := ch L fw X (4 * t.val + 2);
       ⟨st.1, seg st.2.1 0, seg st.2.1 1, seg st.2.1 2, seg st.2.1 3, seg st.2.1 4, seg st.2.1 5, seg st.2.1 6, seg st.2.1 7,
        Scalar.addi (Scalar.muli arg15 4#32) 2#32, Scalar.addi v21 (Scalar.muli (Scalar.addi (Scalar.muli arg15 4#32) 2#32) 125#32),
        fw (wix (wo L + 125 * (4 * t.val + 2))), fw (wix (wo L + 125 * (4 * t.val + 2) + 124))⟩)
      (TS d L X q O W E ![fl L (4 * t.val + 4), fl L (4 * t.val + 5), fu L (4 * t.val + 2), fl L (4 * t.val + 3)] fw (ch L fw X (4 * t.val + 2)).2.2) := by
  unfold p34
  refine TS.step 1 (4 * t.val + 1) (by omega) hr rfl rfl (by rw [w49_eq]; omega) (by rw [w50_eq]; omega) (fun u => by rw [w67_eq]; omega) ?_
  refine Runs.bind (TS.enq 1 (bo L + 125 * (4 * t.val + 5)) (off_of (k0_off84_eq L t) (by unfold bo; omega)) rfl rfl) ?_
  refine Runs.bind (TS.wait 2 (bo L + 125 * (4 * t.val + 2))
    (s' := ![fl L (4 * t.val + 4), fl L (4 * t.val + 5), fu L (4 * t.val + 2), fl L (4 * t.val + 3)]) rfl (by funext i; fin_cases i <;> rfl)) ?_
  refine TS.ldw fun v hv => ?_
  refine TS.ldw fun v' hv' => ?_
  have e : k0_off86 L t 0 = wo L + 125 * (4 * t.val + 2) := by rw [w86_eq]; omega
  have e' : k0_off87 L t 0 = wo L + 125 * (4 * t.val + 2) + 124 := by rw [w87_eq]; omega
  rw [e] at hv
  rw [e'] at hv'
  rw [← hv, ← hv']
  exact Runs.ret

theorem run_p35 (hr : ∀ n < 1625, (fw (wix (wo L + n))).toNat < 64) (t : Fin k0_t2_loop.trips) (ht : t.val < 2) :
    Runs d L (TS d L X q O W E ![fl L (4 * t.val + 4), fl L (4 * t.val + 5), fu L (4 * t.val + 2), fl L (4 * t.val + 3)] fw (ch L fw X (4 * t.val + 2)).2.2)
      (p35 L (broadcast S16 ninf) t (cr (ch L fw X (4 * t.val + 2))) (fw (wix (wo L + 125 * (4 * t.val + 2)))) (fw (wix (wo L + 125 * (4 * t.val + 2) + 124))))
      (let st := ch L fw X (4 * t.val + 4);
       ⟨st.1, seg st.2.1 0, seg st.2.1 1, seg st.2.1 2, seg st.2.1 3, seg st.2.1 4, seg st.2.1 5, seg st.2.1 6, seg st.2.1 7⟩)
      (TS d L X q O W E ![fl L (4 * t.val + 4), fl L (4 * t.val + 5), fl L (4 * t.val + 6), .idle] fw (ch L fw X (4 * t.val + 4)).2.2) := by
  unfold p35
  refine Runs.chk (chk1 (by exact hr (125 * (4 * t.val + 2)) (by omega))) ?_
  refine TS.block 2 (4 * t.val + 2) (by omega) hr rfl rfl (fun u => by rw [w104_eq]; omega) rfl rfl ?_
  refine Runs.bind (TS.enq 2 (bo L + 125 * (4 * t.val + 6)) (off_of (k0_off121_eq L t) (by unfold bo; omega)) rfl rfl) ?_
  refine Runs.bind (TS.wait 3 (bo L + 125 * (4 * t.val + 3)) rfl rfl) ?_
  refine TS.step 3 (4 * t.val + 3) (s' := ![fl L (4 * t.val + 4), fl L (4 * t.val + 5), fl L (4 * t.val + 6), .idle]) (by omega) hr rfl
    (by funext i; fin_cases i <;> rfl) (by rw [w123_eq]; omega) (by rw [w124_eq]; omega) (fun u => by rw [w141_eq]; omega) ?_
  exact Runs.ret

/-- The state of the row buffers and the table before round `n` of the loop. -/
def roundS (d : Dev nD) (L : grid0.Coords) (X : S100000x128.Idx → F .f32) (q : Fin 4 → PosShare TreeShare) (O : CellTallies nD τ sig (HIx 1))
    (W : Waits sig (HIx 1)) (E : sProp 𝕄) (fw : S1680.Idx → BitVec 32) (n : ℕ) : sProp 𝕄 :=
  TS d L X q O W E ![fl L (4 * n), fl L (4 * n + 1), fl L (4 * n + 2), fl L (4 * n + 3)] fw (ch L fw X (4 * n)).2.2

theorem run_round (hr : ∀ n < 1625, (fw (wix (wo L + n))).toNat < 64) (t : Fin k0_t2_loop.trips) (v21 : BitVec 32) :
    Runs d L (roundS d L X q O W E fw t.val) (round L (broadcast S16 ninf) v21 t (cr (ch L fw X (4 * t.val))))
      (cr (ch L fw X (4 * (t.val + 1)))) (roundS d L X q O W E fw (t.val + 1)) := by
  have ht : t.val < 2 := t.isLt
  unfold round roundS
  refine Runs.bind (run_p33 hr t ht) ?_
  refine Runs.bind (run_p34 hr t ht v21 _) ?_
  refine Runs.bind (run_p35 hr t ht) ?_
  refine Runs.bind (TS.enq 3 (bo L + 125 * (4 * t.val + 7)) (s' := ![fl L (4 * t.val + 4), fl L (4 * t.val + 5), fl L (4 * t.val + 6), fl L (4 * t.val + 7)])
    (off_of (k0_off158_eq L t) (by unfold bo; omega)) rfl (by funext i; fin_cases i <;> rfl)) ?_
  exact Runs.ret

/-- What the cut after the loop hands on. -/
def out77 (st : St F) (v42 a c : BitVec 32) (h : k0_chk9 a c) :
    Out F (Σ' (_ : BitVec 32) (v46 : BitVec 32) (v52 : BitVec 32) (_ : k0_chk9 v46 v52) (_ : IVec S16 1) (_ : BitVec 32), BitVec 32) :=
  ⟨st.1, seg st.2.1 0, seg st.2.1 1, seg st.2.1 2, seg st.2.1 3, seg st.2.1 4, seg st.2.1 5, seg st.2.1 6, seg st.2.1 7, v42, a, c, h,
    cmpi .eq (broadcast S16 a) (broadcast S16 st.1), Scalar.extui (Scalar.cmpi .eq a c), 0#32⟩

theorem out77_congr (st : St F) (v42 : BitVec 32) {a c a' c' : BitVec 32} (ha : a = a') (hc : c = c') (h : k0_chk9 a c) (h' : k0_chk9 a' c') :
    out77 st v42 a c h = out77 st v42 a' c' h' := by
  subst ha hc; rfl

theorem run_p77 (hr : ∀ n < 1625, (fw (wix (wo L + n))).toNat < 64) (v21 : BitVec 32) (hw : k0_chk9 (fw (wix (wo L + 125 * 8))) (fw (wix (wo L + 125 * 8 + 124)))) :
    Runs d L (TS d L X q O W E (fun _ => .idle) fw (fun _ => ninf))
      (p77 L (broadcast S16 ninf) v21)
      (out77 (ch L fw X 8) (Scalar.addi v21 1000#32) (fw (wix (wo L + 125 * 8))) (fw (wix (wo L + 125 * 8 + 124))) hw)
      (TS d L X q O W E ![fu L 8, fl L 9, fl L 10, fl L 11] fw (ch L fw X 8).2.2) := by
  unfold p77
  refine Runs.bind (TS.enq 0 (bo L + 125 * 0) (off10_eq L 0) rfl rfl) ?_
  refine Runs.bind (TS.enq 1 (bo L + 125 * 1) (off10_eq L 1) rfl rfl) ?_
  refine Runs.bind (TS.enq 2 (bo L + 125 * 2) (off10_eq L 2) rfl rfl) ?_
  refine Runs.bind (TS.enq 3 (bo L + 125 * 3) (s' := ![fl L 0, fl L 1, fl L 2, fl L 3]) (off10_eq L 3) rfl (by funext i; fin_cases i <;> rfl)) ?_
  have hl := Runs.loop (d := d) (L := L) (P := roundS d L X q O W E fw) k0_t2_loop k0_t2_ok (fun n => cr (ch L fw X (4 * n))) (round L (broadcast S16 ninf) v21)
    (fun t => run_round hr t v21)
  refine Runs.bind hl ?_
  refine Runs.bind (TS.wait 0 (bo L + 125 * 8) (s := ![fl L 8, fl L 9, fl L 10, fl L 11]) (s' := ![fu L 8, fl L 9, fl L 10, fl L 11]) rfl (by funext i; fin_cases i <;> rfl)) ?_
  refine TS.ldw fun v hv => ?_
  refine TS.ldw fun v' hv' => ?_
  have e : k0_off159 L 0 = wo L + 125 * 8 := w159_eq L
  have e' : k0_off160 L 0 = wo L + 125 * 8 + 124 := w160_eq L
  rw [e] at hv
  rw [e'] at hv'
  have h9 : k0_chk9 (word v) (word v') := by rw [hv, hv']; exact hw
  refine Runs.chk h9 ?_
  refine Runs.ret' ?_
  exact out77_congr _ _ hv hv' h9 hw

theorem run_p78 (hr : ∀ n < 1625, (fw (wix (wo L + n))).toNat < 64) (v21 : BitVec 32) (hw : k0_chk1 (fw (wix (wo L + 125 * 8))) (fw (wix (wo L + 125 * 8 + 124)))) :
    Runs d L (TS d L X q O W E ![fu L 8, fl L 9, fl L 10, fl L 11] fw (ch L fw X 8).2.2)
      (p78 L (broadcast S16 ninf) v21 (cr (ch L fw X 8)) (fw (wix (wo L + 125 * 8))) (fw (wix (wo L + 125 * 8 + 124))) hw)
      (let st := ch L fw X 10;
       ⟨st.1, seg st.2.1 0, seg st.2.1 1, seg st.2.1 2, seg st.2.1 3, seg st.2.1 4, seg st.2.1 5, seg st.2.1 6, seg st.2.1 7, Scalar.addi v21 1250#32,
        fw (wix (wo L + 125 * 10)), fw (wix (wo L + 125 * 10 + 124))⟩)
      (TS d L X q O W E ![fl L 12, .idle, fu L 10, fl L 11] fw (ch L fw X 10).2.2) := by
  unfold p78
  refine TS.block 0 8 (by omega) hr rfl rfl (fun u => by rw [w177_eq]) rfl rfl ?_
  refine Runs.bind (TS.enq 0 (bo L + 125 * 12) (off_of (k0_off194_eq L 1) (by unfold bo; rfl)) rfl rfl) ?_
  refine Runs.bind (TS.wait 1 (bo L + 125 * 9) rfl rfl) ?_
  refine TS.step 1 9 (by omega) hr rfl rfl (by rw [w195_eq]) (by rw [w196_eq]) (fun u => by rw [w213_eq]) ?_
  refine Runs.bind (TS.wait 2 (bo L + 125 * 10) (s' := ![fl L 12, .idle, fu L 10, fl L 11]) rfl (by funext i; fin_cases i <;> rfl)) ?_
  refine TS.ldw fun v hv => ?_
  refine TS.ldw fun v' hv' => ?_
  have e : k0_off231 L 0 = wo L + 125 * 10 := w231_eq L
  have e' : k0_off232 L 0 = wo L + 125 * 10 + 124 := w232_eq L
  rw [e] at hv
  rw [e'] at hv'
  rw [← hv, ← hv']
  exact Runs.ret

theorem run_p79 (hr : ∀ n < 1625, (fw (wix (wo L + n))).toNat < 64) (v21 : BitVec 32) :
    Runs d L (TS d L X q O W E ![fl L 12, .idle, fu L 10, fl L 11] fw (ch L fw X 10).2.2)
      (p79 L (broadcast S16 ninf) v21 (cr (ch L fw X 10)) (fw (wix (wo L + 125 * 10))) (fw (wix (wo L + 125 * 10 + 124))))
      (let st := ch L fw X 12;
       ⟨st.1, seg st.2.1 0, seg st.2.1 1, seg st.2.1 2, seg st.2.1 3, seg st.2.1 4, seg st.2.1 5, seg st.2.1 6, seg st.2.1 7, Scalar.addi v21 1500#32,
        fw (wix (wo L + 125 * 12)), fw (wix (wo L + 125 * 12 + 124))⟩)
      (TS d L X q O W E ![fu L 12, .idle, .idle, .idle] fw (ch L fw X 12).2.2) := by
  unfold p79
  refine Runs.chk (chk1 (by exact hr (125 * 10) (by omega))) ?_
  refine TS.block 2 10 (by omega) hr rfl rfl (fun u => by rw [w249_eq]) rfl rfl ?_
  refine Runs.bind (TS.wait 3 (bo L + 125 * 11) rfl rfl) ?_
  refine TS.step 3 11 (by omega) hr rfl rfl (by rw [w267_eq]) (by rw [w268_eq]) (fun u => by rw [w285_eq]) ?_
  refine Runs.bind (TS.wait 0 (bo L + 125 * 12) (s' := ![fu L 12, .idle, .idle, .idle]) rfl (by funext i; fin_cases i <;> rfl)) ?_
  refine TS.ldw fun v hv => ?_
  refine TS.ldw fun v' hv' => ?_
  have e : k0_off303 L 0 = wo L + 125 * 12 := w303_eq L
  have e' : k0_off304 L 0 = wo L + 125 * 12 + 124 := w304_eq L
  rw [e] at hv
  rw [e'] at hv'
  rw [← hv, ← hv']
  exact Runs.ret

/-- The last block; what follows it is the copy out. -/
theorem run_p80 {P : sProp 𝕄} (hr : ∀ n < 1625, (fw (wix (wo L + n))).toNat < 64)
    (hout : Runs d L (TS d L X q O W E (fun _ => .idle) fw (ch L fw X 13).2.2) (outG L) ⟨⟩ P) :
    Runs d L (TS d L X q O W E ![fu L 12, .idle, .idle, .idle] fw (ch L fw X 12).2.2)
      (p80 L (broadcast S16 ninf) (cr (ch L fw X 12)) (fw (wix (wo L + 125 * 12))) (fw (wix (wo L + 125 * 12 + 124)))) ⟨⟩ P := by
  unfold p80
  refine Runs.chk (chk1 (by exact hr (125 * 12) (by omega))) ?_
  refine TS.block 0 12 (s' := fun _ => .idle) (by omega) hr rfl (by funext i; fin_cases i <;> rfl) (fun u => by rw [w321_eq]) rfl rfl ?_
  exact hout

end Run

end Cert.Proof.Pool

end
-- ==== Proof.Text8.lean ====
/- The tile's first and last steps: the fetch of its batch words, the filling of its table, the copy out. -/
module

public import proofs.«01_k».proof.Proof.Tile

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Text

variable (L : grid0.Coords)

/-- The words a tile fetches, and where they land. -/
abbrev gSl : Memref sig .scVector .hbm S1664 .i32 := (gW).slice (Rect.unit (s := S100000) (k0_off1 L) S1664.size (k0_off1_inb L)) (fun _ => rfl)
abbrev bbSl : Memref sig .scVector .vmem S1664 .i32 := (bbW).slice (Rect.unit (s := S1680) ![0] S1664.size inb_S1680_S1664_0) (fun _ => rfl)

def fetchG : TProg F L PUnit := do
  Prog.lift (.enqueueDma (gSl L) (.here bbSl) (.dma cc0_scoped0.sem) (View.wordExact_bits rfl) (View.wordExact_bits rfl) ⟨Or.inl rfl, trivial⟩)
  Prog.lift (.waitDma2 cc0_scoped0.sem (gSl L) bbSl (View.wordExact_bits rfl) (View.wordExact_bits rfl))

def fillRow (ng : V16 F) (t : Fin k0_t1_loop.trips) : TProg F L (BitVec 32) := do
  stA L (k0_off2 t) (k0_off2_inb t) ng
  stA L (k0_off3 t) (k0_off3_inb t) ng
  stA L (k0_off4 t) (k0_off4_inb t) ng
  stA L (k0_off5 t) (k0_off5_inb t) ng
  stA L (k0_off6 t) (k0_off6_inb t) ng
  stA L (k0_off7 t) (k0_off7_inb t) ng
  stA L (k0_off8 t) (k0_off8_inb t) ng
  stA L (k0_off9 t) (k0_off9_inb t) ng
  pure 0#32

def p76 (v2 v21 : BitVec 32) : TProg F L (Σ' (_ : BitVec 32) (_ : BitVec 32), FVec F S16 .f32) := do
  fetchG L
  let _ ← Scf.Loop.for k0_t1_loop k0_t1_ok 0#32 (fun t _ => fillRow L (broadcast S16 ninf) t)
  pure ⟨v2, v21, broadcast S16 ninf⟩

set_option maxHeartbeats 4000000 in
theorem p76_eq : ∃ v2 v21 : BitVec 32, k0_part76 (F := F) L xW (Memref.isWhole_whole _) gW (Memref.isWhole_whole _) pW (Memref.isWhole_whole _) bbW (Memref.isWhole_whole _)
      b0W (Memref.isWhole_whole _) b1W (Memref.isWhole_whole _) b2W (Memref.isWhole_whole _) b3W (Memref.isWhole_whole _) accW (Memref.isWhole_whole _)
      cc0_scratch6 cc0_scratch7 cc0_scratch8 cc0_scratch9 cc0_scoped0 cc0_scoped1 = p76 L v2 v21 :=
  ⟨_, _, rfl⟩

end Text

end Cert.Proof.Pool

end
-- ==== Proof.TileRun.lean ====
/- A tile's run from its first step to its last. -/
module

public import proofs.«01_k».proof.Proof.Text8

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

section Run

variable {d : Dev nD} {L : grid0.Coords} {X : S100000x128.Idx → F .f32} {q : Fin 4 → PosShare TreeShare}
variable {O : CellTallies nD τ sig (HIx 1)} {W : Waits sig (HIx 1)} {E : sProp (MT nD τ sig (HIx 1) (Elt F) ℕ UU ℕ)}

/-- Row `k` of a vector of 100000 words. -/
def gix (k : ℕ) : S100000.Idx := Fin.cons (⟨k % 100000, Nat.mod_lt _ (by decide)⟩ : Fin 100000) (fun a => a.elim0)

theorem wix_of (i : S1680.Idx) : wix (i 0).val = i := by
  have h : (i 0).val < 1680 := (i 0).isLt
  funext a
  have h0 : a = (0 : Fin 1) := Subsingleton.elim (α := Fin 1) _ _
  subst h0
  apply Fin.ext
  show (i 0).val % 1680 = (i 0).val
  omega

/-- The batch words in a tile's buffer after the fetch. -/
theorem fetched (G : S100000.Idx → BitVec 32) (f : S1680.Idx → BitVec 32) (n : ℕ) (hn : n < 1664) :
    (bbSl).view.write (Elt F) f ((gSl L).view.read (Elt F) G) Finset.univ (wix n) = G (gix (bo L - wo L + n)) := by
  have h := View.write_emb_of_mem (v := (bbSl).view) (Val := Elt F) f ((gSl L).view.read (Elt F) G) (M := Finset.univ)
    (x := (Fin.cons (⟨n, hn⟩ : Fin 1664) (fun a => a.elim0) : S1664.Idx)) (Finset.mem_univ _)
  have e1 : (bbSl).view.emb (Fin.cons (⟨n, hn⟩ : Fin 1664) (fun a => a.elim0) : S1664.Idx) = wix n := by
    funext a
    have h0 : a = (0 : Fin 1) := Subsingleton.elim (α := Fin 1) _ _
    subst h0
    apply Fin.ext
    show 0 + 1 * n = n % 1680
    omega
  rw [e1] at h
  refine h.trans ?_
  show G _ = G _
  congr 1
  funext a
  have h0 : a = (0 : Fin 1) := Subsingleton.elim (α := Fin 1) _ _
  subst h0
  apply Fin.ext
  have hb := bo_le L
  show k0_off1 L 0 + 1 * n = (bo L - wo L + n) % 100000
  rw [off1_eq]
  omega

/-- The fetch of the batch words. -/
theorem run_fetch {qg : PosShare TreeShare} {G : S100000.Idx → BitVec 32} {f : S1680.Idx → BitVec 32} {R : sProp 𝕄} :
    Runs d L iprop(((gW).view.loc (V d (cV L) (jV L)) ↦{qg} G) ∗ ((bbW).view.loc (V d (cV L) (jV L)) ↦{fullShare} f)
        ∗ semVal ((V d (cV L) (jV L)), .dma cc0_scoped0.sem) 0 ∗ OW d L O W E ∗ R)
      (fetchG L) ⟨⟩
      iprop(((gW).view.loc (V d (cV L) (jV L)) ↦{qg} G)
        ∗ ((bbW).view.loc (V d (cV L) (jV L)) ↦{fullShare} ((bbSl).view.write (Elt F) f ((gSl L).view.read (Elt F) G) Finset.univ))
        ∗ semVal ((V d (cV L) (jV L)), .dma cc0_scoped0.sem) 0 ∗ OW d L O W E ∗ R) := by
  unfold Runs fetchG
  iintro ⟨Hg, Hb, Hv, HO, HR⟩
  ihave Hg := (pointsTo_split_subset (I := (gSl L).view.set) (Finset.subset_univ _)).1 $$ Hg
  icases Hg with ⟨Hg, Hgr⟩
  iapply (Transfers.wp_dmaLocal countersEmb 𝒱₀ (V d (cV L) (jV L)) none (default : HIx 1) (bbSl).view.dmaCredit rfl
    (View.dmaCredit_pos (bbSl).view (by decide)) (Sd := Finset.univ) (Finset.subset_univ _)) $$ [Hg Hb Hv]
  · isplitl [Hg]; · iexact Hg
    isplitl [Hb]; · iexact Hb
    iexact Hv
  iintro Hf
  unfold OW
  icases HO with ⟨#Hmw, ⟨%W', %hW', HO⟩, HE⟩
  iapply (Transfers.wp_waitLocalO countersEmb 𝒱₀ (V d (cV L) (jV L)) none (default : HIx 1) rfl) $$ [Hf HO]
  · isplitl [Hf]; · iexact Hf
    isplitl [HO]; · iexact HO
    iapply Transfers.MayWaits.elim $$ Hmw
  iintro ⟨⟨Hb, Hg⟩, Hv, HO⟩
  iapply le_wp_ret
  isplitr; · ipureintro; rfl
  isplitl [Hg Hgr]
  · iapply (pointsTo_split_subset (I := (gSl L).view.set) (Finset.subset_univ _)).2
    isplitl [Hg] <;> iassumption
  isplitl [Hb]; · iexact Hb
  isplitl [Hv]; · iexact Hv
  isplitr [HR]
  · isplitr; · iexact Hmw
    isplitr [HE]
    · iexists _
      isplitr
      swap
      · iexact HO
      · ipureintro
        intro p hp
        rcases Finset.mem_insert.mp hp with h | h
        · right; rw [h]; rfl
        · exact hW' p h
    iexact HE
  iexact HR

/-- Row `n` of the table. -/
def row64 (n : ℕ) : Fin 64 := ⟨n % 64, Nat.mod_lt _ (by decide)⟩

/-- The table's first `n` rows filled. -/
def filled (fa : S64x128.Idx → F .f32) : ℕ → S64x128.Idx → F .f32
  | 0 => fa
  | n + 1 => setRow (filled fa n) (row64 n) (fun _ => ninf)

theorem filled_apply (fa : S64x128.Idx → F .f32) (n : ℕ) (hn : n ≤ 64) (i : S64x128.Idx) :
    filled fa n i = if (i 0).val < n then ninf else fa i := by
  induction n with
  | zero => rfl
  | succ n ih =>
    show (if (i 0).val = n % 64 then ninf else filled fa n i) = _
    rw [ih (by omega)]
    have hm : n % 64 = n := by omega
    rw [hm]
    split_ifs <;> first | rfl | omega

theorem filled_all (fa : S64x128.Idx → F .f32) : filled fa 64 = fun _ => ninf := by
  funext i
  rw [filled_apply _ _ le_rfl, if_pos (show (i 0).val < 64 from (i 0).isLt)]

theorem run_fillRow {d : Dev nD} {L : grid0.Coords} {buf : Memref sig .scVector .vmem S125x128 .f32} {R : sProp 𝕄} {fx : Buf (Elt F) (buf.view.loc (V d (cV L) (jV L)))} {fw : S1680.Idx → BitVec 32} {fa : S64x128.Idx → F .f32}
    (t : Fin k0_t1_loop.trips) :
    Runs d L (Bufs d L buf R fx fw fa) (fillRow L (broadcast S16 ninf) t) 0#32
      (Bufs d L buf R fx fw (setRow fa (row64 t.val) (fun _ => (ninf : F .f32)))) := by
  have ht : t.val < 64 := t.isLt
  have e : t.val % 64 = t.val := by omega
  unfold fillRow
  rw [← setSeg_all]
  refine Runs.lda fun _ => ?_
  refine Runs.st' (fun _ => ninf) (row64 t.val) 0 (by rw [k0_off2_eq]; show ![t.val, 0] = ![t.val % 64, 0]; rw [e]) rfl ?_
  refine Runs.lda fun _ => ?_
  refine Runs.st' (fun _ => ninf) (row64 t.val) 1 (by rw [k0_off3_eq]; show ![t.val, 16] = ![t.val % 64, 16]; rw [e]) rfl ?_
  refine Runs.lda fun _ => ?_
  refine Runs.st' (fun _ => ninf) (row64 t.val) 2 (by rw [k0_off4_eq]; show ![t.val, 32] = ![t.val % 64, 32]; rw [e]) rfl ?_
  refine Runs.lda fun _ => ?_
  refine Runs.st' (fun _ => ninf) (row64 t.val) 3 (by rw [k0_off5_eq]; show ![t.val, 48] = ![t.val % 64, 48]; rw [e]) rfl ?_
  refine Runs.lda fun _ => ?_
  refine Runs.st' (fun _ => ninf) (row64 t.val) 4 (by rw [k0_off6_eq]; show ![t.val, 64] = ![t.val % 64, 64]; rw [e]) rfl ?_
  refine Runs.lda fun _ => ?_
  refine Runs.st' (fun _ => ninf) (row64 t.val) 5 (by rw [k0_off7_eq]; show ![t.val, 80] = ![t.val % 64, 80]; rw [e]) rfl ?_
  refine Runs.lda fun _ => ?_
  refine Runs.st' (fun _ => ninf) (row64 t.val) 6 (by rw [k0_off8_eq]; show ![t.val, 96] = ![t.val % 64, 96]; rw [e]) rfl ?_
  refine Runs.lda fun _ => ?_
  refine Runs.st' (fun _ => ninf) (row64 t.val) 7 (by rw [k0_off9_eq]; show ![t.val, 112] = ![t.val % 64, 112]; rw [e]) rfl ?_
  exact Runs.ret

theorem run_fill {d : Dev nD} {L : grid0.Coords} {buf : Memref sig .scVector .vmem S125x128 .f32} {R : sProp 𝕄} {fx : Buf (Elt F) (buf.view.loc (V d (cV L) (jV L)))} {fw : S1680.Idx → BitVec 32} {fa : S64x128.Idx → F .f32} :
    Runs d L (Bufs d L buf R fx fw fa) (Scf.Loop.for k0_t1_loop k0_t1_ok 0#32 (fun t _ => fillRow (F := F) L (broadcast S16 ninf) t)) 0#32
      (Bufs d L buf R fx fw (fun _ => (ninf : F .f32))) := by
  have := Runs.loop (d := d) (L := L) (P := fun n => Bufs d L buf R fx fw (filled fa n)) k0_t1_loop k0_t1_ok (fun _ => 0#32)
    (fun t _ => fillRow (F := F) L (broadcast S16 ninf) t) (fun t => run_fillRow t)
  have e : filled fa k0_t1_loop.trips = fun _ => ninf := filled_all fa
  rw [e] at this
  exact this

/-- Where a tile's table goes. -/
abbrev pSl (L : grid0.Coords) : Memref sig .scVector .hbm S64x128 .f32 :=
  ((pW).slice (Rect.unit (s := S32x64x128) (k0_off338 L) S1x64x128.size (k0_off338_inb L)) (fun _ => rfl)).squeeze S64x128 squeezes_S1x64x128_S64x128

/-- The tile's number. -/
def wid (L : grid0.Coords) : Fin 32 := ⟨2 * (L 1).val + (L 0).val, by
  have h0 : (L 0).val < 2 := (L 0).isLt
  have h1 : (L 1).val < 16 := (L 1).isLt
  omega⟩

/-- The entries of table `w` among the thirty-two. -/
def tab (w : Fin 32) : Finset S32x64x128.Idx := Finset.univ.filter fun i => (i 0).val = w.val

/-- Entry `(w, g, c)` of the thirty-two tables. -/
abbrev ix3 (w : Fin 32) (g : Fin 64) (c : Fin 128) : S32x64x128.Idx := Fin.cons w (Fin.cons g (Fin.cons c (fun a => a.elim0)))

theorem pSl_emb (z : S64x128.Idx) : (pSl L).view.emb z = ix3 (wid L) (z 0) (z 1) := by
  have key : ∀ z : S64x128.Idx, (Shape.reshapeEquiv squeezes_S1x64x128_S64x128.numel_eq z 1).val = (z 0).val
      ∧ (Shape.reshapeEquiv squeezes_S1x64x128_S64x128.numel_eq z 2).val = (z 1).val := by
    decide +kernel
  have hz : (Shape.reshapeEquiv squeezes_S1x64x128_S64x128.numel_eq z 0).val < 1 := (Shape.reshapeEquiv squeezes_S1x64x128_S64x128.numel_eq z 0).isLt
  have ho := k0_off338_eq L
  funext a
  apply Fin.ext
  show k0_off338 L a + 1 * (Shape.reshapeEquiv squeezes_S1x64x128_S64x128.numel_eq z a).val = _
  rw [ho]
  refine Fin.cases ?_ (fun a => Fin.cases ?_ (fun a => Fin.cases ?_ (fun a => a.elim0) a) a) a
  · show 2 * (L 1).val + (L 0).val + 1 * (Shape.reshapeEquiv squeezes_S1x64x128_S64x128.numel_eq z 0).val = 2 * (L 1).val + (L 0).val
    omega
  · show 0 + 1 * (Shape.reshapeEquiv squeezes_S1x64x128_S64x128.numel_eq z 1).val = (z 0).val
    rw [(key z).1]; omega
  · show 0 + 1 * (Shape.reshapeEquiv squeezes_S1x64x128_S64x128.numel_eq z 2).val = (z 1).val
    rw [(key z).2]; omega

theorem pSl_set : (pSl L).view.set = tab (wid L) := by
  ext i
  constructor
  · intro h
    obtain ⟨z, -, hz⟩ := Finset.mem_map.mp h
    have hz' : (pSl L).view.emb z = i := hz
    rw [pSl_emb] at hz'
    subst hz'
    exact Finset.mem_filter.mpr ⟨Finset.mem_univ _, rfl⟩
  · intro h
    have h0 := (Finset.mem_filter.mp h).2
    refine Finset.mem_map.mpr ⟨(ix (n := 64) (i 1) (i 2) : S64x128.Idx), Finset.mem_univ _, ?_⟩
    refine (pSl_emb (L := L) _).trans ?_
    funext a
    refine Fin.cases ?_ (fun a => Fin.cases ?_ (fun a => Fin.cases ?_ (fun a => a.elim0) a) a) a
    · exact Fin.ext h0.symm
    · rfl
    · rfl

/-- The copy out. -/
theorem run_out {fa : S64x128.Idx → F .f32} {f : S32x64x128.Idx → F .f32} {R : sProp 𝕄} :
    Runs d L iprop(((accW).view.loc (V d (cV L) (jV L)) ↦{fullShare} fa) ∗ ((pSl L).view.loc (V d (cV L) (jV L)) ↦[(pSl L).view.set]{fullShare} f)
        ∗ semVal ((V d (cV L) (jV L)), .dma cc0_scoped1.sem) 0 ∗ OW d L O W E ∗ R)
      (outG L) ⟨⟩
      iprop(((accW).view.loc (V d (cV L) (jV L)) ↦{fullShare} fa)
        ∗ ((pSl L).view.loc (V d (cV L) (jV L)) ↦[(pSl L).view.set]{fullShare} ((pSl L).view.write (Elt F) f fa Finset.univ))
        ∗ semVal ((V d (cV L) (jV L)), .dma cc0_scoped1.sem) 0 ∗ OW d L O W E ∗ R) := by
  unfold Runs outG
  iintro ⟨Ha, Hp, Hv, HO, HR⟩
  have hset : (accW).view.set = Finset.univ := View.set_whole _
  have hpt : ((accW).view.loc (V d (cV L) (jV L)) ↦{fullShare} fa : sProp 𝕄) = ((accW).view.loc (V d (cV L) (jV L)) ↦[(accW).view.set]{fullShare} fa) := by rw [hset]
  have hrd : (accW).view.read (Elt F) fa = fa := View.read_whole (Val := Elt F) cc0_scratch5 fa
  ihave Ha := (Entails.of_eq hpt) $$ Ha
  iapply (Transfers.wp_dmaLocal countersEmb 𝒱₀ (V d (cV L) (jV L)) none (default : HIx 1) (pSl L).view.dmaCredit rfl
    (View.dmaCredit_pos (pSl L).view (by decide)) (Sd := (pSl L).view.set) (Finset.Subset.refl _)) $$ [Ha Hp Hv]
  · isplitl [Ha]; · iexact Ha
    isplitl [Hp]; · iexact Hp
    iexact Hv
  iintro Hf
  unfold OW
  icases HO with ⟨#Hmw, ⟨%W', %hW', HO⟩, HE⟩
  iapply (Transfers.wp_waitLocalO countersEmb 𝒱₀ (V d (cV L) (jV L)) none (default : HIx 1) rfl) $$ [Hf HO]
  · isplitl [Hf]; · iexact Hf
    isplitl [HO]; · iexact HO
    iapply Transfers.MayWaits.elim $$ Hmw
  iintro ⟨⟨Hp, Ha⟩, Hv, HO⟩
  iapply le_wp_ret
  isplitr; · ipureintro; rfl
  isplitl [Ha]; · iapply (Entails.of_eq hpt.symm); iexact Ha
  isplitl [Hp]; · iexact Hp
  isplitl [Hv]; · iexact Hv
  isplitr [HR]
  · isplitr; · iexact Hmw
    isplitr [HE]
    · iexists _
      isplitr
      swap
      · iexact HO
      · ipureintro
        intro p hp
        rcases Finset.mem_insert.mp hp with h | h
        · right; rw [h]; rfl
        · exact hW' p h
    iexact HE
  iexact HR

theorem Runs.cons {α : Type} {P P1 P1' P' : sProp 𝕄} {p : TProg F L α} {a : α} (h : P ⊢ P1) (h' : P1' ⊢ P') (hr : Runs d L P1 p a P1') :
    Runs d L P p a P' := by
  unfold Runs at *
  refine h.trans (hr.trans (wp_mono _ _ _ ?_))
  intro x
  iintro ⟨%hx, H⟩
  isplitr; · ipureintro; exact hx
  iapply h' $$ H

/-- What a tile keeps aside: its share of the batch words, its table's place, two semaphores. -/
def Aside (d : Dev nD) (L : grid0.Coords) (qg : PosShare TreeShare) (G : S100000.Idx → BitVec 32) (f : S32x64x128.Idx → F .f32) : sProp 𝕄 :=
  iprop(((gW).view.loc (V d (cV L) (jV L)) ↦{qg} G) ∗ ((pSl L).view.loc (V d (cV L) (jV L)) ↦[(pSl L).view.set]{fullShare} f)
    ∗ semVal ((V d (cV L) (jV L)), .dma cc0_scoped0.sem) 0 ∗ semVal ((V d (cV L) (jV L)), .dma cc0_scoped1.sem) 0)

/-- The batch words in a tile's buffer after the fetch. -/
abbrev fetW (L : grid0.Coords) (G : S100000.Idx → BitVec 32) (f0 : S1680.Idx → BitVec 32) : S1680.Idx → BitVec 32 :=
  (bbSl).view.write (Elt F) f0 ((gSl L).view.read (Elt F) G) Finset.univ

theorem fetW_lt {G : S100000.Idx → BitVec 32} {f0 : S1680.Idx → BitVec 32} (hG : ∀ k, (G k).toNat < 64) (n : ℕ) (hn : n < 1625) :
    (fetW (F := F) L G f0 (wix (wo L + n))).toNat < 64 := by
  have := wo_lt L
  rw [fetW, fetched G f0 (wo L + n) (by omega)]
  exact hG _

theorem run_p76 {qg : PosShare TreeShare} {G : S100000.Idx → BitVec 32} {f0 : S1680.Idx → BitVec 32} {fa : S64x128.Idx → F .f32}
    {f : S32x64x128.Idx → F .f32} {v2 v21 : BitVec 32} :
    Runs d L (TS d L X q O W (Aside d L qg G f) (fun _ => .idle) f0 fa) (p76 L v2 v21) ⟨v2, v21, broadcast S16 ninf⟩
      (TS d L X q O W (Aside d L qg G f) (fun _ => .idle) (fetW (F := F) L G f0) (fun _ => ninf)) := by
  unfold p76
  refine Runs.bind (a := ⟨⟩) (P' := TS d L X q O W (Aside d L qg G f) (fun _ => .idle) (fetW (F := F) L G f0) fa) ?_ ?_
  · refine Runs.cons ?_ ?_ (run_fetch (O := O) (W := W) (qg := qg) (G := G) (f := f0)
      (E := iprop(((pSl L).view.loc (V d (cV L) (jV L)) ↦[(pSl L).view.set]{fullShare} f) ∗ semVal ((V d (cV L) (jV L)), .dma cc0_scoped1.sem) 0))
      (R := iprop((bigSep Finset.univ fun j => Slot d L X q j .idle) ∗ ((accW).view.loc (V d (cV L) (jV L)) ↦{fullShare} fa))))
    · unfold TS OW Aside
      iintro ⟨HS, Hw, Ha, Hm, HO, Hg, Hp, Hv0, Hv1⟩
      isplitl [Hg]; · iexact Hg
      isplitl [Hw]; · iexact Hw
      isplitl [Hv0]; · iexact Hv0
      isplitr [HS Ha]
      · isplitl [Hm]; · iexact Hm
        isplitl [HO]; · iexact HO
        isplitl [Hp]; · iexact Hp
        iexact Hv1
      isplitl [HS]; · iexact HS
      iexact Ha
    · unfold TS OW Aside
      iintro ⟨Hg, Hw, Hv0, ⟨Hm, HO, Hp, Hv1⟩, HS, Ha⟩
      isplitl [HS]; · iexact HS
      isplitl [Hw]; · iexact Hw
      isplitl [Ha]; · iexact Ha
      isplitl [Hm]; · iexact Hm
      isplitl [HO]; · iexact HO
      isplitl [Hg]; · iexact Hg
      isplitl [Hp]; · iexact Hp
      isplitl [Hv0]; · iexact Hv0
      iexact Hv1
  refine TS.workIdle 0 rfl fun fx => ?_
  refine Runs.bind run_fill ?_
  exact TS.done 0 (by funext i; fin_cases i <;> rfl) Runs.ret

/-- The copy out, from a tile's last state. -/
theorem run_last {qg : PosShare TreeShare} {G : S100000.Idx → BitVec 32} {fw : S1680.Idx → BitVec 32} {fa : S64x128.Idx → F .f32}
    {f : S32x64x128.Idx → F .f32} :
    Runs d L (TS d L X q O W (Aside d L qg G f) (fun _ => .idle) fw fa) (outG L) ⟨⟩
      (TS d L X q O W (Aside d L qg G ((pSl L).view.write (Elt F) f fa Finset.univ)) (fun _ => .idle) fw fa) := by
  refine Runs.cons ?_ ?_ (run_out (O := O) (W := W) (fa := fa) (f := f)
    (E := iprop(((gW).view.loc (V d (cV L) (jV L)) ↦{qg} G) ∗ semVal ((V d (cV L) (jV L)), .dma cc0_scoped0.sem) 0))
    (R := iprop((bigSep Finset.univ fun j => Slot d L X q j .idle) ∗ ((bbW).view.loc (V d (cV L) (jV L)) ↦{fullShare} fw))))
  · unfold TS OW Aside
    iintro ⟨HS, Hw, Ha, Hm, HO, Hg, Hp, Hv0, Hv1⟩
    isplitl [Ha]; · iexact Ha
    isplitl [Hp]; · iexact Hp
    isplitl [Hv1]; · iexact Hv1
    isplitr [HS Hw]
    · isplitl [Hm]; · iexact Hm
      isplitl [HO]; · iexact HO
      isplitl [Hg]; · iexact Hg
      iexact Hv0
    isplitl [HS]; · iexact HS
    iexact Hw
  · unfold TS OW Aside
    iintro ⟨Ha, Hp, Hv1, ⟨Hm, HO, Hg, Hv0⟩, HS, Hw⟩
    isplitl [HS]; · iexact HS
    isplitl [Hw]; · iexact Hw
    isplitl [Ha]; · iexact Ha
    isplitl [Hm]; · iexact Hm
    isplitl [HO]; · iexact HO
    isplitl [Hg]; · iexact Hg
    isplitl [Hp]; · iexact Hp
    isplitl [Hv0]; · iexact Hv0
    iexact Hv1

/-- What a later cut hands on. -/
abbrev outN (st : St F) (v w w' : BitVec 32) : Out F (Σ' (_ : BitVec 32) (_ : BitVec 32), BitVec 32) :=
  ⟨st.1, seg st.2.1 0, seg st.2.1 1, seg st.2.1 2, seg st.2.1 3, seg st.2.1 4, seg st.2.1 5, seg st.2.1 6, seg st.2.1 7, v, w, w'⟩

/-- The tile's text from its parts. -/
theorem run_parts {P0 P1 P2 P3 P4 P5 : sProp 𝕄} {s8 s10 s12 : St F} {w8 w8' w10 w10' w12 w12' : BitVec 32} (hw : k0_chk1 w8 w8')
    (h76 : ∀ v2 v21, Runs d L P0 (p76 L v2 v21) ⟨v2, v21, broadcast S16 ninf⟩ P1)
    (h77 : ∀ v21, Runs d L P1 (p77 L (broadcast S16 ninf) v21) (out77 s8 (Scalar.addi v21 1000#32) w8 w8' hw) P2)
    (h78 : ∀ v21, Runs d L P2 (p78 L (broadcast S16 ninf) v21 (cr s8) w8 w8' hw) (outN s10 (Scalar.addi v21 1250#32) w10 w10') P3)
    (h79 : ∀ v21, Runs d L P3 (p79 L (broadcast S16 ninf) v21 (cr s10) w10 w10') (outN s12 (Scalar.addi v21 1500#32) w12 w12') P4)
    (h80 : Runs d L P4 (p80 L (broadcast S16 ninf) (cr s12) w12 w12') ⟨⟩ P5) :
    Runs d L P0
      (cc0__sc_body L xW (Memref.isWhole_whole _) gW (Memref.isWhole_whole _) pW (Memref.isWhole_whole _) bbW (Memref.isWhole_whole _)
        b0W (Memref.isWhole_whole _) b1W (Memref.isWhole_whole _) b2W (Memref.isWhole_whole _) b3W (Memref.isWhole_whole _) accW (Memref.isWhole_whole _)
        cc0_scratch6 cc0_scratch7 cc0_scratch8 cc0_scratch9 cc0_scoped0 cc0_scoped1) ⟨⟩ P5 := by
  obtain ⟨v2, v21, e⟩ := p76_eq (F := F) L
  rw [body_eq]
  refine Runs.bind (a := (⟨v2, v21, broadcast S16 ninf⟩ : Σ' (_ : BitVec 32) (_ : BitVec 32), FVec F S16 .f32)) (by rw [e]; exact h76 v2 v21) ?_
  have h77 := h77 v21
  rw [← p77_eq L v2 v21] at h77
  refine Runs.bind h77 ?_
  refine Runs.bind (Eq.mpr (congrArg (fun p => Runs d L P2 p _ P3) (p78_eq L v2 v21 (broadcast S16 ninf) s8.1 (seg s8.2.1 0) (seg s8.2.1 1) (seg s8.2.1 2)
    (seg s8.2.1 3) (seg s8.2.1 4) (seg s8.2.1 5) (seg s8.2.1 6) (seg s8.2.1 7) (Scalar.addi v21 1000#32) w8 w8' hw)) (h78 v21)) ?_
  refine Runs.bind (Eq.mpr (congrArg (fun p => Runs d L P3 p _ P4) (p79_eq L v2 v21 (broadcast S16 ninf) s10.1 (seg s10.2.1 0) (seg s10.2.1 1) (seg s10.2.1 2)
    (seg s10.2.1 3) (seg s10.2.1 4) (seg s10.2.1 5) (seg s10.2.1 6) (seg s10.2.1 7) (Scalar.addi v21 1250#32) w10 w10')) (h79 v21)) ?_
  exact h80

attribute [local irreducible] ch in
/-- The tile's run once its batch words are known. -/
theorem run_tile' {P : sProp 𝕄} {qg : PosShare TreeShare} {G : S100000.Idx → BitVec 32} {fw : S1680.Idx → BitVec 32} {f : S32x64x128.Idx → F .f32}
    (hr : ∀ n < 1625, (fw (wix (wo L + n))).toNat < 64)
    (h76 : ∀ v2 v21, Runs d L P (p76 L v2 v21) ⟨v2, v21, broadcast S16 ninf⟩ (TS d L X q O W (Aside d L qg G f) (fun _ => .idle) fw (fun _ => ninf))) :
    Runs d L P
      (cc0__sc_body L xW (Memref.isWhole_whole _) gW (Memref.isWhole_whole _) pW (Memref.isWhole_whole _) bbW (Memref.isWhole_whole _)
        b0W (Memref.isWhole_whole _) b1W (Memref.isWhole_whole _) b2W (Memref.isWhole_whole _) b3W (Memref.isWhole_whole _) accW (Memref.isWhole_whole _)
        cc0_scratch6 cc0_scratch7 cc0_scratch8 cc0_scratch9 cc0_scoped0 cc0_scoped1) ⟨⟩
      (TS d L X q O W (Aside d L qg G ((pSl L).view.write (Elt F) f (ch L fw X 13).2.2 Finset.univ)) (fun _ => .idle) fw (ch L fw X 13).2.2) := by
  have hw : k0_chk1 (fw (wix (wo L + 125 * 8))) (fw (wix (wo L + 125 * 8 + 124))) := chk1 (hr (125 * 8) (by omega))
  exact run_parts hw h76 (fun v21 => run_p77 hr v21 hw) (fun v21 => run_p78 hr v21 hw) (fun v21 => run_p79 hr v21) (run_p80 hr run_last)

/-- A tile, from its first step to its last. -/
theorem run_tile {qg : PosShare TreeShare} {G : S100000.Idx → BitVec 32} {f0 : S1680.Idx → BitVec 32} {fa : S64x128.Idx → F .f32}
    {f : S32x64x128.Idx → F .f32} (hG : ∀ k, (G k).toNat < 64) :
    Runs d L (TS d L X q O W (Aside d L qg G f) (fun _ => .idle) f0 fa)
      (cc0__sc_body L xW (Memref.isWhole_whole _) gW (Memref.isWhole_whole _) pW (Memref.isWhole_whole _) bbW (Memref.isWhole_whole _)
        b0W (Memref.isWhole_whole _) b1W (Memref.isWhole_whole _) b2W (Memref.isWhole_whole _) b3W (Memref.isWhole_whole _) accW (Memref.isWhole_whole _)
        cc0_scratch6 cc0_scratch7 cc0_scratch8 cc0_scratch9 cc0_scoped0 cc0_scoped1) ⟨⟩
      (TS d L X q O W (Aside d L qg G ((pSl L).view.write (Elt F) f (ch L (fetW (F := F) L G f0) X 13).2.2 Finset.univ)) (fun _ => .idle)
        (fetW (F := F) L G f0) (ch L (fetW (F := F) L G f0) X 13).2.2) :=
  run_tile' (fun n hn => fetW_lt hG n hn) (fun _ _ => run_p76)

end Run

end Cert.Proof.Pool

end
-- ==== Proof.Launch.lean ====
/- What the SparseCore call hands its tiles, and what they bring back: each its share of the feature matrix and of the
   batch words, and its table's place. -/
module

public import proofs.«01_k».proof.Proof.TileRun

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S100000x128 EltTy.f32)
local notation "gW" => (Memref.whole Cert.KernelIdeal.main_arg1_scv : Memref Cert.KernelIdeal.sig Kind.scVector Space.hbm Cert.KernelIdeal.S100000 EltTy.i32)
local notation "pW" => (Memref.whole Cert.KernelIdeal.main_v2_scv : Memref Cert.KernelIdeal.sig Kind.scVector Space.hbm Cert.KernelIdeal.S32x64x128 EltTy.f32)
local notation "bbW" => (Memref.whole Cert.KernelIdeal.cc0_scratch0 : Memref Cert.KernelIdeal.sig Kind.scVector Space.vmem Cert.KernelIdeal.S1680 EltTy.i32)
local notation "b0W" => (Memref.whole Cert.KernelIdeal.cc0_scratch1 : Memref Cert.KernelIdeal.sig Kind.scVector Space.vmem Cert.KernelIdeal.S125x128 EltTy.f32)
local notation "b1W" => (Memref.whole Cert.KernelIdeal.cc0_scratch2 : Memref Cert.KernelIdeal.sig Kind.scVector Space.vmem Cert.KernelIdeal.S125x128 EltTy.f32)
local notation "b2W" => (Memref.whole Cert.KernelIdeal.cc0_scratch3 : Memref Cert.KernelIdeal.sig Kind.scVector Space.vmem Cert.KernelIdeal.S125x128 EltTy.f32)
local notation "b3W" => (Memref.whole Cert.KernelIdeal.cc0_scratch4 : Memref Cert.KernelIdeal.sig Kind.scVector Space.vmem Cert.KernelIdeal.S125x128 EltTy.f32)
local notation "accW" => (Memref.whole Cert.KernelIdeal.cc0_scratch5 : Memref Cert.KernelIdeal.sig Kind.scVector Space.vmem Cert.KernelIdeal.S64x128 EltTy.f32)

open Idealize.ShloMosaic.SparseCore.Cfg (Pay tileRest ownBufs ownSems0 ownCells ownRefs mem_ownCells mem_ownRefs)

/-! ## The tables the tiles leave -/

/-- A tile's batch words, all of them from the vector. -/
def stdW (L : grid0.Coords) (G : S100000.Idx → BitVec 32) : S1680.Idx → BitVec 32 := fun i => G (gix (bo L - wo L + (i 0).val))

theorem blockS_congr {ng : F .f32} {wd wd' : ℕ → BitVec 32} (h : ∀ n < 125, wd n = wd' n) (X : S125x128.Idx → F .f32) (st : St F) :
    blockS ng wd X st = blockS ng wd' X st := by
  have hs : ∀ n ≤ 125, slowS ng wd X st n = slowS ng wd' X st n := by
    intro n
    induction n with
    | zero => intro _; rfl
    | succ n ih => intro hn; simp only [slowS]; rw [ih (by omega), h n (by omega)]
  unfold blockS
  rw [h 0 (by decide), h 124 (by decide), hs 125 le_rfl]

theorem ch_congr {L : grid0.Coords} {fw fw' : S1680.Idx → BitVec 32} {X : S100000x128.Idx → F .f32}
    (h : ∀ n < 1625, fw (wix (wo L + n)) = fw' (wix (wo L + n))) : ∀ k ≤ 13, ch L fw X k = ch L fw' X k := by
  intro k
  induction k with
  | zero => intro _; rfl
  | succ k ih =>
    intro hk
    simp only [ch]
    rw [ih (by omega)]
    refine blockS_congr (fun n hn => ?_) _ _
    rw [Nat.add_assoc]
    exact h (125 * k + n) (by omega)

/-- The table a tile leaves. -/
def tabOf (L : grid0.Coords) (X : S100000x128.Idx → F .f32) (G : S100000.Idx → BitVec 32) : S64x128.Idx → F .f32 :=
  (ch L (stdW L G) X 13).2.2

theorem fetW_ch {L : grid0.Coords} {X : S100000x128.Idx → F .f32} {G : S100000.Idx → BitVec 32} {f0 : S1680.Idx → BitVec 32} :
    (ch L (fetW (F := F) L G f0) X 13).2.2 = tabOf L X G := by
  unfold tabOf
  rw [ch_congr (fw' := stdW L G) (fun n hn => ?_) 13 le_rfl]
  have := wo_lt L
  rw [fetW, fetched G f0 (wo L + n) (by omega), stdW]
  congr 2
  show _ = bo L - wo L + (wo L + n) % 1680
  rw [Nat.mod_eq_of_lt (by omega)]

def coordsV (c : Fin (grid0.bound 0)) (s : Fin (grid0.bound 1)) : grid0.Coords :=
  fun | 0 => c | 1 => s | ⟨_ + 2, h⟩ => absurd h (Nat.not_lt.2 (Nat.le_add_left _ _))

/-- The coordinates of tile `w`. -/
def cL (w : Fin 32) : grid0.Coords := coordsV (⟨w.val % 2, Nat.mod_lt _ (by decide)⟩ : Fin 2) (⟨w.val / 2, by omega⟩ : Fin 16)

theorem cL_wid (L : grid0.Coords) : cL (wid L) = L := by
  have h0 : (L 0).val < 2 := (L 0).isLt
  have h1 : (L 1).val < 16 := (L 1).isLt
  funext a
  refine Fin.cases ?_ (fun a => Fin.cases ?_ (fun a => a.elim0) a) a
  · apply Fin.ext
    show (2 * (L 1).val + (L 0).val) % 2 = (L 0).val
    omega
  · apply Fin.ext
    show (2 * (L 1).val + (L 0).val) / 2 = (L 1).val
    omega

/-- The thirty-two tables. -/
def PT (X : S100000x128.Idx → F .f32) (G : S100000.Idx → BitVec 32) : S32x64x128.Idx → F .f32 :=
  fun i => tabOf (cL (i 0)) X G (ix (n := 64) (i 1) (i 2))

theorem write_PT {L : grid0.Coords} {X : S100000x128.Idx → F .f32} {G : S100000.Idx → BitVec 32} {f : S32x64x128.Idx → F .f32} :
    ∀ i ∈ (pSl L).view.set, (pSl L).view.write (Elt F) f (tabOf L X G) Finset.univ i = PT X G i := by
  intro i hi
  obtain ⟨z, -, hz⟩ := Finset.mem_map.mp hi
  have hz' : (pSl L).view.emb z = i := hz
  subst hz'
  refine (View.write_emb_of_mem (v := (pSl L).view) (Val := Elt F) f (tabOf L X G) (M := Finset.univ) (Finset.mem_univ z)).trans ?_
  rw [pSl_emb]
  show tabOf L X G z = tabOf (cL (wid L)) X G (ix (n := 64) (z 0) (z 1))
  rw [cL_wid]
  congr 1
  funext a
  refine Fin.cases ?_ (fun a => Fin.cases ?_ (fun a => a.elim0) a) a <;> rfl

/-! ## What the call hands each tile -/

abbrev xLoc (d : Dev nD) : Loc nD τ sig := (SparseCore.T d).loc main_arg0
abbrev gLoc (d : Dev nD) : Loc nD τ sig := (SparseCore.T d).loc main_arg1
abbrev pLoc (d : Dev nD) : Loc nD τ sig := (SparseCore.T d).loc main_v2

/-- Tile `w`'s share of what every tile reads. -/
def qw (w : Fin 32) : PosShare TreeShare := Transfers.dealOf fullShare Finset.univ w

/-- That share cut in four, one for each row buffer. -/
def qj (w : Fin 32) (j : Fin 4) : PosShare TreeShare := Transfers.dealOf (qw w) Finset.univ j

variable (m : (ℓ : Loc nD τ sig) → Buf (Elt F) ℓ)

/-- A tile's share of the matrix, of the batch words, and its table's place, holding `f`. -/
def pay (d : Dev nD) (w : Fin 32) (f : Buf (Elt F) (pLoc d)) : sProp 𝕄 :=
  iprop((xLoc d ↦{qw w} m (xLoc d)) ∗ (gLoc d ↦{qw w} m (gLoc d)) ∗ (pLoc d ↦[tab w]{fullShare} f))

theorem nSub_zero : (K (F := F)).nSub 0 = 16 := rfl
theorem nCore_zero : (K (F := F)).nCore 0 = 2 := rfl

/-- The tile of a SparseCore and a subcore. -/
def wOf (c : Fin 2) (i : Fin 16) : Fin 32 := ⟨2 * i.val + c.val, by omega⟩

instance pay_storable (d : Dev nD) (w : Fin 32) (f : Buf (Elt F) (pLoc d)) : BI.Storable (upEmb : UEmb _ 𝕄) (pay m d w f) := by
  unfold pay; infer_instance

/-- What the sixteen tiles of one SparseCore hold. -/
def paySC (d : Dev nD) (c : Fin 2) (f : Buf (Elt F) (pLoc d)) : sProp 𝕄 :=
  bigSep Finset.univ fun i : Fin 16 => pay m d (wOf c i) f

instance paySC_storable (d : Dev nD) (c : Fin 2) (f : Buf (Elt F) (pLoc d)) : BI.Storable (upEmb : UEmb _ 𝕄) (paySC m d c f) := by
  unfold paySC; infer_instance

/-- The tables as the whole call leaves them. -/
abbrev PTm (d : Dev nD) : Buf (Elt F) (pLoc d) := PT (m (xLoc d)) (m (gLoc d))

/-- The call takes and brings back what its tiles do. -/
def P : (K (F := F)).Pay (nD := nD) (Val := Elt F) (Name := ℕ) (U := UU) where
  st := fun q d c => match q with | 0 => paySC m d (Fin.cast nCore_zero c) (m (pLoc d))
  dn := fun q d c => match q with | 0 => paySC m d (Fin.cast nCore_zero c) (PTm m d)
  go := fun q d c i => match q with | 0 => pay m d (wOf (Fin.cast nCore_zero c) (Fin.cast nSub_zero i)) (m (pLoc d))
  td := fun q d c i => match q with | 0 => pay m d (wOf (Fin.cast nCore_zero c) (Fin.cast nSub_zero i)) (PTm m d)
  x := fun _ _ => iprop(emp)

instance P_storable : (P (F := F) m).IsStorable where
  st q d c := match q with | 0 => paySC_storable m d (Fin.cast nCore_zero c) (m (pLoc d))
  dn q d c := match q with | 0 => paySC_storable m d (Fin.cast nCore_zero c) (PTm m d)
  go q d c i := match q with | 0 => pay_storable m d (wOf (Fin.cast nCore_zero c) (Fin.cast nSub_zero i)) (m (pLoc d))
  td q d c i := match q with | 0 => pay_storable m d (wOf (Fin.cast nCore_zero c) (Fin.cast nSub_zero i)) (PTm m d)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own buffers and semaphores -/

def bf : Fin 6 → Ref sig .scVector
  | 0 => cc0_scratch1
  | 1 => cc0_scratch2
  | 2 => cc0_scratch3
  | 3 => cc0_scratch4
  | 4 => cc0_scratch0
  | 5 => cc0_scratch5

theorem bf_inj : Function.Injective bf := by decide

def sf : Fin 6 → SemLoc sig
  | 0 => .dma (rs 0).sem
  | 1 => .dma (rs 1).sem
  | 2 => .dma (rs 2).sem
  | 3 => .dma (rs 3).sem
  | 4 => .dma cc0_scoped0.sem
  | 5 => .dma cc0_scoped1.sem

theorem sf_inj : Function.Injective sf := by decide

theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family's members named one-to-one by `k`, and the others. -/
theorem bigSep_named {I : Type} [DecidableEq I] {n : ℕ} {s : Finset I} {k : Fin n → I} (inj : Function.Injective k)
    (sub : ∀ j, k j ∈ s) {Φ : I → sProp 𝕄} :
    bigSep s Φ = iprop((bigSep Finset.univ fun j => Φ (k j)) ∗ bigSep (s \ Finset.univ.image k) Φ) := by
  rw [SparseCore.bigSep_sdiff_split' (t := Finset.univ.image k) (fun x hx => by
    obtain ⟨j, -, rfl⟩ := Finset.mem_image.mp hx; exact sub j), SparseCore.bigSep_image_of_injOn inj.injOn]

section Tile

variable (d : Dev nD) (L : grid0.Coords)

theorem ownSems_tile :
    ∃ R : sProp 𝕄, (ownSems0 (V d (cV L) (jV L)) : sProp 𝕄)
      = iprop((semVal (V d (cV L) (jV L), .dma (rs 0).sem) 0 ∗ semVal (V d (cV L) (jV L), .dma (rs 1).sem) 0
          ∗ semVal (V d (cV L) (jV L), .dma (rs 2).sem) 0 ∗ semVal (V d (cV L) (jV L), .dma (rs 3).sem) 0
          ∗ semVal (V d (cV L) (jV L), .dma cc0_scoped0.sem) 0 ∗ semVal (V d (cV L) (jV L), .dma cc0_scoped1.sem) 0) ∗ R) := by
  refine ⟨bigSep (ownCells (V d (cV L) (jV L)) \ Finset.univ.image fun k => ((V d (cV L) (jV L), sf k) : GSem nD τ sig)) fun g => semVal g 0, ?_⟩
  unfold SparseCore.Cfg.ownSems0
  refine (bigSep_named (k := fun k => ((V d (cV L) (jV L), sf k) : GSem nD τ sig))
    (fun a b h => sf_inj (Prod.mk.inj h).2) (fun k => mem_ownCells.mpr ⟨rfl, ?_⟩)).trans ?_
  · show (sf k).isScoped .scVector = true
    revert k; decide
  · rw [bigSep6]; rfl

theorem ownBufs_tile :
    ∃ R : sProp 𝕄, (ownBufs (V d (cV L) (jV L)) : sProp 𝕄)
      = iprop(((∃ f, (rb 0).view.loc (V d (cV L) (jV L)) ↦{fullShare} f) ∗ (∃ f, (rb 1).view.loc (V d (cV L) (jV L)) ↦{fullShare} f)
          ∗ (∃ f, (rb 2).view.loc (V d (cV L) (jV L)) ↦{fullShare} f) ∗ (∃ f, (rb 3).view.loc (V d (cV L) (jV L)) ↦{fullShare} f)
          ∗ (∃ f, (bbW).view.loc (V d (cV L) (jV L)) ↦{fullShare} f) ∗ (∃ f, (accW).view.loc (V d (cV L) (jV L)) ↦{fullShare} f)) ∗ R) := by
  refine ⟨bigSep (ownRefs (τ := τ) (.scVector (cV L) (jV L)) \ Finset.univ.image fun k => (Proc.scVector (cV L) (jV L)).devRef (bf k))
    fun b => iprop(∃ f, ((d, b) : Loc nD τ sig) ↦{fullShare} f), ?_⟩
  unfold SparseCore.Cfg.ownBufs
  refine (bigSep_named (k := fun k => (Proc.scVector (cV L) (jV L)).devRef (bf k))
    (fun a b h => bf_inj (Proc.devRef_injective _ h)) (fun k => SparseCore.Cfg.mem_ownRefs_of_owner (p := Proc.scVector (cV L) (jV L)) ?_)).trans ?_
  · fin_cases k <;> rfl
  · rw [bigSep6]; rfl

theorem pts_table {f : Buf (Elt F) (pLoc d)} :
    ((pSl L).view.loc (V d (cV L) (jV L)) ↦[(pSl L).view.set]{fullShare} f : sProp 𝕄) = pLoc d ↦[tab (wid L)]{fullShare} f := by
  rw [pSl_set]

/-- The feature matrix's share, cut in four. -/
theorem x_four {f : Buf (Elt F) (xLoc d)} (w : Fin 32) :
    (xLoc d ↦{qw w} f : sProp 𝕄) = iprop((xLoc d ↦{qj w 0} f) ∗ (xLoc d ↦{qj w 1} f) ∗ (xLoc d ↦{qj w 2} f) ∗ (xLoc d ↦{qj w 3} f)) := by
  rw [Transfers.pointsTo_deal (ι := Fin 4) Finset.univ ⟨0, Finset.mem_univ _⟩ (qw w), bigSep4]; rfl

/-- A tile's run, from what it is handed and its own buffers and semaphores. -/
theorem tile_body (hF : (K (F := F)).Facts) (hG : ∀ k, (m (gLoc d) k).toNat < 64) (O : CellTallies nD τ sig (HIx 1)) (W : Waits sig (HIx 1))
    (hO : ∀ g, O g none = 0) :
    iprop(levAts (K (F := F)).L (K (F := F)).lev ∗ emp ∗ pay m d (wid L) (m (pLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1)
          fun _ => iprop(pay m d (wid L) (PTm m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems_tile (F := F) d L
  obtain ⟨RB, hRB⟩ := ownBufs_tile (F := F) d L
  rw [(K (F := F)).scopedBufs_V hF d (cV L) (jV L), SparseCore.Cfg.scopedSems0_V (Val := Elt F) d (cV L) (jV L), hRS, hRB]
  unfold pay
  rw [x_four, ← pts_table, ← pts_table]
  iintro ⟨#Hlv, -, ⟨⟨Hx0, Hx1, Hx2, Hx3⟩, Hg, Hp⟩, ⟨⟨⟨%f0, H0⟩, ⟨%f1, H1⟩, ⟨%f2, H2⟩, ⟨%f3, H3⟩, ⟨%fb, Hb⟩, ⟨%fa, Ha⟩⟩, HRB⟩,
    ⟨⟨S0, S1, S2, S3, S4, S5⟩, HRS⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (Runs.use (R := iprop(RB ∗ RS)) (run_tile (d := d) (L := L) (X := m (xLoc d)) (q := qj (wid L)) (O := O) (W := W) (qg := qw (wid L)) (G := m (gLoc d)) (f0 := fb) (fa := fa)
    (f := m (pLoc d)) hG) ?_) $$ [Hx0 Hx1 Hx2 Hx3 Hg Hp H0 H1 H2 H3 Hb Ha S0 S1 S2 S3 S4 S5 HO HRB HRS]
  rotate_left
  · isplitr [HRB HRS]
    · unfold TS OW Aside
      rw [bigSep4]
      unfold Slot xsh
      isplitl [Hx0 Hx1 Hx2 Hx3 H0 H1 H2 H3 S0 S1 S2 S3]
      · isplitl [Hx0 H0 S0]
        · isplitl [H0]; · iexists _; iexact H0
          isplitl [Hx0]; · iexact Hx0
          iexact S0
        isplitl [Hx1 H1 S1]
        · isplitl [H1]; · iexists _; iexact H1
          isplitl [Hx1]; · iexact Hx1
          iexact S1
        isplitl [Hx2 H2 S2]
        · isplitl [H2]; · iexists _; iexact H2
          isplitl [Hx2]; · iexact Hx2
          iexact S2
        · isplitl [H3]; · iexists _; iexact H3
          isplitl [Hx3]; · iexact Hx3
          iexact S3
      isplitl [Hb]; · iexact Hb
      isplitl [Ha]; · iexact Ha
      isplitr; · iexact Hmw
      isplitl [HO]
      · iexists W
        isplitr; · ipureintro; exact fun p hp => Or.inl hp
        iexact HO
      isplitl [Hg]; · iexact Hg
      isplitl [Hp]; · iexact Hp
      isplitl [S4]; · iexact S4
      iexact S5
    · isplitl [HRB] <;> iassumption
  · rw [fetW_ch]
    unfold TS OW Aside
    rw [bigSep4]
    unfold Slot xsh
    iintro ⟨⟨⟨⟨H0, Hx0, S0⟩, ⟨H1, Hx1, S1⟩, ⟨H2, Hx2, S2⟩, ⟨H3, Hx3, S3⟩⟩, Hb, Ha, -, HO, Hg, Hp, S4, S5⟩, HRB, HRS⟩
    isplitl [Hx0 Hx1 Hx2 Hx3 Hg Hp]
    · isplitl [Hx0 Hx1 Hx2 Hx3]
      · isplitl [Hx0]; · iexact Hx0
        isplitl [Hx1]; · iexact Hx1
        isplitl [Hx2]; · iexact Hx2
        iexact Hx3
      isplitl [Hg]; · iexact Hg
      iapply (Entails.of_eq (pointsTo_congr (write_PT (L := L)))) $$ Hp
    isplitl [H0 H1 H2 H3 Hb Ha HRB]
    · isplitr [HRB]
      · isplitl [H0]; · iexact H0
        isplitl [H1]; · iexact H1
        isplitl [H2]; · iexact H2
        isplitl [H3]; · iexact H3
        isplitl [Hb]; · iexists _; iexact Hb
        iexists _; iexact Ha
      iexact HRB
    isplitl [S0 S1 S2 S3 S4 S5 HRS]
    · isplitr [HRS]
      · isplitl [S0]; · iexact S0
        isplitl [S1]; · iexact S1
        isplitl [S2]; · iexact S2
        isplitl [S3]; · iexact S3
        isplitl [S4]; · iexact S4
        iexact S5
      iexact HRS
    iexact HO

theorem defs₀_vector (c : Fin τ.nSC) (s : Fin τ.nSub) :
    defs₀ (F := F) (.scVector c s) 0 ()
      = SparseCore.onTile hcore0 hsub0 (fun c s => cc0__sc_body (coordsV c s) xW (Memref.isWhole_whole _) gW (Memref.isWhole_whole _) pW (Memref.isWhole_whole _) bbW (Memref.isWhole_whole _)
            b0W (Memref.isWhole_whole _) b1W (Memref.isWhole_whole _) b2W (Memref.isWhole_whole _) b3W (Memref.isWhole_whole _) accW (Memref.isWhole_whole _)
            cc0_scratch6 cc0_scratch7 cc0_scratch8 cc0_scratch9 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hG : ∀ d k, (m (gLoc d) k).toNat < 64) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (hG d) O W hO).trans (wp_mono frame _ _ fun _ => obl_post)

end Tile

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part of the call is its tiles'. -/
theorem vecSplit : (K (F := F)).VecSplit' (P m) 0 := by
  intro d c
  show paySC m d (Fin.cast nCore_zero c) (m (pLoc d)) ⊢ |={Set.univ}=> iprop(
      (bigSep Finset.univ fun i : Fin ((K (F := F)).nSub 0) => pay m d (wOf (Fin.cast nCore_zero c) (Fin.cast nSub_zero i)) (m (pLoc d)))
      ∗ ((bigSep Finset.univ fun i : Fin ((K (F := F)).nSub 0) => pay m d (wOf (Fin.cast nCore_zero c) (Fin.cast nSub_zero i)) (PTm m d))
          -∗ paySC m d (Fin.cast nCore_zero c) (PTm m d)))
  rw [bigSep_tasks (F := F) fun i => pay m d (wOf (Fin.cast nCore_zero c) i) (m (pLoc d)),
    bigSep_tasks (F := F) fun i => pay m d (wOf (Fin.cast nCore_zero c) i) (PTm m d)]
  unfold paySC
  iintro H; imodintro
  isplitl [H]; · iexact H
  iintro H; iexact H

/-! ## The launch element -/

/-- The pipelines prefetch no table. -/
abbrev adm (p : Fin 2) : (pcfgs (F := F) p).Adm := (cfgs p).toPCfg_adm

/-- The staging cells' and the duty tokens' ghost state of both pipelines. -/
abbrev G (d : Dev nD) : sProp 𝕄 := Pipeline.ghostOn (pcfgs (F := F)) adm EP Finset.univ d

def u₀ : UU := (initOf (K (F := F)).hsCells (K (F := F)).hsToks,
  (initOf (Pipeline.cells (Pipeline.pin (pcfgs (F := F)) adm) Gen.cellOf_inj) (Pipeline.launchToks (Pipeline.pin (pcfgs (F := F)) adm) Gen.cellOf_inj), 1))

theorem ghosts : (BI.own (EP (initOf (Pipeline.cells (Pipeline.pin (pcfgs (F := F)) adm) Gen.cellOf_inj) (Pipeline.launchToks (Pipeline.pin (pcfgs (F := F)) adm) Gen.cellOf_inj))) : sProp 𝕄)
    ⊢ |={Set.univ}=> bigSep Finset.univ fun d : Dev nD => G d := by
  iintro H
  imod (Pipeline.fund_ghost (Pipeline.pin (pcfgs (F := F)) adm) EP Gen.cellOf_inj) $$ H with ⟨Hg, Ht⟩
  imodintro
  iapply (show iprop((bigSep Finset.univ fun d : Dev nD => bigSep Finset.univ fun p => Pipeline.cellsGhost (Pipeline.pin (pcfgs (F := F)) adm) EP p d)
      ∗ (bigSep Finset.univ fun d : Dev nD => bigSep Finset.univ fun p => (Pipeline.toksInit (Pipeline.pin (pcfgs (F := F)) adm) EP p d : sProp 𝕄)))
    ⊢ bigSep Finset.univ fun d : Dev nD => G d from by
      rw [← bigSep_sep']
      exact bigSep_mono fun d _ => show iprop((bigSep Finset.univ fun p => Pipeline.cellsGhost (Pipeline.pin (pcfgs (F := F)) adm) EP p d)
          ∗ bigSep Finset.univ fun p => (Pipeline.toksInit (Pipeline.pin (pcfgs (F := F)) adm) EP p d : sProp 𝕄)) ⊢ G d
        from Entails.of_eq (by unfold G Pipeline.ghostOn Pipeline.PerCore.ghostOn; rw [bigSep_sep']))
  isplitl [Hg]; · iexact Hg
  iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HP⟩
  ihave H := (own_pair_emb embR _ _) $$ HP
  icases H with ⟨HP, -⟩
  ihave HP := (Entails.of_eq (show _ = BI.own (EP (F := F) _) from by unfold EP; rfl)) $$ HP
  imod (ghosts (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

end Cert.Proof.Pool

end
-- ==== Proof.MaxRows.lean ====
module

public import proofs.«01_k».proof.Proof.Launch
public import Idealize.ShloMosaic.Lib.ReduceAll
public import Idealize.ShloMosaic.PureOps.Ideal

@[expose] public section

set_option maxRecDepth 16384

noncomputable section

namespace Cert.Proof.Pool

open Cert.KernelIdeal Cert.KernelIdeal.Gen
open Idealize.ShloMosaic

/-! # The maximum of the rows of one graph -/

/-- Row `r` of the features. -/
def rowX (x : S100000x128.Idx → EReal) (r : ℕ) (c : Fin 128) : EReal := x (ix ⟨r % 100000, Nat.mod_lt _ (by decide)⟩ c)

/-- The graph of row `r`. -/
def bN (g : S100000.Idx → BitVec 32) (r : ℕ) : ℕ := (g (gix r)).toNat

/-- The maximum of column `c` over those rows of `S` that belong to graph `s`; −∞ where none does. -/
def segM (x : S100000x128.Idx → EReal) (g : S100000.Idx → BitVec 32) (S : Finset ℕ) (s : ℕ) (c : Fin 128) : EReal :=
  S.sup fun r => if bN g r = s then rowX x r c else ⊥

section

variable {x : S100000x128.Idx → EReal} {g : S100000.Idx → BitVec 32}

theorem segM_union (S T : Finset ℕ) (s : ℕ) (c : Fin 128) : segM x g (S ∪ T) s c = max (segM x g S s c) (segM x g T s c) :=
  Finset.sup_union

theorem segM_none {S : Finset ℕ} {s : ℕ} (h : ∀ r ∈ S, bN g r ≠ s) (c : Fin 128) : segM x g S s c = ⊥ :=
  (Finset.sup_congr rfl fun r hr => if_neg (h r hr)).trans (Finset.sup_bot S)

theorem segM_all {S : Finset ℕ} {s : ℕ} (h : ∀ r ∈ S, bN g r = s) (c : Fin 128) : segM x g S s c = S.sup fun r => rowX x r c :=
  Finset.sup_congr rfl fun r hr => if_pos (h r hr)

theorem Ico_add (a m n : ℕ) : Finset.Ico a (a + (m + n)) = Finset.Ico a (a + m) ∪ Finset.Ico (a + m) (a + m + n) := by
  rw [← Nat.add_assoc]
  exact (Finset.Ico_union_Ico_eq_Ico (Nat.le_add_right _ _) (Nat.le_add_right _ _)).symm

/-- The words are graphs, in order. -/
structure Ord (g : S100000.Idx → BitVec 32) : Prop where
  lt : ∀ r, bN g r < 64
  mono : ∀ r s, r ≤ s → s < 100000 → bN g r ≤ bN g s

theorem ninf_eq : (ninf : Ideal .f32) = (⊥ : EReal) := by
  show Ideal.ofBits .f32 0xFF800000#32 = ⊥
  simp [Ideal.ofBits, Ideal.ieee]

/-! ## A tile -/

/-- The state after the `n` rows from `a` on. -/
structure Inv (x : S100000x128.Idx → EReal) (g : S100000.Idx → BitVec 32) (a n : ℕ) (st : St Ideal) : Prop where
  car : ∀ w : BitVec 32, w.toNat < 64 → (∀ r ∈ Finset.Ico a (a + n), bN g r ≤ w.toNat) → ∀ c,
    carry (F := Ideal) (w = st.1) ninf st.2.1 c = segM x g (Finset.Ico a (a + n)) w.toNat c
  tab : ∀ (s : Fin 64) c, st.2.2 (ix s c) = segM x g (Finset.Ico a (a + n)) s.val c

theorem Inv.zero (a : ℕ) : Inv x g a 0 (4294967295#32, fun _ => ninf, fun _ => ninf) where
  car w hw _ c := by
    rw [segM_none (by simp)]
    unfold carry
    rw [ninf_eq]
    exact ite_self _
  tab s c := by
    rw [segM_none (by simp)]
    exact ninf_eq

/-- A run of rows of graph `s` at the end, its running row `h`. -/
theorem Inv.next {a m n : ℕ} {st : St Ideal} (H : Inv x g a m st) (hg : Ord g) (ha : a + (m + n) ≤ 100000) (hn : 0 < n)
    {s : BitVec 32} (hs : ∀ i < n, g (gix (a + m + i)) = s) {h : Fin 128 → Ideal .f32}
    (hh : ∀ c, h c = max (segM x g (Finset.Ico a (a + m)) s.toNat c) ((Finset.Ico (a + m) (a + m + n)).sup fun r => rowX x r c)) :
    Inv x g a (m + n) (s, h, setRow st.2.2 (gr s) h) := by
  have hb : ∀ r ∈ Finset.Ico (a + m) (a + m + n), bN g r = s.toNat := by
    intro r hr
    rw [Finset.mem_Ico] at hr
    have := hs (r - (a + m)) (by omega)
    rw [show a + m + (r - (a + m)) = r by omega] at this
    exact congrArg BitVec.toNat this
  have h0 : bN g (a + m) = s.toNat := hb _ (Finset.mem_Ico.2 (by omega))
  have hlt : s.toNat < 64 := h0 ▸ hg.lt _
  have hh' : ∀ c, h c = segM x g (Finset.Ico a (a + (m + n))) s.toNat c := by
    intro c
    rw [Ico_add, segM_union, hh, segM_all hb]
  refine ⟨fun w hw hle c => ?_, fun t c => ?_⟩
  · unfold carry
    by_cases e : w = s
    · rw [if_pos e, e]
      exact hh' c
    · rw [if_neg e, ninf_eq, segM_none]
      intro r hr hrw
      apply e
      apply BitVec.eq_of_toNat_eq
      have h1 := hle (a + m) (Finset.mem_Ico.2 (by omega))
      rw [Finset.mem_Ico] at hr
      by_cases hrm : r < a + m
      · have := hg.mono r (a + m) (by omega) (by omega)
        omega
      · have := hb r (Finset.mem_Ico.2 (by omega))
        omega
  · show (if t.val = (gr s).val then h c else st.2.2 (ix t c)) = _
    have hgr : (gr s).val = s.toNat := Nat.mod_eq_of_lt hlt
    rw [hgr]
    by_cases e : t.val = s.toNat
    · rw [if_pos e, e]; exact hh' c
    · rw [if_neg e, H.tab, Ico_add, segM_union, segM_none (S := Finset.Ico (a + m) (a + m + n)), max_eq_left bot_le]
      intro r hr; rw [hb r hr]; exact fun h => e h.symm

/-- Rows before a row are of graphs up to its graph. -/
theorem Ord.before {a m : ℕ} (hg : Ord g) (ha : a + m < 100000) : ∀ r ∈ Finset.Ico a (a + m), bN g r ≤ (g (gix (a + m))).toNat := by
  intro r hr
  rw [Finset.mem_Ico] at hr
  exact hg.mono r (a + m) (by omega) ha

theorem Inv.step {a m : ℕ} {st : St Ideal} (H : Inv x g a m st) (hg : Ord g) (ha : a + (m + 1) ≤ 100000) :
    Inv x g a (m + 1) (stepS ninf (g (gix (a + m))) (rowX x (a + m)) st) := by
  refine H.next hg ha one_pos (fun i hi => by rw [show i = 0 by omega]; rfl) fun c => ?_
  show max (carry _ _ _ c) _ = _
  rw [H.car _ (hg.lt _) (hg.before (by omega)), Nat.Ico_succ_singleton, Finset.sup_singleton]

/-- The words and rows of a block that starts at row `o`. -/
structure Blk (x : S100000x128.Idx → EReal) (g : S100000.Idx → BitVec 32) (o : ℕ) (wd : ℕ → BitVec 32) (X : S125x128.Idx → Ideal .f32) : Prop where
  wd : ∀ i < 125, wd i = g (gix (o + i))
  row : ∀ i < 125, rowN X i = rowX x (o + i)

theorem Inv.slow {a m : ℕ} {st : St Ideal} (H : Inv x g a m st) (hg : Ord g) (ha : a + (m + 125) ≤ 100000) {wd : ℕ → BitVec 32}
    {X : S125x128.Idx → Ideal .f32} (hb : Blk x g (a + m) wd X) : ∀ n ≤ 125, Inv x g a (m + n) (slowS ninf wd X st n) := by
  intro n
  induction n with
  | zero => exact fun _ => H
  | succ n ih =>
    intro hn
    have h := (ih (by omega)).step hg (by omega)
    rw [← Nat.add_assoc] at h
    show Inv x g a (m + n + 1) (stepS ninf (wd n) (rowN X n) _)
    rw [hb.wd n (by omega), hb.row n (by omega)]
    exact h

theorem foldR_sup (X : S125x128.Idx → Ideal .f32) (a : ℕ) (h : Fin 128 → Ideal .f32) (n : ℕ) (c : Fin 128) :
    foldR X a h n c = max (h c : EReal) ((Finset.Ico a (a + n)).sup fun i => (rowN X i c : EReal)) := by
  induction n with
  | zero => simp [foldR]
  | succ n ih =>
    show max (foldR X a h n c : EReal) (rowN X (a + n) c) = _
    rw [ih, Ico_add, Finset.sup_union, Nat.Ico_succ_singleton, Finset.sup_singleton, max_assoc]

theorem Inv.fast {a m : ℕ} {st : St Ideal} (H : Inv x g a m st) (hg : Ord g) (ha : a + (m + 125) ≤ 100000) {wd : ℕ → BitVec 32}
    {X : S125x128.Idx → Ideal .f32} (hb : Blk x g (a + m) wd X) (he : wd 0 = wd 124) : Inv x g a (m + 125) (fastS ninf (wd 0) X st) := by
  have hw : wd 0 = g (gix (a + m)) := hb.wd 0 (by omega)
  have hw' : wd 124 = g (gix (a + m + 124)) := hb.wd 124 (by omega)
  have hs : ∀ i < 125, g (gix (a + m + i)) = wd 0 := by
    intro i hi
    apply BitVec.eq_of_toNat_eq
    have h1 := hg.mono (a + m) (a + m + i) (by omega) (by omega)
    have h2 := hg.mono (a + m + i) (a + m + 124) (by omega) (by omega)
    have h3 : bN g (a + m) = (wd 0).toNat := by rw [hw]; rfl
    have h4 : bN g (a + m + 124) = (wd 0).toNat := by rw [he, hw']; rfl
    show bN g _ = _
    omega
  refine H.next hg ha (by decide) hs fun c => ?_
  have hc := H.car (wd 0) (by rw [hw]; exact hg.lt _) (by rw [hw]; exact hg.before (by omega)) c
  rw [foldR_sup, foldR_sup, foldR_sup, hc, max_assoc, max_assoc]
  congr 1
  have hr : ∀ i < 125, (rowN X i c : EReal) = rowX x (a + m + i) c := fun i hi => congrFun (hb.row i hi) c
  apply le_antisymm
  · refine max_le ?_ (max_le ?_ ?_) <;>
    · refine Finset.sup_le fun i hi => ?_
      rw [Finset.mem_Ico] at hi
      rw [hr i (by omega)]
      exact Finset.le_sup (f := fun r => rowX x r c) (Finset.mem_Ico.2 (by omega))
  · refine Finset.sup_le fun r hr' => ?_
    rw [Finset.mem_Ico] at hr'
    have hx : rowX x r c = (rowN X (r - (a + m)) c : EReal) := by
      rw [hr _ (by omega), show a + m + (r - (a + m)) = r by omega]
    rw [hx]
    by_cases h0 : r - (a + m) < 1
    · exact le_max_of_le_left (Finset.le_sup (f := fun i => (rowN X i c : EReal)) (Finset.mem_Ico.2 (by omega)))
    · by_cases h5 : r - (a + m) < 5
      · exact le_max_of_le_right (le_max_of_le_right (Finset.le_sup (f := fun i => (rowN X i c : EReal)) (Finset.mem_Ico.2 (by omega))))
      · exact le_max_of_le_right (le_max_of_le_left (Finset.le_sup (f := fun i => (rowN X i c : EReal)) (Finset.mem_Ico.2 (by omega))))

theorem Inv.block {a m : ℕ} {st : St Ideal} (H : Inv x g a m st) (hg : Ord g) (ha : a + (m + 125) ≤ 100000) {wd : ℕ → BitVec 32}
    {X : S125x128.Idx → Ideal .f32} (hb : Blk x g (a + m) wd X) : Inv x g a (m + 125) (blockS ninf wd X st) := by
  unfold blockS
  split
  · exact H.fast hg ha hb ‹_›
  · exact H.slow hg ha hb 125 le_rfl

theorem blk_of (L : grid0.Coords) (k : ℕ) (hk : k < 13) :
    Blk x g (bo L + 125 * k) (fun n => stdW L g (wix (wo L + 125 * k + n))) (Xblk (F := Ideal) x (bo L + 125 * k)) := by
  have h1 := wo_lt L
  have h2 : wo L ≤ bo L := Nat.mod_le _ _
  refine ⟨fun i hi => ?_, fun i hi => ?_⟩
  · show g (gix (bo L - wo L + (wo L + 125 * k + i) % 1680)) = _
    rw [Nat.mod_eq_of_lt (by omega)]
    congr 2
    omega
  · funext c
    show x (ix ⟨(bo L + 125 * k + i % 125) % 100000, _⟩ c) = x (ix ⟨(bo L + 125 * k + i) % 100000, _⟩ c)
    congr 3
    rw [Nat.mod_eq_of_lt hi]

theorem inv_ch (hg : Ord g) (L : grid0.Coords) : ∀ k ≤ 13, Inv x g (bo L) (125 * k) (ch (F := Ideal) L (stdW L g) x k) := by
  intro k
  induction k with
  | zero => exact fun _ => Inv.zero _
  | succ k ih =>
    intro hk
    have := bo_le L
    exact (ih (by omega)).block hg (by omega) (blk_of L k (by omega))

/-- A tile's table: the maxima of its 1625 rows. -/
theorem tabOf_eq (hg : Ord g) (L : grid0.Coords) (s : Fin 64) (c : Fin 128) :
    tabOf (F := Ideal) L x g (ix s c) = segM x g (Finset.Ico (bo L) (bo L + 1625)) s.val c := (inv_ch hg L 13 le_rfl).tab s c

end

end Cert.Proof.Pool

end
-- ==== Proof.TcRules.lean ====
/- The TensorCore's loads and stores over a memref held at known contents, whole rows of a table of 64 rows among them. -/
module

public import proofs.«01_k».proof.Proof.Launch

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-- A program of the TensorCore. -/
abbrev CProg (F : FTy → Type) (α : Type) : Type 1 := Prog (TpuEff nD τ sig (Elt F) Λ₀ .tc) α

/-- The rule a program of the TensorCore runs by. -/
abbrev wpC (d : Dev nD) {α : Type} (p : CProg F α) (Q : α → sProp 𝕄) : sProp 𝕄 :=
  wp frame (wpE (defs₀ (F := F)) 𝒱₀ d.tc none) Set.univ p Q

/-- A load: the program goes on at what the memref holds there. -/
theorem own_load {d : Dev nD} {s : Shape} {e : EltTy} (m : Memref sig .tc .vmem s e) {q : PosShare TreeShare} {X : s.Idx → Elt F e}
    {r : LoadRect s} {hl : m.view.LoadsAt r} {α : Type} {k : (r.shape.Idx → Elt F e) → CProg F α} {Q : α → sProp 𝕄} :
    owns d.tc m q X ⊢ iprop((owns d.tc m q X -∗ wpC d (k fun x => X (r.idx x)) Q) -∗ wpC d (.op (.load m r hl) k) Q) := by
  unfold owns
  iintro ⟨%f, %hf, H⟩ Hk
  subst hf
  iapply (wp_load (cs := .vmem) 𝒱₀ d.tc none Set.univ (View.setOn_subset_set (v := m.view) _)) $$ H
  iintro H
  iapply Hk
  iexists f
  isplitr; · ipureintro; rfl
  iexact H

/-- A store of every element of a rectangle. -/
theorem own_store {d : Dev nD} {s : Shape} {e : EltTy} (m : Memref sig .tc .vmem s e) {X : s.Idx → Elt F e} (X' : s.Idx → Elt F e)
    {r : Rect s} {w : r.shape.Idx → Elt F e} {hx : (m.access r).Stores Finset.univ} {hm} {α : Type} {k : PUnit → CProg F α}
    {Q : α → sProp 𝕄} (hin : ∀ x, X' (r.emb x) = w x) (hout : ∀ y, (∀ x, r.emb x ≠ y) → X' y = X y) :
    owns d.tc m fullShare X
      ⊢ iprop((owns d.tc m fullShare X' -∗ wpC d (k ⟨⟩) Q) -∗ wpC d (.op (.store m r w Finset.univ hx hm) k) Q) := by
  unfold owns
  iintro ⟨%f, %hf, H⟩ Hk
  subst hf
  iapply (wp_store (cs := .vmem) (m := m) (r := r) (f := f) 𝒱₀ d.tc none Set.univ
    ((View.setOn_subset_set (v := m.access r) _).trans (View.set_slice_subset (v := m.view) r))) $$ H
  iintro H
  iapply Hk
  iexists ((m.access r).write (Elt F) f w Finset.univ)
  isplitr
  · ipureintro
    funext y
    by_cases hy : ∃ x, r.emb x = y
    · obtain ⟨x, rfl⟩ := hy
      rw [hin]
      exact View.read_slice_write_emb (v := m.view) (Val := Elt F) r f w (Finset.mem_univ x)
    · have hy' : ∀ x, r.emb x ≠ y := fun x h => hy ⟨x, h⟩
      rw [hout y hy']
      refine View.read_slice_write_of_not_mem (v := m.view) (Val := Elt F) r f w Finset.univ fun h => ?_
      obtain ⟨x, -, hx'⟩ := Finset.mem_map.mp h
      exact hy' x hx'
  iexact H

/-- A row of the table, as a vector of one row. -/
def getRow (X : S64x128.Idx → F .f32) (r : Fin 64) : S1x128.Idx → F .f32 := fun z => X (ix r (z 1))

/-- The table with a row put in. -/
def putRow (X : S64x128.Idx → F .f32) (r : Fin 64) (w : S1x128.Idx → F .f32) : S64x128.Idx → F .f32 :=
  fun i => if (i 0).val = r.val then w (ix 0 (i 1)) else X i

/-- A load of a row. -/
theorem own_loadRow {d : Dev nD} (m : Memref sig .tc .vmem S64x128 .f32) {q : PosShare TreeShare} {X : S64x128.Idx → F .f32}
    {off : Fin 2 → ℕ} {inb : ∀ a, off a + S1x128.size a ≤ S64x128.size a}
    {hl : m.view.LoadsAt (Rect.unit (s := S64x128) off S1x128.size inb).toLoadRect} {α : Type}
    {k : (S1x128.Idx → F .f32) → CProg F α} {Q : α → sProp 𝕄} (r : Fin 64) (ho : off = ![r.val, 0]) :
    owns (Val := Elt F) d.tc m q X ⊢ iprop((owns (Val := Elt F) d.tc m q X -∗ wpC d (k (getRow X r)) Q)
      -∗ wpC d (.op (.load m (Rect.unit (s := S64x128) off S1x128.size inb).toLoadRect hl) k) Q) := by
  subst ho
  have hv : (fun x => X ((Rect.unit (s := S64x128) ![r.val, 0] S1x128.size inb).toLoadRect.idx x)) = getRow X r := by
    funext z
    unfold getRow
    congr 1
    funext a
    apply Fin.ext
    show _ + 1 * (z a).val = _
    refine Fin.cases ?_ (fun a => Fin.cases ?_ (fun a => a.elim0) a) a
    · have : (z 0).val < 1 := (z 0).isLt
      show r.val + 1 * (z 0).val = r.val
      omega
    · show 0 + 1 * (z 1).val = (z 1).val
      omega
  rw [← hv]
  exact own_load m

/-- A store of a row. -/
theorem own_storeRow {d : Dev nD} (m : Memref sig .tc .vmem S64x128 .f32) {X : S64x128.Idx → F .f32}
    {off : Fin 2 → ℕ} {inb : ∀ a, off a + S1x128.size a ≤ S64x128.size a} {w : S1x128.Idx → F .f32} {hx hm} {α : Type}
    {k : PUnit → CProg F α} {Q : α → sProp 𝕄} (r : Fin 64) (ho : off = ![r.val, 0]) :
    owns (Val := Elt F) d.tc m fullShare X ⊢ iprop((owns (Val := Elt F) d.tc m fullShare (putRow X r w) -∗ wpC d (k ⟨⟩) Q)
      -∗ wpC d (.op (.store m (Rect.unit (s := S64x128) off S1x128.size inb) w Finset.univ hx hm) k) Q) := by
  subst ho
  have h0 : ∀ x : S1x128.Idx, (((Rect.unit (s := S64x128) ![r.val, 0] S1x128.size inb).emb x) 0).val = r.val := fun x => by
    rw [Rect.emb_apply]
    have : (x 0).val < 1 := (x 0).isLt
    show r.val + 1 * (x 0).val = r.val
    omega
  have h1 : ∀ x : S1x128.Idx, (((Rect.unit (s := S64x128) ![r.val, 0] S1x128.size inb).emb x) 1).val = (x 1).val := fun x => by
    rw [Rect.emb_apply]
    show 0 + 1 * (x 1).val = (x 1).val
    omega
  refine own_store (e := .f32) m (putRow X r w) (fun x => ?_) (fun y hy => ?_)
  · unfold putRow
    rw [if_pos (h0 x)]
    congr 1
    funext a
    refine Fin.cases ?_ (fun a => Fin.cases ?_ (fun a => a.elim0) a) a
    · exact Subsingleton.elim (α := Fin 1) _ _
    · exact Fin.ext (h1 x)
  · unfold putRow
    rw [if_neg]
    intro hr
    refine hy (ix 0 (y 1)) ?_
    funext a
    apply Fin.ext
    refine Fin.cases ?_ (fun a => Fin.cases ?_ (fun a => a.elim0) a) a
    · exact (h0 _).trans hr.symm
    · exact h1 _

/-- A store of a whole memref. -/
theorem own_storeAll {d : Dev nD} {n : ℕ} (m : Memref sig .tc .vmem ⟨2, ![n, 128]⟩ .f32) {X w : (⟨2, ![n, 128]⟩ : Shape).Idx → F .f32}
    {inb : ∀ a, (![0, 0] : Fin 2 → ℕ) a + (⟨2, ![n, 128]⟩ : Shape).size a ≤ (⟨2, ![n, 128]⟩ : Shape).size a} {hx hm} {α : Type}
    {k : PUnit → CProg F α} {Q : α → sProp 𝕄} :
    owns (Val := Elt F) d.tc m fullShare X ⊢ iprop((owns (Val := Elt F) d.tc m fullShare w -∗ wpC d (k ⟨⟩) Q)
      -∗ wpC d (.op (.store m (Rect.unit (s := ⟨2, ![n, 128]⟩) ![0, 0] (⟨2, ![n, 128]⟩ : Shape).size inb) w Finset.univ hx hm) k) Q) := by
  have h : ∀ x : (⟨2, ![n, 128]⟩ : Shape).Idx, (Rect.unit (s := ⟨2, ![n, 128]⟩) ![0, 0] (⟨2, ![n, 128]⟩ : Shape).size inb).emb x = x := fun x => by
    funext a
    apply Fin.ext
    rw [Rect.emb_apply]
    refine Fin.cases ?_ (fun a => Fin.cases ?_ (fun a => a.elim0) a) a
    · show 0 + 1 * (x 0).val = (x 0).val
      omega
    · show 0 + 1 * (x 1).val = (x 1).val
      omega
  exact own_store (e := .f32) m w (fun x => congrArg w (h x)) (fun y hy => absurd (h y) (hy y))

end Cert.Proof.Pool

end
-- ==== Proof.SegWords.lean ====
/- The words the segment maximum over a block of 4000 rows computes from its least and its greatest batch word. -/
module

public import proofs.«01_k».proof.Proof.TcRules

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

section Words

variable {lo hi : BitVec 32}

theorem cond2_iff : k1_cond2 lo hi = 1#1 ↔ lo = hi := by
  by_cases h : lo = hi
  · subst h
    have : Scalar.cmpi (w := 32) .eq lo lo = 1#1 := by simp [Scalar.cmpi, IntOp.cmpi]
    refine ⟨fun _ => rfl, fun _ => ?_⟩
    unfold k1_cond2
    rw [this]; rfl
  · have : Scalar.cmpi .eq lo hi = 0#1 := by
      have hb : (lo == hi) = false := beq_false_of_ne h
      simp [Scalar.cmpi, IntOp.cmpi, hb]
    refine ⟨fun h' => ?_, fun h' => absurd h' h⟩
    unfold k1_cond2 at h'
    rw [this] at h'
    exact absurd h' (by decide)

theorem cond3_iff : k1_cond3 lo hi = 1#1 ↔ lo ≠ hi := by
  by_cases h : lo = hi
  · subst h
    have : Scalar.cmpi (w := 32) .ne lo lo = 0#1 := by simp [Scalar.cmpi, IntOp.cmpi]
    refine ⟨fun h' => ?_, fun h' => absurd rfl h'⟩
    unfold k1_cond3 at h'
    rw [this] at h'
    exact absurd h' (by decide)
  · have : Scalar.cmpi .ne lo hi = 1#1 := by
      have hb : (lo == hi) = false := beq_false_of_ne h
      simp [Scalar.cmpi, IntOp.cmpi, bne, hb]
    refine ⟨fun _ => h, fun _ => ?_⟩
    unfold k1_cond3
    rw [this]; rfl

theorem divsi_one (x : BitVec 32) : Scalar.divsi x 1#32 = x.sdiv 1#32 := by
  show IntOp.divsi .scalar x 1#32 = _
  unfold IntOp.divsi
  rw [if_neg]
  rintro (h | ⟨-, h⟩) <;> exact absurd h (by decide)

theorem ub_eq : lo + (Scalar.divsi (hi + 1#32 - lo) 1#32) * 1#32 = hi + 1#32 := by
  rw [divsi_one, BitVec.sdiv_one, BitVec.mul_one, BitVec.add_comm, BitVec.sub_add_cancel]

theorem t1_eq : k1_t1_loop lo hi = ⟨lo, hi + 1#32, 1#32⟩ := by
  have := ub_eq (lo := lo) (hi := hi)
  show (⟨lo, lo + (Scalar.divsi (hi + 1#32 - lo) 1#32) * 1#32, 1#32⟩ : Scf.Loop 32) = _
  rw [this]

theorem t2_eq : k1_t2_loop lo hi = ⟨hi + 1#32, hi + 1#32, 1#32⟩ := by
  have := ub_eq (lo := lo) (hi := hi)
  have h2 : lo + (hi + 1#32 - lo) = hi + 1#32 := by rw [BitVec.add_comm, BitVec.sub_add_cancel]
  show (⟨lo + (Scalar.divsi (hi + 1#32 - lo) 1#32) * 1#32, lo + (hi + 1#32 - lo), 1#32⟩ : Scf.Loop 32) = _
  rw [this, h2]

theorem toInt_small {w : BitVec 32} (h : w.toNat < 100) : w.toInt = w.toNat := by
  rw [BitVec.toInt_eq_toNat_of_lt]; omega

theorem succ_toNat (hhi : hi.toNat < 64) : (hi + 1#32).toNat = hi.toNat + 1 := by
  rw [BitVec.toNat_add]; show (hi.toNat + 1) % 4294967296 = _; omega

theorem iv_one (lo : BitVec 32) (k : ℕ) : Scf.iv lo 1#32 k = lo + BitVec.ofNat 32 k := by
  unfold Scf.iv; rw [BitVec.mul_one]

variable (hle : lo.toNat ≤ hi.toNat) (hhi : hi.toNat < 64)
include hhi

theorem t2_trips : (k1_t2_loop lo hi).trips = 0 := by
  rw [t2_eq]
  show (((hi + 1#32).toInt - (hi + 1#32).toInt + (1#32).toInt - 1) / (1#32).toInt).toNat = 0
  rw [show ((1#32 : BitVec 32).toInt) = 1 from rfl]
  norm_num

theorem t2_ok : (k1_t2_loop lo hi).OK := by
  have h := t2_trips hhi (lo := lo)
  show 0 < (1#32 : BitVec 32).toInt ∧ (k1_t2_loop lo hi).lb.toInt + ((k1_t2_loop lo hi).trips : ℤ) * (1#32 : BitVec 32).toInt < 2 ^ 31
  rw [h, t2_eq]
  refine ⟨by decide, ?_⟩
  show (hi + 1#32).toInt + (0 : ℕ) * _ < _
  rw [toInt_small (by rw [succ_toNat hhi]; omega), succ_toNat hhi]
  have : (hi.toNat : ℤ) < 64 := by exact_mod_cast hhi
  norm_num; omega

include hle

theorem t1_trips : (k1_t1_loop lo hi).trips = hi.toNat + 1 - lo.toNat := by
  rw [t1_eq]
  show (((hi + 1#32).toInt - lo.toInt + (1#32).toInt - 1) / (1#32).toInt).toNat = _
  rw [show ((1#32 : BitVec 32).toInt) = 1 from rfl, toInt_small (by rw [succ_toNat hhi]; omega), succ_toNat hhi, toInt_small (w := lo) (by omega)]
  omega

theorem t1_ok : (k1_t1_loop lo hi).OK := by
  have h := t1_trips hle hhi
  show 0 < (1#32 : BitVec 32).toInt ∧ (k1_t1_loop lo hi).lb.toInt + ((k1_t1_loop lo hi).trips : ℤ) * (1#32 : BitVec 32).toInt < 2 ^ 31
  rw [h, t1_eq]
  refine ⟨by decide, ?_⟩
  show lo.toInt + ((hi.toNat + 1 - lo.toNat : ℕ) : ℤ) * (1#32 : BitVec 32).toInt < _
  rw [show ((1#32 : BitVec 32).toInt) = 1 from rfl, toInt_small (w := lo) (by omega)]
  norm_num; omega

theorem t1_lt (k : Fin (k1_t1_loop lo hi).trips) : lo.toNat + k.val ≤ hi.toNat := by
  have := lt_of_lt_of_eq k.isLt (t1_trips hle hhi)
  omega

theorem t1_iv {k : ℕ} (hk : k < (k1_t1_loop lo hi).trips) : (Scf.iv lo 1#32 k).toNat = lo.toNat + k := by
  rw [t1_trips hle hhi] at hk
  rw [iv_one, BitVec.toNat_add, BitVec.toNat_ofNat]
  omega

theorem off2_eq : k1_off2 lo = ![(⟨lo.toNat, by omega⟩ : Fin 64).val, 0] := by
  show ![(Scalar.indexCast lo : Index).toNat, 0] = _
  rfl

theorem off3_eq (k : Fin (k1_t1_loop lo hi).trips) :
    k1_off3 lo hi k = ![(⟨lo.toNat + k.val, by have := t1_lt hle hhi k; omega⟩ : Fin 64).val, 0] := by
  show ![(Scf.iv lo 1#32 k.val).toNat, 0] = ![lo.toNat + k.val, 0]
  rw [t1_iv hle hhi k.isLt]

theorem chk1_of : k1_chk1 lo hi := by
  refine ⟨fun _ => ?_, fun _ => t1_ok hle hhi, fun k _ => ?_, fun _ => t2_ok hhi, fun k => ?_⟩
  · rw [off2_eq hle hhi]
    intro a
    refine Fin.cases ?_ (fun a => Fin.cases ?_ (fun a => a.elim0) a) a
    · show lo.toNat + 1 ≤ 64
      omega
    · show 0 + 128 ≤ 128
      omega
  · have hk := t1_lt hle hhi k
    rw [off3_eq hle hhi]
    intro a
    refine Fin.cases ?_ (fun a => Fin.cases ?_ (fun a => a.elim0) a) a
    · show lo.toNat + k.val + 1 ≤ 64
      omega
    · show 0 + 128 ≤ 128
      omega
  · exact absurd (lt_of_lt_of_eq k.isLt (t2_trips hhi)) (by omega)

end Words

end Cert.Proof.Pool

end
-- ==== Proof.SegBody.lean ====
/- One block of 4000 rows of the segment maximum on the TensorCore: what it makes of the table. -/
module

public import proofs.«01_k».proof.Proof.SegWords

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! ## The block as a function -/

/-- The least batch word of the block, -/
def loW (v4 : Vec F S1x4000 .i32) : BitVec 32 := extractAt ![0, 0, 0] (k1_pay3 v4) inpos_S1x1x1_p0_0_0
/-- the greatest, -/
def hiW (v4 : Vec F S1x4000 .i32) : BitVec 32 := extractAt ![0, 0, 0] (k1_pay4 v4) inpos_S1x1x1_p0_0_0

/-- the number of its batch words that compare so with `g`, -/
def cntW (p : CmpIPredicate) (v4 : Vec F S1x4000 .i32) (g : BitVec 32) : BitVec 32 :=
  extractAt ![0, 0, 0]
    (shapeCast S1x1x1
      (multiReductionI .add [1, 2] S1
        (shapeCast S1x1x4000 (extui 32 (cmpi p (k1_pay2 v4) (broadcast S1x4000 g)) natLt_1_32) shapeCasts_S1x4000_S1x1x4000)
        0#32 reduces_S1x1x4000_S1 rfl)
      shapeCasts_S1_S1x1x1)
    inpos_S1x1x1_p0_0_0

/-- its rows from the first of graph `g` to the last, the others replaced by −∞, -/
def pickW (v4 : Vec F S1x4000 .i32) (v14 : Vec F S4000x128 .f32) (g : BitVec 32) : Vec F S4000x128 .f32 :=
  select
    (andi (cmpi .sge (iota .tc S4000x128 32 [0] iota_S4000x128_d0_w32) (broadcast S4000x128 (cntW .slt v4 g)))
      (cmpi .slt (iota .tc S4000x128 32 [0] iota_S4000x128_d0_w32) (broadcast S4000x128 (cntW .sle v4 g))))
    v14 (broadcast S4000x128 (Scalar.ofBits .f32 0xFF800000#32 : F .f32))

/-- and the row of the table that graph `g` gets. -/
def slowW (v4 : Vec F S1x4000 .i32) (v14 : Vec F S4000x128 .f32) (g : BitVec 32) (v53 : Vec F S1x128 .f32) : FVec F S1x128 .f32 :=
  maximumf (shapeCast S1x128 v53 shapeCasts_S1x128_S1x128)
    (shapeCast S1x128 (multiReduction .maximumf [0] S128 (pickW v4 v14 g) 0xFF800000#32 reduces_S4000x128_S128 (.inl rfl) rfl)
      shapeCasts_S128_S1x128)

/-- The table after the first `n` graphs from `lo` on. -/
def slowTab (v4 : Vec F S1x4000 .i32) (v14 : Vec F S4000x128 .f32) (X : S64x128.Idx → F .f32) (n : ℕ) : S64x128.Idx → F .f32 :=
  fun i => if (loW v4).toNat ≤ (i 0).val ∧ (i 0).val < (loW v4).toNat + n then
    slowW v4 v14 (BitVec.ofNat 32 (i 0).val) (getRow X (i 0)) (ix 0 (i 1)) else X i

/-- The table after the block. -/
def segStep (v4 : Vec F S1x4000 .i32) (v14 : Vec F S4000x128 .f32) (X : S64x128.Idx → F .f32) : S64x128.Idx → F .f32 :=
  if loW v4 = hiW v4 then putRow X (gr (loW v4)) (k1_pay5 v14 (getRow X (gr (loW v4))))
  else slowTab v4 v14 X ((hiW v4).toNat + 1 - (loW v4).toNat)

/-- Row `t` of the batch words. -/
def rowI (X : S12x4000.Idx → BitVec 32) (t : Fin 12) : S1x4000.Idx → BitVec 32 :=
  fun z => X (Fin.cons t (Fin.cons (z 1) (fun a => a.elim0)))

theorem slowTab_zero (v4 : Vec F S1x4000 .i32) (v14 : Vec F S4000x128 .f32) (X : S64x128.Idx → F .f32) : slowTab v4 v14 X 0 = X := by
  funext i
  unfold slowTab
  rw [if_neg (by omega)]

theorem slowTab_succ (v4 : Vec F S1x4000 .i32) (v14 : Vec F S4000x128 .f32) (X : S64x128.Idx → F .f32) (k : ℕ) (r : Fin 64)
    (hr : r.val = (loW v4).toNat + k) :
    putRow (slowTab v4 v14 X k) r (slowW v4 v14 (BitVec.ofNat 32 r.val) (getRow (slowTab v4 v14 X k) r)) = slowTab v4 v14 X (k + 1) := by
  have hg : getRow (slowTab v4 v14 X k) r = getRow X r := by
    funext z
    unfold getRow slowTab
    rw [if_neg]
    rintro ⟨-, h⟩
    have : r.val < (loW v4).toNat + k := h
    omega
  rw [hg]
  funext i
  unfold putRow
  by_cases hi : (i 0).val = r.val
  · rw [if_pos hi]
    have e : i 0 = r := Fin.ext hi
    unfold slowTab
    rw [if_pos (by omega), e]
  · rw [if_neg hi]
    unfold slowTab
    by_cases h : (loW v4).toNat ≤ (i 0).val ∧ (i 0).val < (loW v4).toNat + k
    · rw [if_pos h, if_pos (by omega)]
    · rw [if_neg h, if_neg (by omega)]

/-- A run of the TensorCore from one state to another. -/
def CRun (d : Dev nD) {α : Type} (P : sProp 𝕄) (p : CProg F α) (P' : sProp 𝕄) : Prop := P ⊢ wpC d p fun _ => P'

/-- The three memrefs of the block. -/
def Bf (d : Dev nD) (a1 : Memref sig .tc .vmem S4000x128 .f32) (a2 : Memref sig .tc .vmem S12x4000 .i32) (a3 : Memref sig .tc .vmem S64x128 .f32)
    (X1 : S4000x128.Idx → F .f32) (X2 : S12x4000.Idx → BitVec 32) (X3 : S64x128.Idx → F .f32) : sProp 𝕄 :=
  iprop(owns (Val := Elt F) d.tc a1 fullShare X1 ∗ owns (Val := Elt F) d.tc a2 fullShare X2 ∗ owns (Val := Elt F) d.tc a3 fullShare X3)

section Rules

variable {d : Dev nD}

theorem CRun.ret {α : Type} {P : sProp (MT nD τ sig (HIx 1) (Elt F) ℕ UU ℕ)} {a : α} : CRun d P (Prog.ret a) P := by
  unfold CRun
  iintro H
  iapply le_wp_ret
  iexact H

theorem CRun.bind {α β : Type} {P P' P'' : sProp (MT nD τ sig (HIx 1) (Elt F) ℕ UU ℕ)} {p : CProg F α} {k : α → CProg F β}
    (h : CRun d P p P') (hk : ∀ a, CRun d P' (k a) P'') : CRun d P (Prog.bind p k) P'' := by
  unfold CRun at *
  unfold wpC at *
  refine BIBase.Entails.trans ?_ (Entails.of_eq (wp_bind ..).symm)
  exact BIBase.Entails.trans h (wp_mono _ _ _ fun a => hk a)

theorem CRun.chk {α : Type} {P P' : sProp (MT nD τ sig (HIx 1) (Elt F) ℕ UU ℕ)} {C : Prop} {dec : Decidable C} {k : PLift C → CProg F α}
    (hC : C) (h : CRun d P (k ⟨hC⟩) P') : CRun d P (.op (.assume C dec) k) P' :=
  BIBase.Entails.trans h (wp_assume 𝒱₀ d.tc none Set.univ hC)

theorem CRun.next {α β : Type} {P P' : sProp (MT nD τ sig (HIx 1) (Elt F) ℕ UU ℕ)} {a : α} {k : α → CProg F β} (h : CRun d P (k a) P') :
    CRun d P (Prog.bind (Prog.ret a) k) P' := h

theorem CRun.loop {σ : Type} {P : ℕ → sProp (MT nD τ sig (HIx 1) (Elt F) ℕ UU ℕ)} (l : Scf.Loop 32) (ok : l.OK) (v : σ) (body : Fin l.trips → σ → CProg F σ)
    (h : ∀ (t : Fin l.trips) (x : σ), CRun d (P t.val) (body t x) (P (t.val + 1))) :
    CRun d (P 0) (Scf.Loop.for l ok v body) (P l.trips) := by
  unfold CRun at *
  unfold wpC at *
  refine BIBase.Entails.trans ?_ (Scf.wp_for _ _ _ l.lb l.ub l.st ok v body (fun n _ => P n) fun t x => h t x)
  iintro H
  isplitl [H]; · iexact H
  iintro %acc H
  iexact H

variable {a1 : Memref sig .tc .vmem S4000x128 .f32} {a2 : Memref sig .tc .vmem S12x4000 .i32} {a3 : Memref sig .tc .vmem S64x128 .f32}
  {X1 : S4000x128.Idx → F .f32} {X2 : S12x4000.Idx → BitVec 32} {X3 : S64x128.Idx → F .f32}
  {α : Type} {P' : sProp (MT nD τ sig (HIx 1) (Elt F) ℕ UU ℕ)}

/-- A load of the rows. -/
theorem CRun.ld1 {r : LoadRect S4000x128} {hl} {k : (r.shape.Idx → F .f32) → CProg F α}
    (h : CRun d (Bf d a1 a2 a3 X1 X2 X3) (k fun x => X1 (r.idx x)) P') :
    CRun d (Bf d a1 a2 a3 X1 X2 X3) (.op (.load a1 r hl) k) P' := by
  unfold CRun at *
  unfold Bf at *
  iintro ⟨H1, H2, H3⟩
  iapply (own_load (e := .f32) a1) $$ H1
  iintro H1
  iapply h
  isplitl [H1]; · iexact H1
  isplitl [H2]; · iexact H2
  iexact H3

/-- A load of batch words. -/
theorem CRun.ld2 {r : LoadRect S12x4000} {hl} {k : (r.shape.Idx → BitVec 32) → CProg F α}
    (h : CRun d (Bf d a1 a2 a3 X1 X2 X3) (k fun x => X2 (r.idx x)) P') :
    CRun d (Bf d a1 a2 a3 X1 X2 X3) (.op (.load a2 r hl) k) P' := by
  unfold CRun at *
  unfold Bf at *
  iintro ⟨H1, H2, H3⟩
  iapply (own_load (e := .i32) a2) $$ H2
  iintro H2
  iapply h
  isplitl [H1]; · iexact H1
  isplitl [H2]; · iexact H2
  iexact H3

/-- A load of the table. -/
theorem CRun.ld3 {r : LoadRect S64x128} {hl} {k : (r.shape.Idx → F .f32) → CProg F α}
    (h : CRun d (Bf d a1 a2 a3 X1 X2 X3) (k fun x => X3 (r.idx x)) P') :
    CRun d (Bf d a1 a2 a3 X1 X2 X3) (.op (.load a3 r hl) k) P' := by
  unfold CRun at *
  unfold Bf at *
  iintro ⟨H1, H2, H3⟩
  iapply (own_load (e := .f32) a3) $$ H3
  iintro H3
  iapply h
  isplitl [H1]; · iexact H1
  isplitl [H2]; · iexact H2
  iexact H3

/-- A load of a row of the table. -/
theorem CRun.ldRow {off : Fin 2 → ℕ} {inb : ∀ a, off a + S1x128.size a ≤ S64x128.size a} {hl} {k : (S1x128.Idx → F .f32) → CProg F α}
    (r : Fin 64) (ho : off = ![r.val, 0]) (h : CRun d (Bf d a1 a2 a3 X1 X2 X3) (k (getRow X3 r)) P') :
    CRun d (Bf d a1 a2 a3 X1 X2 X3) (.op (.load a3 (Rect.unit (s := S64x128) off S1x128.size inb).toLoadRect hl) k) P' := by
  unfold CRun at *
  unfold Bf at *
  iintro ⟨H1, H2, H3⟩
  iapply (own_loadRow a3 r ho) $$ H3
  iintro H3
  iapply h
  isplitl [H1]; · iexact H1
  isplitl [H2]; · iexact H2
  iexact H3

/-- A store of a row of the table. -/
theorem CRun.stRow {off : Fin 2 → ℕ} {inb : ∀ a, off a + S1x128.size a ≤ S64x128.size a} {w : S1x128.Idx → F .f32} {hx hm} {k : PUnit → CProg F α}
    (r : Fin 64) (ho : off = ![r.val, 0]) (h : CRun d (Bf d a1 a2 a3 X1 X2 (putRow X3 r w)) (k ⟨⟩) P') :
    CRun d (Bf d a1 a2 a3 X1 X2 X3) (.op (.store a3 (Rect.unit (s := S64x128) off S1x128.size inb) w Finset.univ hx hm) k) P' := by
  unfold CRun at *
  unfold Bf at *
  iintro ⟨H1, H2, H3⟩
  iapply (own_storeRow a3 r ho) $$ H3
  iintro H3
  iapply h
  isplitl [H1]; · iexact H1
  isplitl [H2]; · iexact H2
  iexact H3

/-- A store of the table. -/
theorem CRun.stAll {inb} {w : S64x128.Idx → F .f32} {hx hm} {k : PUnit → CProg F α}
    (h : CRun d (Bf d a1 a2 a3 X1 X2 w) (k ⟨⟩) P') :
    CRun d (Bf d a1 a2 a3 X1 X2 X3) (.op (.store a3 (Rect.unit (s := S64x128) ![0, 0] S64x128.size inb) w Finset.univ hx hm) k) P' := by
  unfold CRun at *
  unfold Bf at *
  iintro ⟨H1, H2, H3⟩
  iapply (own_storeAll a3) $$ H3
  iintro H3
  iapply h
  isplitl [H1]; · iexact H1
  isplitl [H2]; · iexact H2
  iexact H3

end Rules

section Body

variable {d : Dev nD} {a1 : Memref sig .tc .vmem S4000x128 .f32} {h1 : a1.IsWhole} {a2 : Memref sig .tc .vmem S12x4000 .i32} {h2 : a2.IsWhole}
  {a3 : Memref sig .tc .vmem S64x128 .f32} {h3 : a3.IsWhole} {X1 : S4000x128.Idx → F .f32} {X2 : S12x4000.Idx → BitVec 32}
  {X3 : S64x128.Idx → F .f32}

/-- One graph's trip of the loop over the block's graphs. -/
theorem t1_run (i : grid1.Coords) (v4 : Vec F S1x4000 .i32) (hle : (loW v4).toNat ≤ (hiW v4).toNat) (hhi : (hiW v4).toNat < 64)
    (hw : k1_chk1 (loW v4) (hiW v4)) (v14 : Vec F S4000x128 .f32) (hc : k1_cond3 (loW v4) (hiW v4) = 1#1)
    (t : Fin (k1_t1_loop (loW v4) (hiW v4)).trips) (x : BitVec 32) :
    CRun d (Bf d a1 a2 a3 X1 X2 (slowTab v4 v14 X3 t.val)) (k1_t1_body i a1 h1 a2 h2 a3 h3 v4 (loW v4) (hiW v4) hw v14 hc t x)
      (Bf d a1 a2 a3 X1 X2 (slowTab v4 v14 X3 (t.val + 1))) := by
  have hlt := t1_lt hle hhi t
  have he : Scf.iv (loW v4) 1#32 t.val = BitVec.ofNat 32 ((loW v4).toNat + t.val) := by
    apply BitVec.eq_of_toNat_eq
    rw [t1_iv hle hhi t.isLt, BitVec.toNat_ofNat]
    omega
  have hs := slowTab_succ v4 v14 X3 t.val ⟨(loW v4).toNat + t.val, by omega⟩ rfl
  have hp : ∀ w, k1_pay6 v4 (loW v4) (hiW v4) v14 t w = slowW v4 v14 (Scf.iv (loW v4) 1#32 t.val) w := fun w => rfl
  unfold k1_t1_body
  refine CRun.ldRow _ (off3_eq hle hhi t) ?_
  refine CRun.ldRow _ (off3_eq hle hhi t) ?_
  refine CRun.stRow _ (off3_eq hle hhi t) ?_
  rw [hp, he]
  rw [hs]
  exact CRun.ret

/-- The words read at point `i` are row `i` of the batch words. -/
theorem rowI_eq (i : grid1.Coords) (X2 : S12x4000.Idx → BitVec 32) :
    (fun x => X2 ((Rect.unit (s := S12x4000) (k1_off1 i) S1x4000.size (k1_off1_inb i)).toLoadRect.idx x)) = rowI X2 (i 0) := by
  funext z
  unfold rowI
  congr 1
  have e : k1_off1 i = ![(i 0).val, 0] := by
    have hi : (i 0).val < 12 := (i 0).isLt
    show ![(BitVec.ofNat 32 (i 0).val).toNat, 0] = _
    rw [BitVec.toNat_ofNat, Nat.mod_eq_of_lt (by omega)]
  funext a
  apply Fin.ext
  refine (congrArg (· + 1 * (z a).val) (congrFun e a)).trans ?_
  refine Fin.cases ?_ (fun a => Fin.cases ?_ (fun a => a.elim0) a) a
  · have : (z 0).val < 1 := (z 0).isLt
    show (i 0).val + 1 * (z 0).val = (i 0).val
    omega
  · show 0 + 1 * (z 1).val = (z 1).val
    omega

theorem all_eq (X1 : S4000x128.Idx → F .f32) :
    (fun x => X1 ((Rect.unit (s := S4000x128) ![0, 0] S4000x128.size inb_S4000x128_S4000x128_0_0).toLoadRect.idx x)) = X1 := by
  funext z
  congr 1
  funext a
  apply Fin.ext
  refine Fin.cases ?_ (fun a => Fin.cases ?_ (fun a => a.elim0) a) a
  · show 0 + 1 * (z 0).val = (z 0).val
    omega
  · show 0 + 1 * (z 1).val = (z 1).val
    omega

/-- The table a block starts from. -/
def seg0 (i : grid1.Coords) (X3 : S64x128.Idx → F .f32) : S64x128.Idx → F .f32 := if (i 0).val = 0 then k1_pay1 else X3

/-- The block's body. -/
theorem seg_run (i : grid1.Coords) (hle : (loW (F := F) (rowI X2 (i 0))).toNat ≤ (hiW (F := F) (rowI X2 (i 0))).toNat)
    (hhi : (hiW (F := F) (rowI X2 (i 0))).toNat < 64) :
    CRun d (Bf d a1 a2 a3 X1 X2 X3) (cc1__tc_segmax_body i a1 h1 a2 h2 a3 h3)
      (Bf d a1 a2 a3 X1 X2 (segStep (rowI X2 (i 0)) X1 (seg0 i X3))) := by
  rw [cc1__tc_segmax_body_eq_skeleton]
  unfold cc1__tc_segmax_body_skel
  lift_lets
  extract_lets arg0 v0 v1 v2 jp2 jp
  have hjp : ∀ r, CRun d (Bf d a1 a2 a3 X1 X2 (seg0 i X3)) (jp r) (Bf d a1 a2 a3 X1 X2 (segStep (rowI X2 (i 0)) X1 (seg0 i X3))) := by
    intro r
    refine CRun.ld2 ?_
    rw [rowI_eq]
    refine CRun.chk (chk1_of hle hhi) ?_
    refine CRun.ld1 ?_
    rw [all_eq]
    refine CRun.next ?_
    extract_lets jp1
    rcases Classical.em (k1_cond2 (loW (F := F) (rowI X2 (i 0))) (hiW (F := F) (rowI X2 (i 0))) = 1#1) with h | h
    · rw [dif_pos (show k1_cond2 (extractAt ![0, 0, 0] (k1_pay3 (F := F) (rowI X2 (i 0))) inpos_S1x1x1_p0_0_0)
          (extractAt ![0, 0, 0] (k1_pay4 (F := F) (rowI X2 (i 0))) inpos_S1x1x1_p0_0_0) = 1#1 from h)]
      have he : loW (F := F) (rowI X2 (i 0)) = hiW (F := F) (rowI X2 (i 0)) := cond2_iff.mp h
      have hr : k1_off2 (loW (F := F) (rowI X2 (i 0))) = ![(gr (loW (F := F) (rowI X2 (i 0)))).val, 0] :=
        (off2_eq hle hhi).trans (congrArg (fun n : ℕ => (![n, 0] : Fin 2 → ℕ)) (Nat.mod_eq_of_lt (by omega)).symm)
      refine CRun.ldRow _ hr ?_
      refine CRun.ldRow _ hr ?_
      refine CRun.stRow _ hr ?_
      simp only [jp1]
      rw [dif_neg (show ¬ k1_cond3 (extractAt ![0, 0, 0] (k1_pay3 (F := F) (rowI X2 (i 0))) inpos_S1x1x1_p0_0_0)
          (extractAt ![0, 0, 0] (k1_pay4 (F := F) (rowI X2 (i 0))) inpos_S1x1x1_p0_0_0) = 1#1 from fun h3 => cond3_iff.mp h3 he)]
      unfold segStep
      rw [if_pos he]
      exact CRun.ret
    · rw [dif_neg (show ¬ k1_cond2 (extractAt ![0, 0, 0] (k1_pay3 (F := F) (rowI X2 (i 0))) inpos_S1x1x1_p0_0_0)
          (extractAt ![0, 0, 0] (k1_pay4 (F := F) (rowI X2 (i 0))) inpos_S1x1x1_p0_0_0) = 1#1 from h)]
      have hne : loW (F := F) (rowI X2 (i 0)) ≠ hiW (F := F) (rowI X2 (i 0)) := fun he => h (cond2_iff.mpr he)
      have h3' := cond3_iff.mpr hne
      simp only [jp1]
      rw [dif_pos (show  k1_cond3 (extractAt ![0, 0, 0] (k1_pay3 (F := F) (rowI X2 (i 0))) inpos_S1x1x1_p0_0_0)
          (extractAt ![0, 0, 0] (k1_pay4 (F := F) (rowI X2 (i 0))) inpos_S1x1x1_p0_0_0) = 1#1 from h3')]
      unfold segStep
      rw [if_neg hne]
      have key := CRun.loop (d := d) (P := fun n => Bf d a1 a2 a3 X1 X2 (slowTab (rowI X2 (i 0)) X1 (seg0 i X3) n)) _
        (k1_t1_ok _ _ (chk1_of hle hhi) h3') 0#32 _ (fun t x => t1_run (h1 := h1) (h2 := h2) (h3 := h3) i (rowI X2 (i 0)) hle hhi (chk1_of hle hhi) X1 h3' t x)
      rw [slowTab_zero, t1_trips hle hhi] at key
      refine CRun.bind key fun v => ?_
      have key2 := CRun.loop (d := d) (P := fun n => Bf d a1 a2 a3 X1 X2 (slowTab (rowI X2 (i 0)) X1 (seg0 i X3) ((hiW (F := F) (rowI X2 (i 0))).toNat + 1 - (loW (F := F) (rowI X2 (i 0))).toNat)))
        _ (k1_t2_ok _ _ (chk1_of hle hhi) h3') v
        (k1_t2_body i a1 h1 a2 h2 a3 h3 (rowI X2 (i 0)) _ _ (chk1_of hle hhi) X1 h3')
        (fun t x => absurd (lt_of_lt_of_eq t.isLt (t2_trips hhi)) (by omega))
      refine CRun.bind key2 fun v => ?_
      exact CRun.ret
  have hv : v2 = 1#1 ↔ (i 0).val = 0 := by
    have hi : (i 0).val < 12 := (i 0).isLt
    have key : ∀ n : Fin 12, Scalar.cmpi .ne (Scalar.extui (Scalar.cmpi .eq (BitVec.ofNat 32 n.val) 0#32) : BitVec 32) 0#32 = 1#1 ↔ n.val = 0 := by
      decide +kernel
    exact key ⟨(i 0).val, hi⟩
  by_cases h0 : (i 0).val = 0
  · rw [dif_pos (hv.mpr h0)]
    refine CRun.ld3 ?_
    refine CRun.stAll ?_
    have e : seg0 i X3 = k1_pay1 := if_pos h0
    rw [← e]
    exact hjp ⟨⟩
  · rw [dif_neg fun h => h0 (hv.mp h)]
    have e : seg0 i X3 = X3 := if_neg h0
    rw [e] at hjp
    rw [e]
    exact hjp ⟨⟩

end Body

end Cert.Proof.Pool

end
-- ==== Proof.SegMin.lean ====
/- The least and the greatest batch word of a block of 4000 rows. -/
module

public import proofs.«01_k».proof.Proof.SegBody

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

section Folds

variable {ι : Type} (x : ι → BitVec 32)

theorem toInt_min2 (a b : BitVec 32) : (IntOp.minsi a b).toInt = min a.toInt b.toInt := by
  unfold IntOp.minsi
  by_cases h : a.slt b
  · rw [if_pos h, min_eq_left]; exact (BitVec.slt_iff_toInt_lt.mp h).le
  · rw [if_neg h, min_eq_right]
    have := mt BitVec.slt_iff_toInt_lt.mpr h
    omega

theorem toInt_max2 (a b : BitVec 32) : (IntOp.maxsi a b).toInt = max a.toInt b.toInt := by
  unfold IntOp.maxsi
  by_cases h : b.slt a
  · rw [if_pos h, max_eq_left]; exact (BitVec.slt_iff_toInt_lt.mp h).le
  · rw [if_neg h, max_eq_right]
    have := mt BitVec.slt_iff_toInt_lt.mpr h
    omega

theorem foldl_min_le (l : List ι) (r : BitVec 32) :
    (l.foldl (fun r n => IntOp.minsi r (x n)) r).toInt ≤ r.toInt ∧ ∀ n ∈ l, (l.foldl (fun r n => IntOp.minsi r (x n)) r).toInt ≤ (x n).toInt := by
  induction l generalizing r with
  | nil => exact ⟨le_rfl, fun n h => by simp at h⟩
  | cons a l ih =>
    obtain ⟨h1, h2⟩ := ih (IntOp.minsi r (x a))
    rw [toInt_min2] at h1
    refine ⟨h1.trans (min_le_left _ _), fun n hn => ?_⟩
    rcases List.mem_cons.mp hn with rfl | hn
    · exact h1.trans (min_le_right _ _)
    · exact h2 n hn

theorem foldl_le_max (l : List ι) (r : BitVec 32) :
    r.toInt ≤ (l.foldl (fun r n => IntOp.maxsi r (x n)) r).toInt ∧ ∀ n ∈ l, (x n).toInt ≤ (l.foldl (fun r n => IntOp.maxsi r (x n)) r).toInt := by
  induction l generalizing r with
  | nil => exact ⟨le_rfl, fun n h => by simp at h⟩
  | cons a l ih =>
    obtain ⟨h1, h2⟩ := ih (IntOp.maxsi r (x a))
    rw [toInt_max2] at h1
    refine ⟨(le_max_left _ _).trans h1, fun n hn => ?_⟩
    rcases List.mem_cons.mp hn with rfl | hn
    · exact (le_max_right _ _).trans h1
    · exact h2 n hn

theorem foldl_mem (op : BitVec 32 → BitVec 32 → BitVec 32) (hop : ∀ a b, op a b = a ∨ op a b = b) (l : List ι) (r : BitVec 32) :
    l.foldl (fun r n => op r (x n)) r = r ∨ ∃ n ∈ l, l.foldl (fun r n => op r (x n)) r = x n := by
  induction l generalizing r with
  | nil => exact Or.inl rfl
  | cons a l ih =>
    rcases ih (op r (x a)) with h | ⟨n, hn, h⟩
    · rcases hop r (x a) with h' | h'
      · exact Or.inl (h.trans h')
      · exact Or.inr ⟨a, List.mem_cons_self, h.trans h'⟩
    · exact Or.inr ⟨n, List.mem_cons_of_mem _ hn, h⟩

end Folds

section Block

variable (v4 : Vec F S1x4000 .i32)

/-- The block's words, in the order the reductions take them. -/
def wd3 (n : Fin S1x1x4000.numel) : BitVec 32 :=
  shapeCast S1x1x4000 (k1_pay2 v4) shapeCasts_S1x4000_S1x1x4000 (S1x1x4000.rowMajor.symm n)

theorem wd3_mem (n : Fin S1x1x4000.numel) : ∃ z, wd3 v4 n = v4 z := ⟨_, rfl⟩

theorem wd3_surj (z : S1x4000.Idx) : ∃ n, wd3 v4 n = v4 z := by
  refine ⟨S1x1x4000.rowMajor ((Shape.reshapeEquiv shapeCasts_S1x4000_S1x1x4000).symm ((Shape.reshapeEquiv shapeCasts_S1x4000_S1x4000).symm z)), ?_⟩
  unfold wd3
  rw [Equiv.symm_apply_apply]
  show v4 (Shape.reshapeEquiv shapeCasts_S1x4000_S1x4000 (Shape.reshapeEquiv shapeCasts_S1x4000_S1x1x4000 _)) = _
  rw [Equiv.apply_symm_apply, Equiv.apply_symm_apply]

/-- All its places, as the reductions list them. -/
def pl3 (j : S1.Idx) : List (Fin S1x1x4000.numel) :=
  (List.finRange S1x1x4000.numel).filter fun n => reduces_S1x1x4000_S1.drop (S1x1x4000.rowMajor.symm n) = j

theorem mem_pl3 (j : S1.Idx) (n : Fin S1x1x4000.numel) : n ∈ pl3 j := by
  refine List.mem_filter.mpr ⟨List.mem_finRange n, decide_eq_true ?_⟩
  funext a
  refine Fin.cases ?_ (fun a => a.elim0) a
  exact Subsingleton.elim (α := Fin 1) _ _

theorem loW_eq : ∃ j, loW v4 = (pl3 j).foldl (fun r n => IntOp.minsi r (wd3 v4 n)) 2147483647#32 := ⟨_, rfl⟩
theorem hiW_eq : ∃ j, hiW v4 = (pl3 j).foldl (fun r n => IntOp.maxsi r (wd3 v4 n)) 2147483648#32 := ⟨_, rfl⟩

theorem loW_le (z : S1x4000.Idx) : (loW v4).toInt ≤ (v4 z).toInt := by
  obtain ⟨j, h⟩ := loW_eq v4
  obtain ⟨n, hn⟩ := wd3_surj v4 z
  rw [h, ← hn]
  exact (foldl_min_le (wd3 v4) _ _).2 n (mem_pl3 j n)

theorem le_hiW (z : S1x4000.Idx) : (v4 z).toInt ≤ (hiW v4).toInt := by
  obtain ⟨j, h⟩ := hiW_eq v4
  obtain ⟨n, hn⟩ := wd3_surj v4 z
  rw [h, ← hn]
  exact (foldl_le_max (wd3 v4) _ _).2 n (mem_pl3 j n)

/-- Some place of the block. -/
def z0 : S1x4000.Idx := Fin.cons (0 : Fin 1) (Fin.cons (0 : Fin 4000) (fun a => a.elim0))

variable {v4} (hv : ∀ z, (v4 z).toNat < 64)
include hv

theorem wd_toInt (z : S1x4000.Idx) : (v4 z).toInt = (v4 z).toNat := toInt_small (lt_trans (hv z) (by decide))

theorem loW_mem : ∃ z, loW v4 = v4 z := by
  obtain ⟨j, h⟩ := loW_eq v4
  rcases foldl_mem (wd3 v4) IntOp.minsi (fun a b => by unfold IntOp.minsi; split <;> simp) (pl3 j) 2147483647#32 with h' | ⟨n, -, h'⟩
  · have h1 := loW_le v4 z0
    rw [h, h', wd_toInt hv] at h1
    have h2 := hv z0
    have h3 : (2147483647#32 : BitVec 32).toInt = 2147483647 := by decide
    omega
  · obtain ⟨z, hz⟩ := wd3_mem v4 n
    exact ⟨z, h.trans (h'.trans hz)⟩

theorem hiW_mem : ∃ z, hiW v4 = v4 z := by
  obtain ⟨j, h⟩ := hiW_eq v4
  rcases foldl_mem (wd3 v4) IntOp.maxsi (fun a b => by unfold IntOp.maxsi; split <;> simp) (pl3 j) 2147483648#32 with h' | ⟨n, -, h'⟩
  · have h1 := le_hiW v4 z0
    rw [h, h', wd_toInt hv] at h1
    have h3 : (2147483648#32 : BitVec 32).toInt = -2147483648 := by decide
    omega
  · obtain ⟨z, hz⟩ := wd3_mem v4 n
    exact ⟨z, h.trans (h'.trans hz)⟩

theorem loW_le_toNat (z : S1x4000.Idx) : (loW v4).toNat ≤ (v4 z).toNat := by
  have h := loW_le v4 z
  obtain ⟨z', hz'⟩ := loW_mem hv
  rw [hz', wd_toInt hv, wd_toInt hv] at h
  rw [hz']
  exact_mod_cast h

theorem le_hiW_toNat (z : S1x4000.Idx) : (v4 z).toNat ≤ (hiW v4).toNat := by
  have h := le_hiW v4 z
  obtain ⟨z', hz'⟩ := hiW_mem hv
  rw [hz', wd_toInt hv, wd_toInt hv] at h
  rw [hz']
  exact_mod_cast h

theorem loW_le_hiW : (loW v4).toNat ≤ (hiW v4).toNat := (loW_le_toNat hv z0).trans (le_hiW_toNat hv z0)

theorem hiW_lt : (hiW v4).toNat < 64 := by
  obtain ⟨z, hz⟩ := hiW_mem hv
  rw [hz]
  exact hv z

end Block

end Cert.Proof.Pool

end
-- ==== Proof.SegRegion.lean ====
module

public import proofs.«01_k».proof.Proof.SegMin
public import proofs.«01_k».proof.Proof.Gen.KernelIdeal.Points

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # The segment-maximum region: twelve blocks of 4000 rows -/

open Idealize.ShloMosaic.Pipeline (Dat Cfg Window BodyObligation)
open Idealize.ShloMosaic.TcCoe

/-- Rows `(13 + n) * 4000 …` of the table `x`. -/
def xBlk (x : S100000x128.Idx → F .f32) (n : ℕ) : S4000x128.Idx → F .f32 :=
  fun i => x (Fin.cons ⟨((13 + n) * 4000 + (i 0).val) % 100000, Nat.mod_lt _ (by decide)⟩ (Fin.cons (i 1) fun a => a.elim0))

/-- The table of maxima after the first `n` blocks. -/
def stab (x : S100000x128.Idx → F .f32) (g : S12x4000.Idx → BitVec 32) : ℕ → S64x128.Idx → F .f32
  | 0 => k1_pay1
  | n + 1 => segStep (rowI g ⟨n % 12, Nat.mod_lt _ (by decide)⟩) (xBlk x n) (stab x g n)

theorem coord1 : ∀ t : Fin grid1.N, (grid1.coords t 0).val = t.val := by decide +kernel

theorem blk0_off : ∀ t : Fin grid1.N, cc1_transform_0 (grid1.coords t) 0 = 13 + t.val ∧ cc1_transform_0 (grid1.coords t) 1 = 0 := by decide +kernel

/-- The block the fetch at point `t` reads. -/
theorem blk0_read (x : S100000x128.Idx → F .f32) (t : Fin cfg1.N) :
    ((cfg1.win 0).blk t).view.read (Elt F) x = xBlk x t.val := by
  funext i
  unfold xBlk
  refine congrArg x (funext fun a => ?_)
  have h := blk0_off t
  have ht : t.val < 12 := lt_of_lt_of_eq t.isLt N_1
  fin_cases a
  · apply Fin.ext
    have h0 : (i 0).val < 4000 := (i 0).isLt
    show cc1_transform_0 (grid1.coords t) 0 * 4000 + 1 * (i 0).val = ((13 + t.val) * 4000 + (i 0).val) % 100000
    rw [h.1, Nat.mod_eq_of_lt (by omega)]; omega
  · apply Fin.ext
    show cc1_transform_0 (grid1.coords t) 1 * 128 + 1 * (i 1).val = (i 1).val
    rw [h.2]; omega

theorem blk1_read (g : S12x4000.Idx → BitVec 32) (t : Fin cfg1.N) :
    ((cfg1.win 1).blk t).view.read (Elt F) g = g := by
  funext i
  refine congrArg g (funext fun a => ?_)
  fin_cases a
  · exact Fin.ext (show 0 * 12 + 1 * (i 0).val = (i 0).val by omega)
  · exact Fin.ext (show 0 * 4000 + 1 * (i 1).val = (i 1).val by omega)

variable (V : (c : Dev nD) → (b : Ref sig .tc) → Buf (Elt F) ((c : Thread nD τ).loc b))

variable (b : ℕ)

/-- The waits already recorded when the regions run: at a level of at most `b`. -/
abbrev recW (c : Dev nD) : Set (SemLoc sig × HIx 1) := {p | (K (F := F)).lev ((c : Thread nD τ), p.1) p.2 ≤ b}

/-- The scoped buffers the region does not stage. -/
abbrev Φ1 (c : Dev nD) : sProp 𝕄 := Pipeline.scopedRest (Ix := HIx 1) (Name := ℕ) (U := UU) (Lvl := ℕ) (Val := Elt F) spec1 c

/-- The region's contents: the input blocks as fetched, the table after each block. -/
def dat1 (c : Dev nD) : Dat τ (Elt F) (HIx 1) ℕ UU ℕ cfg1 c where
  A w := V c (Pipeline.arrRef spec1 w)
  after w t := match w with
    | ⟨0, _⟩ => xBlk (V c main_arg0) t.val
    | ⟨1, _⟩ => V c main_v1
    | ⟨2, _⟩ => stab (V c main_arg0) (V c main_v1) (t.val + 1)
  Φ _ := Φ1 c
  q _ := fullShare
  owed _ := 0
  recorded _ := recW (F := F) b c

theorem before1_0 (c : Dev nD) (t : Fin cfg1.N) (d) : (dat1 V b c).before 0 t d = xBlk (V c main_arg0) t.val := by
  unfold Dat.before
  rw [if_pos (fetch1_0 t)]
  exact blk0_read (V c main_arg0) t

theorem before1_1 (c : Dev nD) (t : Fin cfg1.N) (d) : (dat1 V b c).before 1 t d = V c main_v1 := by
  unfold Dat.before
  by_cases h : (cfg1.win 1).fetch t = true
  · rw [if_pos h]; exact blk1_read (F := F) (V c main_v1) t
  · rw [if_neg h]
    have ht : t.val < 12 := lt_of_lt_of_eq t.isLt N_1
    rw [if_neg (show ¬ t.val = 0 from fun h0 => h ((fetch1_1 t).mpr (by omega)))]
    rfl

theorem before1_2 (c : Dev nD) (t : Fin cfg1.N) (d) :
    seg0 (grid1.coords t) ((dat1 V b c).before 2 t d) = stab (V c main_arg0) (V c main_v1) t.val := by
  unfold seg0
  by_cases h0 : t.val = 0
  · rw [if_pos ((coord1 t).trans h0), h0]; rfl
  · rw [if_neg (fun h => h0 ((coord1 t).symm.trans h))]
    have ht : t.val < 12 := lt_of_lt_of_eq t.isLt N_1
    obtain ⟨n, hn⟩ : ∃ n, t.val = n + 1 := ⟨t.val - 1, by omega⟩
    have hf : ¬ (cfg1.win 2).flush ⟨t.val - 1, Nat.lt_of_le_of_lt (Nat.sub_le _ _) t.isLt⟩ = true := fun h => by
      have := (flush1_2 _).mp h
      dsimp only at this
      omega
    rw [(dat1 V b c).before_of_pos 2 t h0 rfl, if_neg hf]
    have hl : (dat1 V b c).left 2 ⟨t.val - 1, Nat.lt_of_le_of_lt (Nat.sub_le _ _) t.isLt⟩ d
        = (dat1 V b c).after 2 ⟨t.val - 1, Nat.lt_of_le_of_lt (Nat.sub_le _ _) t.isLt⟩ := rfl
    rw [hl]
    dsimp only [dat1]
    rw [Nat.sub_add_cancel (Nat.one_le_iff_ne_zero.mpr h0)]

/-- A run inside a larger state. -/
theorem CRun.use {d : Dev nD} {α : Type} {P P' : sProp (MT nD τ sig (HIx 1) (Elt F) ℕ UU ℕ)} {p : CProg F α} (h : CRun d P p P')
    (Q : α → sProp (MT nD τ sig (HIx 1) (Elt F) ℕ UU ℕ)) : iprop(P ∗ (∀ a, P' -∗ Q a)) ⊢ wpC d p Q :=
  BIBase.Entails.trans (sep_mono_left h) (wp_wand_r _ _ _)

/-- The body's obligation, when every batch word is below 64. -/
theorem body1 (hv : ∀ c z, ((V c main_v1 : S12x4000.Idx → BitVec 32) z).toNat < 64) (c : Dev nD) :
    BodyObligation (dat1 V b c) (defs₀ (F := F)) 𝒱₀ none Set.univ := fun t => by
  rw [bigSep_W1, bigSep_W1]
  rw [show (dat1 V b c).Φ t.castSucc = Φ1 c from rfl, show (dat1 V b c).Φ t.succ = Φ1 c from rfl,
    show (dat1 V b c).owesAt none t.succ = (dat1 V b c).owesAt none t.castSucc from rfl]
  have ht : t.val < 12 := lt_of_lt_of_eq t.isLt N_1
  have hrow : rowI (V c main_v1) (grid1.coords t 0) = rowI (V c main_v1) ⟨t.val % 12, Nat.mod_lt _ (by decide)⟩ :=
    congrArg (rowI (V c main_v1)) (Fin.ext ((coord1 t).trans (Nat.mod_eq_of_lt ht).symm))
  have hw : ∀ z, ((rowI (V c main_v1) (grid1.coords t 0) : S1x4000.Idx → BitVec 32) z).toNat < 64 := fun z => hv c _
  iintro ⟨HΦ, Ho, ⟨%d0, H0⟩, ⟨%d1, H1⟩, ⟨%d2, H2⟩⟩
  rw [before1_0, before1_1]
  have hrun := seg_run (d := c) (X1 := xBlk (V c main_arg0) t.val) (X2 := V c main_v1) (X3 := (dat1 V b c).before 2 t d2)
    (a1 := st1_0 t) (a2 := st1_1 t) (a3 := st1_2 t) (h1 := hstage1_0 ((cfg1.slots t 0).cast nbuf1_0)) (h2 := hstage1_1 ((cfg1.slots t 1).cast nbuf1_1))
    (h3 := hstage1_2 ((cfg1.slots t 2).cast nbuf1_2)) (grid1.coords t) (loW_le_hiW hw) (hiW_lt hw)
  rw [before1_2, hrow] at hrun
  rw [show defs₀ (F := F) Proc.tc cfg1.body (cfg1.bodyArgs t (cfg1.slots t)) = bodyAt1 t from rfl]
  iapply (hrun.use _)
  unfold Bf
  isplitl [H0 H1 H2]
  · isplitl [H0]; · iexact H0
    isplitl [H1]; · iexact H1
    iexact H2
  iintro %a ⟨H0, H1, H2⟩
  isplitl [HΦ]; · iexact HΦ
  isplitl [Ho]; · iexact Ho
  have e0 : (dat1 V b c).after 0 t = xBlk (V c main_arg0) t.val := by dsimp only [dat1]
  have e1 : (dat1 V b c).after 1 t = V c main_v1 := by dsimp only [dat1]
  have e2 : (dat1 V b c).after 2 t = segStep (rowI (V c main_v1) ⟨t.val % 12, Nat.mod_lt _ (by decide)⟩) (xBlk (V c main_arg0) t.val)
      (stab (V c main_arg0) (V c main_v1) t.val) := by dsimp only [dat1]; rw [stab]
  rw [← e2, ← e0, ← e1]
  generalize (dat1 V b c).after 0 t = A0
  generalize (dat1 V b c).after 1 t = A1
  generalize (dat1 V b c).after 2 t = A2
  isplitl [H0]; · iexact H0
  isplitl [H1]; · iexact H1
  iexact H2

/-- The table the region writes back. -/
theorem out1 (c : Dev nD) : (dat1 V b c).arrAt 2 cfg1.N = stab (V c main_arg0) (V c main_v1) 12 := by
  rw [show cfg1.N = 11 + 1 from N_1]
  have h11 : 11 < cfg1.N := by rw [show cfg1.N = 12 from N_1]; decide
  rw [(dat1 V b c).arrAt_succ 2 ⟨11, h11⟩, if_pos ((flush1_2 ⟨11, h11⟩).mpr rfl)]
  have hfl : (dat1 V b c).flushed 2 ⟨11, h11⟩ = (dat1 V b c).after 2 ⟨11, h11⟩ := rfl
  rw [hfl]
  have e2 : (dat1 V b c).after 2 ⟨11, h11⟩ = stab (V c main_arg0) (V c main_v1) 12 := by dsimp only [dat1]
  rw [e2]
  generalize stab (V c main_arg0) (V c main_v1) 12 = w
  generalize (dat1 V b c).arrAt 2 _ = f
  clear e2 hfl
  funext i
  have he : ((cfg1.win 2).blk ⟨11, h11⟩).view.emb i = i := funext fun a => by
    fin_cases a
    · exact Fin.ext (show 0 * 64 + 1 * (i 0).val = (i 0).val by omega)
    · exact Fin.ext (show 0 * 128 + 1 * (i 1).val = (i 1).val by omega)
  have := View.write_emb_of_mem (Val := Elt F) (v := ((cfg1.win 2).blk ⟨11, h11⟩).view) f w
    (Finset.mem_univ i)
  rw [he] at this
  exact this

end Cert.Proof.Pool

end
-- ==== Proof.MaxBlocks.lean ====
module

public import proofs.«01_k».proof.Proof.MaxRows
public import proofs.«01_k».proof.Proof.SegRegion
public import Idealize.ShloMosaic.Lib.Pointwise
public import Idealize.ShloMosaic.Lib.IndicatorCount
public import Idealize.ShloMosaic.Lib.Routing.Count
public import Idealize.ShloMosaic.Lib.WordCmp

@[expose] public section

set_option maxRecDepth 16384

noncomputable section

namespace Cert.Proof.Pool

open Cert.KernelIdeal Cert.KernelIdeal.Gen
open Idealize.ShloMosaic

/-! # The TensorCore's blocks -/

theorem bot_bits : Ideal.ofBits FTy.f32 4286578688#32 = (⊥ : EReal) := ninf_eq

/-- A fold by `max` from −∞ over `n` places, of a function of the row, is the maximum over the rows. -/
theorem fold_rows {n : ℕ} (a : ℕ) (f : Fin n → EReal) (h : ℕ → EReal) (hf : ∀ i : Fin n, f i = h (a + i.val)) :
    Finset.fold max (Ideal.ofBits FTy.f32 4286578688#32) f Finset.univ = (Finset.Ico a (a + n)).sup h := by
  rw [bot_bits]
  show Finset.univ.sup f = _
  apply le_antisymm
  · refine Finset.sup_le fun i _ => ?_
    rw [hf]
    exact Finset.le_sup (f := h) (Finset.mem_Ico.2 (by omega))
  · refine Finset.sup_le fun r hr => ?_
    rw [Finset.mem_Ico] at hr
    have e := hf ⟨r - a, by omega⟩
    rw [show a + (⟨r - a, by omega⟩ : Fin n).val = r from by show a + (r - a) = r; omega] at e
    rw [← e]
    exact Finset.le_sup (f := f) (Finset.mem_univ _)

theorem ofBool_iff {p : Bool} : BitVec.ofBool p = 1#1 ↔ p = true := by cases p <;> decide

section

variable {x : S100000x128.Idx → EReal} {g : S100000.Idx → BitVec 32}

/-- The words and rows of a TensorCore block that starts at row `a`. -/
structure TBlk (x : S100000x128.Idx → EReal) (g : S100000.Idx → BitVec 32) (a : ℕ) (v4 : Vec Ideal S1x4000 .i32) (v14 : Vec Ideal S4000x128 .f32) : Prop where
  le : a + 4000 ≤ 100000
  wd : ∀ i : Fin 4000, v4 (ix2 0 i) = g (gix (a + i.val))
  row : ∀ (i : Fin 4000) c, v14 (ix2 i c) = rowX x (a + i.val) c

variable {a : ℕ} {v4 : Vec Ideal S1x4000 .i32} {v14 : Vec Ideal S4000x128 .f32}

theorem cnt_card (P : ℕ → Prop) [DecidablePred P] (p : Fin 1 × Fin 4000 → BitVec 1) (hp : ∀ y, p y = 1#1 ↔ P y.2.val) :
    (Finset.univ.filter fun y => p y = 1#1).card = Nat.count P 4000 := by
  rw [Nat.count_eq_card_filter_range]
  refine Finset.card_bij (fun y _ => y.2.val) (fun y hy => ?_) (fun y _ z _ h => ?_) fun i hi => ?_
  · rw [Finset.mem_filter] at hy ⊢
    exact ⟨Finset.mem_range.2 y.2.isLt, (hp y).1 hy.2⟩
  · exact Prod.ext (Subsingleton.elim _ _) (Fin.ext h)
  · rw [Finset.mem_filter, Finset.mem_range] at hi
    exact ⟨(0, ⟨i, hi.1⟩), Finset.mem_filter.2 ⟨Finset.mem_univ _, (hp _).2 hi.2⟩, rfl⟩

variable (hg : Ord g) (B : TBlk x g a v4 v14)
include hg B

theorem wd_lt (z : S1x4000.Idx) : (v4 z).toNat < 64 := by
  idx_vars z
  rw [show z0 = 0 from Subsingleton.elim _ _, B.wd]
  exact hg.lt _

theorem cnt_lt (s : BitVec 32) (hs : s.toNat < 64) :
    (cntW .slt v4 s).toNat = Nat.count (fun i => bN g (a + i) < s.toNat) 4000 := by
  pointwise [cntW, k1_pay2, extractAt]
  rw [IndicatorCount.fold_addi_setWidth_eq_card, cnt_card (fun i => bN g (a + i) < s.toNat)]
  · rw [BitVec.toNat_ofNat]
    have := Nat.count_le (fun i => bN g (a + i) < s.toNat) (n := 4000)
    exact Nat.mod_eq_of_lt (by omega)
  · intro y
    have h := hg.lt (a + y.2.val)
    have e := B.wd y.2
    rw [WordCmp.cmpi_slt_of_lt (by rw [e]; exact lt_trans h (by decide)) (by exact lt_trans hs (by decide)), ofBool_iff, decide_eq_true_eq, e]
    rfl

theorem cnt_le (s : BitVec 32) (hs : s.toNat < 64) :
    (cntW .sle v4 s).toNat = Nat.count (fun i => bN g (a + i) ≤ s.toNat) 4000 := by
  pointwise [cntW, k1_pay2, extractAt]
  rw [IndicatorCount.fold_addi_setWidth_eq_card, cnt_card (fun i => bN g (a + i) ≤ s.toNat)]
  · rw [BitVec.toNat_ofNat]
    have := Nat.count_le (fun i => bN g (a + i) ≤ s.toNat) (n := 4000)
    exact Nat.mod_eq_of_lt (by omega)
  · intro y
    have h := hg.lt (a + y.2.val)
    have e := B.wd y.2
    rw [WordCmp.cmpi_sle_of_lt (by rw [e]; exact lt_trans h (by decide)) (by exact lt_trans hs (by decide)), ofBool_iff, decide_eq_true_eq, e]
    rfl

theorem pick_eq (s : BitVec 32) (hs : s.toNat < 64) (i : Fin 4000) (c : Fin 128) :
    pickW v4 v14 s (ix2 i c) = (if bN g (a + i.val) = s.toNat then rowX x (a + i.val) c else ⊥ : EReal) := by
  have hle := B.le
  have h1 : bN g (a + i.val) < s.toNat ↔ i.val < (cntW .slt v4 s).toNat := by
    rw [cnt_lt hg B s hs]
    exact Routing.lt_count_iff (Q := fun i => bN g (a + i) < s.toNat)
      (fun u v huv hv h => lt_of_le_of_lt (hg.mono _ _ (by omega) (by omega)) h) i.isLt
  have h2 : bN g (a + i.val) ≤ s.toNat ↔ i.val < (cntW .sle v4 s).toNat := by
    rw [cnt_le hg B s hs]
    exact Routing.lt_count_iff (Q := fun i => bN g (a + i) ≤ s.toNat)
      (fun u v huv hv h => le_trans (hg.mono _ _ (by omega) (by omega)) h) i.isLt
  have c1 : (cntW .slt v4 s).toNat ≤ 4000 := by rw [cnt_lt hg B s hs]; exact Nat.count_le _
  have c2 : (cntW .sle v4 s).toNat ≤ 4000 := by rw [cnt_le hg B s hs]; exact Nat.count_le _
  have hi := i.isLt
  have hi' : (BitVec.ofNat 32 i.val).toNat = i.val := by rw [BitVec.toNat_ofNat]; exact Nat.mod_eq_of_lt (by omega)
  pointwise [pickW]
  rw [WordCmp.cmpi_sge_of_lt (by rw [hi']; norm_num; omega) (by norm_num; omega),
    WordCmp.cmpi_slt_of_lt (by rw [hi']; norm_num; omega) (by norm_num; omega), hi', bot_bits, B.row]
  by_cases e : bN g (a + i.val) = s.toNat
  · have n1 : (cntW .slt v4 s).toNat ≤ i.val := by omega
    have n2 : i.val < (cntW .sle v4 s).toNat := by omega
    rw [if_pos e, decide_eq_true n1, decide_eq_true n2]
    rfl
  · rw [if_neg e]
    by_cases n1 : (cntW .slt v4 s).toNat ≤ i.val
    · have n2 : ¬ i.val < (cntW .sle v4 s).toNat := by omega
      rw [decide_eq_false n2, decide_eq_true n1]
      rfl
    · rw [decide_eq_false n1]
      cases decide (i.val < (cntW .sle v4 s).toNat) <;> rfl

theorem slow_eq (s : BitVec 32) (hs : s.toNat < 64) (v53 : Vec Ideal S1x128 .f32) (c : Fin 128) :
    slowW v4 v14 s v53 (ix 0 c) = max (v53 (ix 0 c) : EReal) (segM x g (Finset.Ico a (a + 4000)) s.toNat c) := by
  pointwise [slowW]
  congr 1
  exact fold_rows a _ _ fun i => pick_eq hg B s hs i c

theorem seg_step (X : S64x128.Idx → Ideal .f32) (S : Finset ℕ) (hX : ∀ (s : Fin 64) c, X (ix s c) = segM x g S s.val c) (s : Fin 64) (c : Fin 128) :
    segStep v4 v14 X (ix s c) = segM x g (S ∪ Finset.Ico a (a + 4000)) s.val c := by
  have hv := wd_lt hg B
  have hr : ∀ r ∈ Finset.Ico a (a + 4000), (loW v4).toNat ≤ bN g r ∧ bN g r ≤ (hiW v4).toNat := by
    intro r hr
    rw [Finset.mem_Ico] at hr
    have e := B.wd ⟨r - a, by omega⟩
    rw [show a + (⟨r - a, by omega⟩ : Fin 4000).val = r from by show a + (r - a) = r; omega] at e
    have h1 := loW_le_toNat hv (ix2 0 ⟨r - a, by omega⟩)
    have h2 := le_hiW_toNat hv (ix2 0 ⟨r - a, by omega⟩)
    rw [e] at h1 h2
    exact ⟨h1, h2⟩
  have hhi := hiW_lt hv
  have hlo := loW_le_hiW hv
  rw [segM_union]
  unfold segStep
  split
  · rename_i e
    have hgr : (gr (loW v4)).val = (loW v4).toNat := Nat.mod_eq_of_lt (by omega)
    show (if s.val = (gr (loW v4)).val then k1_pay5 v14 (getRow X (gr (loW v4))) (ix 0 c) else X (ix s c)) = _
    by_cases h : s.val = (gr (loW v4)).val
    · have hs : gr (loW v4) = s := Fin.ext h.symm
      rw [if_pos h, hs]
      pointwise [k1_pay5]
      congr 1
      · exact hX s c
      · rw [segM_all]
        · exact fold_rows a _ _ fun i => B.row i c
        · intro r hr'
          have := hr r hr'
          rw [e] at this h hgr
          omega
    · rw [if_neg h, hX, segM_none (S := Finset.Ico a (a + 4000)), max_eq_left bot_le]
      intro r hr'
      have := hr r hr'
      rw [e] at this h hgr
      omega
  · show (if (loW v4).toNat ≤ s.val ∧ s.val < (loW v4).toNat + ((hiW v4).toNat + 1 - (loW v4).toNat) then
      slowW v4 v14 (BitVec.ofNat 32 s.val) (getRow X s) (ix 0 c) else X (ix s c)) = _
    have hs' : (BitVec.ofNat 32 s.val).toNat = s.val := by rw [BitVec.toNat_ofNat]; exact Nat.mod_eq_of_lt (by omega)
    split
    · rw [slow_eq hg B _ (by rw [hs']; exact s.isLt), hs']
      congr 1
      exact hX s c
    · rw [hX, segM_none (S := Finset.Ico a (a + 4000)), max_eq_left bot_le]
      intro r hr'
      have := hr r hr'
      omega

end

end Cert.Proof.Pool

end
-- ==== Proof.RegionOf.lean ====
module

public import proofs.«01_k».proof.Proof.SegRegion
public import Idealize.ShloMosaic.Lib.Pipeline.RegionsLoop

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # A pipelined region over the core's unscoped buffers, for either pipeline -/

open Idealize.ShloMosaic.Pipeline (Dat Cfg Window BodyObligation)
open Idealize.ShloMosaic.TcCoe

abbrev PD (F : FTy → Type) [FloatOps F] : Type _ :=
  (p : Fin 2) → (c : Dev nD) → Dat τ (Elt F) (HIx 1) ℕ UU ℕ (Pipeline.pin (pcfgs (F := F)) adm p) c

/-- What the core owes nothing beyond: every wait recorded at a level of at most `b`. -/
abbrev lowW (b : ℕ) (c : Dev nD) : sProp 𝕄 :=
  iprop(∃ W, ⌜(K (F := F)).WBelow (c : Thread nD τ) W b⌝ ∗ owes (c : Thread nD τ) (0 : CellTallies nD τ sig (HIx 1)) W)

variable (b : ℕ) (p : Fin 2) (pd : PD F) (V Vp : (c : Dev nD) → (b : Ref sig .tc) → Buf (Elt F) ((c : Thread nD τ).loc b))

set_option backward.isDefEq.respectTransparency.types false in
/-- The region from any contents `V` of the unscoped buffers to `Vp`, which has the arrays at their final contents. -/
def mkReg (hl : Pipeline.LaunchFacts (nD := nD) (τ := τ) cfgs p)
    (hbody : ∀ c, BodyObligation (pd p c) (defs₀ (F := F)) 𝒱₀ none Set.univ)
    (hq : ∀ c w, (pd p c).q w = fullShare) (ho : ∀ c t, (pd p c).owed t = 0) (hr : ∀ c t, (pd p c).recorded t = recW (F := F) b c)
    (hΦ : ∀ c t, (pd p c).Φ t = Pipeline.scopedRest (Ix := HIx 1) (Name := ℕ) (U := UU) (Lvl := ℕ) (Val := Elt F) ((pcfgs (F := F) p).spec) c)
    (hA : ∀ c w, (pd p c).A w = V c (Pipeline.arrRef ((pcfgs (F := F) p).spec) w))
    (hVp : ∀ c w, (pd p c).arrAt w (Pipeline.pin (pcfgs (F := F)) adm p).N = Vp c (Pipeline.arrRef ((pcfgs (F := F) p).spec) w))
    (hoff : ∀ c (r : Ref sig .tc), r ∉ Finset.univ.image (Pipeline.arrRef ((pcfgs (F := F) p).spec)) → Vp c r = V c r) :
    Pipeline.RegionSeg (pcfgs (F := F)) adm pd none (defs₀ (F := F)) 𝒱₀ (K (F := F)).L (K (F := F)).lev p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ _ _ p ho
  pre c := iprop(unscopedBufs c (V c) ∗ lowW b c)
  post c := iprop(unscopedBufs c (Vp c) ∗ lowW b c)
  X _ := BI.emp
  Y _ := BI.emp
  Z c := Pipeline.unscopedRest (Ix := HIx 1) (Name := ℕ) (U := UU) (Lvl := ℕ) ((pcfgs (F := F) p).spec) c (V c)
  hentry c := by
    rw [Pipeline.ownSems0_none]
    have hsplit := Pipeline.arrays_of_unscopedBufs (p := p) (pcfgs (F := F)) adm pd hl.win hl.arr_whole c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W
      isplitr
      · ipureintro
        exact fun x hx => Or.inl (by rw [hr]; exact hW x hx)
      rw [ho]
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) hl.win hl.arr_whole c
      pd ((pd p c).share_full (hq c)) (V c) (Vp c) ((pd p c).arrAt · (Pipeline.pin (pcfgs (F := F)) adm p).N)
      (hVp c) (hoff c)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro x hx
      rcases hW hx with h | ⟨w, s, h⟩
      · rw [hr] at h; exact h
      · rw [h]; exact Nat.zero_le _
    rw [ho]
    iexact HO

end Cert.Proof.Pool

end
-- ==== Proof.MlpBody.lean ====
module

public import proofs.«01_k».proof.Proof.SegBody
public import proofs.«01_k».proof.Proof.Gen.KernelIdeal.Skeleton

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # The body of the last kernel: eight loads, one store -/

open Idealize.ShloMosaic.TcCoe

/-- `C` can be taken out of `P` and put back. -/
def Peek (P C : sProp 𝕄) : Prop := P ⊢ iprop(C ∗ (C -∗ P))

section

variable {A B C : sProp (MT nD τ sig (HIx 1) (Elt F) ℕ UU ℕ)}

theorem Peek.refl : Peek C C := by
  unfold Peek
  iintro H
  isplitl [H]; · iexact H
  iintro H; iexact H

theorem Peek.left : Peek iprop(C ∗ B) C := by
  unfold Peek
  iintro ⟨H, HB⟩
  isplitl [H]; · iexact H
  iintro H
  isplitl [H]; · iexact H
  iexact HB

theorem Peek.right (h : Peek B C) : Peek iprop(A ∗ B) C := by
  unfold Peek at *
  iintro ⟨HA, HB⟩
  ihave HB := h $$ HB
  icases HB with ⟨HC, HB⟩
  isplitl [HC]; · iexact HC
  iintro HC
  isplitl [HA]; · iexact HA
  iapply HB $$ HC

end

theorem unit_idx {s : Shape} {off : Fin s.rank → ℕ} {inb : ∀ a, off a + s.size a ≤ s.size a} (ho : ∀ a, off a = 0) (x : s.Idx) :
    (Rect.unit (s := s) off s.size inb).toLoadRect.idx x = x := by
  funext a
  apply Fin.ext
  show off a + 1 * (x a).val = (x a).val
  rw [ho]; omega

variable {d : Dev nD}

/-- A load of a whole memref. -/
theorem CRun.ldP {P P' : sProp (MT nD τ sig (HIx 1) (Elt F) ℕ UU ℕ)} {s : Shape} {e : EltTy} {m : Memref sig .tc .vmem s e} {q : PosShare TreeShare}
    {X : s.Idx → Elt F e} {off : Fin s.rank → ℕ} {inb : ∀ a, off a + s.size a ≤ s.size a} {hl : m.view.LoadsAt (Rect.unit (s := s) off s.size inb).toLoadRect}
    {α : Type} {k : (s.Idx → Elt F e) → CProg F α} (hp : Peek P (owns (Val := Elt F) d.tc m q X)) (ho : ∀ a, off a = 0)
    (hk : CRun d P (k X) P') : CRun d P (.op (.load m (Rect.unit (s := s) off s.size inb).toLoadRect hl) k) P' := by
  have hX : (fun x => X ((Rect.unit (s := s) off s.size inb).toLoadRect.idx x)) = X := funext fun x => congrArg X (unit_idx ho x)
  unfold CRun Peek at *
  have hld := own_load (d := d) (q := q) (X := X) (r := (Rect.unit (s := s) off s.size inb).toLoadRect) (hl := hl) (k := k) (Q := fun _ => P') m
  rw [hX] at hld
  iintro H
  ihave H := hp $$ H
  icases H with ⟨HC, HP⟩
  iapply hld $$ HC
  iintro HC
  ihave H := HP $$ HC
  iapply hk $$ H

/-- A store of the first memref of the state. -/
theorem CRun.stP {R P' : sProp (MT nD τ sig (HIx 1) (Elt F) ℕ UU ℕ)} {m : Memref sig .tc .vmem S64x128 .f32}
    {X w : S64x128.Idx → F .f32} {inb hx hm} {α : Type} {k : PUnit → CProg F α}
    (hk : CRun d iprop(owns (Val := Elt F) d.tc m fullShare w ∗ R) (k ⟨⟩) P') :
    CRun d iprop(owns (Val := Elt F) d.tc m fullShare X ∗ R) (.op (.store m (Rect.unit (s := S64x128) ![0, 0] S64x128.size inb) w Finset.univ hx hm) k) P' := by
  unfold CRun at *
  iintro ⟨H, HR⟩
  iapply (own_storeAll (d := d) (X := X) (w := w) m) $$ H
  iintro H
  iapply hk
  isplitl [H]; · iexact H
  iexact HR

variable (a0 : Memref sig .tc .vmem S32x64x128 .f32) (h0 : a0.IsWhole) (a1 : Memref sig .tc .vmem S64x128 .f32) (h1 : a1.IsWhole) (a2 : Memref sig .tc .vmem S256x128 .f32) (h2 : a2.IsWhole)
  (a3 : Memref sig .tc .vmem S1x256 .f32) (h3 : a3.IsWhole) (a4 : Memref sig .tc .vmem S256x256 .f32) (h4 : a4.IsWhole) (a5 : Memref sig .tc .vmem S1x256 .f32) (h5 : a5.IsWhole)
  (a6 : Memref sig .tc .vmem S128x256 .f32) (h6 : a6.IsWhole) (a7 : Memref sig .tc .vmem S1x128 .f32) (h7 : a7.IsWhole) (a8 : Memref sig .tc .vmem S64x128 .f32) (h8 : a8.IsWhole)
  (X0 : S32x64x128.Idx → F .f32) (X1 : S64x128.Idx → F .f32) (X2 : S256x128.Idx → F .f32) (X3 : S1x256.Idx → F .f32) (X4 : S256x256.Idx → F .f32)
  (X5 : S1x256.Idx → F .f32) (X6 : S128x256.Idx → F .f32) (X7 : S1x128.Idx → F .f32) (X8 : S64x128.Idx → F .f32)

/-- The nine memrefs, the result's first. -/
abbrev Mf (d : Dev nD) : sProp 𝕄 :=
  iprop(owns (Val := Elt F) d.tc a8 fullShare X8 ∗ owns (Val := Elt F) d.tc a0 fullShare X0 ∗ owns (Val := Elt F) d.tc a1 fullShare X1
    ∗ owns (Val := Elt F) d.tc a2 fullShare X2 ∗ owns (Val := Elt F) d.tc a3 fullShare X3 ∗ owns (Val := Elt F) d.tc a4 fullShare X4
    ∗ owns (Val := Elt F) d.tc a5 fullShare X5 ∗ owns (Val := Elt F) d.tc a6 fullShare X6 ∗ owns (Val := Elt F) d.tc a7 fullShare X7)

theorem zero2 : ∀ a : Fin 2, (![0, 0] : Fin 2 → ℕ) a = 0 := by decide
theorem zero3 : ∀ a : Fin 3, (![0, 0, 0] : Fin 3 → ℕ) a = 0 := by decide

/-- The body. -/
theorem mlp_run : CRun d (Mf a0 a1 a2 a3 a4 a5 a6 a7 a8 X0 X1 X2 X3 X4 X5 X6 X7 X8 d)
    (cc2__mlp_body a0 h0 a1 h1 a2 h2 a3 h3 a4 h4 a5 h5 a6 h6 a7 h7 a8 h8)
    (Mf a0 a1 a2 a3 a4 a5 a6 a7 a8 X0 X1 X2 X3 X4 X5 X6 X7 (k2_pay1 X0 X1 X2 X3 X4 X5 X6 X7) d) := by
  rw [cc2__mlp_body_eq_skeleton]
  unfold cc2__mlp_body_skel
  rw [k2_part1_eq_skeleton]
  unfold k2_part1_skel
  refine CRun.ldP (X := X0) (Peek.right Peek.left) zero3 ?_
  refine CRun.ldP (X := X1) (Peek.right (Peek.right Peek.left)) zero2 ?_
  refine CRun.ldP (X := X2) (Peek.right (Peek.right (Peek.right Peek.left))) zero2 ?_
  refine CRun.ldP (X := X3) (Peek.right (Peek.right (Peek.right (Peek.right Peek.left)))) zero2 ?_
  refine CRun.ldP (X := X4) (Peek.right (Peek.right (Peek.right (Peek.right (Peek.right Peek.left))))) zero2 ?_
  refine CRun.ldP (X := X5) (Peek.right (Peek.right (Peek.right (Peek.right (Peek.right (Peek.right Peek.left)))))) zero2 ?_
  refine CRun.ldP (X := X6) (Peek.right (Peek.right (Peek.right (Peek.right (Peek.right (Peek.right (Peek.right Peek.left))))))) zero2 ?_
  refine CRun.ldP (X := X7) (Peek.right (Peek.right (Peek.right (Peek.right (Peek.right (Peek.right (Peek.right (Peek.right Peek.refl)))))))) zero2 ?_
  refine CRun.ldP (X := X8) Peek.left zero2 ?_
  generalize k2_pay1 X0 X1 X2 X3 X4 X5 X6 X7 = w
  refine CRun.stP ?_
  exact CRun.ret

end Cert.Proof.Pool

end
-- ==== Proof.MlpRegion.lean ====
module

public import proofs.«01_k».proof.Proof.RegionOf
public import proofs.«01_k».proof.Proof.MlpBody

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # The region of the last kernel: one point over whole arrays -/

open Idealize.ShloMosaic.Pipeline (Dat Cfg Window BodyObligation)
open Idealize.ShloMosaic.TcCoe

variable (V : (c : Dev nD) → (b : Ref sig .tc) → Buf (Elt F) ((c : Thread nD τ).loc b)) (b : ℕ)

/-- The scoped buffers the region does not stage. -/
abbrev Φ2 (c : Dev nD) : sProp 𝕄 := Pipeline.scopedRest (Ix := HIx 1) (Name := ℕ) (U := UU) (Lvl := ℕ) (Val := Elt F) spec2 c

/-- The result of the last kernel. -/
def mlpV (c : Dev nD) : S64x128.Idx → F .f32 :=
  k2_pay1 (V c main_v2) (V c main_v3) (V c main_arg2) (V c main_v12) (V c main_arg4) (V c main_v13) (V c main_v6) (V c main_v11)

/-- The region's contents. -/
def dat2 (c : Dev nD) : Dat τ (Elt F) (HIx 1) ℕ UU ℕ cfg2 c where
  A w := V c (Pipeline.arrRef spec2 w)
  after w t := match w with
    | ⟨0, _⟩ => V c main_v2
    | ⟨1, _⟩ => V c main_v3
    | ⟨2, _⟩ => V c main_arg2
    | ⟨3, _⟩ => V c main_v12
    | ⟨4, _⟩ => V c main_arg4
    | ⟨5, _⟩ => V c main_v13
    | ⟨6, _⟩ => V c main_v6
    | ⟨7, _⟩ => V c main_v11
    | ⟨8, _⟩ => mlpV V c
  Φ _ := Φ2 c
  q _ := fullShare
  owed _ := 0
  recorded _ := recW (F := F) b c

/-- The memref over a whole array at block 0 reads it as it is. -/
theorem emb2 {s : Shape} (f : s.Idx → s.Idx) (h : ∀ i a, (f i a).val = 0 * s.size a + 1 * (i a).val) (i : s.Idx) : f i = i :=
  funext fun a => Fin.ext ((h i a).trans (by omega))

theorem before2_0 (c : Dev nD) (t : Fin cfg2.N) (d) : (dat2 V b c).before 0 t d = V c main_v2 := by
  unfold Dat.before
  rw [if_pos (fetch2_0 t)]
  exact funext fun i => congrArg (V c main_v2) (emb2 (((cfg2.win 0).blk t).view.emb) (fun i a => rfl) i)
theorem before2_1 (c : Dev nD) (t : Fin cfg2.N) (d) : (dat2 V b c).before 1 t d = V c main_v3 := by
  unfold Dat.before
  rw [if_pos (fetch2_1 t)]
  exact funext fun i => congrArg (V c main_v3) (emb2 (((cfg2.win 1).blk t).view.emb) (fun i a => rfl) i)
theorem before2_2 (c : Dev nD) (t : Fin cfg2.N) (d) : (dat2 V b c).before 2 t d = V c main_arg2 := by
  unfold Dat.before
  rw [if_pos (fetch2_2 t)]
  exact funext fun i => congrArg (V c main_arg2) (emb2 (((cfg2.win 2).blk t).view.emb) (fun i a => rfl) i)
theorem before2_3 (c : Dev nD) (t : Fin cfg2.N) (d) : (dat2 V b c).before 3 t d = V c main_v12 := by
  unfold Dat.before
  rw [if_pos (fetch2_3 t)]
  exact funext fun i => congrArg (V c main_v12) (emb2 (((cfg2.win 3).blk t).view.emb) (fun i a => rfl) i)
theorem before2_4 (c : Dev nD) (t : Fin cfg2.N) (d) : (dat2 V b c).before 4 t d = V c main_arg4 := by
  unfold Dat.before
  rw [if_pos (fetch2_4 t)]
  exact funext fun i => congrArg (V c main_arg4) (emb2 (((cfg2.win 4).blk t).view.emb) (fun i a => rfl) i)
theorem before2_5 (c : Dev nD) (t : Fin cfg2.N) (d) : (dat2 V b c).before 5 t d = V c main_v13 := by
  unfold Dat.before
  rw [if_pos (fetch2_5 t)]
  exact funext fun i => congrArg (V c main_v13) (emb2 (((cfg2.win 5).blk t).view.emb) (fun i a => rfl) i)
theorem before2_6 (c : Dev nD) (t : Fin cfg2.N) (d) : (dat2 V b c).before 6 t d = V c main_v6 := by
  unfold Dat.before
  rw [if_pos (fetch2_6 t)]
  exact funext fun i => congrArg (V c main_v6) (emb2 (((cfg2.win 6).blk t).view.emb) (fun i a => rfl) i)
theorem before2_7 (c : Dev nD) (t : Fin cfg2.N) (d) : (dat2 V b c).before 7 t d = V c main_v11 := by
  unfold Dat.before
  rw [if_pos (fetch2_7 t)]
  exact funext fun i => congrArg (V c main_v11) (emb2 (((cfg2.win 7).blk t).view.emb) (fun i a => rfl) i)

set_option maxHeartbeats 1000000 in
/-- The body's obligation. -/
theorem body2 (c : Dev nD) : BodyObligation (dat2 V b c) (defs₀ (F := F)) 𝒱₀ none Set.univ := fun t => by
  rw [bigSep_W2, bigSep_W2]
  rw [show (dat2 V b c).Φ t.castSucc = Φ2 c from rfl, show (dat2 V b c).Φ t.succ = Φ2 c from rfl,
    show (dat2 V b c).owesAt none t.succ = (dat2 V b c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0, before2_1, before2_2, before2_3, before2_4, before2_5, before2_6, before2_7]
  have hrun := mlp_run (d := c) (st2_0 t) (hstage2_0 0) (st2_1 t) (hstage2_1 0) (st2_2 t) (hstage2_2 0) (st2_3 t) (hstage2_3 0)
    (st2_4 t) (hstage2_4 0) (st2_5 t) (hstage2_5 0) (st2_6 t) (hstage2_6 0) (st2_7 t) (hstage2_7 0) (st2_8 t) (hstage2_8 0)
    (V c main_v2) (V c main_v3) (V c main_arg2) (V c main_v12) (V c main_arg4) (V c main_v13) (V c main_v6) (V c main_v11) ((dat2 V b c).before 8 t d8)
  rw [show k2_pay1 (V c main_v2) (V c main_v3) (V c main_arg2) (V c main_v12) (V c main_arg4) (V c main_v13) (V c main_v6) (V c main_v11) = mlpV V c from rfl] at hrun
  rw [show defs₀ (F := F) Proc.tc cfg2.body (cfg2.bodyArgs t (cfg2.slots t)) = bodyAt2 t from rfl]
  iapply (hrun.use _)
  isplitl [H0 H1 H2 H3 H4 H5 H6 H7 H8]
  · isplitl [H8]; · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %a ⟨H8, H0, H1, H2, H3, H4, H5, H6, H7⟩
  isplitl [HΦ]; · iexact HΦ
  isplitl [Ho]; · iexact Ho
  have e0 : (dat2 V b c).after 0 t = V c main_v2 := by dsimp only [dat2]
  have e1 : (dat2 V b c).after 1 t = V c main_v3 := by dsimp only [dat2]
  have e2 : (dat2 V b c).after 2 t = V c main_arg2 := by dsimp only [dat2]
  have e3 : (dat2 V b c).after 3 t = V c main_v12 := by dsimp only [dat2]
  have e4 : (dat2 V b c).after 4 t = V c main_arg4 := by dsimp only [dat2]
  have e5 : (dat2 V b c).after 5 t = V c main_v13 := by dsimp only [dat2]
  have e6 : (dat2 V b c).after 6 t = V c main_v6 := by dsimp only [dat2]
  have e7 : (dat2 V b c).after 7 t = V c main_v11 := by dsimp only [dat2]
  have e8 : (dat2 V b c).after 8 t = mlpV V c := by dsimp only [dat2]
  rw [← e0, ← e1, ← e2, ← e3, ← e4, ← e5, ← e6, ← e7, ← e8]
  generalize (dat2 V b c).after 0 t = A0
  generalize (dat2 V b c).after 1 t = A1
  generalize (dat2 V b c).after 2 t = A2
  generalize (dat2 V b c).after 3 t = A3
  generalize (dat2 V b c).after 4 t = A4
  generalize (dat2 V b c).after 5 t = A5
  generalize (dat2 V b c).after 6 t = A6
  generalize (dat2 V b c).after 7 t = A7
  generalize (dat2 V b c).after 8 t = A8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The array the region writes back. -/
theorem out2 (c : Dev nD) : (dat2 V b c).arrAt 8 cfg2.N = mlpV V c := by
  rw [show cfg2.N = 0 + 1 from N_2]
  have h0 : 0 < cfg2.N := by rw [show cfg2.N = 1 from N_2]; decide
  rw [(dat2 V b c).arrAt_succ 8 ⟨0, h0⟩, if_pos (flush2_8 ⟨0, h0⟩)]
  have hfl : (dat2 V b c).flushed 8 ⟨0, h0⟩ = (dat2 V b c).after 8 ⟨0, h0⟩ := rfl
  rw [hfl]
  have e2 : (dat2 V b c).after 8 ⟨0, h0⟩ = mlpV V c := by dsimp only [dat2]
  rw [e2]
  generalize mlpV V c = w
  generalize (dat2 V b c).arrAt 8 _ = f
  clear e2 hfl
  funext i
  have he : ((cfg2.win 8).blk ⟨0, h0⟩).view.emb i = i := emb2 (((cfg2.win 8).blk ⟨0, h0⟩).view.emb) (fun i a => rfl) i
  have := View.write_emb_of_mem (Val := Elt F) (v := ((cfg2.win 8).blk ⟨0, h0⟩).view) f w (Finset.mem_univ i)
  rw [he] at this
  exact this

end Cert.Proof.Pool

end
-- ==== Proof.MainRules.lean ====
module

public import proofs.«01_k».proof.Proof.MlpRegion

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # Steps of the main program over what the TensorCore holds -/

open Idealize.ShloMosaic.TcCoe
open Idealize.ShloMosaic.StableHlo (held)

/-- A program of the main function. -/
abbrev MProg (F : FTy → Type) [FloatOps F] (α : Type) : Type 1 :=
  Prog (TpuEff nD τ sig (Elt F) (SparseCore.Sig (Pipeline.Sig Λ₀ (Fin 2) fun p => (pcfgs (F := F) p).Adm) 1) .tc) α

/-- The rule it runs by. -/
abbrev wpM (d : Dev nD) {α : Type} (p : MProg F α) (Q : α → sProp 𝕄) : sProp 𝕄 :=
  wp frame (wpE ((K (F := F)).defs (D (F := F))) 𝒱 (SparseCore.T d) none) Set.univ p Q

/-- A run of the main function from one state to another. -/
def MRun (d : Dev nD) {α : Type} (P : sProp 𝕄) (p : MProg F α) (P' : sProp 𝕄) : Prop := P ⊢ wpM d p fun _ => P'

/-- The TensorCore's unscoped buffers. -/
def ucRefs : Finset (DevRef τ sig) := (StableHlo.tcRefs τ sig).filter fun b => ¬ b.isScoped

theorem mem_uc (b : Ref sig .tc) (h : (b : DevRef τ sig).isScoped = false) : (b : DevRef τ sig) ∈ ucRefs :=
  Finset.mem_filter.mpr ⟨Finset.mem_map.mpr ⟨b, Finset.mem_univ _, rfl⟩, by rw [h]; decide⟩

theorem unscoped_held (d : Dev nD) (W : Valuation τ sig (Elt F)) :
    (unscopedBufs d (fun b => W b) : sProp 𝕄) = held (SparseCore.T d) ucRefs W := by
  unfold unscopedBufs StableHlo.held ucRefs StableHlo.tcRefs
  rw [Finset.filter_map, bigSep_map]
  rfl

variable (m : (ℓ : Loc nD τ sig) → Buf (Elt F) ℓ) (κ : GSem nD τ sig → ℕ)

/-- The state after `n` SparseCore calls, the buffers at `W`. -/
def MS (n : ℕ) (W : Valuation τ sig (Elt F)) (R : sProp 𝕄) (d : Dev nD) : sProp 𝕄 :=
  iprop((K (F := F)).ctx EH (P m) κ ∗ (K (F := F)).tcSt EH d n ∗ boundary (SparseCore.T d) ∗ held (SparseCore.T d) ucRefs W ∗ R)

variable {m κ} {d : Dev nD} {n : ℕ} {W : Valuation τ sig (Elt F)} {R : sProp (MT nD τ sig (HIx 1) (Elt F) ℕ UU ℕ)}

theorem MRun.bind {α β : Type} {P P' P'' : sProp (MT nD τ sig (HIx 1) (Elt F) ℕ UU ℕ)} {p : MProg F α} {k : α → MProg F β}
    (h : MRun d P p P') (hk : ∀ a, MRun d P' (k a) P'') : MRun d P (p >>= k) P'' := by
  unfold MRun at *
  unfold wpM at *
  refine BIBase.Entails.trans ?_ (Entails.of_eq (wp_bind ..).symm)
  exact BIBase.Entails.trans h (wp_mono _ _ _ fun a => hk a)

theorem MRun.ret {α : Type} {P : sProp (MT nD τ sig (HIx 1) (Elt F) ℕ UU ℕ)} {a : α} : MRun d P (pure a) P := by
  unfold MRun
  iintro H
  iapply le_wp_ret
  iexact H

/-- A host operation. -/
theorem MRun.hlo {op : HloOp τ sig (Elt F)} (hS : op.bufs ⊆ ucRefs) (hf : op.fresh = ∅ := by rfl) :
    MRun d (MS m κ n W R d) (Idealize.ShloMosaic.hlo (p := .tc) rfl op (fun _ => Prog.ret PUnit.unit)) (MS m κ n (op.result W) R d) := by
  unfold MRun MS wpM
  iintro ⟨Hc, Hst, Hb, Hh, HR⟩
  iapply (StableHlo.wp_hlo_within 𝒱 (SparseCore.T d) none Set.univ (op := op) (S := ucRefs) hS (V := W) hf) $$ [Hb Hh]
  · isplitl [Hb] <;> iassumption
  iintro ⟨Hb, Hh⟩
  iapply le_wp_ret
  isplitl [Hc]; · iexact Hc
  isplitl [Hst]; · iexact Hst
  isplitl [Hb]; · iexact Hb
  isplitl [Hh]; · iexact Hh
  iexact HR

/-! ## The SparseCore call -/

theorem bigSep2 (Φ : Fin 2 → sProp 𝕄) : bigSep Finset.univ Φ = iprop(Φ 0 ∗ Φ 1) :=
  bigSep_univ_eq_bigSepL [0, 1] (by decide) (by decide) Φ

theorem bigSep3 (Φ : Fin 3 → sProp 𝕄) : bigSep Finset.univ Φ = iprop(Φ 0 ∗ Φ 1 ∗ Φ 2) :=
  bigSep_univ_eq_bigSepL [0, 1, 2] (by decide) (by decide) Φ

/-- A tile by its SparseCore and its place on it. -/
def wEquiv : Fin 2 × Fin 16 ≃ Fin 32 where
  toFun p := wOf p.1 p.2
  invFun w := (⟨w.val % 2, Nat.mod_lt _ (by decide)⟩, ⟨w.val / 2, by omega⟩)
  left_inv p := by
    obtain ⟨c, i⟩ := p
    refine Prod.ext (Fin.ext ?_) (Fin.ext ?_) <;> simp only [wOf] <;> omega
  right_inv w := by
    refine Fin.ext ?_
    simp only [wOf]; omega

/-- The three arrays of the call, dealt to the tiles. -/
theorem dealt (m : (ℓ : Loc nD τ sig) → Buf (Elt F) ℓ) (d : Dev nD) (f : Buf (Elt F) (pLoc d)) :
    (iprop((xLoc d ↦{fullShare} m (xLoc d)) ∗ (gLoc d ↦{fullShare} m (gLoc d)) ∗ (pLoc d ↦{fullShare} f)) : sProp 𝕄)
      = bigSep Finset.univ fun c : Fin 2 => paySC m d c f := by
  have hdisj : ∀ w ∈ (Finset.univ : Finset (Fin 32)), ∀ w' ∈ (Finset.univ : Finset (Fin 32)), w ≠ w' → Disjoint (tab w) (tab w') := by
    intro w _ w' _ hne
    rw [Finset.disjoint_left]
    intro i hi hi'
    exact hne (Fin.ext ((Finset.mem_filter.mp hi).2.symm.trans (Finset.mem_filter.mp hi').2))
  have hall : (Finset.univ : Finset (Fin 32)).biUnion tab = Finset.univ := by
    ext i
    simp only [Finset.mem_biUnion, Finset.mem_univ, true_and, iff_true]
    exact ⟨⟨(i 0).val, (i 0).isLt⟩, Finset.mem_filter.mpr ⟨Finset.mem_univ _, rfl⟩⟩
  have e : (bigSep Finset.univ fun c : Fin 2 => paySC m d c f) = bigSep Finset.univ fun w : Fin 32 => pay m d w f := by
    rw [bigSep_univ_equiv wEquiv, bigSep_univ_prod]
    rfl
  rw [e]
  unfold pay
  rw [bigSep_sep', bigSep_sep']
  have hp : (pLoc d ↦{fullShare} f : sProp 𝕄) = bigSep Finset.univ fun w : Fin 32 => (pLoc d ↦[tab w]{fullShare} f : sProp 𝕄) := by
    rw [← pointsTo_biUnion Finset.univ (ℓ := pLoc d) tab hdisj, hall]
  rw [hp, Transfers.pointsTo_deal (ℓ := xLoc d) (s := (Finset.univ : Finset (Fin 32))) ⟨0, Finset.mem_univ _⟩ fullShare,
    Transfers.pointsTo_deal (ℓ := gLoc d) (s := (Finset.univ : Finset (Fin 32))) ⟨0, Finset.mem_univ _⟩ fullShare]
  rfl

/-- The arrays of the call. -/
def callRefs : Fin 3 → DevRef τ sig
  | 0 => (main_arg0 : Ref sig .tc)
  | 1 => (main_arg1 : Ref sig .tc)
  | 2 => (main_v2 : Ref sig .tc)

theorem callRefs_inj : Function.Injective callRefs := by decide

theorem callRefs_sub : ∀ j, callRefs j ∈ ucRefs
  | 0 => mem_uc main_arg0 rfl
  | 1 => mem_uc main_arg1 rfl
  | 2 => mem_uc main_v2 rfl

theorem held_call (d : Dev nD) (W : Valuation τ sig (Elt F)) :
    (held (SparseCore.T d) ucRefs W : sProp 𝕄)
      = iprop(((xLoc d ↦{fullShare} (W (main_arg0 : Ref sig .tc) : Buf (Elt F) (xLoc d))) ∗ (gLoc d ↦{fullShare} (W (main_arg1 : Ref sig .tc) : Buf (Elt F) (gLoc d)))
          ∗ (pLoc d ↦{fullShare} (W (main_v2 : Ref sig .tc) : Buf (Elt F) (pLoc d))))
        ∗ bigSep (ucRefs \ Finset.univ.image callRefs) fun b => (((d, b) : Loc nD τ sig) ↦{fullShare} W b : sProp 𝕄)) := by
  unfold StableHlo.held
  rw [bigSep_named callRefs_inj callRefs_sub, bigSep3]
  rfl

/-- The call: the partial tables are its tiles' tables. -/
theorem MRun.sc (hx : W (main_arg0 : Ref sig .tc) = m (xLoc d)) (hg : W (main_arg1 : Ref sig .tc) = m (gLoc d)) (hp : W (main_v2 : Ref sig .tc) = m (pLoc d)) :
    MRun d (MS m κ 0 W R d) ((K (F := F)).run d 0) (MS m κ 1 (Function.update W (main_v2 : Ref sig .tc) (PTm m d)) R d) := by
  have e : ∀ f : Buf (Elt F) (pLoc d), (iprop((xLoc d ↦{fullShare} m (xLoc d)) ∗ (gLoc d ↦{fullShare} m (gLoc d)) ∗ (pLoc d ↦{fullShare} f)) : sProp 𝕄)
      = bigSep Finset.univ fun c : Fin ((K (F := F)).nCore 0) => paySC m d (Fin.cast nCore_zero c) f := fun f => dealt m d f
  unfold MRun MS wpM
  rw [held_call, held_call, hx, hg, hp, Function.update_of_ne (by decide), Function.update_of_ne (by decide), Function.update_self, hx, hg,
    bigSep_congr (s := ucRefs \ Finset.univ.image callRefs) (Φ := fun b => (((d, b) : Loc nD τ sig) ↦{fullShare} Function.update W (main_v2 : Ref sig .tc) (PTm m d) b : sProp 𝕄))
      (Ψ := fun b => (((d, b) : Loc nD τ sig) ↦{fullShare} W b : sProp 𝕄)) (fun b hb => by
        rw [Function.update_of_ne]
        rintro rfl
        exact (Finset.mem_sdiff.mp hb).2 (Finset.mem_image.mpr ⟨2, Finset.mem_univ _, rfl⟩)), e, e]
  iintro ⟨#Hc, Hst, Hb, ⟨Hh, Hr⟩, HR⟩
  iapply ((K (F := F)).wp_run (D (F := F)) 𝒱 (EH := EH) (P := P m) κ d 0)
  isplitl []; · iexact Hc
  isplitl [Hst]; · iexact Hst
  isplitl [Hh]; · iexact Hh
  iintro ⟨Hst, Hh⟩
  isplitl []; · iexact Hc
  isplitl [Hst]; · iexact Hst
  isplitl [Hb]; · iexact Hb
  isplitl [Hh Hr]
  · isplitl [Hh]; · iexact Hh
    iexact Hr
  iexact HR

/-! ## The kernel regions -/

/-- A pipeline's ghost state. -/
abbrev gh (p : Fin 2) (d : Dev nD) : sProp 𝕄 :=
  iprop(Pipeline.cellsGhost (Pipeline.pin (pcfgs (F := F)) adm) EP p d ∗ Pipeline.toksInit (Pipeline.pin (pcfgs (F := F)) adm) EP p d)

theorem tcSt_one (d : Dev nD) : ∃ (b : ℕ) (R' : sProp 𝕄), ((K (F := F)).tcSt EH d 1 : sProp 𝕄) = iprop(lowW b d ∗ R') := by
  unfold SparseCore.Cfg.tcSt
  rw [(K (F := F)).Otc_end d le_rfl]
  exact ⟨_, _, rfl⟩

theorem MRun.reg (p : Fin 2) {W W' : Valuation τ sig (Elt F)} (pd : ℕ → PD F)
    (rg : ∀ b, Pipeline.RegionSeg (pcfgs (F := F)) adm (pd b) none (defs₀ (F := F)) 𝒱₀ (K (F := F)).L (K (F := F)).lev p)
    (hpre : ∀ b c, (rg b).pre c = iprop(unscopedBufs c (fun r => W r) ∗ lowW b c))
    (hpost : ∀ b c, (rg b).post c = iprop(unscopedBufs c (fun r => W' r) ∗ lowW b c)) [∀ e, Nonempty (Elt F e)] :
    MRun d (MS m κ 1 W iprop(gh p d ∗ R) d) (Prog.lift (.customCall (SparseCore.inner (Pipeline.entry p)) ())) (MS m κ 1 W' R d) := by
  obtain ⟨b, R', hst⟩ := tcSt_one (F := F) d
  unfold MRun MS
  rw [hst, ← unscoped_held, ← unscoped_held]
  refine BIBase.Entails.trans ?_ ((K (F := F)).wp_liftProg (D (F := F)) 𝒱 (SparseCore.T d) Set.univ none
    (.op (.customCall (Pipeline.entry p) ()) Prog.ret) _)
  have h := Pipeline.RegionSeg.wp (pcfgs (F := F)) adm (pd b) none Gen.cellOf_inj EP (defs₀ (F := F)) 𝒱₀ (K (F := F)).L (K (F := F)).lev (rg b) d none
    (fun u hu => nomatch hu) Prog.ret
    (fun _ => iprop((K (F := F)).ctx EH (P m) κ ∗ (lowW b d ∗ R') ∗ boundary (SparseCore.T d) ∗ unscopedBufs d (fun r => W' r) ∗ R))
  rw [hpre, hpost] at h
  refine BIBase.Entails.trans ?_ h
  iintro ⟨#Hc, ⟨Hlow, HR'⟩, Hb, Hu, ⟨Hg1, Hg2⟩, HR⟩
  ihave Hlev := (SparseCore.Cfg.ctx_levAts κ) $$ Hc
  isplitl [HR' HR]
  · iintro ⟨Hb, Hu, Hlow⟩
    iapply le_wp_ret
    isplitl []; · iexact Hc
    isplitl [Hlow HR']
    · isplitl [Hlow] <;> iassumption
    isplitl [Hb]; · iexact Hb
    isplitl [Hu]; · iexact Hu
    iexact HR
  isplitl [Hb]; · iexact Hb
  isplitl [Hu Hlow]
  · isplitl [Hu] <;> iassumption
  isplitl [Hlev]; · iexact Hlev
  isplitl [Hg1] <;> iassumption

end Cert.Proof.Pool

end
-- ==== Proof.MainRegions.lean ====
module

public import proofs.«01_k».proof.Proof.MainRules

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # The main function -/

open Idealize.ShloMosaic.TcCoe
open Idealize.ShloMosaic.StableHlo

/-- The two pipelines' proof data, both from the contents `W`. -/
def pdOf (W : Valuation τ sig (Elt F)) (b : ℕ) : PD F
  | 0 => fun c => dat1 (fun _ r => W r) b c
  | 1 => fun c => dat2 (fun _ r => W r) b c

/-- After the segment maximum. -/
def segW (W : Valuation τ sig (Elt F)) : Valuation τ sig (Elt F) :=
  Function.update W (main_v3 : Ref sig .tc) (stab (W (main_arg0 : Ref sig .tc)) (W (main_v1 : Ref sig .tc)) 12)

/-- After the last kernel. -/
def mlpW (W : Valuation τ sig (Elt F)) (d : Dev nD) : Valuation τ sig (Elt F) :=
  Function.update W (main_v14 : Ref sig .tc) (mlpV (fun _ r => W r) d)

theorem ref_ne {r s : Ref sig .tc} (h : r ≠ s) : (r : DevRef τ sig) ≠ (s : DevRef τ sig) := fun e => h (Proc.devRef_injective _ e)

theorem update_arr (W : Valuation τ sig (Elt F)) {r s : Ref sig .tc} (v : (s : DevRef τ sig).ty.Contents (Elt F)) (h : r ≠ s) :
    Function.update W (s : DevRef τ sig) v r = W r := Function.update_of_ne (ref_ne h) v W

theorem hit (W : Valuation τ sig (Elt F)) {s : Ref sig .tc} {v : (s : DevRef τ sig).ty.Contents (Elt F)} :
    Function.update W (s : DevRef τ sig) v s = v := Function.update_self _ _ _

theorem arr_out1 : Pipeline.arrRef ((pcfgs (F := F) 0).spec) (2 : Fin 3) = main_v3 := rfl
theorem arr_out2 : Pipeline.arrRef ((pcfgs (F := F) 1).spec) (8 : Fin 9) = main_v14 := rfl

/-- The segment maximum's region, ending with the table `T`. -/
def segReg (W : Valuation τ sig (Elt F)) (hv : ∀ z, ((W (main_v1 : Ref sig .tc) : S12x4000.Idx → BitVec 32) z).toNat < 64)
    (T : (main_v3 : DevRef τ sig).ty.Contents (Elt F)) (hT : ∀ b c, (dat1 (fun _ r => W r) b c).arrAt 2 cfg1.N = T) (b : ℕ) :
    Pipeline.RegionSeg (pcfgs (F := F)) adm (pdOf W b) none (defs₀ (F := F)) 𝒱₀ (K (F := F)).L (K (F := F)).lev 0 :=
  mkReg b 0 (pdOf W b) (fun _ r => W r) (fun _ r => Function.update W (main_v3 : Ref sig .tc) T r) launch1
    (fun c => body1 (fun _ r => W r) b (fun _ => hv) c)
    (fun _ _ => rfl) (fun _ _ => rfl) (fun _ _ => rfl) (fun _ _ => rfl) (fun _ _ => rfl)
    (fun c w => match w with
      | ⟨0, _⟩ => ((dat1 (fun _ r => W r) b c).arrAt_in 0 rfl _).trans (update_arr W T (r := main_arg0) (s := main_v3) (by decide)).symm
      | ⟨1, _⟩ => ((dat1 (fun _ r => W r) b c).arrAt_in 1 rfl _).trans (update_arr W T (r := main_v1) (s := main_v3) (by decide)).symm
      | ⟨2, _⟩ => (hT b c).trans (hit W (s := main_v3)).symm)
    (fun c r hr => update_arr W T (fun e => hr (Finset.mem_image.mpr ⟨(2 : Fin 3), Finset.mem_univ _, arr_out1.trans e.symm⟩)))

theorem spec2_eq : (pcfgs (F := F) 1).spec = spec2 := rfl

theorem phi2 (W : Valuation τ sig (Elt F)) (b : ℕ) (c : Dev nD) (t) : (pdOf W b 1 c).Φ t = Φ2 c := rfl

theorem phi2' (W : Valuation τ sig (Elt F)) (b : ℕ) (c : Dev nD) (t) : (pdOf W b 1 c).Φ t = Pipeline.scopedRest (Ix := HIx 1) (Name := ℕ) (U := UU) (Lvl := ℕ) (Val := Elt F) ((pcfgs (F := F) 1).spec) c := by
  rw [spec2_eq]; exact phi2 W b c t

theorem arr2 (W : Valuation τ sig (Elt F)) (b : ℕ) (c : Dev nD) (w) : (pdOf W b 1 c).A w = (fun (_ : Dev nD) (r : Ref sig .tc) => W r) c (Pipeline.arrRef ((pcfgs (F := F) 1).spec) w) := rfl

/-- The last kernel's region, ending with the table `T`. -/
def mlpReg (W : Valuation τ sig (Elt F))
    (T : (main_v14 : DevRef τ sig).ty.Contents (Elt F)) (hT : ∀ b c, (dat2 (fun _ r => W r) b c).arrAt 8 cfg2.N = T) (b : ℕ) :
    Pipeline.RegionSeg (pcfgs (F := F)) adm (pdOf W b) none (defs₀ (F := F)) 𝒱₀ (K (F := F)).L (K (F := F)).lev 1 :=
  mkReg b 1 (pdOf W b) (fun _ r => W r) (fun _ r => Function.update W (main_v14 : Ref sig .tc) T r) launch2
    (fun c => body2 (fun _ r => W r) b c)
    (fun _ _ => rfl) (fun _ _ => rfl) (fun _ _ => rfl) (phi2' W b) (arr2 W b)
    (fun c w => match w with
      | ⟨0, _⟩ => ((dat2 (fun _ r => W r) b c).arrAt_in 0 rfl _).trans (update_arr W T (r := main_v2) (s := main_v14) (by decide)).symm
      | ⟨1, _⟩ => ((dat2 (fun _ r => W r) b c).arrAt_in 1 rfl _).trans (update_arr W T (r := main_v3) (s := main_v14) (by decide)).symm
      | ⟨2, _⟩ => ((dat2 (fun _ r => W r) b c).arrAt_in 2 rfl _).trans (update_arr W T (r := main_arg2) (s := main_v14) (by decide)).symm
      | ⟨3, _⟩ => ((dat2 (fun _ r => W r) b c).arrAt_in 3 rfl _).trans (update_arr W T (r := main_v12) (s := main_v14) (by decide)).symm
      | ⟨4, _⟩ => ((dat2 (fun _ r => W r) b c).arrAt_in 4 rfl _).trans (update_arr W T (r := main_arg4) (s := main_v14) (by decide)).symm
      | ⟨5, _⟩ => ((dat2 (fun _ r => W r) b c).arrAt_in 5 rfl _).trans (update_arr W T (r := main_v13) (s := main_v14) (by decide)).symm
      | ⟨6, _⟩ => ((dat2 (fun _ r => W r) b c).arrAt_in 6 rfl _).trans (update_arr W T (r := main_v6) (s := main_v14) (by decide)).symm
      | ⟨7, _⟩ => ((dat2 (fun _ r => W r) b c).arrAt_in 7 rfl _).trans (update_arr W T (r := main_v11) (s := main_v14) (by decide)).symm
      | ⟨8, _⟩ => (hT b c).trans (hit W (s := main_v14)).symm)
    (fun c r hr => update_arr W T (fun e => hr (Finset.mem_image.mpr ⟨(8 : Fin 9), Finset.mem_univ _, arr_out2.trans e.symm⟩)))

variable {m : (ℓ : Loc nD τ sig) → Buf (Elt F) ℓ} {κ : GSem nD τ sig → ℕ} {d : Dev nD} {W : Valuation τ sig (Elt F)} {R : sProp (MT nD τ sig (HIx 1) (Elt F) ℕ UU ℕ)}

theorem MRun.seg [∀ e, Nonempty (Elt F e)] (hv : ∀ z, ((W (main_v1 : Ref sig .tc) : S12x4000.Idx → BitVec 32) z).toNat < 64) :
    MRun d (MS m κ 1 W iprop(gh 0 d ∗ R) d) (Prog.lift (.customCall (SparseCore.inner (Pipeline.entry 0)) ())) (MS m κ 1 (segW W) R d) :=
  MRun.reg 0 (pdOf W) (fun b => segReg W hv _ (fun b c => out1 (fun _ r => W r) b c) b) (fun _ _ => rfl) (fun _ _ => rfl)

theorem MRun.mlp [∀ e, Nonempty (Elt F e)] :
    MRun d (MS m κ 1 W iprop(gh 1 d ∗ R) d) (Prog.lift (.customCall (SparseCore.inner (Pipeline.entry 1)) ())) (MS m κ 1 (mlpW W d) R d) :=
  MRun.reg 1 (pdOf W) (fun b => mlpReg W _ (fun b c => out2 (fun _ r => W r) b c) b) (fun _ _ => rfl) (fun _ _ => rfl)

end Cert.Proof.Pool

end
-- ==== Proof.Main.lean ====
module

public import proofs.«01_k».proof.Proof.MainRegions

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! # The run of the main function, and the program's -/

open Idealize.ShloMosaic.TcCoe
open Idealize.ShloMosaic.StableHlo

/-- The last layer's weights, padded to 128 rows. -/
def padW (w : S2x256.Idx → F .f32) : S128x256.Idx → F .f32 :=
  Host.scatter scatter_S128x256_S1_S2x256_01_n_0_0 (fun _ b => b) (broadcastInDim S128x256 ![] bcast_S_S128x256 (constant S_ .f32 0x00000000#32))
    (broadcastInDim S1 ![] bcast_S_S1 (constantI S_ 32 0#32) : S1.Idx → BitVec 32) w

/-- The last layer's bias, padded to 128. -/
def padB (w : S2.Idx → F .f32) : S1x128.Idx → F .f32 :=
  Host.scatter scatter_S1x128_S2_S2_0_0_01_0 (fun _ b => b) (broadcastInDim S1x128 ![] bcast_S_S1x128 (constant S_ .f32 0x00000000#32))
    (concatenate S2 0 [⟨S1, (broadcastInDim S1 ![] bcast_S_S1 (constantI S_ 32 0#32) : S1.Idx → BitVec 32)⟩, ⟨S1, (broadcastInDim S1 ![] bcast_S_S1 (constantI S_ 32 0#32) : S1.Idx → BitVec 32)⟩] concatenates_S1_S1_S2_d0 : S2.Idx → BitVec 32) w

/-- The graph numbers of the rows the segment maximum reads. -/
def tailG (g : S100000.Idx → BitVec 32) : S12x4000.Idx → BitVec 32 :=
  shapeCast S12x4000 (extractStridedSlice S48000 ![52000] g slices_S100000_S48000_52000) shapeCasts_S48000_S12x4000

theorem tailG_lt {g : S100000.Idx → BitVec 32} (h : ∀ k, (g k).toNat < 64) (z : S12x4000.Idx) : (tailG g z).toNat < 64 := h _

/-- The program's result of its eight arguments. -/
def outV (x : S100000x128.Idx → F .f32) (g : S100000.Idx → BitVec 32) (w1 : S256x128.Idx → F .f32) (b1 : S256.Idx → F .f32)
    (w2 : S256x256.Idx → F .f32) (b2 : S256.Idx → F .f32) (w3 : S2x256.Idx → F .f32) (b3 : S2.Idx → F .f32) : S64x2.Idx → F .f32 :=
  extractStridedSlice S64x2 ![0, 0] (k2_pay1 (PT x g) (stab x (tailG g) 12) w1 (broadcastInDim S1x256 ![1] bcast_S256_S1x256_1 b1) w2
    (broadcastInDim S1x256 ![1] bcast_S256_S1x256_1 b2) (padW w3) (padB b3)) slices_S64x128_S64x2_0_0

variable (m : (ℓ : Loc nD τ sig) → Buf (Elt F) ℓ)

/-- The launch contents. -/
def W0 (d : Dev nD) : Valuation τ sig (Elt F) := fun b => m (d, b)

/-- What the final contents are. -/
structure Final (d : Dev nD) (W : Valuation τ sig (Elt F)) : Prop where
  a0 : W (main_arg0 : Ref sig .tc) = W0 m d (main_arg0 : Ref sig .tc)
  a1 : W (main_arg1 : Ref sig .tc) = W0 m d (main_arg1 : Ref sig .tc)
  a2 : W (main_arg2 : Ref sig .tc) = W0 m d (main_arg2 : Ref sig .tc)
  a3 : W (main_arg3 : Ref sig .tc) = W0 m d (main_arg3 : Ref sig .tc)
  a4 : W (main_arg4 : Ref sig .tc) = W0 m d (main_arg4 : Ref sig .tc)
  a5 : W (main_arg5 : Ref sig .tc) = W0 m d (main_arg5 : Ref sig .tc)
  a6 : W (main_arg6 : Ref sig .tc) = W0 m d (main_arg6 : Ref sig .tc)
  a7 : W (main_arg7 : Ref sig .tc) = W0 m d (main_arg7 : Ref sig .tc)
  out : W (main_v15 : Ref sig .tc) = outV (W0 m d (main_arg0 : Ref sig .tc)) (W0 m d (main_arg1 : Ref sig .tc)) (W0 m d (main_arg2 : Ref sig .tc))
    (W0 m d (main_arg3 : Ref sig .tc)) (W0 m d (main_arg4 : Ref sig .tc)) (W0 m d (main_arg5 : Ref sig .tc)) (W0 m d (main_arg6 : Ref sig .tc)) (W0 m d (main_arg7 : Ref sig .tc))

variable {m} {κ : GSem nD τ sig → ℕ} {d : Dev nD} {W : Valuation τ sig (Elt F)} {R : sProp (MT nD τ sig (HIx 1) (Elt F) ℕ UU ℕ)}

theorem sub1 {a : Ref sig .tc} (ha : (a : DevRef τ sig).isScoped = false := by rfl) : ({(a : DevRef τ sig)} : Finset (DevRef τ sig)) ⊆ ucRefs := by
  simp only [Finset.singleton_subset_iff]; exact mem_uc a ha

theorem sub2 {a b : Ref sig .tc} (ha : (a : DevRef τ sig).isScoped = false := by rfl) (hb : (b : DevRef τ sig).isScoped = false := by rfl) :
    ({(a : DevRef τ sig), (b : DevRef τ sig)} : Finset (DevRef τ sig)) ⊆ ucRefs :=
  Finset.insert_subset (mem_uc a ha) (sub1 hb)

theorem sub3 {a b c : Ref sig .tc} (ha : (a : DevRef τ sig).isScoped = false := by rfl) (hb : (b : DevRef τ sig).isScoped = false := by rfl)
    (hc : (c : DevRef τ sig).isScoped = false := by rfl) :
    ({(a : DevRef τ sig), (b : DevRef τ sig), (c : DevRef τ sig)} : Finset (DevRef τ sig)) ⊆ ucRefs :=
  Finset.insert_subset (mem_uc a ha) (sub2 hb hc)

theorem sub4 {a b c e : Ref sig .tc} (ha : (a : DevRef τ sig).isScoped = false := by rfl) (hb : (b : DevRef τ sig).isScoped = false := by rfl)
    (hc : (c : DevRef τ sig).isScoped = false := by rfl) (he : (e : DevRef τ sig).isScoped = false := by rfl) :
    ({(a : DevRef τ sig), (b : DevRef τ sig), (c : DevRef τ sig), (e : DevRef τ sig)} : Finset (DevRef τ sig)) ⊆ ucRefs :=
  Finset.insert_subset (mem_uc a ha) (sub3 hb hc he)

/-- The first two host operations. -/
def preW (W : Valuation τ sig (Elt F)) : Valuation τ sig (Elt F) :=
  (StableHlo.reshape (Val := Elt F) main_v0 main_v1 (rfl : (.i32 : EltTy) = .i32) shapeCasts_S48000_S12x4000).result
    ((StableHlo.unary main_arg1 main_v0 ((extractStridedSlice S48000 ![52000] · slices_S100000_S48000_52000) : (⟨S100000, .i32⟩ : BufTy).Contents (Elt F) → (⟨S48000, .i32⟩ : BufTy).Contents (Elt F))).result W)

theorem preW_v1 : preW W (main_v1 : Ref sig .tc) = tailG (W (main_arg1 : Ref sig .tc)) := by
  unfold preW
  rw [reshape_result, unary_result]
  rfl

theorem preW_ne {r : Ref sig .tc} (h0 : r ≠ main_v0) (h1 : r ≠ main_v1) : preW W r = W r := by
  unfold preW
  rw [reshape_result_ne _ _ _ _ _ _ _ h1, unary_result_ne _ _ _ _ _ _ h0]

/-- The host operations between the kernels. -/
def midOps : List (HloOp τ sig (Elt F)) := [
    (StableHlo.nullary main_cst (constant S_ .f32 0x00000000#32)),
    (StableHlo.unary main_cst main_v4 (broadcastInDim S128x256 ![] bcast_S_S128x256 : (⟨S_, .f32⟩ : BufTy).Contents (Elt F) → (⟨S128x256, .f32⟩ : BufTy).Contents (Elt F))),
    (StableHlo.nullary main_c (constantI S_ 32 0#32)),
    (StableHlo.unary main_c main_v5 (broadcastInDim S1 ![] bcast_S_S1 : (⟨S_, .i32⟩ : BufTy).Contents (Elt F) → (⟨S1, .i32⟩ : BufTy).Contents (Elt F))),
    (StableHlo.ternary main_v4 main_v5 main_arg6 main_v6 ((fun x i u => Host.scatter scatter_S128x256_S1_S2x256_01_n_0_0 (fun _ b => b) x i u) : (⟨S128x256, .f32⟩ : BufTy).Contents (Elt F) → (⟨S1, .i32⟩ : BufTy).Contents (Elt F) → (⟨S2x256, .f32⟩ : BufTy).Contents (Elt F) → (⟨S128x256, .f32⟩ : BufTy).Contents (Elt F))),
    (StableHlo.nullary main_cst_0 (constant S_ .f32 0x00000000#32)),
    (StableHlo.unary main_cst_0 main_v7 (broadcastInDim S1x128 ![] bcast_S_S1x128 : (⟨S_, .f32⟩ : BufTy).Contents (Elt F) → (⟨S1x128, .f32⟩ : BufTy).Contents (Elt F))),
    (StableHlo.nullary main_c_1 (constantI S_ 32 0#32)),
    (StableHlo.unary main_c_1 main_v8 (broadcastInDim S1 ![] bcast_S_S1 : (⟨S_, .i32⟩ : BufTy).Contents (Elt F) → (⟨S1, .i32⟩ : BufTy).Contents (Elt F))),
    (StableHlo.nullary main_c_2 (constantI S_ 32 0#32)),
    (StableHlo.unary main_c_2 main_v9 (broadcastInDim S1 ![] bcast_S_S1 : (⟨S_, .i32⟩ : BufTy).Contents (Elt F) → (⟨S1, .i32⟩ : BufTy).Contents (Elt F))),
    (StableHlo.binary main_v8 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))),
    (StableHlo.ternary main_v7 main_v10 main_arg7 main_v11 ((fun x i u => Host.scatter scatter_S1x128_S2_S2_0_0_01_0 (fun _ b => b) x i u) : (⟨S1x128, .f32⟩ : BufTy).Contents (Elt F) → (⟨S2, .i32⟩ : BufTy).Contents (Elt F) → (⟨S2, .f32⟩ : BufTy).Contents (Elt F) → (⟨S1x128, .f32⟩ : BufTy).Contents (Elt F))),
    (StableHlo.unary main_arg3 main_v12 (broadcastInDim S1x256 ![1] bcast_S256_S1x256_1 : (⟨S256, .f32⟩ : BufTy).Contents (Elt F) → (⟨S1x256, .f32⟩ : BufTy).Contents (Elt F))),
    (StableHlo.unary main_arg5 main_v13 (broadcastInDim S1x256 ![1] bcast_S256_S1x256_1 : (⟨S256, .f32⟩ : BufTy).Contents (Elt F) → (⟨S1x256, .f32⟩ : BufTy).Contents (Elt F)))]

/-- The contents after them. -/
def midW (W : Valuation τ sig (Elt F)) : Valuation τ sig (Elt F) := after midOps W

/-- What they write. -/
def midRefs : List (Ref sig .tc) :=
  [main_cst, main_v4, main_c, main_v5, main_v6, main_cst_0, main_v7, main_c_1, main_v8, main_c_2, main_v9, main_v10, main_v11, main_v12, main_v13]

theorem not_mem_writes {r : Ref sig .tc} : ∀ {W : Valuation τ sig (Elt F)} {l : List (HloOp τ sig (Elt F))} {k : List (Ref sig .tc)},
    l.map (fun op => op.writes) = k.map (fun s : Ref sig .tc => ({(s : DevRef τ sig)} : Finset (DevRef τ sig))) → r ∉ k → after l W r = W r
  | _, [], _, _, _ => rfl
  | _, op :: l, [], e, _ => nomatch e
  | W, op :: l, s :: k, e, h => by
    rw [List.map_cons, List.map_cons, List.cons.injEq] at e
    rw [List.mem_cons, not_or] at h
    rw [after_cons, not_mem_writes (W := op.result W) e.2 h.2, HloOp.result_of_not_mem]
    rw [e.1, Finset.mem_singleton]
    exact ref_ne h.1

theorem midW_ne {r : Ref sig .tc} (h : r ∉ midRefs) : midW W r = W r := not_mem_writes rfl h

theorem midW_v6 : midW W (main_v6 : Ref sig .tc) = padW (W (main_arg6 : Ref sig .tc)) := by
  unfold midW midOps
  after_results
  rfl

theorem midW_v11 : midW W (main_v11 : Ref sig .tc) = padB (W (main_arg7 : Ref sig .tc)) := by
  unfold midW midOps
  after_results
  rfl

theorem midW_v12 : midW W (main_v12 : Ref sig .tc) = broadcastInDim S1x256 ![1] bcast_S256_S1x256_1 (W (main_arg3 : Ref sig .tc) : S256.Idx → F .f32) := by
  unfold midW midOps
  after_results

theorem midW_v13 : midW W (main_v13 : Ref sig .tc) = broadcastInDim S1x256 ![1] bcast_S256_S1x256_1 (W (main_arg5 : Ref sig .tc) : S256.Idx → F .f32) := by
  unfold midW midOps
  after_results

/-- The contents after the last host operation. -/
def lastW (W : Valuation τ sig (Elt F)) : Valuation τ sig (Elt F) :=
  (StableHlo.unary main_v14 main_v15 ((extractStridedSlice S64x2 ![0, 0] · slices_S64x128_S64x2_0_0) : (⟨S64x128, .f32⟩ : BufTy).Contents (Elt F) → (⟨S64x2, .f32⟩ : BufTy).Contents (Elt F))).result W

theorem lastW_out : lastW W (main_v15 : Ref sig .tc) = extractStridedSlice S64x2 ![0, 0] (W (main_v14 : Ref sig .tc) : S64x128.Idx → F .f32) slices_S64x128_S64x2_0_0 := by
  unfold lastW
  rw [unary_result]

theorem lastW_ne {r : Ref sig .tc} (h : r ≠ main_v15) : lastW W r = W r := by
  unfold lastW
  rw [unary_result_ne _ _ _ _ _ _ h]

/-- The contents after the SparseCore call. -/
def scW (m : (ℓ : Loc nD τ sig) → Buf (Elt F) ℓ) (d : Dev nD) : Valuation τ sig (Elt F) :=
  Function.update (preW (W0 m d)) (main_v2 : Ref sig .tc) (PTm m d)

/-- The final contents. -/
def endW (m : (ℓ : Loc nD τ sig) → Buf (Elt F) ℓ) (d : Dev nD) : Valuation τ sig (Elt F) :=
  lastW (mlpW (midW (segW (scW m d))) d)

theorem scW_ne {r : Ref sig .tc} (h0 : r ≠ main_v0) (h1 : r ≠ main_v1) (h2 : r ≠ main_v2) : scW m d r = W0 m d r := by
  unfold scW
  rw [update_arr _ _ h2, preW_ne h0 h1]

theorem scW_v1 : scW m d (main_v1 : Ref sig .tc) = tailG (W0 m d (main_arg1 : Ref sig .tc)) := by
  unfold scW
  rw [update_arr _ _ (by decide), preW_v1]

theorem segW_ne {r : Ref sig .tc} (h : r ≠ main_v3) : segW W r = W r := update_arr _ _ h

theorem mlpW_ne {r : Ref sig .tc} (h : r ≠ main_v14) : mlpW W d r = W r := update_arr _ _ h

theorem final : Final m d (endW m d) := by
  constructor
  case out =>
    unfold endW
    rw [lastW_out]
    unfold mlpW
    rw [hit]
    unfold mlpV
    beta_reduce
    rw [midW_v6, midW_v11, midW_v12, midW_v13, midW_ne (r := main_v2) (by decide), midW_ne (r := main_v3) (by decide),
      midW_ne (r := main_arg2) (by decide), midW_ne (r := main_arg4) (by decide), segW_ne (r := main_v2) (by decide),
      segW_ne (r := main_arg2) (by decide), segW_ne (r := main_arg3) (by decide), segW_ne (r := main_arg4) (by decide),
      segW_ne (r := main_arg5) (by decide), segW_ne (r := main_arg6) (by decide), segW_ne (r := main_arg7) (by decide),
      scW_ne (r := main_arg2) (by decide) (by decide) (by decide), scW_ne (r := main_arg3) (by decide) (by decide) (by decide),
      scW_ne (r := main_arg4) (by decide) (by decide) (by decide), scW_ne (r := main_arg5) (by decide) (by decide) (by decide),
      scW_ne (r := main_arg6) (by decide) (by decide) (by decide), scW_ne (r := main_arg7) (by decide) (by decide) (by decide)]
    unfold segW
    rw [hit, scW_ne (r := main_arg0) (by decide) (by decide) (by decide), scW_v1]
    unfold scW
    rw [hit]
    rfl
  all_goals
    unfold endW
    rw [lastW_ne (by decide), mlpW_ne (by decide), midW_ne (by decide), segW_ne (by decide), scW_ne (by decide) (by decide) (by decide)]

theorem run_body [∀ e, Nonempty (Elt F e)] (hG : ∀ k, ((W0 m d (main_arg1 : Ref sig .tc) : S100000.Idx → BitVec 32) k).toNat < 64) :
    MRun d (MS m κ 0 (W0 m d) iprop(gh 0 d ∗ gh 1 d ∗ R) d) (main d) (MS m κ 1 (endW m d) R d) := by
  unfold main
  refine MRun.bind (MRun.hlo (sub2 (a := main_arg1) (b := main_v0))) fun _ => ?_
  refine MRun.bind (MRun.hlo (sub2 (a := main_v0) (b := main_v1))) fun _ => ?_
  refine MRun.bind (MRun.sc (W := preW (W0 m d)) (preW_ne (by decide) (by decide)) (preW_ne (by decide) (by decide)) (preW_ne (by decide) (by decide))) fun _ => ?_
  refine MRun.bind (MRun.seg (W := scW m d) (by
    unfold scW; rw [update_arr _ _ (by decide), preW_v1]; exact tailG_lt hG)) fun _ => ?_
  refine MRun.bind (MRun.hlo sub1) fun _ => ?_
  refine MRun.bind (MRun.hlo sub2) fun _ => ?_
  refine MRun.bind (MRun.hlo sub1) fun _ => ?_
  refine MRun.bind (MRun.hlo sub2) fun _ => ?_
  refine MRun.bind (MRun.hlo sub4) fun _ => ?_
  refine MRun.bind (MRun.hlo sub1) fun _ => ?_
  refine MRun.bind (MRun.hlo sub2) fun _ => ?_
  refine MRun.bind (MRun.hlo sub1) fun _ => ?_
  refine MRun.bind (MRun.hlo sub2) fun _ => ?_
  refine MRun.bind (MRun.hlo sub1) fun _ => ?_
  refine MRun.bind (MRun.hlo sub2) fun _ => ?_
  refine MRun.bind (MRun.hlo sub3) fun _ => ?_
  refine MRun.bind (MRun.hlo sub4) fun _ => ?_
  refine MRun.bind (MRun.hlo sub2) fun _ => ?_
  refine MRun.bind (MRun.hlo sub2) fun _ => ?_
  refine MRun.bind (MRun.mlp (W := midW (segW (scW m d)))) fun _ => ?_
  refine MRun.bind (MRun.hlo sub2) fun _ => ?_
  exact MRun.ret (P := MS m κ 1 (endW m d) R d)

/-! ## The launch -/

variable (m) (ρ : Dev nD → PrngReg)

/-- What the main function leaves of device `d`. -/
abbrev FIN (d : Dev nD) : sProp 𝕄 := held (SparseCore.T d) ucRefs (endW m d)

theorem ghosts_two (d : Dev nD) : (G d : sProp 𝕄) ⊢ iprop(gh 0 d ∗ gh 1 d) := by
  unfold G Pipeline.ghostOn Pipeline.PerCore.ghostOn
  rw [bigSep2]

theorem hmain [∀ e, Nonempty (Elt F e)] (hG : ∀ d k, (m (gLoc d) k).toNat < 64) (κ : GSem nD τ sig → ℕ) (d : Dev nD) :
    iprop((K (F := F)).ctx EH (P m) κ ∗ (K (F := F)).tcSt EH d 0 ∗ (K (F := F)).tcRes m ρ d ∗ G d)
      ⊢ wpM d (main d) fun _ => iprop((K (F := F)).tcSt EH d 1 ∗ FIN m d ∗ (K (F := F)).tcEnd d) := by
  have h := run_body (m := m) (κ := κ) (d := d) (R := iprop((K (F := F)).tcSems0 d ∗ prngReg d (ρ d))) (hG d)
  unfold MRun MS at h
  unfold SparseCore.Cfg.tcRes SparseCore.Cfg.tcEnd
  iintro ⟨Hc, Hst, ⟨Hb, Hu, Hs, Hp⟩, HG⟩
  ihave HG := (ghosts_two (F := F) d) $$ HG
  icases HG with ⟨H0, H1⟩
  ihave Hu := (Entails.of_eq (show (unscopedBufs d (fun b => m ((SparseCore.T d).loc b)) : sProp 𝕄) = _ from unscoped_held d (W0 m d))) $$ Hu
  ihave H := h $$ [Hc Hst Hb Hu Hs Hp H0 H1]
  · isplitl [Hc]; · iexact Hc
    isplitl [Hst]; · iexact Hst
    isplitl [Hb]; · iexact Hb
    isplitl [Hu]; · iexact Hu
    isplitl [H0]; · iexact H0
    isplitl [H1]; · iexact H1
    isplitl [Hs] <;> iassumption
  iapply (wp_mono _ _ _ fun _ => ?_) $$ H
  iintro ⟨-, Hst, Hb, Hh, Hs, -⟩
  isplitl [Hst]; · iexact Hst
  isplitl [Hh]; · iexact Hh
  isplitl [Hb] <;> iassumption

/-- What the final memory holds of device `d`. -/
def fq (d : Dev nD) (s' : Phys nD τ sig (Elt F)) : Prop := ∀ b ∈ ucRefs, s'.mem.mem (d, b) = endW m d b

theorem hfin (d : Dev nD) (s' : Phys nD τ sig (Elt F)) : iprop(FIN m d ∗ SI s') ⊢ (⌜fq m d s'⌝ : sProp 𝕄) := by
  have one : ∀ b ∈ ucRefs, iprop(FIN m d ∗ SI s') ⊢ (⌜s'.mem.mem (d, b) = endW m d b⌝ : sProp 𝕄) := by
    intro b hb
    unfold FIN held
    rw [BI.bigSep_erase hb]
    refine BIBase.Entails.trans (sep_mono_left sep_elim_left) ?_
    iintro ⟨Hb, HSI⟩
    ihave H := (SI_pointsTo_agree (st := s') (ℓ := (d, b)) (I := Finset.univ) (q := fullShare) (f := endW m d b)) $$ [HSI Hb]
    · isplitl [HSI] <;> iassumption
    icases H with %h
    ipureintro; exact funext fun i => h i (Finset.mem_univ i)
  exact fun x hx b hb => one b hb x hx

/-- The final memory: the arguments as they were, the result as computed, every semaphore at zero. -/
def QC : PUnit × MemSt nD τ sig (Elt F) → Prop := fun r =>
  (∀ c : Dev nD, ∀ b ∈ ucRefs, r.2.mem (c, b) = endW m c b) ∧ r.2.sem = fun _ => 0

theorem run_main [∀ e, Nonempty (Elt F e)] (hG : ∀ d k, (m (gLoc d) k).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hG)
    (fun q _ => match q with | 0 => SparseCore.Cfg.VecSplit.of_plain (vecSplit m))
    m ρ main (fun d => G d) (FIN m) (u₀ (F := F)) (sep_elim_left.trans (hu₀ m)) (hmain m ρ hG) (fq m) (hfin m) (QC m) (fun _ h hz => ⟨h, hz⟩)

end Cert.Proof.Pool

end
-- ==== Proof.Same.lean ====
module
public import proofs.«01_k».proof.Kernel
public import proofs.«01_k».proof.KernelIdeal
public import proofs.«01_k».proof.Proof.Gen.KernelIdeal
public import proofs.«01_k».proof.Proof.Gen.Kernel
/-! The program and its idealized reading have the same text, so at every choice of the float values their tables
    of bodies and their threads are equal: compared body by body. -/

@[expose] public section
open Idealize.ShloMosaic
namespace Cert.Proof.Pool
variable {F : FTy → Type} [FloatOps F]
set_option maxRecDepth 100000
set_option maxHeartbeats 1000000
theorem same_tile : Cert.Kernel.cc0__sc_body (F := F) = Cert.KernelIdeal.cc0__sc_body := rfl
theorem same_mlp : Cert.Kernel.cc2__mlp_body (F := F) = Cert.KernelIdeal.cc2__mlp_body := rfl
theorem same_segmax : Cert.Kernel.cc1__tc_segmax_body (F := F) = Cert.KernelIdeal.cc1__tc_segmax_body := rfl
theorem same_main : Cert.Kernel.main (F := F) = Cert.KernelIdeal.main  := rfl
theorem same_defs₀ : Cert.Kernel.defs₀  (F := F) = Cert.KernelIdeal.defs₀ := by
  funext k l a
  match k, l, a with
  | .scVector c s, 0, _ => unfold Cert.Kernel.defs₀ Cert.KernelIdeal.defs₀; dsimp only; rw [same_tile]; rfl
  | .scVector c s, 1, _ => rfl
  | .scVector c s, 2, _ => rfl
  | .tc, 0, _ => rfl
  | .tc, 1, (t, s) => unfold Cert.Kernel.defs₀ Cert.KernelIdeal.defs₀; dsimp only; rw [same_segmax]; rfl
  | .tc, 2, (t, s) => unfold Cert.Kernel.defs₀ Cert.KernelIdeal.defs₀; dsimp only; rw [same_mlp]; rfl
  | .scScalar c, 0, _ => rfl
  | .scScalar c, 1, _ => rfl
  | .scScalar c, 2, _ => rfl
theorem same_defs : Cert.Kernel.defs  (F := F) = Cert.KernelIdeal.defs := by
  unfold Cert.Kernel.defs Cert.KernelIdeal.defs
  rw [same_defs₀]; rfl
theorem same_threads : Cert.Kernel.threads  (F := F) = Cert.KernelIdeal.threads := by
  unfold Cert.Kernel.threads Cert.KernelIdeal.threads
  rw [same_main]; rfl
end Cert.Proof.Pool
-- ==== Proof.Frames.lean ====
module

public import proofs.«01_k».proof.Proof.Main
public import proofs.«01_k».proof.Proof.Same
public import proofs.«01_k».proof.Defs
public import proofs.«01_k».proof.Proof.Gen.Kernel
public import proofs.«01_k».proof.Proof.Gen.ReferenceIdeal.Run
public import proofs.«01_k».proof.Proof.Gen.Pre_in_range
public import proofs.«01_k».proof.Proof.Gen.Pre_sorted_graphs
public import Idealize.ShloMosaic.Lib.ReduceAll

@[expose] public section

set_option maxRecDepth 16384

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

/-! # What the preconditions say, and the frames -/

open Idealize.ShloMosaic.TcCoe

theorem andi_one {a b : BitVec 1} (h : IntOp.andi a b = 1#1) : a = 1#1 ∧ b = 1#1 := by
  revert a b; decide

theorem ofBool_one {p : Bool} (h : BitVec.ofBool p = 1#1) : p = true := by
  cases p
  · exact absurd h (by decide)
  · rfl

instance : Subsingleton Cert.Pre_in_range.S_.Idx := ⟨fun _ _ => funext fun a => a.elim0⟩

/-- A word between 0 and 63 as a signed word. -/
theorem word_lt {v : BitVec 32} (h : IntOp.andi (IntOp.cmpi .sge v 0#32) (IntOp.cmpi .slt v 64#32) = 1#1) : v.toNat < 64 := by
  obtain ⟨h0, h1⟩ := andi_one h
  have h0 := ofBool_one h0
  have h1 := ofBool_one h1
  simp only [BitVec.sle_eq_decide, BitVec.slt_eq_decide, decide_eq_true_eq, BitVec.toInt_eq_toNat_cond, BitVec.toNat_ofNat, Nat.reducePow, Nat.reduceMod] at h0 h1
  omega

section Range

variable {x : S100000x128.Idx → F .f32} {g : S100000.Idx → BitVec 32} {w1 : S256x128.Idx → F .f32} {b1 : S256.Idx → F .f32}
  {w2 : S256x256.Idx → F .f32} {b2 : S256.Idx → F .f32} {w3 : S2x256.Idx → F .f32} {b3 : S2.Idx → F .f32}

theorem range_of_pre (h : Cert.Pre_in_range.fn x g w1 b1 w2 b2 w3 b3 = fun _ => 1#1) (k : S100000.Idx) : (g k).toNat < 64 :=
  word_lt (Host.reduce_andi_all _ _ _ _ (fun a => a.elim0) (congrFun h _) k)

/-- What the sorted precondition says. -/
structure Sorted (x : S100000x128.Idx → F .f32) (g : S100000.Idx → BitVec 32) : Prop where
  range : ∀ k, (g k).toNat < 64
  sle : ∀ k : Cert.Pre_sorted_graphs.S99999.Idx, IntOp.cmpi .sle (extractStridedSlice Cert.Pre_sorted_graphs.S99999 ![0] g Cert.Pre_sorted_graphs.Gen.slices_S100000_S99999_0 k)
    (extractStridedSlice Cert.Pre_sorted_graphs.S99999 ![1] g Cert.Pre_sorted_graphs.Gen.slices_S100000_S99999_1 k) = 1#1
  above : ∀ i, FloatOps.cmpf .ogt (x i) (FloatOps.ofBits .f32 0xFF800000#32 : F .f32) = 1#1

theorem sorted_of_pre (h : Cert.Pre_sorted_graphs.fn x g w1 b1 w2 b2 w3 b3 = fun _ => 1#1) : Sorted x g := by
  have h := congrFun h (fun a => a.elim0)
  obtain ⟨h, h3⟩ := andi_one h
  obtain ⟨h1, h2⟩ := andi_one h
  exact ⟨fun k => word_lt (Host.reduce_andi_all _ _ _ _ (fun a => a.elim0) h1 k),
    fun k => Host.reduce_andi_all _ _ _ _ (fun a => a.elim0) h2 k, fun i => Host.reduce_andi_all _ _ _ _ (fun a => a.elim0) h3 i⟩

end Range

/-- The run's end leaves the arguments. -/
theorem kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  have f := final (m := m) (d := c)
  ⟨(h.1 c _ (mem_uc main_arg0 rfl)).trans f.a0, (h.1 c _ (mem_uc main_arg1 rfl)).trans f.a1, (h.1 c _ (mem_uc main_arg2 rfl)).trans f.a2,
    (h.1 c _ (mem_uc main_arg3 rfl)).trans f.a3, (h.1 c _ (mem_uc main_arg4 rfl)).trans f.a4, (h.1 c _ (mem_uc main_arg5 rfl)).trans f.a5,
    (h.1 c _ (mem_uc main_arg6 rfl)).trans f.a6, (h.1 c _ (mem_uc main_arg7 rfl)).trans f.a7⟩

theorem ideal_bits (m : (ℓ : Loc nD τ sig) → Buf (Elt Bits) ℓ) (ρ : Dev nD → PrngReg) (hG : ∀ d k, (m (gLoc d) k).toNat < 64) :
    θ_run (Cert.KernelIdeal.defs (F := Bits)) (Cert.KernelIdeal.threads (F := Bits)) ⟨m, fun _ => 0, ρ⟩ fun r => (∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0 :=
  (θ_run Cert.KernelIdeal.defs _ _).mono (fun _ h => ⟨fun c => kept h c, h.2⟩) (run_main (F := Bits) m ρ hG)

/-- The program's frame: the run above, at the words, of the program with the same text. -/
theorem frame_kernel : Cert.quiescent_Kernel := by
  intro m ρ hp
  rw [same_defs, same_threads]
  exact ideal_bits m ρ fun d k => range_of_pre (hp d) k

theorem frame_ideal : Cert.quiescent_KernelIdeal := fun m ρ hp =>
  (θ_run Cert.KernelIdeal.defs _ _).mono (fun _ h => ⟨fun c => kept h c, h.2⟩) (run_main (F := Ideal) m ρ fun d k => range_of_pre (hp d) k)

theorem frame_sorted : Cert.quiescent_KernelIdeal_pre_sorted_graphs := fun m ρ hp =>
  (θ_run Cert.KernelIdeal.defs _ _).mono (fun _ h => ⟨fun c => kept h c, h.2⟩) (run_main (F := Ideal) m ρ fun d k => (sorted_of_pre (hp d)).range k)

/-- The reference declares no semaphore, so its run leaves every counter at zero; the arguments are what they were. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

theorem frame_reference_sorted : Cert.quiescent_ReferenceIdeal_pre_sorted_graphs := by
  intro m ρ _
  exact frame_reference m ρ trivial

end Cert.Proof.Pool

end
-- ==== Proof.MaxAll.lean ====
module

public import proofs.«01_k».proof.Proof.MaxBlocks
public import proofs.«01_k».proof.Proof.Frames

@[expose] public section

set_option maxRecDepth 16384

noncomputable section

namespace Cert.Proof.Pool

open Cert.KernelIdeal Cert.KernelIdeal.Gen
open Idealize.ShloMosaic

/-! # All the rows -/

section

variable {x : S100000x128.Idx → EReal} {g : S100000.Idx → BitVec 32}

/-- The precondition's order, of neighbours, is the order of all rows. -/
theorem ord_of (h : Sorted (F := Ideal) x g) : Ord g where
  lt r := h.range _
  mono := by
    have step : ∀ r, r + 1 < 100000 → bN g r ≤ bN g (r + 1) := by
      intro r hr
      have e := h.sle (ix1 ⟨r, by omega⟩)
      have e0 : extractStridedSlice Cert.Pre_sorted_graphs.S99999 ![0] g Cert.Pre_sorted_graphs.Gen.slices_S100000_S99999_0 (ix1 ⟨r, by omega⟩) = g (gix r) := by
        refine congrArg g (funext fun a => ?_)
        rw [show a = (0 : Fin 1) from Subsingleton.elim (α := Fin 1) _ _]
        refine Fin.ext ?_
        show 0 + r = r % 100000
        omega
      have e1 : extractStridedSlice Cert.Pre_sorted_graphs.S99999 ![1] g Cert.Pre_sorted_graphs.Gen.slices_S100000_S99999_1 (ix1 ⟨r, by omega⟩) = g (gix (r + 1)) := by
        refine congrArg g (funext fun a => ?_)
        rw [show a = (0 : Fin 1) from Subsingleton.elim (α := Fin 1) _ _]
        refine Fin.ext ?_
        show 1 + r = (r + 1) % 100000
        omega
      rw [e0, e1, WordCmp.cmpi_sle_of_lt (lt_trans (h.range _) (by decide)) (lt_trans (h.range _) (by decide)), ofBool_iff, decide_eq_true_eq] at e
      exact e
    intro r s hrs
    induction s, hrs using Nat.le_induction with
    | base => exact fun _ => le_rfl
    | succ s _ ih => exact fun hs => (ih (by omega)).trans (step s hs)

theorem tail_blk (n : ℕ) (hn : n < 12) : TBlk x g (52000 + 4000 * n) (rowI (tailG g) ⟨n % 12, Nat.mod_lt _ (by decide)⟩) (xBlk (F := Ideal) x n) where
  le := by omega
  wd i := by
    show tailG g (ix2 ⟨n % 12, _⟩ i) = _
    pointwise [tailG]
    refine congrArg g (funext fun a => ?_)
    rw [show a = (0 : Fin 1) from Subsingleton.elim (α := Fin 1) _ _]
    refine Fin.ext ?_
    show _ = (52000 + 4000 * n + i.val) % 100000
    simp
    omega
  row i c := by
    show x (ix ⟨((13 + n) * 4000 + i.val) % 100000, _⟩ c) = x (ix ⟨(52000 + 4000 * n + i.val) % 100000, _⟩ c)
    congr 3
    omega

/-- The TensorCore's table after `n` blocks. -/
theorem stab_eq (hg : Ord g) : ∀ n ≤ 12, ∀ (s : Fin 64) c,
    stab (F := Ideal) x (tailG g) n (ix s c) = segM x g (Finset.Ico 52000 (52000 + 4000 * n)) s.val c := by
  intro n
  induction n with
  | zero =>
    intro _ s c
    rw [segM_none (by simp)]
    exact ninf_eq
  | succ n ih =>
    intro hn s c
    rw [Nat.mul_succ, Ico_add]
    exact seg_step hg (tail_blk n (by omega)) _ _ (ih (by omega)) s c

theorem bo_cL (w : Fin 32) : bo (cL w) = 1625 * w.val := by
  show 3250 * (w.val / 2) + 1625 * (w.val % 2) = _
  omega

/-- The maximum of the tiles' tables. -/
theorem tiles_eq (hg : Ord g) (s : Fin 64) (c : Fin 128) (f : Fin 32 → EReal) (hf : ∀ w, f w = tabOf (F := Ideal) (cL w) x g (ix s c)) :
    Finset.fold max (Ideal.ofBits FTy.f32 4286578688#32) f Finset.univ = segM x g (Finset.Ico 0 52000) s.val c := by
  have hf : ∀ w : Fin 32, f w = segM x g (Finset.Ico (1625 * w.val) (1625 * w.val + 1625)) s.val c := fun w => by
    rw [hf, tabOf_eq hg, bo_cL]
  rw [bot_bits]
  show Finset.univ.sup f = _
  apply le_antisymm
  · refine Finset.sup_le fun w _ => ?_
    rw [hf]
    refine Finset.sup_mono fun r hr => ?_
    rw [Finset.mem_Ico] at hr ⊢
    omega
  · refine Finset.sup_le fun r hr => ?_
    rw [Finset.mem_Ico] at hr
    refine le_trans ?_ (Finset.le_sup (f := f) (Finset.mem_univ ⟨r / 1625, by omega⟩))
    rw [hf]
    exact Finset.le_sup (f := fun r => if bN g r = s.val then rowX x r c else ⊥) (Finset.mem_Ico.2 (by show 1625 * (r / 1625) ≤ r ∧ r < 1625 * (r / 1625) + 1625; omega))

/-- The maximum over all the rows of a graph. -/
def poolM (x : S100000x128.Idx → EReal) (g : S100000.Idx → BitVec 32) (s : Fin 64) (c : Fin 128) : EReal := segM x g (Finset.Ico 0 (0 + 100000)) s.val c

theorem both_eq (hg : Ord g) (s : Fin 64) (c : Fin 128) (f : Fin 32 → EReal) (hf : ∀ w, f w = tabOf (F := Ideal) (cL w) x g (ix s c)) :
    max (Finset.fold max (Ideal.ofBits FTy.f32 4286578688#32) f Finset.univ) (stab (F := Ideal) x (tailG g) 12 (ix s c)) = poolM x g s c := by
  rw [tiles_eq hg s c f hf, stab_eq hg 12 le_rfl, ← segM_union, Finset.Ico_union_Ico_eq_Ico (by decide) (by decide)]
  rfl

/-- A graph with a row. -/
def Has (g : S100000.Idx → BitVec 32) (s : Fin 64) : Prop := ∃ r : Fin 100000, bN g r.val = s.val

/-- The maximum is above −∞ exactly where the graph has a row. -/
theorem pool_bot (h : Sorted (F := Ideal) x g) (s : Fin 64) (c : Fin 128) : poolM x g s c ≠ ⊥ ↔ Has g s := by
  constructor
  · intro hne
    by_contra hn
    exact hne (segM_none (fun r hr e => hn ⟨⟨r, by rw [Finset.mem_Ico] at hr; omega⟩, e⟩) c)
  · rintro ⟨r, hr⟩ e
    have h1 : rowX x r.val c ≤ poolM x g s c := by
      refine le_trans (le_of_eq ?_) (Finset.le_sup (f := fun r => if bN g r = s.val then rowX x r c else ⊥) (Finset.mem_Ico.2 ⟨Nat.zero_le _, by omega⟩ : r.val ∈ Finset.Ico 0 (0 + 100000)))
      exact (if_pos hr).symm
    rw [e] at h1
    have h2 := h.above (ix ⟨r.val % 100000, Nat.mod_lt _ (by decide)⟩ c)
    change BitVec.ofBool (decide (Ideal.ofBits .f32 0xFF800000#32 < rowX x r.val c)) = 1#1 at h2
    rw [ofBool_iff, decide_eq_true_eq, bot_bits] at h2
    exact absurd h1 (not_le.2 h2)

/-- The embedding of a graph. -/
def embM (x : S100000x128.Idx → EReal) (g : S100000.Idx → BitVec 32) (s : Fin 64) (c : Fin 128) : EReal :=
  open Classical in if Has g s then poolM x g s c else 0

end

end Cert.Proof.Pool

end
-- ==== Proof.Mlp.lean ====
module

public import proofs.«01_k».proof.Proof.MaxAll
public import proofs.«01_k».proof.Proof.Gen.ReferenceIdeal.Run

@[expose] public section

set_option maxRecDepth 16384

noncomputable section

namespace Cert.Proof.Pool

open Cert.ReferenceIdeal Cert.ReferenceIdeal.Gen
open Idealize.ShloMosaic

/-! # The reference's result, entry by entry -/

theorem ix2_ix {n : ℕ} (r : Fin n) (c : Fin 128) : ix2 r c = ix r c := by
  funext a
  match a with
  | ⟨0, _⟩ => rfl
  | ⟨1, _⟩ => rfl

/-- The three layers, of embeddings `e`. -/
def mlpM (e : Fin 64 → Fin 128 → EReal) (w1 : S256x128.Idx → EReal) (b1 : S256.Idx → EReal)
    (w2 : S256x256.Idx → EReal) (b2 : S256.Idx → EReal) (w3 : S2x256.Idx → EReal) (b3 : S2.Idx → EReal) (s : Fin 64) (o : Fin 2) : EReal :=
  ∑ k : Fin 256, max (∑ j : Fin 256, max (∑ i : Fin 128, e s i * w1 (ix2 j i) + b1 (ix1 j)) 0 * w2 (ix2 k j) + b2 (ix1 k)) 0 * w3 (ix2 o k) + b3 (ix1 o)

section

variable {F : FTy → Type} [FloatOps F]

/-- The reference's embeddings of the graphs. -/
def refPool (x : S100000x128.Idx → F .f32) (g : S100000.Idx → BitVec 32) : FVec F S64x128 .f32 :=
  select (broadcastInDim S64x128 ![0, 1] bcast_S64x1_S64x128_0_1 (broadcastInDim S64x1 ![0] bcast_S64_S64x1_0 (cmpi .sgt (Host.reduce IntOp.addi (extui 32 (cmpi .eq (broadcastInDim S64x100000 ![0, 1] bcast_S1x100000_S64x100000_0_1 (broadcastInDim S1x100000 ![1] bcast_S100000_S1x100000_1 g)) (broadcastInDim S64x100000 ![0, 1] bcast_S64x1_S64x100000_0_1 (broadcastInDim S64x1 ![0] bcast_S64_S64x1_0 (iotaInDim S64 32 0)))) natLt_1_32) (constantI S_ 32 0#32) reducesTo_S64x100000_S64_d1 h_S_) (broadcastInDim S64 ![] bcast_S_S64 (constantI S_ 32 0#32))))) (Host.reduce FloatOps.maximumf (select (broadcastInDim S64x100000x128 ![0, 1, 2] bcast_S64x100000x1_S64x100000x128_0_1_2 (broadcastInDim S64x100000x1 ![0, 1] bcast_S64x100000_S64x100000x1_0_1 (cmpi .eq (broadcastInDim S64x100000 ![0, 1] bcast_S1x100000_S64x100000_0_1 (broadcastInDim S1x100000 ![1] bcast_S100000_S1x100000_1 g)) (broadcastInDim S64x100000 ![0, 1] bcast_S64x1_S64x100000_0_1 (broadcastInDim S64x1 ![0] bcast_S64_S64x1_0 (iotaInDim S64 32 0)))))) (broadcastInDim S64x100000x128 ![0, 1, 2] bcast_S1x100000x128_S64x100000x128_0_1_2 (broadcastInDim S1x100000x128 ![1, 2] bcast_S100000x128_S1x100000x128_1_2 x)) (broadcastInDim S64x100000x128 ![] bcast_S_S64x100000x128 (id (constant S_ .f32 0xFF800000#32)))) (constant S_ .f32 0xFF800000#32) reducesTo_S64x100000x128_S64x128_d1 h_S_) (broadcastInDim S64x128 ![] bcast_S_S64x128 (id (constant S_ .f32 0x00000000#32)))

/-- The reference's three layers of embeddings `e`. -/
def refMlp (e : FVec F S64x128 .f32) (w1 : S256x128.Idx → F .f32) (b1 : S256.Idx → F .f32)
    (w2 : S256x256.Idx → F .f32) (b2 : S256.Idx → F .f32) (w3 : S2x256.Idx → F .f32) (b3 : S2.Idx → F .f32) : FVec F S64x2 .f32 :=
  addf (Host.dotGeneral dot_S64x256_S256x2_S64x2_1_0_0_1_n_n none (maximumf (addf (Host.dotGeneral dot_S64x256_S256x256_S64x256_1_0_0_1_n_n none (maximumf (addf (Host.dotGeneral dot_S64x128_S128x256_S64x256_1_0_0_1_n_n none e (transpose S128x256 [1, 0] w1 transposes_S256x128_S128x256_1_0)) (broadcastInDim S64x256 ![0, 1] bcast_S1x256_S64x256_0_1 (broadcastInDim S1x256 ![1] bcast_S256_S1x256_1 b1))) (broadcastInDim S64x256 ![] bcast_S_S64x256 (constant S_ .f32 0x00000000#32))) (transpose S256x256 [1, 0] w2 transposes_S256x256_S256x256_1_0)) (broadcastInDim S64x256 ![0, 1] bcast_S1x256_S64x256_0_1 (broadcastInDim S1x256 ![1] bcast_S256_S1x256_1 b2))) (broadcastInDim S64x256 ![] bcast_S_S64x256 (constant S_ .f32 0x00000000#32))) (transpose S256x2 [1, 0] w3 transposes_S2x256_S256x2_1_0)) (broadcastInDim S64x2 ![0, 1] bcast_S1x2_S64x2_0_1 (broadcastInDim S1x2 ![1] bcast_S2_S1x2_1 b3))

end

theorem refMlp_at (e : FVec Ideal S64x128 .f32) (w1 : S256x128.Idx → EReal) (b1 : S256.Idx → EReal)
    (w2 : S256x256.Idx → EReal) (b2 : S256.Idx → EReal) (w3 : S2x256.Idx → EReal) (b3 : S2.Idx → EReal) (s : Fin 64) (o : Fin 2) :
    refMlp (F := Ideal) e w1 b1 w2 b2 w3 b3 (ix2 s o) = mlpM (fun s c => e (ix2 s c)) w1 b1 w2 b2 w3 b3 s o := by
  pointwise [refMlp]
  rfl

theorem refPool_at (x : S100000x128.Idx → EReal) (g : S100000.Idx → BitVec 32) (s : Fin 64) (c : Fin 128) :
    refPool (F := Ideal) x g (ix2 s c) = embM x g s c := by
  have hs : (BitVec.ofNat 32 s.val).toNat = s.val := by
    rw [BitVec.toNat_ofNat]
    exact Nat.mod_eq_of_lt (by omega)
  have hw : ∀ r : Fin 100000, IntOp.cmpi .eq (g (ix1 r)) (BitVec.ofNat 32 s.val) = 1#1 ↔ bN g r.val = s.val := by
    intro r
    have hr : g (ix1 r) = g (gix r.val) := congrArg g (funext fun a => by
      rw [show a = (0 : Fin 1) from Subsingleton.elim (α := Fin 1) _ _]
      exact Fin.ext (Nat.mod_eq_of_lt r.isLt).symm)
    rw [WordCmp.cmpi_eq_eq_toNat, ofBool_iff, decide_eq_true_eq, hs, hr]
    rfl
  pointwise [refPool]
  rw [IndicatorCount.fold_addi_setWidth_eq_card, fold_rows (n := 100000) 0 _ (fun r => if bN g r = s.val then rowX x r c else ⊥) ?_]
  · have hc := Finset.card_le_univ (Finset.univ.filter fun r : Fin 100000 => IntOp.cmpi .eq (g (ix1 r)) (BitVec.ofNat 32 s.val) = 1#1)
    rw [Fintype.card_fin] at hc
    have hn : (BitVec.ofNat 32 (Finset.univ.filter fun r : Fin 100000 => IntOp.cmpi .eq (g (ix1 r)) (BitVec.ofNat 32 s.val) = 1#1).card).toNat = _ :=
      (BitVec.toNat_ofNat _ _).trans (Nat.mod_eq_of_lt (by omega))
    rw [WordCmp.cmpi_sgt_of_lt (by rw [hn]; norm_num; omega) (by decide), hn]
    unfold Scalar.select embM
    have hiff : BitVec.ofBool (decide ((0#32).toNat < (Finset.univ.filter fun r : Fin 100000 => IntOp.cmpi .eq (g (ix1 r)) (BitVec.ofNat 32 s.val) = 1#1).card)) = 1
        ↔ Has g s := by
      refine ofBool_iff.trans (decide_eq_true_iff.trans (Finset.card_pos.trans ?_))
      constructor
      · rintro ⟨r, hr⟩
        exact ⟨r, (hw r).1 (Finset.mem_filter.1 hr).2⟩
      · rintro ⟨r, hr⟩
        exact ⟨r, Finset.mem_filter.2 ⟨Finset.mem_univ _, (hw r).2 hr⟩⟩
    by_cases h : Has g s
    · rw [if_pos (hiff.2 h), if_pos h]
      rfl
    · rw [if_neg (fun q => h (hiff.1 q)), if_neg h]
      exact Ideal.ofBits_zero_f32
  · intro r
    show (if _ = (1 : BitVec 1) then _ else _) = _
    rw [Nat.zero_add]
    by_cases h : bN g r.val = s.val
    · rw [if_pos h]
      refine (if_pos ((hw r).2 h)).trans ?_
      refine (congrArg (fun q => x (ix2 q c)) (Fin.ext (Nat.mod_eq_of_lt r.isLt).symm : r = ⟨r.val % 100000, Nat.mod_lt _ (by decide)⟩)).trans ?_
      rw [ix2_ix]
      rfl
    · rw [if_neg h]
      exact (if_neg (fun q => h ((hw r).1 q))).trans bot_bits

end Cert.Proof.Pool

end
-- ==== Proof.Out.lean ====
module

public import proofs.«01_k».proof.Proof.Mlp
public import Idealize.ShloMosaic.Lib.Routing.OpsSet
public import Idealize.ShloMosaic.Lib.Routing.OpsPair

@[expose] public section

set_option maxRecDepth 16384

noncomputable section

namespace Cert.Proof.Pool

open Cert.KernelIdeal Cert.KernelIdeal.Gen
open Idealize.ShloMosaic

/-! # The program's result, entry by entry -/

section

variable {F : FTy → Type} [FloatOps F]

/-- Every index word is zero. -/
theorem start_zero {s si u : Shape} (d : ScatterDims s si u) (k : u.Idx) (idx : IVec si 32) (h : ∀ z, idx z = 0#32) (a : Fin s.rank) :
    d.start k idx a = 0 := by
  unfold ScatterDims.start
  split
  · rw [h]
    rfl
  · rfl

/-- Where an update lands, all index words zero: at its place in the window. -/
theorem lands {R C : ℕ} {si u : Shape} (d : ScatterDims ⟨2, ![R, C]⟩ si u) (k : u.Idx) (idx : IVec si 32) (h : ∀ z, idx z = 0#32) (r : Fin R) (c : Fin C) :
    d.resultIdx? k idx = some (ix2 r c) ↔ d.window k 0 = r.val ∧ d.window k 1 = c.val := by
  rw [Routing.resultIdx?_eq_some]
  constructor
  · intro q
    have q0 := q 0
    have q1 := q 1
    rw [start_zero d k idx h, Int.zero_add] at q0 q1
    exact ⟨Int.ofNat_inj.1 q0, Int.ofNat_inj.1 q1⟩
  · intro q a
    rw [start_zero d k idx h, Int.zero_add]
    match a with
    | ⟨0, _⟩ => exact Int.ofNat_inj.2 q.1
    | ⟨1, _⟩ => exact Int.ofNat_inj.2 q.2

theorem padW_at (w : S2x256.Idx → F .f32) (o : Fin 2) (k : Fin 256) : padW w (ix2 ⟨o.val, by omega⟩ k) = w (ix2 o k) := by
  have hit : ∀ (u : Fin 2) (v : Fin 256) (r : Fin 128) (c : Fin 256),
      scatter_S128x256_S1_S2x256_01_n_0_0.resultIdx? (ix2 u v) (broadcastInDim S1 ![] bcast_S_S1 (constantI S_ 32 0#32) : S1.Idx → BitVec 32) = some (ix2 r c)
        ↔ u.val = r.val ∧ v.val = c.val := by
    intro u v r c
    exact lands scatter_S128x256_S1_S2x256_01_n_0_0 _ _ (fun _ => rfl) r c
  unfold padW
  refine Routing.scatter_set_hit _ _ _ _ _ _ (fun z hz => ?_) (ix2 o k) ((hit _ _ _ _).2 ⟨rfl, rfl⟩)
  idx_vars z
  obtain ⟨h0, h1⟩ := (hit _ _ _ _).1 hz
  rw [Fin.ext h0, Fin.ext h1]

theorem zero_words (z : S2.Idx) :
    (concatenate S2 0 [⟨S1, (broadcastInDim S1 ![] bcast_S_S1 (constantI S_ 32 0#32) : S1.Idx → BitVec 32)⟩, ⟨S1, (broadcastInDim S1 ![] bcast_S_S1 (constantI S_ 32 0#32) : S1.Idx → BitVec 32)⟩] concatenates_S1_S1_S2_d0 : S2.Idx → BitVec 32) z = 0#32 := by
  idx_vars z
  fin_cases z0 <;> rfl

theorem padB_at (w : S2.Idx → F .f32) (o : Fin 2) : padB w (ix2 0 ⟨o.val, by omega⟩) = w (ix1 o) := by
  have hit : ∀ (idx : S2.Idx → BitVec 32) (_ : ∀ z, idx z = 0#32) (u : Fin 2) (c : Fin 128),
      scatter_S1x128_S2_S2_0_0_01_0.resultIdx? (ix1 u) idx = some (ix2 0 c) ↔ u.val = c.val := by
    intro idx h u c
    exact (lands scatter_S1x128_S2_S2_0_0_01_0 _ _ h 0 c).trans (and_iff_right rfl)
  unfold padB
  refine Routing.scatter_set_hit _ _ _ _ _ _ (fun z hz => ?_) (ix1 o) ((hit _ zero_words _ _).2 rfl)
  idx_vars z
  rw [Fin.ext ((hit _ zero_words _ _).1 hz)]

end

section

variable {x : S100000x128.Idx → EReal} {g : S100000.Idx → BitVec 32}

theorem emb_ite (h : Sorted (F := Ideal) x g) (s : Fin 64) (c : Fin 128) [Decidable (poolM x g s c ≠ ⊥)] :
    (if poolM x g s c ≠ ⊥ then poolM x g s c else 0) = embM x g s c := by
  unfold embM
  by_cases q : Has g s
  · rw [if_pos ((pool_bot h s c).2 q), if_pos q]
  · rw [if_neg fun e => q ((pool_bot h s c).1 e), if_neg q]

theorem mlp_at (p : S32x64x128.Idx → EReal) (t : S64x128.Idx → EReal) (w1 : S256x128.Idx → EReal) (b1 : S256.Idx → EReal)
    (w2 : S256x256.Idx → EReal) (b2 : S256.Idx → EReal) (w3 : S2x256.Idx → EReal) (b3 : S2.Idx → EReal) (h : Sorted (F := Ideal) x g)
    (hm : ∀ (s : Fin 64) (c : Fin 128), max (Finset.fold max (Ideal.ofBits FTy.f32 4286578688#32) (fun w => p (Idealize.ShloMosaic.ix3 w s c)) Finset.univ) (t (ix2 s c)) = poolM x g s c)
    (s : Fin 64) (o : Fin 2) :
    extractStridedSlice S64x2 ![0, 0] (k2_pay1 (F := Ideal) p t w1 (broadcastInDim S1x256 ![1] bcast_S256_S1x256_1 b1) w2
      (broadcastInDim S1x256 ![1] bcast_S256_S1x256_1 b2) (padW (F := Ideal) w3) (padB (F := Ideal) b3)) slices_S64x128_S64x2_0_0 (ix2 s o)
      = mlpM (embM x g) w1 b1 w2 b2 w3 b3 s o := by
  pointwise [k2_pay1]
  simp only [bot_bits] at hm ⊢
  simp only [hm, emb_ite h, padW_at, padB_at]
  rfl

/-- The program's result is the reference's. -/
theorem out_eq (h : Sorted (F := Ideal) x g) (w1 : S256x128.Idx → EReal) (b1 : S256.Idx → EReal)
    (w2 : S256x256.Idx → EReal) (b2 : S256.Idx → EReal) (w3 : S2x256.Idx → EReal) (b3 : S2.Idx → EReal) :
    outV (F := Ideal) x g w1 b1 w2 b2 w3 b3 = refMlp (F := Ideal) (refPool (F := Ideal) x g) w1 b1 w2 b2 w3 b3 := by
  funext z
  idx_vars z
  refine (mlp_at _ _ w1 b1 w2 b2 w3 b3 h (fun s c => by rw [ix2_ix]; exact both_eq (ord_of h) s c _ fun w => rfl) z0 z1).trans ?_
  refine Eq.trans ?_ (refMlp_at (refPool (F := Ideal) x g) w1 b1 w2 b2 w3 b3 z0 z1).symm
  rw [show (fun s c => refPool (F := Ideal) x g (ix2 s c)) = embM x g from funext fun s => funext fun c => refPool_at x g s c]

end

end Cert.Proof.Pool

end
-- ==== Proof.Value.lean ====
module

public import proofs.«01_k».proof.Proof.Out

@[expose] public section

set_option maxRecDepth 16384

noncomputable section

namespace Cert.Proof.Pool

open Cert.KernelIdeal Cert.KernelIdeal.Gen
open Idealize.ShloMosaic
open Idealize.ShloMosaic.TcCoe

/-! # The program's value is the reference's -/

theorem run_value (m : (ℓ : Loc nD τ sig) → Buf (Elt Ideal) ℓ) (ρ : Dev nD → PrngReg)
    (h : ∀ d, Sorted (F := Ideal) (W0 m d (main_arg0 : Ref sig .tc)) (W0 m d (main_arg1 : Ref sig .tc))) :
    θ_run (Cert.KernelIdeal.defs (F := Ideal)) (Cert.KernelIdeal.threads (F := Ideal)) ⟨m, fun _ => 0, ρ⟩ fun r => ∀ c : Dev nD,
      r.2.mem ((c.tc : Thread nD τ).loc main_v15) = refMlp (F := Ideal) (refPool (F := Ideal) (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run Cert.KernelIdeal.defs _ _).mono
    (fun _ q c => ⟨((q.1 c _ (mem_uc main_v15 rfl)).trans (final (m := m) (d := c)).out).trans (out_eq (h c) _ _ _ _ _ _), kept q c⟩)
    (run_main (F := Ideal) m ρ fun d k => (h d).range k)

/-- The two programs, of equal arguments, end with equal results. -/
theorem algebraic : Cert.algebraic_KernelIdeal_ReferenceIdeal_pre_sorted_graphs := by
  intro m ρ m' ρ' hp ha
  refine ⟨_, run_value m ρ fun d => sorted_of_pre (hp d), ?_⟩
  refine (θ_run Cert.ReferenceIdeal.defs _ _).mono (fun r h c => ?_) (Cert.ReferenceIdeal.Value.run m' ρ')
  obtain ⟨a0, a1, a2, a3, a4, a5, a6, a7⟩ := ha c
  obtain ⟨hv, hk⟩ := h c
  refine ⟨hv.trans ?_, hk⟩
  rw [a0, a1, a2, a3, a4, a5, a6, a7]
  rfl

end Cert.Proof.Pool

end
-- ==== Proof.lean ====
/- The certificate's proof: the frames, the unchanged text, and the value. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_graphs
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Pre_sorted_graphs.Gen.facts, Pool.frame_kernel, Pool.frame_ideal, Pool.frame_sorted, Pool.frame_reference, Pool.frame_reference_sorted,
  trivial, Pool.algebraic⟩

end Cert.Proof

end
